-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_conditioning_finite [hPre_conditioning_finite : Cert.Pre_conditioning_finite.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_conditioning_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).1 = (fun _ => 1#1)
    ∧ (Cert.Pre_conditioning_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).2.1 = (fun _ => 1#1)
    ∧ (Cert.Pre_conditioning_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).2.2 = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_conditioning_finite [hPre_conditioning_finite : Cert.Pre_conditioning_finite.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_conditioning_finite.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).1 = (fun _ => 1#1)
    ∧ (Cert.Pre_conditioning_finite.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).2.1 = (fun _ => 1#1)
    ∧ (Cert.Pre_conditioning_finite.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationIdeal_pre_conditioning_finite [hModulationIdeal : Cert.ModulationIdeal.Facts] [hPre_conditioning_finite : Cert.Pre_conditioning_finite.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_conditioning_finite m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_ModulationReferenceIdeal_pre_conditioning_finite [hModulationReferenceIdeal : Cert.ModulationReferenceIdeal.Facts] [hPre_conditioning_finite : Cert.Pre_conditioning_finite.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_conditioning_finite m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v30)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v30) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v165) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v77) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v105) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Modulation_ModulationIdeal : Prop :=
  True

def algebraic_ModulationIdeal_ModulationReferenceIdeal_pre_conditioning_finite [hModulationIdeal : Cert.ModulationIdeal.Facts] [hModulationReferenceIdeal : Cert.ModulationReferenceIdeal.Facts] [hPre_conditioning_finite : Cert.Pre_conditioning_finite.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_conditioning_finite m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v6)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v6) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v10) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hModulation : Cert.Modulation.Facts) (hModulationIdeal : Cert.ModulationIdeal.Facts) (hModulationReferenceIdeal : Cert.ModulationReferenceIdeal.Facts) (hPre_all_finite : Cert.Pre_all_finite.Facts) (hPre_conditioning_finite : Cert.Pre_conditioning_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Modulation (hModulation := hModulation)
    ∧ quiescent_ModulationIdeal (hModulationIdeal := hModulationIdeal)
    ∧ quiescent_ModulationIdeal_pre_conditioning_finite (hModulationIdeal := hModulationIdeal) (hPre_conditioning_finite := hPre_conditioning_finite)
    ∧ quiescent_ModulationReferenceIdeal (hModulationReferenceIdeal := hModulationReferenceIdeal)
    ∧ quiescent_ModulationReferenceIdeal_pre_conditioning_finite (hModulationReferenceIdeal := hModulationReferenceIdeal) (hPre_conditioning_finite := hPre_conditioning_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Experts_ExpertsIdeal
    ∧ algebraic_ExpertsIdeal_ExpertsReferenceIdeal (hExpertsIdeal := hExpertsIdeal) (hExpertsReferenceIdeal := hExpertsReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Modulation_ModulationIdeal
    ∧ algebraic_ModulationIdeal_ModulationReferenceIdeal_pre_conditioning_finite (hModulationIdeal := hModulationIdeal) (hModulationReferenceIdeal := hModulationReferenceIdeal) (hPre_conditioning_finite := hPre_conditioning_finite)
-- ==== Pre_all_finite.lean ====
abbrev S16x2048x128 : Shape := ⟨3, ![16, 2048, 128]⟩
abbrev S16x2048x256 : Shape := ⟨3, ![16, 2048, 256]⟩
abbrev S16x256x128 : Shape := ⟨3, ![16, 256, 128]⟩
abbrev S16x256x256 : Shape := ⟨3, ![16, 256, 256]⟩
abbrev S4x256 : Shape := ⟨2, ![4, 256]⟩
abbrev S_ : Shape := ⟨0, ![]⟩

class Facts : Prop where
  bcast_S_S16x2048x128 : S_.BroadcastsInDim S16x2048x128 (![] : Fin 0 → Fin S16x2048x128.rank)
  bcast_S_S16x2048x256 : S_.BroadcastsInDim S16x2048x256 (![] : Fin 0 → Fin S16x2048x256.rank)
  bcast_S_S16x256x128 : S_.BroadcastsInDim S16x256x128 (![] : Fin 0 → Fin S16x256x128.rank)
  bcast_S_S16x256x256 : S_.BroadcastsInDim S16x256x256 (![] : Fin 0 → Fin S16x256x256.rank)

variable [Facts]

def fn_part1 {F : FTy → Type} [FloatOps F] (main_arg7 : FVec F S16x256x128 .f32) (main_arg8 : FVec F S16x256x256 .f32) (main_arg10 : FVec F S16x256x128 .f32) (main_arg11 : FVec F S16x256x128 .f32) (main_v2 : IVec S16x2048x128 1) (main_v5 : IVec S16x2048x128 1) (main_v8 : IVec S16x2048x256 1) (main_v11 : IVec S16x2048x128 1) (main_v14 : IVec S16x2048x128 1) (main_v17 : IVec S16x256x128 1) : IVec S16x2048x128 1 × IVec S16x2048x128 1 × IVec S16x2048x256 1 × IVec S16x2048x128 1 × IVec S16x2048x128 1 × IVec S16x256x128 1 × IVec S16x256x128 1 × IVec S16x256x256 1 × IVec S16x256x128 1 × IVec S16x256x128 1 :=
  let main_v18 : FVec F S16x256x128 .f32 := Host.absf main_arg7
  let main_cst_5 : FVec F S_ .f32 := constant S_ .f32 0x7F800000#32
  let main_v19 : FVec F S16x256x128 .f32 := broadcastInDim S16x256x128 ![] bcast_S_S16x256x128 main_cst_5
  let main_v20 : IVec S16x256x128 1 := cmpf .olt main_v18 main_v19
  let main_v21 : FVec F S16x256x256 .f32 := Host.absf main_arg8
  let main_cst_6 : FVec F S_ .f32 := constant S_ .f32 0x7F800000#32
  let main_v22 : FVec F S16x256x256 .f32 := broadcastInDim S16x256x256 ![] bcast_S_S16x256x256 main_cst_6
  let main_v23 : IVec S16x256x256 1 := cmpf .olt main_v21 main_v22
  let main_v24 : FVec F S16x256x128 .f32 := Host.absf main_arg10
  let main_cst_7 : FVec F S_ .f32 := constant S_ .f32 0x7F800000#32
  let main_v25 : FVec F S16x256x128 .f32 := broadcastInDim S16x256x128 ![] bcast_S_S16x256x128 main_cst_7
  let main_v26 : IVec S16x256x128 1 := cmpf .olt main_v24 main_v25
  let main_v27 : FVec F S16x256x128 .f32 := Host.absf main_arg11
  let main_cst_8 : FVec F S_ .f32 := constant S_ .f32 0x7F800000#32
  let main_v28 : FVec F S16x256x128 .f32 := broadcastInDim S16x256x128 ![] bcast_S_S16x256x128 main_cst_8
  let main_v29 : IVec S16x256x128 1 := cmpf .olt main_v27 main_v28
  (main_v2, main_v5, main_v8, main_v11, main_v14, main_v17, main_v20, main_v23, main_v26, main_v29)

def fn {F : FTy → Type} [FloatOps F] (main_arg0 : FVec F S16x2048x128 .f32) (main_arg1 : FVec F S16x2048x128 .f32) (main_arg2 : FVec F S16x2048x256 .f32) (main_arg3 : FVec F S16x2048x256 .f32) (main_arg4 : FVec F S16x2048x128 .f32) (main_arg5 : FVec F S16x2048x128 .f32) (main_arg6 : FVec F S16x256x128 .f32) (main_arg7 : FVec F S16x256x128 .f32) (main_arg8 : FVec F S16x256x256 .f32) (main_arg9 : FVec F S16x256x256 .f32) (main_arg10 : FVec F S16x256x128 .f32) (main_arg11 : FVec F S16x256x128 .f32) (main_arg12 : FVec F S4x256 .f32) : IVec S16x2048x128 1 × IVec S16x2048x128 1 × IVec S16x2048x256 1 × IVec S16x2048x128 1 × IVec S16x2048x128 1 × IVec S16x256x128 1 × IVec S16x256x128 1 × IVec S16x256x256 1 × IVec S16x256x128 1 × IVec S16x256x128 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_v3 : FVec F S16x2048x128 .f32 := Host.absf main_arg1
  let main_cst_0 : FVec F S_ .f32 := constant S_ .f32 0x7F800000#32
  let main_v4 : FVec F S16x2048x128 .f32 := broadcastInDim S16x2048x128 ![] bcast_S_S16x2048x128 main_cst_0
  let main_v5 : IVec S16x2048x128 1 := cmpf .olt main_v3 main_v4
  let main_v6 : FVec F S16x2048x256 .f32 := Host.absf main_arg2
  let main_cst_1 : FVec F S_ .f32 := constant S_ .f32 0x7F800000#32
  let main_v7 : FVec F S16x2048x256 .f32 := broadcastInDim S16x2048x256 ![] bcast_S_S16x2048x256 main_cst_1
  let main_v8 : IVec S16x2048x256 1 := cmpf .olt main_v6 main_v7
  let main_v9 : FVec F S16x2048x128 .f32 := Host.absf main_arg4
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_v12 : FVec F S16x2048x128 .f32 := Host.absf main_arg5
  let main_cst_3 : FVec F S_ .f32 := constant S_ .f32 0x7F800000#32
  let main_v13 : FVec F S16x2048x128 .f32 := broadcastInDim S16x2048x128 ![] bcast_S_S16x2048x128 main_cst_3
  let main_v14 : IVec S16x2048x128 1 := cmpf .olt main_v12 main_v13
  let main_v15 : FVec F S16x256x128 .f32 := Host.absf main_arg6
  let main_cst_4 : FVec F S_ .f32 := constant S_ .f32 0x7F800000#32
  let main_v16 : FVec F S16x256x128 .f32 := broadcastInDim S16x256x128 ![] bcast_S_S16x256x128 main_cst_4
  let main_v17 : IVec S16x256x128 1 := cmpf .olt main_v15 main_v16
  fn_part1 (F := F) main_arg7 main_arg8 main_arg10 main_arg11 main_v2 main_v5 main_v8 main_v11 main_v14 main_v17
-- ==== Pre_conditioning_finite.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S16x1024 : S_.BroadcastsInDim S16x1024 (![] : Fin 0 → Fin S16x1024.rank)
  bcast_S_S1024 : S_.BroadcastsInDim S1024 (![] : Fin 0 → Fin S1024.rank)
  bcast_S_S4x1024x6144 : S_.BroadcastsInDim S4x1024x6144 (![] : Fin 0 → Fin S4x1024x6144.rank)

variable [Facts]

def fn {F : FTy → Type} [FloatOps F] (main_arg0 : FVec F S16x1024 .f32) (main_arg1 : FVec F S1024 .f32) (main_arg2 : FVec F S4x1024x6144 .f32) (main_arg3 : FVec F S4x6144 .f32) : IVec S16x1024 1 × IVec S1024 1 × IVec S4x1024x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Kernel.lean ====
abbrev S16x2048x128 : Shape := ⟨3, ![16, 2048, 128]⟩
abbrev S16x2048x256 : Shape := ⟨3, ![16, 2048, 256]⟩
abbrev S16x256x128 : Shape := ⟨3, ![16, 256, 128]⟩
abbrev S16x256x256 : Shape := ⟨3, ![16, 256, 256]⟩
abbrev S4x256 : Shape := ⟨2, ![4, 256]⟩
abbrev S16x16x128x128 : Shape := ⟨4, ![16, 16, 128, 128]⟩
abbrev S_ : Shape := ⟨0, ![]⟩
abbrev S16x16x1x128 : Shape := ⟨4, ![16, 16, 1, 128]⟩
abbrev S16x2048x512 : Shape := ⟨3, ![16, 2048, 512]⟩
abbrev S16x2x128x128 : Shape := ⟨4, ![16, 2, 128, 128]⟩
abbrev S16x2x1x128 : Shape := ⟨4, ![16, 2, 1, 128]⟩
abbrev S16x256x512 : Shape := ⟨3, ![16, 256, 512]⟩
abbrev S4x1x256 : Shape := ⟨3, ![4, 1, 256]⟩
abbrev S1x2048x512 : Shape := ⟨3, ![1, 2048, 512]⟩
abbrev S1x2048x256 : Shape := ⟨3, ![1, 2048, 256]⟩
abbrev S1x256x512 : Shape := ⟨3, ![1, 256, 512]⟩
abbrev S1x256x256 : Shape := ⟨3, ![1, 256, 256]⟩
abbrev S1x1x256 : Shape := ⟨3, ![1, 1, 256]⟩
abbrev S2x256x128 : Shape := ⟨3, ![2, 256, 128]⟩
abbrev S2x2048x256 : Shape := ⟨3, ![2, 2048, 256]⟩
abbrev S2x256x256 : Shape := ⟨3, ![2, 256, 256]⟩
abbrev S512x128 : Shape := ⟨2, ![512, 128]⟩
abbrev S128x128 : Shape := ⟨2, ![128, 128]⟩
abbrev S128x256 : Shape := ⟨2, ![128, 256]⟩
abbrev S256x128 : Shape := ⟨2, ![256, 128]⟩
abbrev S1x128x128 : Shape := ⟨3, ![1, 128, 128]⟩
abbrev S1x128 : Shape := ⟨2, ![1, 128]⟩
abbrev S1x128x256 : Shape := ⟨3, ![1, 128, 256]⟩
abbrev S512x256 : Shape := ⟨2, ![512, 256]⟩
abbrev S1x256x128 : Shape := ⟨3, ![1, 256, 128]⟩
abbrev S256x256 : Shape := ⟨2, ![256, 256]⟩
abbrev S1x256 : Shape := ⟨2, ![1, 256]⟩

abbrev nBuf : Space → Nat
  | .hbm => 58
  | .vmem => 20
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x256, .f32⟩
  | .hbm, ⟨3, _⟩ => ⟨S16x2048x256, .f32⟩
  | .hbm, ⟨4, _⟩ => ⟨S16x2048x128, .f32⟩
  | .hbm, ⟨5, _⟩ => ⟨S16x2048x128, .f32⟩
  | .hbm, ⟨6, _⟩ => ⟨S16x256x128, .f32⟩
  | .hbm, ⟨7, _⟩ => ⟨S16x256x128, .f32⟩
  | .hbm, ⟨8, _⟩ => ⟨S16x256x256, .f32⟩
  | .hbm, ⟨9, _⟩ => ⟨S16x256x256, .f32⟩
  | .hbm, ⟨10, _⟩ => ⟨S16x256x128, .f32⟩
  | .hbm, ⟨11, _⟩ => ⟨S16x256x128, .f32⟩
  | .hbm, ⟨12, _⟩ => ⟨S4x256, .f32⟩
  | .hbm, ⟨13, _⟩ => ⟨S16x16x128x128, .f32⟩
  | .hbm, ⟨14, _⟩ => ⟨S_, .f32⟩
  | .hbm, ⟨15, _⟩ => ⟨S_, .f32⟩
  | .hbm, ⟨16, _⟩ => ⟨S16x16x128x128, .f32⟩
  | .hbm, ⟨17, _⟩ => ⟨S16x16x128x128, .f32⟩
  | .hbm, ⟨18, _⟩ => ⟨S_, .f32⟩
  | .hbm, ⟨19, _⟩ => ⟨S_, .f32⟩
  | .hbm, ⟨20, _⟩ => ⟨S16x16x128x128, .f32⟩
  | .hbm, ⟨21, _⟩ => ⟨S16x16x128x128, .f32⟩
  | .hbm, ⟨22, _⟩ => ⟨S16x16x1x128, .f32⟩
  | .hbm, ⟨23, _⟩ => ⟨S16x16x128x128, .f32⟩
  | .hbm, ⟨24, _⟩ => ⟨S16x16x128x128, .f32⟩
  | .hbm, ⟨25, _⟩ => ⟨S16x16x128x128, .f32⟩
  | .hbm, ⟨26, _⟩ => ⟨S_, .f32⟩
  | .hbm, ⟨27, _⟩ => ⟨S16x2048x128, .f32⟩
  | .hbm, ⟨28, _⟩ => ⟨S16x2048x128, .f32⟩
  | .hbm, ⟨29, _⟩ => ⟨S16x2048x128, .f32⟩
  | .hbm, ⟨30, _⟩ => ⟨S16x2048x128, .f32⟩
  | .hbm, ⟨31, _⟩ => ⟨S16x2048x512, .f32⟩
  | .hbm, ⟨32, _⟩ => ⟨S16x2048x256, .bf16⟩
  | .hbm, ⟨33, _⟩ => ⟨S16x2048x256, .bf16⟩
  | .hbm, ⟨34, _⟩ => ⟨S16x2x128x128, .f32⟩
  | .hbm, ⟨35, _⟩ => ⟨S_, .f32⟩
  | .hbm, ⟨36, _⟩ => ⟨S_, .f32⟩
  | .hbm, ⟨37, _⟩ => ⟨S16x2x128x128, .f32⟩
  | .hbm, ⟨38, _⟩ => ⟨S16x2x128x128, .f32⟩
  | .hbm, ⟨39, _⟩ => ⟨S_, .f32⟩
  | .hbm, ⟨40, _⟩ => ⟨S_, .f32⟩
  | .hbm, ⟨41, _⟩ => ⟨S16x2x128x128, .f32⟩
  | .hbm, ⟨42, _⟩ => ⟨S16x2x128x128, .f32⟩
  | .hbm, ⟨43, _⟩ => ⟨S16x2x1x128, .f32⟩
  | .hbm, ⟨44, _⟩ => ⟨S16x2x128x128, .f32⟩
  | .hbm, ⟨45, _⟩ => ⟨S16x2x128x128, .f32⟩
  | .hbm, ⟨46, _⟩ => ⟨S16x2x128x128, .f32⟩
  | .hbm, ⟨47, _⟩ => ⟨S_, .f32⟩
  | .hbm, ⟨48, _⟩ => ⟨S16x256x128, .f32⟩
  | .hbm, ⟨49, _⟩ => ⟨S16x256x128, .f32⟩
  | .hbm, ⟨50, _⟩ => ⟨S16x256x128, .f32⟩
  | .hbm, ⟨51, _⟩ => ⟨S16x256x128, .f32⟩
  | .hbm, ⟨52, _⟩ => ⟨S16x256x512, .f32⟩
  | .hbm, ⟨53, _⟩ => ⟨S16x256x256, .bf16⟩
  | .hbm, ⟨54, _⟩ => ⟨S16x256x256, .bf16⟩
  | .hbm, ⟨55, _⟩ => ⟨S4x1x256, .f32⟩
  | .hbm, ⟨56, _⟩ => ⟨S16x2048x256, .bf16⟩
  | .hbm, ⟨57, _⟩ => ⟨S16x256x256, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x512, .f32⟩
  | .local _ .vmem, ⟨7, _⟩ => ⟨S1x256x512, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x2048x256, .bf16⟩
  | .local _ .vmem, ⟨14, _⟩ => ⟨S1x2048x256, .bf16⟩
  | .local _ .vmem, ⟨15, _⟩ => ⟨S1x256x256, .bf16⟩
  | .local _ .vmem, ⟨16, _⟩ => ⟨S1x256x256, .bf16⟩
  | .local _ .vmem, ⟨17, _⟩ => ⟨S2x256x128, .f32⟩
  | .local _ .vmem, ⟨18, _⟩ => ⟨S2x2048x256, .f32⟩
  | .local _ .vmem, ⟨19, _⟩ => ⟨S2x256x256, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_v1 : Ref sig .tc := ⟨.hbm, 16, rfl⟩
abbrev main_v2 : Ref sig .tc := ⟨.hbm, 17, rfl⟩
abbrev main_call1_call0_cst : Ref sig .tc := ⟨.hbm, 18, rfl⟩
abbrev main_call1_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_call0_cst : Ref sig .tc := ⟨.hbm, 35, rfl⟩
abbrev main_call2_call0_v0 : Ref sig .tc := ⟨.hbm, 36, rfl⟩
abbrev main_v17 : Ref sig .tc := ⟨.hbm, 37, rfl⟩
abbrev main_v18 : Ref sig .tc := ⟨.hbm, 38, rfl⟩
abbrev main_call3_call0_cst : Ref sig .tc := ⟨.hbm, 39, rfl⟩
abbrev main_call3_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def k0_mult1 : BitVec 32 :=
  let c0_i32_26 : BitVec 32 := 0#32
  let c2_i32 : BitVec 32 := 2#32
  let v109 : BitVec 32 := Scalar.muli c0_i32_26 c2_i32
  let c0_i32_27 : BitVec 32 := 0#32
  let v110 : BitVec 32 := Scalar.addi v109 c0_i32_27
  let c128_i32 : BitVec 32 := 128#32
  let v112 : BitVec 32 := Scalar.muli v110 c128_i32
  v112
def k0_off1 (c0_i32_27 : BitVec 32) : Fin 3 → Nat :=
  let c0_28 : Index := 0#32
  let c0_i32_26 : BitVec 32 := 0#32
  let c2_i32 : BitVec 32 := 2#32
  let v109 : BitVec 32 := Scalar.muli c0_i32_26 c2_i32
  let v110 : BitVec 32 := Scalar.addi v109 c0_i32_27
  let c128_i32 : BitVec 32 := 128#32
  let v112 : BitVec 32 := Scalar.muli v110 c128_i32
  let v113 : BitVec 32 := v112
  let v114 : Index := Scalar.indexCast v113
  let c0_29 : Index := 0#32
  ![0, v114.toNat, 0]
def k0_off2 (c0_i32_27 : BitVec 32) : Fin 3 → Nat :=
  let c0_30 : Index := 0#32
  let c0_i32_26 : BitVec 32 := 0#32
  let c2_i32 : BitVec 32 := 2#32
  let v109 : BitVec 32 := Scalar.muli c0_i32_26 c2_i32
  let v110 : BitVec 32 := Scalar.addi v109 c0_i32_27
  let c128_i32 : BitVec 32 := 128#32
  let v112 : BitVec 32 := Scalar.muli v110 c128_i32
  let v113 : BitVec 32 := v112
  let v117 : Index := Scalar.indexCast v113
  let c128 : Index := 128#32
  ![0, v117.toNat, 128]
def k0_off3 (c0_i32_27 : BitVec 32) : Fin 3 → Nat :=
  let c0_31 : Index := 0#32
  let c0_i32_26 : BitVec 32 := 0#32
  let c2_i32 : BitVec 32 := 2#32
  let v109 : BitVec 32 := Scalar.muli c0_i32_26 c2_i32
  let v110 : BitVec 32 := Scalar.addi v109 c0_i32_27
  let c128_i32 : BitVec 32 := 128#32
  let v112 : BitVec 32 := Scalar.muli v110 c128_i32
  let v113 : BitVec 32 := v112
  let v120 : Index := Scalar.indexCast v113
  let c256 : Index := 256#32
  ![0, v120.toNat, 256]
def k0_off4 (c0_i32_27 : BitVec 32) : Fin 3 → Nat :=
  let c0_41 : Index := 0#32
  let c0_i32_26 : BitVec 32 := 0#32
  let c2_i32 : BitVec 32 := 2#32
  let v109 : BitVec 32 := Scalar.muli c0_i32_26 c2_i32
  let v110 : BitVec 32 := Scalar.addi v109 c0_i32_27
  let c128_i32 : BitVec 32 := 128#32
  let v112 : BitVec 32 := Scalar.muli v110 c128_i32
  let v113 : BitVec 32 := v112
  let v165 : Index := Scalar.indexCast v113
  let c0_42 : Index := 0#32
  ![0, v165.toNat, 0]
def k0_off5 (c0_i32_27 : BitVec 32) : Fin 3 → Nat :=
  let c0_56 : Index := 0#32
  let c0_i32_26 : BitVec 32 := 0#32
  let c2_i32 : BitVec 32 := 2#32
  let v109 : BitVec 32 := Scalar.muli c0_i32_26 c2_i32
  let v110 : BitVec 32 := Scalar.addi v109 c0_i32_27
  let c128_i32 : BitVec 32 := 128#32
  let v112 : BitVec 32 := Scalar.muli v110 c128_i32
  let v113 : BitVec 32 := v112
  let v197 : Index := Scalar.indexCast v113
  let c0_57 : Index := 0#32
  ![0, v197.toNat, 0]
def k0_mult2 : BitVec 32 :=
  let c1_i32_68 : BitVec 32 := 1#32
  let c0_i32_26 : BitVec 32 := 0#32
  let c2_i32_66 : BitVec 32 := 2#32
  let v213 : BitVec 32 := Scalar.muli c0_i32_26 c2_i32_66
  let c0_i32_67 : BitVec 32 := 0#32
  let v214 : BitVec 32 := Scalar.addi v213 c0_i32_67
  let v215 : BitVec 32 := Scalar.subi c1_i32_68 v214
  let c128_i32_69 : BitVec 32 := 128#32
  let v217 : BitVec 32 := Scalar.muli v215 c128_i32_69
  v217
def k0_off6 (c0_i32_67 : BitVec 32) : Fin 3 → Nat :=
  let c0_70 : Index := 0#32
  let c1_i32_68 : BitVec 32 := 1#32
  let c0_i32_26 : BitVec 32 := 0#32
  let c2_i32_66 : BitVec 32 := 2#32
  let v213 : BitVec 32 := Scalar.muli c0_i32_26 c2_i32_66
  let v214 : BitVec 32 := Scalar.addi v213 c0_i32_67
  let v215 : BitVec 32 := Scalar.subi c1_i32_68 v214
  let c128_i32_69 : BitVec 32 := 128#32
  let v217 : BitVec 32 := Scalar.muli v215 c128_i32_69
  let v218 : BitVec 32 := v217
  let v219 : Index := Scalar.indexCast v218
  let c0_71 : Index := 0#32
  ![0, v219.toNat, 0]
def k0_off7 (c0_i32_67 : BitVec 32) : Fin 3 → Nat :=
  let c0_72 : Index := 0#32
  let c1_i32_68 : BitVec 32 := 1#32
  let c0_i32_26 : BitVec 32 := 0#32
  let c2_i32_66 : BitVec 32 := 2#32
  let v213 : BitVec 32 := Scalar.muli c0_i32_26 c2_i32_66
  let v214 : BitVec 32 := Scalar.addi v213 c0_i32_67
  let v215 : BitVec 32 := Scalar.subi c1_i32_68 v214
  let c128_i32_69 : BitVec 32 := 128#32
  let v217 : BitVec 32 := Scalar.muli v215 c128_i32_69
  let v218 : BitVec 32 := v217
  let v222 : Index := Scalar.indexCast v218
  let c128_73 : Index := 128#32
  ![0, v222.toNat, 128]
def k0_off8 (c0_i32_67 : BitVec 32) : Fin 3 → Nat :=
  let c0_74 : Index := 0#32
  let c1_i32_68 : BitVec 32 := 1#32
  let c0_i32_26 : BitVec 32 := 0#32
  let c2_i32_66 : BitVec 32 := 2#32
  let v213 : BitVec 32 := Scalar.muli c0_i32_26 c2_i32_66
  let v214 : BitVec 32 := Scalar.addi v213 c0_i32_67
  let v215 : BitVec 32 := Scalar.subi c1_i32_68 v214
  let c128_i32_69 : BitVec 32 := 128#32
  let v217 : BitVec 32 := Scalar.muli v215 c128_i32_69
  let v218 : BitVec 32 := v217
  let v225 : Index := Scalar.indexCast v218
  let c384 : Index := 384#32
  ![0, v225.toNat, 384]
def k0_off9 (c0_i32_67 : BitVec 32) : Fin 3 → Nat :=
  let c0_85 : Index := 0#32
  let c1_i32_68 : BitVec 32 := 1#32
  let c0_i32_26 : BitVec 32 := 0#32
  let c2_i32_66 : BitVec 32 := 2#32
  let v213 : BitVec 32 := Scalar.muli c0_i32_26 c2_i32_66
  let v214 : BitVec 32 := Scalar.addi v213 c0_i32_67
  let v215 : BitVec 32 := Scalar.subi c1_i32_68 v214
  let c128_i32_69 : BitVec 32 := 128#32
  let v217 : BitVec 32 := Scalar.muli v215 c128_i32_69
  let v218 : BitVec 32 := v217
  let v270 : Index := Scalar.indexCast v218
  let c0_86 : Index := 0#32
  ![0, v270.toNat, 0]
def k0_off10 (c0_i32_67 : BitVec 32) : Fin 3 → Nat :=
  let c1_99 : Index := 1#32
  let c1_i32_68 : BitVec 32 := 1#32
  let c0_i32_26 : BitVec 32 := 0#32
  let c2_i32_66 : BitVec 32 := 2#32
  let v213 : BitVec 32 := Scalar.muli c0_i32_26 c2_i32_66
  let v214 : BitVec 32 := Scalar.addi v213 c0_i32_67
  let v215 : BitVec 32 := Scalar.subi c1_i32_68 v214
  let c128_i32_69 : BitVec 32 := 128#32
  let v217 : BitVec 32 := Scalar.muli v215 c128_i32_69
  let v218 : BitVec 32 := v217
  let v302 : Index := Scalar.indexCast v218
  let c0_100 : Index := 0#32
  ![1, v302.toNat, 0]
def k0_mult3 : BitVec 32 :=
  let c0_i32_26 : BitVec 32 := 0#32
  let c2_i32_109 : BitVec 32 := 2#32
  let v318 : BitVec 32 := Scalar.muli c0_i32_26 c2_i32_109
  let c1_i32_110 : BitVec 32 := 1#32
  let v319 : BitVec 32 := Scalar.addi v318 c1_i32_110
  let c128_i32_111 : BitVec 32 := 128#32
  let v321 : BitVec 32 := Scalar.muli v319 c128_i32_111
  v321
def k0_mult4 : BitVec 32 :=
  let c1_i32_155 : BitVec 32 := 1#32
  let c0_i32_26 : BitVec 32 := 0#32
  let c2_i32_153 : BitVec 32 := 2#32
  let v422 : BitVec 32 := Scalar.muli c0_i32_26 c2_i32_153
  let c1_i32_154 : BitVec 32 := 1#32
  let v423 : BitVec 32 := Scalar.addi v422 c1_i32_154
  let v424 : BitVec 32 := Scalar.subi c1_i32_155 v423
  let c128_i32_156 : BitVec 32 := 128#32
  let v426 : BitVec 32 := Scalar.muli v424 c128_i32_156
  v426
def k0_mult5 : BitVec 32 :=
  let c0_i32_199 : BitVec 32 := 0#32
  let c16_i32 : BitVec 32 := 16#32
  let v527 : BitVec 32 := Scalar.muli c0_i32_199 c16_i32
  let c0_i32_200 : BitVec 32 := 0#32
  let v528 : BitVec 32 := Scalar.addi v527 c0_i32_200
  let c128_i32_201 : BitVec 32 := 128#32
  let v530 : BitVec 32 := Scalar.muli v528 c128_i32_201
  v530
def k0_off11 (c0_i32_200 : BitVec 32) : Fin 3 → Nat :=
  let c0_202 : Index := 0#32
  let c0_i32_199 : BitVec 32 := 0#32
  let c16_i32 : BitVec 32 := 16#32
  let v527 : BitVec 32 := Scalar.muli c0_i32_199 c16_i32
  let v528 : BitVec 32 := Scalar.addi v527 c0_i32_200
  let c128_i32_201 : BitVec 32 := 128#32
  let v530 : BitVec 32 := Scalar.muli v528 c128_i32_201
  let v531 : BitVec 32 := v530
  let v532 : Index := Scalar.indexCast v531
  let c0_203 : Index := 0#32
  ![0, v532.toNat, 0]
def k0_off12 (c0_i32_200 : BitVec 32) : Fin 3 → Nat :=
  let c0_204 : Index := 0#32
  let c0_i32_199 : BitVec 32 := 0#32
  let c16_i32 : BitVec 32 := 16#32
  let v527 : BitVec 32 := Scalar.muli c0_i32_199 c16_i32
  let v528 : BitVec 32 := Scalar.addi v527 c0_i32_200
  let c128_i32_201 : BitVec 32 := 128#32
  let v530 : BitVec 32 := Scalar.muli v528 c128_i32_201
  let v531 : BitVec 32 := v530
  let v535 : Index := Scalar.indexCast v531
  let c128_205 : Index := 128#32
  ![0, v535.toNat, 128]
def k0_off13 (c0_i32_200 : BitVec 32) : Fin 3 → Nat :=
  let c0_206 : Index := 0#32
  let c0_i32_199 : BitVec 32 := 0#32
  let c16_i32 : BitVec 32 := 16#32
  let v527 : BitVec 32 := Scalar.muli c0_i32_199 c16_i32
  let v528 : BitVec 32 := Scalar.addi v527 c0_i32_200
  let c128_i32_201 : BitVec 32 := 128#32
  let v530 : BitVec 32 := Scalar.muli v528 c128_i32_201
  let v531 : BitVec 32 := v530
  let v538 : Index := Scalar.indexCast v531
  let c256_207 : Index := 256#32
  ![0, v538.toNat, 256]
def k0_off14 (c0_i32_200 : BitVec 32) : Fin 3 → Nat :=
  let c0_218 : Index := 0#32
  let c0_i32_199 : BitVec 32 := 0#32
  let c16_i32 : BitVec 32 := 16#32
  let v527 : BitVec 32 := Scalar.muli c0_i32_199 c16_i32
  let v528 : BitVec 32 := Scalar.addi v527 c0_i32_200
  let c128_i32_201 : BitVec 32 := 128#32
  let v530 : BitVec 32 := Scalar.muli v528 c128_i32_201
  let v531 : BitVec 32 := v530
  let v583 : Index := Scalar.indexCast v531
  let c0_219 : Index := 0#32
  ![0, v583.toNat, 0]
def k0_off15 (c0_i32_200 : BitVec 32) : Fin 3 → Nat :=
  let c0_233 : Index := 0#32
  let c0_i32_199 : BitVec 32 := 0#32
  let c16_i32 : BitVec 32 := 16#32
  let v527 : BitVec 32 := Scalar.muli c0_i32_199 c16_i32
  let v528 : BitVec 32 := Scalar.addi v527 c0_i32_200
  let c128_i32_201 : BitVec 32 := 128#32
  let v530 : BitVec 32 := Scalar.muli v528 c128_i32_201
  let v531 : BitVec 32 := v530
  let v615 : Index := Scalar.indexCast v531
  let c0_234 : Index := 0#32
  ![0, v615.toNat, 0]
def k0_mult6 : BitVec 32 :=
  let c15_i32 : BitVec 32 := 15#32
  let c0_i32_199 : BitVec 32 := 0#32
  let c16_i32_243 : BitVec 32 := 16#32
  let v631 : BitVec 32 := Scalar.muli c0_i32_199 c16_i32_243
  let c0_i32_244 : BitVec 32 := 0#32
  let v632 : BitVec 32 := Scalar.addi v631 c0_i32_244
  let v633 : BitVec 32 := Scalar.subi c15_i32 v632
  let c128_i32_245 : BitVec 32 := 128#32
  let v635 : BitVec 32 := Scalar.muli v633 c128_i32_245
  v635
def k0_off16 (c0_i32_244 : BitVec 32) : Fin 3 → Nat :=
  let c0_246 : Index := 0#32
  let c15_i32 : BitVec 32 := 15#32
  let c0_i32_199 : BitVec 32 := 0#32
  let c16_i32_243 : BitVec 32 := 16#32
  let v631 : BitVec 32 := Scalar.muli c0_i32_199 c16_i32_243
  let v632 : BitVec 32 := Scalar.addi v631 c0_i32_244
  let v633 : BitVec 32 := Scalar.subi c15_i32 v632
  let c128_i32_245 : BitVec 32 := 128#32
  let v635 : BitVec 32 := Scalar.muli v633 c128_i32_245
  let v636 : BitVec 32 := v635
  let v637 : Index := Scalar.indexCast v636
  let c0_247 : Index := 0#32
  ![0, v637.toNat, 0]
def k0_off17 (c0_i32_244 : BitVec 32) : Fin 3 → Nat :=
  let c0_248 : Index := 0#32
  let c15_i32 : BitVec 32 := 15#32
  let c0_i32_199 : BitVec 32 := 0#32
  let c16_i32_243 : BitVec 32 := 16#32
  let v631 : BitVec 32 := Scalar.muli c0_i32_199 c16_i32_243
  let v632 : BitVec 32 := Scalar.addi v631 c0_i32_244
  let v633 : BitVec 32 := Scalar.subi c15_i32 v632
  let c128_i32_245 : BitVec 32 := 128#32
  let v635 : BitVec 32 := Scalar.muli v633 c128_i32_245
  let v636 : BitVec 32 := v635
  let v640 : Index := Scalar.indexCast v636
  let c128_249 : Index := 128#32
  ![0, v640.toNat, 128]
def k0_off18 (c0_i32_244 : BitVec 32) : Fin 3 → Nat :=
  let c0_250 : Index := 0#32
  let c15_i32 : BitVec 32 := 15#32
  let c0_i32_199 : BitVec 32 := 0#32
  let c16_i32_243 : BitVec 32 := 16#32
  let v631 : BitVec 32 := Scalar.muli c0_i32_199 c16_i32_243
  let v632 : BitVec 32 := Scalar.addi v631 c0_i32_244
  let v633 : BitVec 32 := Scalar.subi c15_i32 v632
  let c128_i32_245 : BitVec 32 := 128#32
  let v635 : BitVec 32 := Scalar.muli v633 c128_i32_245
  let v636 : BitVec 32 := v635
  let v643 : Index := Scalar.indexCast v636
  let c384_251 : Index := 384#32
  ![0, v643.toNat, 384]
def k0_off19 (c0_i32_244 : BitVec 32) : Fin 3 → Nat :=
  let c0_262 : Index := 0#32
  let c15_i32 : BitVec 32 := 15#32
  let c0_i32_199 : BitVec 32 := 0#32
  let c16_i32_243 : BitVec 32 := 16#32
  let v631 : BitVec 32 := Scalar.muli c0_i32_199 c16_i32_243
  let v632 : BitVec 32 := Scalar.addi v631 c0_i32_244
  let v633 : BitVec 32 := Scalar.subi c15_i32 v632
  let c128_i32_245 : BitVec 32 := 128#32
  let v635 : BitVec 32 := Scalar.muli v633 c128_i32_245
  let v636 : BitVec 32 := v635
  let v688 : Index := Scalar.indexCast v636
  let c0_263 : Index := 0#32
  ![0, v688.toNat, 0]
def k0_off20 (c0_i32_244 : BitVec 32) : Fin 3 → Nat :=
  let c1_277 : Index := 1#32
  let c15_i32 : BitVec 32 := 15#32
  let c0_i32_199 : BitVec 32 := 0#32
  let c16_i32_243 : BitVec 32 := 16#32
  let v631 : BitVec 32 := Scalar.muli c0_i32_199 c16_i32_243
  let v632 : BitVec 32 := Scalar.addi v631 c0_i32_244
  let v633 : BitVec 32 := Scalar.subi c15_i32 v632
  let c128_i32_245 : BitVec 32 := 128#32
  let v635 : BitVec 32 := Scalar.muli v633 c128_i32_245
  let v636 : BitVec 32 := v635
  let v720 : Index := Scalar.indexCast v636
  let c0_278 : Index := 0#32
  ![1, v720.toNat, 0]
def k0_mult7 : BitVec 32 :=
  let c0_i32_199 : BitVec 32 := 0#32
  let c16_i32_287 : BitVec 32 := 16#32
  let v736 : BitVec 32 := Scalar.muli c0_i32_199 c16_i32_287
  let c1_i32_288 : BitVec 32 := 1#32
  let v737 : BitVec 32 := Scalar.addi v736 c1_i32_288
  let c128_i32_289 : BitVec 32 := 128#32
  let v739 : BitVec 32 := Scalar.muli v737 c128_i32_289
  v739
def k0_mult8 : BitVec 32 :=
  let c15_i32_333 : BitVec 32 := 15#32
  let c0_i32_199 : BitVec 32 := 0#32
  let c16_i32_331 : BitVec 32 := 16#32
  let v840 : BitVec 32 := Scalar.muli c0_i32_199 c16_i32_331
  let c1_i32_332 : BitVec 32 := 1#32
  let v841 : BitVec 32 := Scalar.addi v840 c1_i32_332
  let v842 : BitVec 32 := Scalar.subi c15_i32_333 v841
  let c128_i32_334 : BitVec 32 := 128#32
  let v844 : BitVec 32 := Scalar.muli v842 c128_i32_334
  v844
def k0_mult9 : BitVec 32 :=
  let c0_i32_199 : BitVec 32 := 0#32
  let c16_i32_376 : BitVec 32 := 16#32
  let v945 : BitVec 32 := Scalar.muli c0_i32_199 c16_i32_376
  let c2_i32_377 : BitVec 32 := 2#32
  let v946 : BitVec 32 := Scalar.addi v945 c2_i32_377
  let c128_i32_378 : BitVec 32 := 128#32
  let v948 : BitVec 32 := Scalar.muli v946 c128_i32_378
  v948
def k0_mult10 : BitVec 32 :=
  let c15_i32_422 : BitVec 32 := 15#32
  let c0_i32_199 : BitVec 32 := 0#32
  let c16_i32_420 : BitVec 32 := 16#32
  let v1049 : BitVec 32 := Scalar.muli c0_i32_199 c16_i32_420
  let c2_i32_421 : BitVec 32 := 2#32
  let v1050 : BitVec 32 := Scalar.addi v1049 c2_i32_421
  let v1051 : BitVec 32 := Scalar.subi c15_i32_422 v1050
  let c128_i32_423 : BitVec 32 := 128#32
  let v1053 : BitVec 32 := Scalar.muli v1051 c128_i32_423
  v1053
def k0_mult11 : BitVec 32 :=
  let c0_i32_199 : BitVec 32 := 0#32
  let c16_i32_465 : BitVec 32 := 16#32
  let v1154 : BitVec 32 := Scalar.muli c0_i32_199 c16_i32_465
  let c3_i32_466 : BitVec 32 := 3#32
  let v1155 : BitVec 32 := Scalar.addi v1154 c3_i32_466
  let c128_i32_467 : BitVec 32 := 128#32
  let v1157 : BitVec 32 := Scalar.muli v1155 c128_i32_467
  v1157
def k0_mult12 : BitVec 32 :=
  let c15_i32_511 : BitVec 32 := 15#32
  let c0_i32_199 : BitVec 32 := 0#32
  let c16_i32_509 : BitVec 32 := 16#32
  let v1258 : BitVec 32 := Scalar.muli c0_i32_199 c16_i32_509
  let c3_i32_510 : BitVec 32 := 3#32
  let v1259 : BitVec 32 := Scalar.addi v1258 c3_i32_510
  let v1260 : BitVec 32 := Scalar.subi c15_i32_511 v1259
  let c128_i32_512 : BitVec 32 := 128#32
  let v1262 : BitVec 32 := Scalar.muli v1260 c128_i32_512
  v1262
def k0_mult13 : BitVec 32 :=
  let c0_i32_199 : BitVec 32 := 0#32
  let c16_i32_554 : BitVec 32 := 16#32
  let v1363 : BitVec 32 := Scalar.muli c0_i32_199 c16_i32_554
  let c4_i32 : BitVec 32 := 4#32
  let v1364 : BitVec 32 := Scalar.addi v1363 c4_i32
  let c128_i32_555 : BitVec 32 := 128#32
  let v1366 : BitVec 32 := Scalar.muli v1364 c128_i32_555
  v1366
def k0_mult14 : BitVec 32 :=
  let c15_i32_599 : BitVec 32 := 15#32
  let c0_i32_199 : BitVec 32 := 0#32
  let c16_i32_597 : BitVec 32 := 16#32
  let v1467 : BitVec 32 := Scalar.muli c0_i32_199 c16_i32_597
  let c4_i32_598 : BitVec 32 := 4#32
  let v1468 : BitVec 32 := Scalar.addi v1467 c4_i32_598
  let v1469 : BitVec 32 := Scalar.subi c15_i32_599 v1468
  let c128_i32_600 : BitVec 32 := 128#32
  let v1471 : BitVec 32 := Scalar.muli v1469 c128_i32_600
  v1471
def k0_mult15 : BitVec 32 :=
  let c0_i32_199 : BitVec 32 := 0#32
  let c16_i32_642 : BitVec 32 := 16#32
  let v1572 : BitVec 32 := Scalar.muli c0_i32_199 c16_i32_642
  let c5_i32 : BitVec 32 := 5#32
  let v1573 : BitVec 32 := Scalar.addi v1572 c5_i32
  let c128_i32_643 : BitVec 32 := 128#32
  let v1575 : BitVec 32 := Scalar.muli v1573 c128_i32_643
  v1575
def k0_mult16 : BitVec 32 :=
  let c15_i32_687 : BitVec 32 := 15#32
  let c0_i32_199 : BitVec 32 := 0#32
  let c16_i32_685 : BitVec 32 := 16#32
  let v1676 : BitVec 32 := Scalar.muli c0_i32_199 c16_i32_685
  let c5_i32_686 : BitVec 32 := 5#32
  let v1677 : BitVec 32 := Scalar.addi v1676 c5_i32_686
  let v1678 : BitVec 32 := Scalar.subi c15_i32_687 v1677
  let c128_i32_688 : BitVec 32 := 128#32
  let v1680 : BitVec 32 := Scalar.muli v1678 c128_i32_688
  v1680
def k0_mult17 : BitVec 32 :=
  let c0_i32_199 : BitVec 32 := 0#32
  let c16_i32_730 : BitVec 32 := 16#32
  let v1781 : BitVec 32 := Scalar.muli c0_i32_199 c16_i32_730
  let c6_i32 : BitVec 32 := 6#32
  let v1782 : BitVec 32 := Scalar.addi v1781 c6_i32
  let c128_i32_731 : BitVec 32 := 128#32
  let v1784 : BitVec 32 := Scalar.muli v1782 c128_i32_731
  v1784
def k0_mult18 : BitVec 32 :=
  let c15_i32_775 : BitVec 32 := 15#32
  let c0_i32_199 : BitVec 32 := 0#32
  let c16_i32_773 : BitVec 32 := 16#32
  let v1885 : BitVec 32 := Scalar.muli c0_i32_199 c16_i32_773
  let c6_i32_774 : BitVec 32 := 6#32
  let v1886 : BitVec 32 := Scalar.addi v1885 c6_i32_774
  let v1887 : BitVec 32 := Scalar.subi c15_i32_775 v1886
  let c128_i32_776 : BitVec 32 := 128#32
  let v1889 : BitVec 32 := Scalar.muli v1887 c128_i32_776
  v1889
def k0_mult19 : BitVec 32 :=
  let c0_i32_199 : BitVec 32 := 0#32
  let c16_i32_818 : BitVec 32 := 16#32
  let v1990 : BitVec 32 := Scalar.muli c0_i32_199 c16_i32_818
  let c7_i32 : BitVec 32 := 7#32
  let v1991 : BitVec 32 := Scalar.addi v1990 c7_i32
  let c128_i32_819 : BitVec 32 := 128#32
  let v1993 : BitVec 32 := Scalar.muli v1991 c128_i32_819
  v1993
def k0_mult20 : BitVec 32 :=
  let c15_i32_863 : BitVec 32 := 15#32
  let c0_i32_199 : BitVec 32 := 0#32
  let c16_i32_861 : BitVec 32 := 16#32
  let v2094 : BitVec 32 := Scalar.muli c0_i32_199 c16_i32_861
  let c7_i32_862 : BitVec 32 := 7#32
  let v2095 : BitVec 32 := Scalar.addi v2094 c7_i32_862
  let v2096 : BitVec 32 := Scalar.subi c15_i32_863 v2095
  let c128_i32_864 : BitVec 32 := 128#32
  let v2098 : BitVec 32 := Scalar.muli v2096 c128_i32_864
  v2098
def k0_mult21 : BitVec 32 :=
  let c0_i32_199 : BitVec 32 := 0#32
  let c16_i32_906 : BitVec 32 := 16#32
  let v2199 : BitVec 32 := Scalar.muli c0_i32_199 c16_i32_906
  let c8_i32 : BitVec 32 := 8#32
  let v2200 : BitVec 32 := Scalar.addi v2199 c8_i32
  let c128_i32_907 : BitVec 32 := 128#32
  let v2202 : BitVec 32 := Scalar.muli v2200 c128_i32_907
  v2202
def k0_mult22 : BitVec 32 :=
  let c15_i32_951 : BitVec 32 := 15#32
  let c0_i32_199 : BitVec 32 := 0#32
  let c16_i32_949 : BitVec 32 := 16#32
  let v2303 : BitVec 32 := Scalar.muli c0_i32_199 c16_i32_949
  let c8_i32_950 : BitVec 32 := 8#32
  let v2304 : BitVec 32 := Scalar.addi v2303 c8_i32_950
  let v2305 : BitVec 32 := Scalar.subi c15_i32_951 v2304
  let c128_i32_952 : BitVec 32 := 128#32
  let v2307 : BitVec 32 := Scalar.muli v2305 c128_i32_952
  v2307
def k0_mult23 : BitVec 32 :=
  let c0_i32_199 : BitVec 32 := 0#32
  let c16_i32_994 : BitVec 32 := 16#32
  let v2408 : BitVec 32 := Scalar.muli c0_i32_199 c16_i32_994
  let c9_i32 : BitVec 32 := 9#32
  let v2409 : BitVec 32 := Scalar.addi v2408 c9_i32
  let c128_i32_995 : BitVec 32 := 128#32
  let v2411 : BitVec 32 := Scalar.muli v2409 c128_i32_995
  v2411
def k0_mult24 : BitVec 32 :=
  let c15_i32_1039 : BitVec 32 := 15#32
  let c0_i32_199 : BitVec 32 := 0#32
  let c16_i32_1037 : BitVec 32 := 16#32
  let v2512 : BitVec 32 := Scalar.muli c0_i32_199 c16_i32_1037
  let c9_i32_1038 : BitVec 32 := 9#32
  let v2513 : BitVec 32 := Scalar.addi v2512 c9_i32_1038
  let v2514 : BitVec 32 := Scalar.subi c15_i32_1039 v2513
  let c128_i32_1040 : BitVec 32 := 128#32
  let v2516 : BitVec 32 := Scalar.muli v2514 c128_i32_1040
  v2516
def k0_mult25 : BitVec 32 :=
  let c0_i32_199 : BitVec 32 := 0#32
  let c16_i32_1082 : BitVec 32 := 16#32
  let v2617 : BitVec 32 := Scalar.muli c0_i32_199 c16_i32_1082
  let c10_i32 : BitVec 32 := 10#32
  let v2618 : BitVec 32 := Scalar.addi v2617 c10_i32
  let c128_i32_1083 : BitVec 32 := 128#32
  let v2620 : BitVec 32 := Scalar.muli v2618 c128_i32_1083
  v2620
def k0_mult26 : BitVec 32 :=
  let c15_i32_1127 : BitVec 32 := 15#32
  let c0_i32_199 : BitVec 32 := 0#32
  let c16_i32_1125 : BitVec 32 := 16#32
  let v2721 : BitVec 32 := Scalar.muli c0_i32_199 c16_i32_1125
  let c10_i32_1126 : BitVec 32 := 10#32
  let v2722 : BitVec 32 := Scalar.addi v2721 c10_i32_1126
  let v2723 : BitVec 32 := Scalar.subi c15_i32_1127 v2722
  let c128_i32_1128 : BitVec 32 := 128#32
  let v2725 : BitVec 32 := Scalar.muli v2723 c128_i32_1128
  v2725
def k0_mult27 : BitVec 32 :=
  let c0_i32_199 : BitVec 32 := 0#32
  let c16_i32_1170 : BitVec 32 := 16#32
  let v2826 : BitVec 32 := Scalar.muli c0_i32_199 c16_i32_1170
  let c11_i32 : BitVec 32 := 11#32
  let v2827 : BitVec 32 := Scalar.addi v2826 c11_i32
  let c128_i32_1171 : BitVec 32 := 128#32
  let v2829 : BitVec 32 := Scalar.muli v2827 c128_i32_1171
  v2829
def k0_mult28 : BitVec 32 :=
  let c15_i32_1215 : BitVec 32 := 15#32
  let c0_i32_199 : BitVec 32 := 0#32
  let c16_i32_1213 : BitVec 32 := 16#32
  let v2930 : BitVec 32 := Scalar.muli c0_i32_199 c16_i32_1213
  let c11_i32_1214 : BitVec 32 := 11#32
  let v2931 : BitVec 32 := Scalar.addi v2930 c11_i32_1214
  let v2932 : BitVec 32 := Scalar.subi c15_i32_1215 v2931
  let c128_i32_1216 : BitVec 32 := 128#32
  let v2934 : BitVec 32 := Scalar.muli v2932 c128_i32_1216
  v2934
def k0_mult29 : BitVec 32 :=
  let c0_i32_199 : BitVec 32 := 0#32
  let c16_i32_1258 : BitVec 32 := 16#32
  let v3035 : BitVec 32 := Scalar.muli c0_i32_199 c16_i32_1258
  let c12_i32 : BitVec 32 := 12#32
  let v3036 : BitVec 32 := Scalar.addi v3035 c12_i32
  let c128_i32_1259 : BitVec 32 := 128#32
  let v3038 : BitVec 32 := Scalar.muli v3036 c128_i32_1259
  v3038
def k0_mult30 : BitVec 32 :=
  let c15_i32_1303 : BitVec 32 := 15#32
  let c0_i32_199 : BitVec 32 := 0#32
  let c16_i32_1301 : BitVec 32 := 16#32
  let v3139 : BitVec 32 := Scalar.muli c0_i32_199 c16_i32_1301
  let c12_i32_1302 : BitVec 32 := 12#32
  let v3140 : BitVec 32 := Scalar.addi v3139 c12_i32_1302
  let v3141 : BitVec 32 := Scalar.subi c15_i32_1303 v3140
  let c128_i32_1304 : BitVec 32 := 128#32
  let v3143 : BitVec 32 := Scalar.muli v3141 c128_i32_1304
  v3143
def k0_mult31 : BitVec 32 :=
  let c0_i32_199 : BitVec 32 := 0#32
  let c16_i32_1346 : BitVec 32 := 16#32
  let v3244 : BitVec 32 := Scalar.muli c0_i32_199 c16_i32_1346
  let c13_i32 : BitVec 32 := 13#32
  let v3245 : BitVec 32 := Scalar.addi v3244 c13_i32
  let c128_i32_1347 : BitVec 32 := 128#32
  let v3247 : BitVec 32 := Scalar.muli v3245 c128_i32_1347
  v3247
def k0_mult32 : BitVec 32 :=
  let c15_i32_1391 : BitVec 32 := 15#32
  let c0_i32_199 : BitVec 32 := 0#32
  let c16_i32_1389 : BitVec 32 := 16#32
  let v3348 : BitVec 32 := Scalar.muli c0_i32_199 c16_i32_1389
  let c13_i32_1390 : BitVec 32 := 13#32
  let v3349 : BitVec 32 := Scalar.addi v3348 c13_i32_1390
  let v3350 : BitVec 32 := Scalar.subi c15_i32_1391 v3349
  let c128_i32_1392 : BitVec 32 := 128#32
  let v3352 : BitVec 32 := Scalar.muli v3350 c128_i32_1392
  v3352
def k0_mult33 : BitVec 32 :=
  let c0_i32_199 : BitVec 32 := 0#32
  let c16_i32_1434 : BitVec 32 := 16#32
  let v3453 : BitVec 32 := Scalar.muli c0_i32_199 c16_i32_1434
  let c14_i32 : BitVec 32 := 14#32
  let v3454 : BitVec 32 := Scalar.addi v3453 c14_i32
  let c128_i32_1435 : BitVec 32 := 128#32
  let v3456 : BitVec 32 := Scalar.muli v3454 c128_i32_1435
  v3456
def k0_mult34 : BitVec 32 :=
  let c15_i32_1479 : BitVec 32 := 15#32
  let c0_i32_199 : BitVec 32 := 0#32
  let c16_i32_1477 : BitVec 32 := 16#32
  let v3557 : BitVec 32 := Scalar.muli c0_i32_199 c16_i32_1477
  let c14_i32_1478 : BitVec 32 := 14#32
  let v3558 : BitVec 32 := Scalar.addi v3557 c14_i32_1478
  let v3559 : BitVec 32 := Scalar.subi c15_i32_1479 v3558
  let c128_i32_1480 : BitVec 32 := 128#32
  let v3561 : BitVec 32 := Scalar.muli v3559 c128_i32_1480
  v3561
def k0_mult35 : BitVec 32 :=
  let c0_i32_199 : BitVec 32 := 0#32
  let c16_i32_1522 : BitVec 32 := 16#32
  let v3662 : BitVec 32 := Scalar.muli c0_i32_199 c16_i32_1522
  let c15_i32_1523 : BitVec 32 := 15#32
  let v3663 : BitVec 32 := Scalar.addi v3662 c15_i32_1523
  let c128_i32_1524 : BitVec 32 := 128#32
  let v3665 : BitVec 32 := Scalar.muli v3663 c128_i32_1524
  v3665
def k0_mult36 : BitVec 32 :=
  let c15_i32_1568 : BitVec 32 := 15#32
  let c0_i32_199 : BitVec 32 := 0#32
  let c16_i32_1566 : BitVec 32 := 16#32
  let v3766 : BitVec 32 := Scalar.muli c0_i32_199 c16_i32_1566
  let c15_i32_1567 : BitVec 32 := 15#32
  let v3767 : BitVec 32 := Scalar.addi v3766 c15_i32_1567
  let v3768 : BitVec 32 := Scalar.subi c15_i32_1568 v3767
  let c128_i32_1569 : BitVec 32 := 128#32
  let v3770 : BitVec 32 := Scalar.muli v3768 c128_i32_1569
  v3770
def k0_mult37 : BitVec 32 :=
  let c0_i32_1631 : BitVec 32 := 0#32
  let c2_i32_1632 : BitVec 32 := 2#32
  let v3928 : BitVec 32 := Scalar.muli c0_i32_1631 c2_i32_1632
  let c0_i32_1633 : BitVec 32 := 0#32
  let v3929 : BitVec 32 := Scalar.addi v3928 c0_i32_1633
  let c128_i32_1634 : BitVec 32 := 128#32
  let v3930 : BitVec 32 := Scalar.muli v3929 c128_i32_1634
  v3930
def k0_off21 (c0_i32_1633 : BitVec 32) : Fin 3 → Nat :=
  let c1_1637 : Index := 1#32
  let c0_i32_1631 : BitVec 32 := 0#32
  let c2_i32_1632 : BitVec 32 := 2#32
  let v3928 : BitVec 32 := Scalar.muli c0_i32_1631 c2_i32_1632
  let v3929 : BitVec 32 := Scalar.addi v3928 c0_i32_1633
  let c128_i32_1634 : BitVec 32 := 128#32
  let v3930 : BitVec 32 := Scalar.muli v3929 c128_i32_1634
  let v3931 : BitVec 32 := v3930
  let v3935 : Index := Scalar.indexCast v3931
  let c0_1638 : Index := 0#32
  ![1, v3935.toNat, 0]
def k0_mult38 : BitVec 32 :=
  let c0_i32_1631 : BitVec 32 := 0#32
  let c2_i32_1649 : BitVec 32 := 2#32
  let v3971 : BitVec 32 := Scalar.muli c0_i32_1631 c2_i32_1649
  let c1_i32_1650 : BitVec 32 := 1#32
  let v3972 : BitVec 32 := Scalar.addi v3971 c1_i32_1650
  let c128_i32_1651 : BitVec 32 := 128#32
  let v3973 : BitVec 32 := Scalar.muli v3972 c128_i32_1651
  v3973
def k0_mult39 : BitVec 32 :=
  let c0_i32_1667 : BitVec 32 := 0#32
  let c16_i32_1668 : BitVec 32 := 16#32
  let v4014 : BitVec 32 := Scalar.muli c0_i32_1667 c16_i32_1668
  let c0_i32_1669 : BitVec 32 := 0#32
  let v4015 : BitVec 32 := Scalar.addi v4014 c0_i32_1669
  let c128_i32_1670 : BitVec 32 := 128#32
  let v4016 : BitVec 32 := Scalar.muli v4015 c128_i32_1670
  v4016
def k0_off22 (c0_i32_1669 : BitVec 32) : Fin 3 → Nat :=
  let c1_1673 : Index := 1#32
  let c0_i32_1667 : BitVec 32 := 0#32
  let c16_i32_1668 : BitVec 32 := 16#32
  let v4014 : BitVec 32 := Scalar.muli c0_i32_1667 c16_i32_1668
  let v4015 : BitVec 32 := Scalar.addi v4014 c0_i32_1669
  let c128_i32_1670 : BitVec 32 := 128#32
  let v4016 : BitVec 32 := Scalar.muli v4015 c128_i32_1670
  let v4017 : BitVec 32 := v4016
  let v4021 : Index := Scalar.indexCast v4017
  let c0_1674 : Index := 0#32
  ![1, v4021.toNat, 0]
def k0_mult40 : BitVec 32 :=
  let c0_i32_1667 : BitVec 32 := 0#32
  let c16_i32_1685 : BitVec 32 := 16#32
  let v4057 : BitVec 32 := Scalar.muli c0_i32_1667 c16_i32_1685
  let c1_i32_1686 : BitVec 32 := 1#32
  let v4058 : BitVec 32 := Scalar.addi v4057 c1_i32_1686
  let c128_i32_1687 : BitVec 32 := 128#32
  let v4059 : BitVec 32 := Scalar.muli v4058 c128_i32_1687
  v4059
def k0_mult41 : BitVec 32 :=
  let c0_i32_1667 : BitVec 32 := 0#32
  let c16_i32_1702 : BitVec 32 := 16#32
  let v4100 : BitVec 32 := Scalar.muli c0_i32_1667 c16_i32_1702
  let c2_i32_1703 : BitVec 32 := 2#32
  let v4101 : BitVec 32 := Scalar.addi v4100 c2_i32_1703
  let c128_i32_1704 : BitVec 32 := 128#32
  let v4102 : BitVec 32 := Scalar.muli v4101 c128_i32_1704
  v4102
def k0_mult42 : BitVec 32 :=
  let c0_i32_1667 : BitVec 32 := 0#32
  let c16_i32_1719 : BitVec 32 := 16#32
  let v4143 : BitVec 32 := Scalar.muli c0_i32_1667 c16_i32_1719
  let c3_i32_1720 : BitVec 32 := 3#32
  let v4144 : BitVec 32 := Scalar.addi v4143 c3_i32_1720
  let c128_i32_1721 : BitVec 32 := 128#32
  let v4145 : BitVec 32 := Scalar.muli v4144 c128_i32_1721
  v4145
def k0_mult43 : BitVec 32 :=
  let c0_i32_1667 : BitVec 32 := 0#32
  let c16_i32_1736 : BitVec 32 := 16#32
  let v4186 : BitVec 32 := Scalar.muli c0_i32_1667 c16_i32_1736
  let c4_i32_1737 : BitVec 32 := 4#32
  let v4187 : BitVec 32 := Scalar.addi v4186 c4_i32_1737
  let c128_i32_1738 : BitVec 32 := 128#32
  let v4188 : BitVec 32 := Scalar.muli v4187 c128_i32_1738
  v4188
def k0_mult44 : BitVec 32 :=
  let c0_i32_1667 : BitVec 32 := 0#32
  let c16_i32_1753 : BitVec 32 := 16#32
  let v4229 : BitVec 32 := Scalar.muli c0_i32_1667 c16_i32_1753
  let c5_i32_1754 : BitVec 32 := 5#32
  let v4230 : BitVec 32 := Scalar.addi v4229 c5_i32_1754
  let c128_i32_1755 : BitVec 32 := 128#32
  let v4231 : BitVec 32 := Scalar.muli v4230 c128_i32_1755
  v4231
def k0_mult45 : BitVec 32 :=
  let c0_i32_1667 : BitVec 32 := 0#32
  let c16_i32_1770 : BitVec 32 := 16#32
  let v4272 : BitVec 32 := Scalar.muli c0_i32_1667 c16_i32_1770
  let c6_i32_1771 : BitVec 32 := 6#32
  let v4273 : BitVec 32 := Scalar.addi v4272 c6_i32_1771
  let c128_i32_1772 : BitVec 32 := 128#32
  let v4274 : BitVec 32 := Scalar.muli v4273 c128_i32_1772
  v4274
def k0_mult46 : BitVec 32 :=
  let c0_i32_1667 : BitVec 32 := 0#32
  let c16_i32_1787 : BitVec 32 := 16#32
  let v4315 : BitVec 32 := Scalar.muli c0_i32_1667 c16_i32_1787
  let c7_i32_1788 : BitVec 32 := 7#32
  let v4316 : BitVec 32 := Scalar.addi v4315 c7_i32_1788
  let c128_i32_1789 : BitVec 32 := 128#32
  let v4317 : BitVec 32 := Scalar.muli v4316 c128_i32_1789
  v4317
def k0_mult47 : BitVec 32 :=
  let c0_i32_1667 : BitVec 32 := 0#32
  let c16_i32_1804 : BitVec 32 := 16#32
  let v4358 : BitVec 32 := Scalar.muli c0_i32_1667 c16_i32_1804
  let c8_i32_1805 : BitVec 32 := 8#32
  let v4359 : BitVec 32 := Scalar.addi v4358 c8_i32_1805
  let c128_i32_1806 : BitVec 32 := 128#32
  let v4360 : BitVec 32 := Scalar.muli v4359 c128_i32_1806
  v4360
def k0_mult48 : BitVec 32 :=
  let c0_i32_1667 : BitVec 32 := 0#32
  let c16_i32_1821 : BitVec 32 := 16#32
  let v4401 : BitVec 32 := Scalar.muli c0_i32_1667 c16_i32_1821
  let c9_i32_1822 : BitVec 32 := 9#32
  let v4402 : BitVec 32 := Scalar.addi v4401 c9_i32_1822
  let c128_i32_1823 : BitVec 32 := 128#32
  let v4403 : BitVec 32 := Scalar.muli v4402 c128_i32_1823
  v4403
def k0_mult49 : BitVec 32 :=
  let c0_i32_1667 : BitVec 32 := 0#32
  let c16_i32_1838 : BitVec 32 := 16#32
  let v4444 : BitVec 32 := Scalar.muli c0_i32_1667 c16_i32_1838
  let c10_i32_1839 : BitVec 32 := 10#32
  let v4445 : BitVec 32 := Scalar.addi v4444 c10_i32_1839
  let c128_i32_1840 : BitVec 32 := 128#32
  let v4446 : BitVec 32 := Scalar.muli v4445 c128_i32_1840
  v4446
def k0_mult50 : BitVec 32 :=
  let c0_i32_1667 : BitVec 32 := 0#32
  let c16_i32_1855 : BitVec 32 := 16#32
  let v4487 : BitVec 32 := Scalar.muli c0_i32_1667 c16_i32_1855
  let c11_i32_1856 : BitVec 32 := 11#32
  let v4488 : BitVec 32 := Scalar.addi v4487 c11_i32_1856
  let c128_i32_1857 : BitVec 32 := 128#32
  let v4489 : BitVec 32 := Scalar.muli v4488 c128_i32_1857
  v4489
def k0_mult51 : BitVec 32 :=
  let c0_i32_1667 : BitVec 32 := 0#32
  let c16_i32_1872 : BitVec 32 := 16#32
  let v4530 : BitVec 32 := Scalar.muli c0_i32_1667 c16_i32_1872
  let c12_i32_1873 : BitVec 32 := 12#32
  let v4531 : BitVec 32 := Scalar.addi v4530 c12_i32_1873
  let c128_i32_1874 : BitVec 32 := 128#32
  let v4532 : BitVec 32 := Scalar.muli v4531 c128_i32_1874
  v4532
def k0_mult52 : BitVec 32 :=
  let c0_i32_1667 : BitVec 32 := 0#32
  let c16_i32_1889 : BitVec 32 := 16#32
  let v4573 : BitVec 32 := Scalar.muli c0_i32_1667 c16_i32_1889
  let c13_i32_1890 : BitVec 32 := 13#32
  let v4574 : BitVec 32 := Scalar.addi v4573 c13_i32_1890
  let c128_i32_1891 : BitVec 32 := 128#32
  let v4575 : BitVec 32 := Scalar.muli v4574 c128_i32_1891
  v4575
def k0_mult53 : BitVec 32 :=
  let c0_i32_1667 : BitVec 32 := 0#32
  let c16_i32_1906 : BitVec 32 := 16#32
  let v4616 : BitVec 32 := Scalar.muli c0_i32_1667 c16_i32_1906
  let c14_i32_1907 : BitVec 32 := 14#32
  let v4617 : BitVec 32 := Scalar.addi v4616 c14_i32_1907
  let c128_i32_1908 : BitVec 32 := 128#32
  let v4618 : BitVec 32 := Scalar.muli v4617 c128_i32_1908
  v4618
def k0_mult54 : BitVec 32 :=
  let c0_i32_1667 : BitVec 32 := 0#32
  let c16_i32_1923 : BitVec 32 := 16#32
  let v4659 : BitVec 32 := Scalar.muli c0_i32_1667 c16_i32_1923
  let c15_i32_1924 : BitVec 32 := 15#32
  let v4660 : BitVec 32 := Scalar.addi v4659 c15_i32_1924
  let c128_i32_1925 : BitVec 32 := 128#32
  let v4661 : BitVec 32 := Scalar.muli v4660 c128_i32_1925
  v4661
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x2048x128 : Shape := ⟨3, ![16, 2048, 128]⟩
abbrev S16x2048x256 : Shape := ⟨3, ![16, 2048, 256]⟩
abbrev S16x256x128 : Shape := ⟨3, ![16, 256, 128]⟩
abbrev S16x256x256 : Shape := ⟨3, ![16, 256, 256]⟩
abbrev S4x256 : Shape := ⟨2, ![4, 256]⟩
abbrev S16x2048x4x32 : Shape := ⟨4, ![16, 2048, 4, 32]⟩
abbrev S16x4x2048x32 : Shape := ⟨4, ![16, 4, 2048, 32]⟩
abbrev S_ : Shape := ⟨0, ![]⟩
abbrev S16x2048x4x64 : Shape := ⟨4, ![16, 2048, 4, 64]⟩
abbrev S16x4x2048x64 : Shape := ⟨4, ![16, 4, 2048, 64]⟩
abbrev S16x256x4x32 : Shape := ⟨4, ![16, 256, 4, 32]⟩
abbrev S16x4x256x32 : Shape := ⟨4, ![16, 4, 256, 32]⟩
abbrev S16x256x4x64 : Shape := ⟨4, ![16, 256, 4, 64]⟩
abbrev S16x4x256x64 : Shape := ⟨4, ![16, 4, 256, 64]⟩
abbrev S16x4x32x64 : Shape := ⟨4, ![16, 4, 32, 64]⟩
abbrev S16x4x1x32 : Shape := ⟨4, ![16, 4, 1, 32]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16x4x256x256 : Shape := ⟨4, ![16, 4, 256, 256]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048x2048 : Shape := ⟨4, ![16, 4, 2048, 2048]⟩
abbrev S16x2048x4 : Shape := ⟨3, ![16, 2048, 4]⟩
abbrev S16x2048x4x1 : Shape := ⟨4, ![16, 2048, 4, 1]⟩
abbrev S1x1x256 : Shape := ⟨3, ![1, 1, 256]⟩
abbrev S16x256x4 : Shape := ⟨3, ![16, 256, 4]⟩
abbrev S16x256x4x1 : Shape := ⟨4, ![16, 256, 4, 1]⟩

abbrev nBuf : Space → Nat
  | .hbm => 228
  | .vmem => 0
  | .smem => 0
  | _ => 0

abbrev hbmTy0_0 (i : Nat) : BufTy := match i % 128 with
  | 0 => ⟨S16x2048x128, .f32⟩
  | 1 => ⟨S16x2048x128, .f32⟩
  | 2 => ⟨S16x2048x256, .f32⟩
  | 3 => ⟨S16x2048x256, .f32⟩
  | 4 => ⟨S16x2048x128, .f32⟩
  | 5 => ⟨S16x2048x128, .f32⟩
  | 6 => ⟨S16x256x128, .f32⟩
  | 7 => ⟨S16x256x128, .f32⟩
  | 8 => ⟨S16x256x256, .f32⟩
  | 9 => ⟨S16x256x256, .f32⟩
  | 10 => ⟨S16x256x128, .f32⟩
  | 11 => ⟨S16x256x128, .f32⟩
  | 12 => ⟨S4x256, .f32⟩
  | 13 => ⟨S16x2048x4x32, .f32⟩
  | 14 => ⟨S16x4x2048x32, .f32⟩
  | 15 => ⟨S_, .f32⟩
  | 16 => ⟨S16x4x2048x32, .f32⟩
  | 17 => ⟨S16x4x2048x32, .f32⟩
  | 18 => ⟨S16x2048x4x32, .f32⟩
  | 19 => ⟨S16x4x2048x32, .f32⟩
  | 20 => ⟨S16x2048x4x64, .f32⟩
  | 21 => ⟨S16x4x2048x64, .f32⟩
  | 22 => ⟨S16x2048x4x32, .f32⟩
  | 23 => ⟨S16x4x2048x32, .f32⟩
  | 24 => ⟨S16x2048x4x32, .f32⟩
  | 25 => ⟨S16x4x2048x32, .f32⟩
  | 26 => ⟨S16x256x4x32, .f32⟩
  | 27 => ⟨S16x4x256x32, .f32⟩
  | 28 => ⟨S_, .f32⟩
  | 29 => ⟨S16x4x256x32, .f32⟩
  | 30 => ⟨S16x4x256x32, .f32⟩
  | 31 => ⟨S16x256x4x32, .f32⟩
  | 32 => ⟨S16x4x256x32, .f32⟩
  | 33 => ⟨S16x256x4x64, .f32⟩
  | 34 => ⟨S16x4x256x64, .f32⟩
  | 35 => ⟨S16x256x4x32, .f32⟩
  | 36 => ⟨S16x4x256x32, .f32⟩
  | 37 => ⟨S16x256x4x32, .f32⟩
  | 38 => ⟨S16x4x256x32, .f32⟩
  | 39 => ⟨S_, .f32⟩
  | 40 => ⟨S16x4x32x64, .f32⟩
  | 41 => ⟨S_, .f32⟩
  | 42 => ⟨S_, .f32⟩
  | 43 => ⟨S16x4x256x32, .f32⟩
  | 44 => ⟨S16x4x1x32, .f32⟩
  | 45 => ⟨S16x4x256x32, .f32⟩
  | 46 => ⟨S16x4x256x32, .f32⟩
  | 47 => ⟨S16x4x256x32, .f32⟩
  | 48 => ⟨S16x4x256x32, .f32⟩
  | 49 => ⟨S16x4x32x64, .f32⟩
  | 50 => ⟨S16x4x256x32, .f32⟩
  | 51 => ⟨S16x4x256x64, .f32⟩
  | 52 => ⟨S16x4x256x32, .f32⟩
  | 53 => ⟨S_, .f32⟩
  | 54 => ⟨S_, .f32⟩
  | 55 => ⟨S16x4x256x32, .f32⟩
  | 56 => ⟨S16x4x1x32, .f32⟩
  | 57 => ⟨S16x4x256x32, .f32⟩
  | 58 => ⟨S16x4x256x32, .f32⟩
  | 59 => ⟨S16x4x256x32, .f32⟩
  | 60 => ⟨S16x4x256x32, .f32⟩
  | 61 => ⟨S16x4x32x64, .f32⟩
  | 62 => ⟨S_, .f32⟩
  | 63 => ⟨S_, .f32⟩
  | 64 => ⟨S16x4x256x32, .f32⟩
  | 65 => ⟨S16x4x256x32, .f32⟩
  | 66 => ⟨S16x4x256x32, .f32⟩
  | 67 => ⟨S16x4x256x32, .f32⟩
  | 68 => ⟨S16x4x256x32, .f32⟩
  | 69 => ⟨S16x4x256x32, .f32⟩
  | 70 => ⟨S256, .i32⟩
  | 71 => ⟨S1x256, .i32⟩
  | 72 => ⟨S256x1, .i32⟩
  | 73 => ⟨S256x256, .i32⟩
  | 74 => ⟨S256x256, .i32⟩
  | 75 => ⟨S256x256, .i1⟩
  | 76 => ⟨S16x4x256x256, .f32⟩
  | 77 => ⟨S_, .f32⟩
  | 78 => ⟨S_, .f32⟩
  | 79 => ⟨S16x4x256x256, .i1⟩
  | 80 => ⟨S16x4x256x256, .f32⟩
  | 81 => ⟨S16x4x256x256, .f32⟩
  | 82 => ⟨S16x4x256x64, .f32⟩
  | 83 => ⟨S16x4x256x64, .f32⟩
  | 84 => ⟨S16x4x256x64, .f32⟩
  | 85 => ⟨S16x4x256x32, .f32⟩
  | 86 => ⟨S16x4x256x32, .f32⟩
  | 87 => ⟨S16x4x256x64, .f32⟩
  | 88 => ⟨S16x4x256x32, .f32⟩
  | 89 => ⟨S_, .f32⟩
  | 90 => ⟨S_, .f32⟩
  | 91 => ⟨S16x4x256x32, .f32⟩
  | 92 => ⟨S16x4x256x32, .f32⟩
  | 93 => ⟨S16x4x256x32, .f32⟩
  | 94 => ⟨S16x4x256x32, .f32⟩
  | 95 => ⟨S16x4x256x32, .f32⟩
  | 96 => ⟨S16x4x256x32, .f32⟩
  | 97 => ⟨S256, .i32⟩
  | 98 => ⟨S1x256, .i32⟩
  | 99 => ⟨S256x1, .i32⟩
  | 100 => ⟨S256x256, .i32⟩
  | 101 => ⟨S256x256, .i32⟩
  | 102 => ⟨S256x256, .i1⟩
  | 103 => ⟨S16x4x256x256, .f32⟩
  | 104 => ⟨S_, .f32⟩
  | 105 => ⟨S_, .f32⟩
  | 106 => ⟨S16x4x256x256, .i1⟩
  | 107 => ⟨S16x4x256x256, .f32⟩
  | 108 => ⟨S16x4x256x256, .f32⟩
  | 109 => ⟨S16x4x256x64, .f32⟩
  | 110 => ⟨S16x4x256x64, .f32⟩
  | 111 => ⟨S16x4x256x64, .f32⟩
  | 112 => ⟨S16x4x256x64, .f32⟩
  | 113 => ⟨S_, .f32⟩
  | 114 => ⟨S_, .f32⟩
  | 115 => ⟨S16x4x2048x32, .f32⟩
  | 116 => ⟨S16x4x2048x32, .f32⟩
  | 117 => ⟨S16x4x2048x32, .f32⟩
  | 118 => ⟨S16x4x2048x32, .f32⟩
  | 119 => ⟨S16x4x2048x32, .f32⟩
  | 120 => ⟨S16x4x2048x32, .f32⟩
  | 121 => ⟨S2048, .i32⟩
  | 122 => ⟨S1x2048, .i32⟩
  | 123 => ⟨S2048x1, .i32⟩
  | 124 => ⟨S2048x2048, .i32⟩
  | 125 => ⟨S2048x2048, .i32⟩
  | 126 => ⟨S2048x2048, .i1⟩
  | 127 => ⟨S16x4x2048x2048, .f32⟩
  | _ => ⟨S16x2048x128, .f32⟩

abbrev hbmTy0_1 (i : Nat) : BufTy := match i % 128 with
  | 0 => ⟨S_, .f32⟩
  | 1 => ⟨S_, .f32⟩
  | 2 => ⟨S16x4x2048x2048, .i1⟩
  | 3 => ⟨S16x4x2048x2048, .f32⟩
  | 4 => ⟨S16x4x2048x2048, .f32⟩
  | 5 => ⟨S16x4x2048x64, .f32⟩
  | 6 => ⟨S16x4x2048x64, .f32⟩
  | 7 => ⟨S16x4x2048x64, .f32⟩
  | 8 => ⟨S16x4x2048x32, .f32⟩
  | 9 => ⟨S16x4x2048x32, .f32⟩
  | 10 => ⟨S16x4x2048x64, .f32⟩
  | 11 => ⟨S16x4x2048x32, .f32⟩
  | 12 => ⟨S_, .f32⟩
  | 13 => ⟨S_, .f32⟩
  | 14 => ⟨S16x4x2048x32, .f32⟩
  | 15 => ⟨S16x4x2048x32, .f32⟩
  | 16 => ⟨S16x4x2048x32, .f32⟩
  | 17 => ⟨S16x4x2048x32, .f32⟩
  | 18 => ⟨S16x4x2048x32, .f32⟩
  | 19 => ⟨S16x4x2048x32, .f32⟩
  | 20 => ⟨S2048, .i32⟩
  | 21 => ⟨S1x2048, .i32⟩
  | 22 => ⟨S2048x1, .i32⟩
  | 23 => ⟨S2048x2048, .i32⟩
  | 24 => ⟨S2048x2048, .i32⟩
  | 25 => ⟨S2048x2048, .i1⟩
  | 26 => ⟨S16x4x2048x2048, .f32⟩
  | 27 => ⟨S_, .f32⟩
  | 28 => ⟨S_, .f32⟩
  | 29 => ⟨S16x4x2048x2048, .i1⟩
  | 30 => ⟨S16x4x2048x2048, .f32⟩
  | 31 => ⟨S16x4x2048x2048, .f32⟩
  | 32 => ⟨S16x4x2048x64, .f32⟩
  | 33 => ⟨S16x4x2048x64, .f32⟩
  | 34 => ⟨S16x4x2048x64, .f32⟩
  | 35 => ⟨S16x4x2048x64, .f32⟩
  | 36 => ⟨S1x256, .f32⟩
  | 37 => ⟨S256, .f32⟩
  | 38 => ⟨S16x4x2048x64, .f32⟩
  | 39 => ⟨S16x2048x4x64, .f32⟩
  | 40 => ⟨S16x2048x4x64, .f32⟩
  | 41 => ⟨S_, .f32⟩
  | 42 => ⟨S16x2048x4, .f32⟩
  | 43 => ⟨S16x2048x4x1, .f32⟩
  | 44 => ⟨S_, .f32⟩
  | 45 => ⟨S16x2048x4x1, .f32⟩
  | 46 => ⟨S16x2048x4x1, .f32⟩
  | 47 => ⟨S_, .f32⟩
  | 48 => ⟨S16x2048x4x1, .f32⟩
  | 49 => ⟨S16x2048x4x1, .f32⟩
  | 50 => ⟨S16x2048x4x1, .f32⟩
  | 51 => ⟨S16x2048x4x64, .f32⟩
  | 52 => ⟨S16x2048x4x64, .f32⟩
  | 53 => ⟨S16x2048x256, .f32⟩
  | 54 => ⟨S1x1x256, .f32⟩
  | 55 => ⟨S16x2048x256, .f32⟩
  | 56 => ⟨S16x2048x256, .f32⟩
  | 57 => ⟨S16x2048x256, .f32⟩
  | 58 => ⟨S16x2048x256, .f32⟩
  | 59 => ⟨S_, .f32⟩
  | 60 => ⟨S16x2048x256, .f32⟩
  | 61 => ⟨S16x2048x256, .f32⟩
  | 62 => ⟨S_, .f32⟩
  | 63 => ⟨S16x2048x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S16x4x256x64, .f32⟩
  | 70 => ⟨S16x256x4x64, .f32⟩
  | 71 => ⟨S16x256x4x64, .f32⟩
  | 72 => ⟨S_, .f32⟩
  | 73 => ⟨S16x256x4, .f32⟩
  | 74 => ⟨S16x256x4x1, .f32⟩
  | 75 => ⟨S_, .f32⟩
  | 76 => ⟨S16x256x4x1, .f32⟩
  | 77 => ⟨S16x256x4x1, .f32⟩
  | 78 => ⟨S_, .f32⟩
  | 79 => ⟨S16x256x4x1, .f32⟩
  | 80 => ⟨S16x256x4x1, .f32⟩
  | 81 => ⟨S16x256x4x1, .f32⟩
  | 82 => ⟨S16x256x4x64, .f32⟩
  | 83 => ⟨S16x256x4x64, .f32⟩
  | 84 => ⟨S16x256x256, .f32⟩
  | 85 => ⟨S1x1x256, .f32⟩
  | 86 => ⟨S16x256x256, .f32⟩
  | 87 => ⟨S16x256x256, .f32⟩
  | 88 => ⟨S16x256x256, .f32⟩
  | 89 => ⟨S16x256x256, .f32⟩
  | 90 => ⟨S_, .f32⟩
  | 91 => ⟨S16x256x256, .f32⟩
  | 92 => ⟨S16x256x256, .f32⟩
  | 93 => ⟨S_, .f32⟩
  | 94 => ⟨S16x256x256, .f32⟩
  | 95 => ⟨S16x256x256, .f32⟩
  | 96 => ⟨S16x256x256, .f32⟩
  | 97 => ⟨S16x256x256, .f32⟩
  | 98 => ⟨S16x2048x256, .bf16⟩
  | 99 => ⟨S16x256x256, .bf16⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_call0_call0_cst : Ref sig .tc := ⟨.hbm, 41, rfl⟩
abbrev main_call0_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call4_call0_cst : Ref sig .tc := ⟨.hbm, 53, rfl⟩
abbrev main_call4_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call5_call0_cst : Ref sig .tc := ⟨.hbm, 62, rfl⟩
abbrev main_call5_call0_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_2 : Ref sig .tc := ⟨.hbm, 77, rfl⟩
abbrev main_call6_v0 : Ref sig .tc := ⟨.hbm, 78, rfl⟩
abbrev main_call6_v1 : Ref sig .tc := ⟨.hbm, 79, rfl⟩
abbrev main_call6_v2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call11_call0_cst : Ref sig .tc := ⟨.hbm, 89, rfl⟩
abbrev main_call11_call0_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_3 : Ref sig .tc := ⟨.hbm, 104, rfl⟩
abbrev main_call12_v0 : Ref sig .tc := ⟨.hbm, 105, rfl⟩
abbrev main_call12_v1 : Ref sig .tc := ⟨.hbm, 106, rfl⟩
abbrev main_call12_v2 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call14_call0_cst : Ref sig .tc := ⟨.hbm, 113, rfl⟩
abbrev main_call14_call0_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_4 : Ref sig .tc := ⟨.hbm, 128, rfl⟩
abbrev main_call15_v0 : Ref sig .tc := ⟨.hbm, 129, rfl⟩
abbrev main_call15_v1 : Ref sig .tc := ⟨.hbm, 130, rfl⟩
abbrev main_call15_v2 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call20_call0_cst : Ref sig .tc := ⟨.hbm, 140, rfl⟩
abbrev main_call20_call0_v0 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_5 : Ref sig .tc := ⟨.hbm, 155, rfl⟩
abbrev main_call21_v0 : Ref sig .tc := ⟨.hbm, 156, rfl⟩
abbrev main_call21_v1 : Ref sig .tc := ⟨.hbm, 157, rfl⟩
abbrev main_call21_v2 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_6 : Ref sig .tc := ⟨.hbm, 169, rfl⟩
abbrev main_v125 : Ref sig .tc := ⟨.hbm, 170, rfl⟩
abbrev main_v126 : Ref sig .tc := ⟨.hbm, 171, rfl⟩
abbrev main_cst_7 : Ref sig .tc := ⟨.hbm, 172, rfl⟩
abbrev main_v127 : Ref sig .tc := ⟨.hbm, 173, rfl⟩
abbrev main_v128 : Ref sig .tc := ⟨.hbm, 174, rfl⟩
abbrev main_cst_8 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call23_v0 : Ref sig .tc := ⟨.hbm, 185, rfl⟩
abbrev main_call23_v1 : Ref sig .tc := ⟨.hbm, 186, rfl⟩
abbrev main_call23_cst : Ref sig .tc := ⟨.hbm, 187, rfl⟩
abbrev main_call23_v2 : Ref sig .tc := ⟨.hbm, 188, rfl⟩
abbrev main_call23_v3 : Ref sig .tc := ⟨.hbm, 189, rfl⟩
abbrev main_call23_cst_0 : Ref sig .tc := ⟨.hbm, 190, rfl⟩
abbrev main_call23_v4 : Ref sig .tc := ⟨.hbm, 191, rfl⟩
abbrev main_call23_v5 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_9 : Ref sig .tc := ⟨.hbm, 200, rfl⟩
abbrev main_v145 : Ref sig .tc := ⟨.hbm, 201, rfl⟩
abbrev main_v146 : Ref sig .tc := ⟨.hbm, 202, rfl⟩
abbrev main_cst_10 : Ref sig .tc := ⟨.hbm, 203, rfl⟩
abbrev main_v147 : Ref sig .tc := ⟨.hbm, 204, rfl⟩
abbrev main_v148 : Ref sig .tc := ⟨.hbm, 205, rfl⟩
abbrev main_cst_11 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_call24_v0 : Ref sig .tc := ⟨.hbm, 216, rfl⟩
abbrev main_call24_v1 : Ref sig .tc := ⟨.hbm, 217, rfl⟩
abbrev main_call24_cst : Ref sig .tc := ⟨.hbm, 218, rfl⟩
abbrev main_call24_v2 : Ref sig .tc := ⟨.hbm, 219, rfl⟩
abbrev main_call24_v3 : Ref sig .tc := ⟨.hbm, 220, rfl⟩
abbrev main_call24_cst_0 : Ref sig .tc := ⟨.hbm, 221, rfl⟩
abbrev main_call24_v4 : Ref sig .tc := ⟨.hbm, 222, rfl⟩
abbrev main_call24_v5 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩

abbrev nD : Nat := 1
abbrev τ : Topo := Topo.v7x

variable {F : FTy → Type} [FloatOps F]
-- ==== Experts.lean ====
abbrev S64x8 : Shape := ⟨2, ![64, 8]⟩
abbrev S77312x1152 : Shape := ⟨2, ![77312, 1152]⟩
abbrev S2x8x1024x2816 : Shape := ⟨4, ![2, 8, 1024, 2816]⟩
abbrev S2x8x2816x1024 : Shape := ⟨4, ![2, 8, 2816, 1024]⟩
abbrev S_ : Shape := ⟨0, ![]⟩
abbrev S8 : Shape := ⟨1, ![8]⟩
abbrev S1 : Shape := ⟨1, ![1]⟩
abbrev S151 : Shape := ⟨1, ![151]⟩
abbrev S151x1 : Shape := ⟨2, ![151, 1]⟩
abbrev S1x8 : Shape := ⟨2, ![1, 8]⟩
abbrev S151x8 : Shape := ⟨2, ![151, 8]⟩
abbrev S77312x1024 : Shape := ⟨2, ![77312, 1024]⟩
abbrev S512x1152 : Shape := ⟨2, ![512, 1152]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 92
  | .vmem => 10
  | .smem => 2
  | _ => 0

abbrev bufTy : (tb : Table) → Fin (tcTables nBuf tb) → BufTy
  | .hbm, ⟨0, _⟩ => ⟨S64x8, .i32⟩
  | .hbm, ⟨1, _⟩ => ⟨S77312x1152, .bf16⟩
  | .hbm, ⟨2, _⟩ => ⟨S2x8x1024x2816, .f32⟩
  | .hbm, ⟨3, _⟩ => ⟨S2x8x1024x2816, .f32⟩
  | .hbm, ⟨4, _⟩ => ⟨S2x8x2816x1024, .f32⟩
  | .hbm, ⟨5, _⟩ => ⟨S2x8x1024x2816, .bf16⟩
  | .hbm, ⟨6, _⟩ => ⟨S2x8x1024x2816, .bf16⟩
  | .hbm, ⟨7, _⟩ => ⟨S2x8x2816x1024, .bf16⟩
  | .hbm, ⟨8, _⟩ => ⟨S64x8, .i32⟩
  | .hbm, ⟨9, _⟩ => ⟨S_, .i32⟩
  | .hbm, ⟨10, _⟩ => ⟨S_, .i32⟩
  | .hbm, ⟨11, _⟩ => ⟨S64x8, .i32⟩
  | .hbm, ⟨12, _⟩ => ⟨S64x8, .i32⟩
  | .hbm, ⟨13, _⟩ => ⟨S64x8, .i32⟩
  | .hbm, ⟨14, _⟩ => ⟨S_, .i32⟩
  | .hbm, ⟨15, _⟩ => ⟨S64x8, .i32⟩
  | .hbm, ⟨16, _⟩ => ⟨S64x8, .i1⟩
  | .hbm, ⟨17, _⟩ => ⟨S64x8, .i32⟩
  | .hbm, ⟨18, _⟩ => ⟨S64x8, .i32⟩
  | .hbm, ⟨19, _⟩ => ⟨S_, .i32⟩
  | .hbm, ⟨20, _⟩ => ⟨S64x8, .i32⟩
  | .hbm, ⟨21, _⟩ => ⟨S64x8, .i1⟩
  | .hbm, ⟨22, _⟩ => ⟨S64x8, .i1⟩
  | .hbm, ⟨23, _⟩ => ⟨S_, .i32⟩
  | .hbm, ⟨24, _⟩ => ⟨S64x8, .i32⟩
  | .hbm, ⟨25, _⟩ => ⟨S64x8, .i32⟩
  | .hbm, ⟨26, _⟩ => ⟨S64x8, .i32⟩
  | .hbm, ⟨27, _⟩ => ⟨S64x8, .i32⟩
  | .hbm, ⟨28, _⟩ => ⟨S_, .i32⟩
  | .hbm, ⟨29, _⟩ => ⟨S64x8, .i32⟩
  | .hbm, ⟨30, _⟩ => ⟨S64x8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S_, .i32⟩
  | .hbm, ⟨57, _⟩ => ⟨S_, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .i32⟩
  | .hbm, ⟨64, _⟩ => ⟨S_, .i32⟩
  | .hbm, ⟨65, _⟩ => ⟨S8, .i32⟩
  | .hbm, ⟨66, _⟩ => ⟨S8, .i1⟩
  | .hbm, ⟨67, _⟩ => ⟨S8, .i32⟩
  | .hbm, ⟨68, _⟩ => ⟨S8, .i32⟩
  | .hbm, ⟨69, _⟩ => ⟨S_, .i32⟩
  | .hbm, ⟨70, _⟩ => ⟨S8, .i32⟩
  | .hbm, ⟨71, _⟩ => ⟨S8, .i1⟩
  | .hbm, ⟨72, _⟩ => ⟨S8, .i1⟩
  | .hbm, ⟨73, _⟩ => ⟨S_, .i32⟩
  | .hbm, ⟨74, _⟩ => ⟨S8, .i32⟩
  | .hbm, ⟨75, _⟩ => ⟨S8, .i32⟩
  | .hbm, ⟨76, _⟩ => ⟨S8, .i32⟩
  | .hbm, ⟨77, _⟩ => ⟨S1, .i32⟩
  | .hbm, ⟨78, _⟩ => ⟨S_, .i32⟩
  | .hbm, ⟨79, _⟩ => ⟨S151, .i32⟩
  | .hbm, ⟨80, _⟩ => ⟨S_, .i32⟩
  | .hbm, ⟨81, _⟩ => ⟨S_, .i32⟩
  | .hbm, ⟨82, _⟩ => ⟨S151, .i32⟩
  | .hbm, ⟨83, _⟩ => ⟨S151, .i32⟩
  | .hbm, ⟨84, _⟩ => ⟨S151x1, .i32⟩
  | .hbm, ⟨85, _⟩ => ⟨S1x8, .i32⟩
  | .hbm, ⟨86, _⟩ => ⟨S151x8, .i32⟩
  | .hbm, ⟨87, _⟩ => ⟨S151x8, .i32⟩
  | .hbm, ⟨88, _⟩ => ⟨S151x8, .i1⟩
  | .hbm, ⟨89, _⟩ => ⟨S151x8, .i32⟩
  | .hbm, ⟨90, _⟩ => ⟨S_, .i32⟩
  | .hbm, ⟨91, _⟩ => ⟨S77312x1024, .bf16⟩
  | .local _ .vmem, ⟨0, _⟩ => ⟨S512x1152, .bf16⟩
  | .local _ .vmem, ⟨1, _⟩ => ⟨S512x1152, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1x1x2816x1024, .bf16⟩
  | .local _ .vmem, ⟨8, _⟩ => ⟨S512x1024, .bf16⟩
  | .local _ .vmem, ⟨9, _⟩ => ⟨S512x1024, .bf16⟩
  | .local _ .smem, ⟨0, _⟩ => ⟨S151, .i32⟩
  | .local _ .smem, ⟨1, _⟩ => ⟨S1, .i32⟩
  | _, _ => ⟨S64x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v10 : Ref sig .tc := ⟨.hbm, 51, rfl⟩
abbrev main_v11 : Ref sig .tc := ⟨.hbm, 52, rfl⟩
abbrev main_c_3 : Ref sig .tc := ⟨.hbm, 53, rfl⟩
abbrev main_v12 : Ref sig .tc := ⟨.hbm, 54, rfl⟩
abbrev main_v13 : Ref sig .tc := ⟨.hbm, 55, rfl⟩
abbrev main_call2_call0_c : Ref sig .tc := ⟨.hbm, 56, rfl⟩
abbrev main_call2_call0_v0 : Ref sig .tc := ⟨.hbm, 57, rfl⟩
abbrev main_v14 : Ref sig .tc := ⟨.hbm, 58, rfl⟩
abbrev main_c_4 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_c : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_0 : Ref sig .tc := ⟨.hbm, 73, rfl⟩
abbrev main_call3_v12 : Ref sig .tc := ⟨.hbm, 74, rfl⟩
abbrev main_call3_v13 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_c_5 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_6 : Ref sig .tc := ⟨.hbm, 90, rfl⟩
abbrev main_v30 : Ref sig .tc := ⟨.hbm, 91, rfl⟩
abbrev main_v28 : Ref sig .tc := ⟨.smem, 0, rfl⟩
abbrev main_v29 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![151], ![false]⟩

abbrev pre0 : Pipeline.Prefetch sig := ⟨2, ![main_v28.idx, main_v29.idx], fun | 0 => main_v28.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S151.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S151.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S151.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S64x8 : Shape := ⟨2, ![64, 8]⟩
abbrev S77312x1152 : Shape := ⟨2, ![77312, 1152]⟩
abbrev S2x8x1024x2816 : Shape := ⟨4, ![2, 8, 1024, 2816]⟩
abbrev S2x8x2816x1024 : Shape := ⟨4, ![2, 8, 2816, 1024]⟩
abbrev S77312x1024 : Shape := ⟨2, ![77312, 1024]⟩
abbrev S77312x128 : Shape := ⟨2, ![77312, 128]⟩
abbrev S_ : Shape := ⟨0, ![]⟩
abbrev S77312 : Shape := ⟨1, ![77312]⟩
abbrev S8 : Shape := ⟨1, ![8]⟩
abbrev S151 : Shape := ⟨1, ![151]⟩
abbrev S1 : Shape := ⟨1, ![1]⟩
abbrev S151x1 : Shape := ⟨2, ![151, 1]⟩
abbrev S1x8 : Shape := ⟨2, ![1, 8]⟩
abbrev S151x8 : Shape := ⟨2, ![151, 8]⟩
abbrev S151x512 : Shape := ⟨2, ![151, 512]⟩
abbrev S77312x1 : Shape := ⟨2, ![77312, 1]⟩
abbrev S77312x8 : Shape := ⟨2, ![77312, 8]⟩
abbrev S1x8x1024x2816 : Shape := ⟨4, ![1, 8, 1024, 2816]⟩
abbrev S8x1024x2816 : Shape := ⟨3, ![8, 1024, 2816]⟩
abbrev S1x8x2816x1024 : Shape := ⟨4, ![1, 8, 2816, 1024]⟩
abbrev S8x2816x1024 : Shape := ⟨3, ![8, 2816, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S77312x2816 : Shape := ⟨2, ![77312, 2816]⟩

abbrev nBuf : Space → Nat
  | .hbm => 300
  | .vmem => 0
  | .smem => 0
  | _ => 0

abbrev hbmTy0_0 (i : Nat) : BufTy := match i % 128 with
  | 0 => ⟨S64x8, .i32⟩
  | 1 => ⟨S77312x1152, .bf16⟩
  | 2 => ⟨S2x8x1024x2816, .f32⟩
  | 3 => ⟨S2x8x1024x2816, .f32⟩
  | 4 => ⟨S2x8x2816x1024, .f32⟩
  | 5 => ⟨S77312x1152, .f32⟩
  | 6 => ⟨S77312x1024, .f32⟩
  | 7 => ⟨S77312x128, .f32⟩
  | 8 => ⟨S_, .f32⟩
  | 9 => ⟨S77312, .f32⟩
  | 10 => ⟨S64x8, .i32⟩
  | 11 => ⟨S_, .i32⟩
  | 12 => ⟨S_, .i32⟩
  | 13 => ⟨S64x8, .i32⟩
  | 14 => ⟨S64x8, .i32⟩
  | 15 => ⟨S64x8, .i32⟩
  | 16 => ⟨S_, .i32⟩
  | 17 => ⟨S64x8, .i32⟩
  | 18 => ⟨S64x8, .i1⟩
  | 19 => ⟨S64x8, .i32⟩
  | 20 => ⟨S64x8, .i32⟩
  | 21 => ⟨S_, .i32⟩
  | 22 => ⟨S64x8, .i32⟩
  | 23 => ⟨S64x8, .i1⟩
  | 24 => ⟨S64x8, .i1⟩
  | 25 => ⟨S_, .i32⟩
  | 26 => ⟨S64x8, .i32⟩
  | 27 => ⟨S64x8, .i32⟩
  | 28 => ⟨S64x8, .i32⟩
  | 29 => ⟨S64x8, .i32⟩
  | 30 => ⟨S_, .i32⟩
  | 31 => ⟨S64x8, .i32⟩
  | 32 => ⟨S64x8, .i32⟩
  | 33 => ⟨S_, .i32⟩
  | 34 => ⟨S8, .i32⟩
  | 35 => ⟨S8, .i32⟩
  | 36 => ⟨S_, .i32⟩
  | 37 => ⟨S_, .i32⟩
  | 38 => ⟨S8, .i32⟩
  | 39 => ⟨S8, .i32⟩
  | 40 => ⟨S8, .i32⟩
  | 41 => ⟨S_, .i32⟩
  | 42 => ⟨S8, .i32⟩
  | 43 => ⟨S8, .i1⟩
  | 44 => ⟨S8, .i32⟩
  | 45 => ⟨S8, .i32⟩
  | 46 => ⟨S_, .i32⟩
  | 47 => ⟨S8, .i32⟩
  | 48 => ⟨S8, .i1⟩
  | 49 => ⟨S8, .i1⟩
  | 50 => ⟨S_, .i32⟩
  | 51 => ⟨S8, .i32⟩
  | 52 => ⟨S8, .i32⟩
  | 53 => ⟨S8, .i32⟩
  | 54 => ⟨S8, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S_, .i32⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i1⟩
  | 69 => ⟨S8, .i32⟩
  | 70 => ⟨S8, .i32⟩
  | 71 => ⟨S_, .i32⟩
  | 72 => ⟨S8, .i32⟩
  | 73 => ⟨S8, .i1⟩
  | 74 => ⟨S8, .i1⟩
  | 75 => ⟨S_, .i32⟩
  | 76 => ⟨S8, .i32⟩
  | 77 => ⟨S8, .i32⟩
  | 78 => ⟨S8, .i32⟩
  | 79 => ⟨S151, .i32⟩
  | 80 => ⟨S1, .i32⟩
  | 81 => ⟨S_, .i32⟩
  | 82 => ⟨S151, .i32⟩
  | 83 => ⟨S151, .i1⟩
  | 84 => ⟨S151x1, .i32⟩
  | 85 => ⟨S1x8, .i32⟩
  | 86 => ⟨S151x8, .i32⟩
  | 87 => ⟨S151x8, .i32⟩
  | 88 => ⟨S151x8, .i1⟩
  | 89 => ⟨S151x8, .i32⟩
  | 90 => ⟨S_, .i32⟩
  | 91 => ⟨S151, .i32⟩
  | 92 => ⟨S_, .i32⟩
  | 93 => ⟨S_, .i32⟩
  | 94 => ⟨S151, .i32⟩
  | 95 => ⟨S151, .i32⟩
  | 96 => ⟨S151x512, .i32⟩
  | 97 => ⟨S77312, .i32⟩
  | 98 => ⟨S77312x1, .i32⟩
  | 99 => ⟨S8, .i32⟩
  | 100 => ⟨S1x8, .i32⟩
  | 101 => ⟨S77312x8, .i32⟩
  | 102 => ⟨S77312x8, .i32⟩
  | 103 => ⟨S77312x8, .i1⟩
  | 104 => ⟨S77312x1, .f32⟩
  | 105 => ⟨S_, .f32⟩
  | 106 => ⟨S_, .f32⟩
  | 107 => ⟨S77312x8, .f32⟩
  | 108 => ⟨S77312x8, .f32⟩
  | 109 => ⟨S77312x8, .f32⟩
  | 110 => ⟨S1x8x1024x2816, .f32⟩
  | 111 => ⟨S8x1024x2816, .f32⟩
  | 112 => ⟨S1x8x1024x2816, .f32⟩
  | 113 => ⟨S8x1024x2816, .f32⟩
  | 114 => ⟨S1x8x2816x1024, .f32⟩
  | 115 => ⟨S8x2816x1024, .f32⟩
  | 116 => ⟨S77312x1, .f32⟩
  | 117 => ⟨S1x1024x2816, .f32⟩
  | 118 => ⟨S1024x2816, .f32⟩
  | 119 => ⟨S1x1024x2816, .f32⟩
  | 120 => ⟨S1024x2816, .f32⟩
  | 121 => ⟨S1x2816x1024, .f32⟩
  | 122 => ⟨S2816x1024, .f32⟩
  | 123 => ⟨S77312x2816, .f32⟩
  | 124 => ⟨S77312x2816, .f32⟩
  | 125 => ⟨S77312x2816, .f32⟩
  | 126 => ⟨S_, .f32⟩
  | 127 => ⟨S77312x2816, .f32⟩
  | _ => ⟨S64x8, .i32⟩

abbrev hbmTy0_1 (i : Nat) : BufTy := match i % 128 with
  | 0 => ⟨S77312x2816, .f32⟩
  | 1 => ⟨S_, .f32⟩
  | 2 => ⟨S77312x2816, .f32⟩
  | 3 => ⟨S77312x2816, .f32⟩
  | 4 => ⟨S77312x2816, .f32⟩
  | 5 => ⟨S77312x2816, .f32⟩
  | 6 => ⟨S77312x2816, .f32⟩
  | 7 => ⟨S77312x1024, .f32⟩
  | 8 => ⟨S77312x1024, .f32⟩
  | 9 => ⟨S77312x1024, .f32⟩
  | 10 => ⟨S77312x1, .f32⟩
  | 11 => ⟨S1x1024x2816, .f32⟩
  | 12 => ⟨S1024x2816, .f32⟩
  | 13 => ⟨S1x1024x2816, .f32⟩
  | 14 => ⟨S1024x2816, .f32⟩
  | 15 => ⟨S1x2816x1024, .f32⟩
  | 16 => ⟨S2816x1024, .f32⟩
  | 17 => ⟨S77312x2816, .f32⟩
  | 18 => ⟨S77312x2816, .f32⟩
  | 19 => ⟨S77312x2816, .f32⟩
  | 20 => ⟨S_, .f32⟩
  | 21 => ⟨S77312x2816, .f32⟩
  | 22 => ⟨S77312x2816, .f32⟩
  | 23 => ⟨S_, .f32⟩
  | 24 => ⟨S77312x2816, .f32⟩
  | 25 => ⟨S77312x2816, .f32⟩
  | 26 => ⟨S77312x2816, .f32⟩
  | 27 => ⟨S77312x2816, .f32⟩
  | 28 => ⟨S77312x2816, .f32⟩
  | 29 => ⟨S77312x1024, .f32⟩
  | 30 => ⟨S77312x1024, .f32⟩
  | 31 => ⟨S77312x1024, .f32⟩
  | 32 => ⟨S77312x1024, .f32⟩
  | 33 => ⟨S77312x1, .f32⟩
  | 34 => ⟨S1x1024x2816, .f32⟩
  | 35 => ⟨S1024x2816, .f32⟩
  | 36 => ⟨S1x1024x2816, .f32⟩
  | 37 => ⟨S1024x2816, .f32⟩
  | 38 => ⟨S1x2816x1024, .f32⟩
  | 39 => ⟨S2816x1024, .f32⟩
  | 40 => ⟨S77312x2816, .f32⟩
  | 41 => ⟨S77312x2816, .f32⟩
  | 42 => ⟨S77312x2816, .f32⟩
  | 43 => ⟨S_, .f32⟩
  | 44 => ⟨S77312x2816, .f32⟩
  | 45 => ⟨S77312x2816, .f32⟩
  | 46 => ⟨S_, .f32⟩
  | 47 => ⟨S77312x2816, .f32⟩
  | 48 => ⟨S77312x2816, .f32⟩
  | 49 => ⟨S77312x2816, .f32⟩
  | 50 => ⟨S77312x2816, .f32⟩
  | 51 => ⟨S77312x2816, .f32⟩
  | 52 => ⟨S77312x1024, .f32⟩
  | 53 => ⟨S77312x1024, .f32⟩
  | 54 => ⟨S77312x1024, .f32⟩
  | 55 => ⟨S77312x1024, .f32⟩
  | 56 => ⟨S77312x1, .f32⟩
  | 57 => ⟨S1x1024x2816, .f32⟩
  | 58 => ⟨S1024x2816, .f32⟩
  | 59 => ⟨S1x1024x2816, .f32⟩
  | 60 => ⟨S1024x2816, .f32⟩
  | 61 => ⟨S1x2816x1024, .f32⟩
  | 62 => ⟨S2816x1024, .f32⟩
  | 63 => ⟨S77312x2816, .f32⟩
  | 64 => ⟨S77312x2816, .f32⟩
  | 65 => ⟨S77312x2816, .f32⟩
  | 66 => ⟨S_, .f32⟩
  | 67 => ⟨S77312x2816, .f32⟩
  | 68 => ⟨S77312x2816, .f32⟩
  | 69 => ⟨S_, .f32⟩
  | 70 => ⟨S77312x2816, .f32⟩
  | 71 => ⟨S77312x2816, .f32⟩
  | 72 => ⟨S77312x2816, .f32⟩
  | 73 => ⟨S77312x2816, .f32⟩
  | 74 => ⟨S77312x2816, .f32⟩
  | 75 => ⟨S77312x1024, .f32⟩
  | 76 => ⟨S77312x1024, .f32⟩
  | 77 => ⟨S77312x1024, .f32⟩
  | 78 => ⟨S77312x1024, .f32⟩
  | 79 => ⟨S77312x1, .f32⟩
  | 80 => ⟨S1x1024x2816, .f32⟩
  | 81 => ⟨S1024x2816, .f32⟩
  | 82 => ⟨S1x1024x2816, .f32⟩
  | 83 => ⟨S1024x2816, .f32⟩
  | 84 => ⟨S1x2816x1024, .f32⟩
  | 85 => ⟨S2816x1024, .f32⟩
  | 86 => ⟨S77312x2816, .f32⟩
  | 87 => ⟨S77312x2816, .f32⟩
  | 88 => ⟨S77312x2816, .f32⟩
  | 89 => ⟨S_, .f32⟩
  | 90 => ⟨S77312x2816, .f32⟩
  | 91 => ⟨S77312x2816, .f32⟩
  | 92 => ⟨S_, .f32⟩
  | 93 => ⟨S77312x2816, .f32⟩
  | 94 => ⟨S77312x2816, .f32⟩
  | 95 => ⟨S77312x2816, .f32⟩
  | 96 => ⟨S77312x2816, .f32⟩
  | 97 => ⟨S77312x2816, .f32⟩
  | 98 => ⟨S77312x1024, .f32⟩
  | 99 => ⟨S77312x1024, .f32⟩
  | 100 => ⟨S77312x1024, .f32⟩
  | 101 => ⟨S77312x1024, .f32⟩
  | 102 => ⟨S77312x1, .f32⟩
  | 103 => ⟨S1x1024x2816, .f32⟩
  | 104 => ⟨S1024x2816, .f32⟩
  | 105 => ⟨S1x1024x2816, .f32⟩
  | 106 => ⟨S1024x2816, .f32⟩
  | 107 => ⟨S1x2816x1024, .f32⟩
  | 108 => ⟨S2816x1024, .f32⟩
  | 109 => ⟨S77312x2816, .f32⟩
  | 110 => ⟨S77312x2816, .f32⟩
  | 111 => ⟨S77312x2816, .f32⟩
  | 112 => ⟨S_, .f32⟩
  | 113 => ⟨S77312x2816, .f32⟩
  | 114 => ⟨S77312x2816, .f32⟩
  | 115 => ⟨S_, .f32⟩
  | 116 => ⟨S77312x2816, .f32⟩
  | 117 => ⟨S77312x2816, .f32⟩
  | 118 => ⟨S77312x2816, .f32⟩
  | 119 => ⟨S77312x2816, .f32⟩
  | 120 => ⟨S77312x2816, .f32⟩
  | 121 => ⟨S77312x1024, .f32⟩
  | 122 => ⟨S77312x1024, .f32⟩
  | 123 => ⟨S77312x1024, .f32⟩
  | 124 => ⟨S77312x1024, .f32⟩
  | 125 => ⟨S77312x1, .f32⟩
  | 126 => ⟨S1x1024x2816, .f32⟩
  | 127 => ⟨S1024x2816, .f32⟩
  | _ => ⟨S64x8, .i32⟩

abbrev hbmTy0_2 (i : Nat) : BufTy := match i % 128 with
  | 0 => ⟨S1x1024x2816, .f32⟩
  | 1 => ⟨S1024x2816, .f32⟩
  | 2 => ⟨S1x2816x1024, .f32⟩
  | 3 => ⟨S2816x1024, .f32⟩
  | 4 => ⟨S77312x2816, .f32⟩
  | 5 => ⟨S77312x2816, .f32⟩
  | 6 => ⟨S77312x2816, .f32⟩
  | 7 => ⟨S_, .f32⟩
  | 8 => ⟨S77312x2816, .f32⟩
  | 9 => ⟨S77312x2816, .f32⟩
  | 10 => ⟨S_, .f32⟩
  | 11 => ⟨S77312x2816, .f32⟩
  | 12 => ⟨S77312x2816, .f32⟩
  | 13 => ⟨S77312x2816, .f32⟩
  | 14 => ⟨S77312x2816, .f32⟩
  | 15 => ⟨S77312x2816, .f32⟩
  | 16 => ⟨S77312x1024, .f32⟩
  | 17 => ⟨S77312x1024, .f32⟩
  | 18 => ⟨S77312x1024, .f32⟩
  | 19 => ⟨S77312x1024, .f32⟩
  | 20 => ⟨S77312x1, .f32⟩
  | 21 => ⟨S1x1024x2816, .f32⟩
  | 22 => ⟨S1024x2816, .f32⟩
  | 23 => ⟨S1x1024x2816, .f32⟩
  | 24 => ⟨S1024x2816, .f32⟩
  | 25 => ⟨S1x2816x1024, .f32⟩
  | 26 => ⟨S2816x1024, .f32⟩
  | 27 => ⟨S77312x2816, .f32⟩
  | 28 => ⟨S77312x2816, .f32⟩
  | 29 => ⟨S77312x2816, .f32⟩
  | 30 => ⟨S_, .f32⟩
  | 31 => ⟨S77312x2816, .f32⟩
  | 32 => ⟨S77312x2816, .f32⟩
  | 33 => ⟨S_, .f32⟩
  | 34 => ⟨S77312x2816, .f32⟩
  | 35 => ⟨S77312x2816, .f32⟩
  | 36 => ⟨S77312x2816, .f32⟩
  | 37 => ⟨S77312x2816, .f32⟩
  | 38 => ⟨S77312x2816, .f32⟩
  | 39 => ⟨S77312x1024, .f32⟩
  | 40 => ⟨S77312x1024, .f32⟩
  | 41 => ⟨S77312x1024, .f32⟩
  | 42 => ⟨S77312x1024, .f32⟩
  | 43 => ⟨S77312x1024, .bf16⟩
  | _ => ⟨S64x8, .i32⟩

abbrev hbmTy (i : Nat) : BufTy := match i / 128 with
  | 0 => hbmTy0_0 i
  | 1 => hbmTy0_1 i
  | 2 => hbmTy0_2 i
  | _ => ⟨S64x8, .i32⟩

abbrev bufTy : (tb : Table) → Fin (tcTables nBuf tb) → BufTy
  | .hbm, ⟨i, _⟩ => hbmTy i
  | _, _ => ⟨S64x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_v13 : Ref sig .tc := ⟨.hbm, 56, rfl⟩
abbrev main_v14 : Ref sig .tc := ⟨.hbm, 57, rfl⟩
abbrev main_call2_call0_c : Ref sig .tc := ⟨.hbm, 58, rfl⟩
abbrev main_call2_call0_v0 : Ref sig .tc := ⟨.hbm, 59, rfl⟩
abbrev main_v15 : Ref sig .tc := ⟨.hbm, 60, rfl⟩
abbrev main_c_4 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_5 : Ref sig .tc := ⟨.hbm, 90, rfl⟩
abbrev main_v28 : Ref sig .tc := ⟨.hbm, 91, rfl⟩
abbrev main_c_6 : Ref sig .tc := ⟨.hbm, 92, rfl⟩
abbrev main_call4_v0 : Ref sig .tc := ⟨.hbm, 93, rfl⟩
abbrev main_call4_v1 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_7 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_call8_v0 : Ref sig .tc := ⟨.hbm, 169, rfl⟩
abbrev main_call8_v1 : Ref sig .tc := ⟨.hbm, 170, rfl⟩
abbrev main_call8_cst : Ref sig .tc := ⟨.hbm, 171, rfl⟩
abbrev main_call8_v2 : Ref sig .tc := ⟨.hbm, 172, rfl⟩
abbrev main_call8_v3 : Ref sig .tc := ⟨.hbm, 173, rfl⟩
abbrev main_call8_cst_0 : Ref sig .tc := ⟨.hbm, 174, rfl⟩
abbrev main_call8_v4 : Ref sig .tc := ⟨.hbm, 175, rfl⟩
abbrev main_call8_v5 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_call10_v0 : Ref sig .tc := ⟨.hbm, 215, rfl⟩
abbrev main_call10_v1 : Ref sig .tc := ⟨.hbm, 216, rfl⟩
abbrev main_call10_cst : Ref sig .tc := ⟨.hbm, 217, rfl⟩
abbrev main_call10_v2 : Ref sig .tc := ⟨.hbm, 218, rfl⟩
abbrev main_call10_v3 : Ref sig .tc := ⟨.hbm, 219, rfl⟩
abbrev main_call10_cst_0 : Ref sig .tc := ⟨.hbm, 220, rfl⟩
abbrev main_call10_v4 : Ref sig .tc := ⟨.hbm, 221, rfl⟩
abbrev main_call10_v5 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_call11_v0 : Ref sig .tc := ⟨.hbm, 238, rfl⟩
abbrev main_call11_v1 : Ref sig .tc := ⟨.hbm, 239, rfl⟩
abbrev main_call11_cst : Ref sig .tc := ⟨.hbm, 240, rfl⟩
abbrev main_call11_v2 : Ref sig .tc := ⟨.hbm, 241, rfl⟩
abbrev main_call11_v3 : Ref sig .tc := ⟨.hbm, 242, rfl⟩
abbrev main_call11_cst_0 : Ref sig .tc := ⟨.hbm, 243, rfl⟩
abbrev main_call11_v4 : Ref sig .tc := ⟨.hbm, 244, rfl⟩
abbrev main_call11_v5 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_call12_v0 : Ref sig .tc := ⟨.hbm, 261, rfl⟩
abbrev main_call12_v1 : Ref sig .tc := ⟨.hbm, 262, rfl⟩
abbrev main_call12_cst : Ref sig .tc := ⟨.hbm, 263, rfl⟩
abbrev main_call12_v2 : Ref sig .tc := ⟨.hbm, 264, rfl⟩
abbrev main_call12_v3 : Ref sig .tc := ⟨.hbm, 265, rfl⟩
abbrev main_call12_cst_0 : Ref sig .tc := ⟨.hbm, 266, rfl⟩
abbrev main_call12_v4 : Ref sig .tc := ⟨.hbm, 267, rfl⟩
abbrev main_call12_v5 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_call13_v0 : Ref sig .tc := ⟨.hbm, 284, rfl⟩
abbrev main_call13_v1 : Ref sig .tc := ⟨.hbm, 285, rfl⟩
abbrev main_call13_cst : Ref sig .tc := ⟨.hbm, 286, rfl⟩
abbrev main_call13_v2 : Ref sig .tc := ⟨.hbm, 287, rfl⟩
abbrev main_call13_v3 : Ref sig .tc := ⟨.hbm, 288, rfl⟩
abbrev main_call13_cst_0 : Ref sig .tc := ⟨.hbm, 289, rfl⟩
abbrev main_call13_v4 : Ref sig .tc := ⟨.hbm, 290, rfl⟩
abbrev main_call13_v5 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩

abbrev nD : Nat := 1
abbrev τ : Topo := Topo.v7x

variable {F : FTy → Type} [FloatOps F]
-- ==== Ffn.lean ====
abbrev S16x2048x1024 : Shape := ⟨3, ![16, 2048, 1024]⟩
abbrev S4x24x6144 : Shape := ⟨3, ![4, 24, 6144]⟩
abbrev S2x1024x2816 : Shape := ⟨3, ![2, 1024, 2816]⟩
abbrev S2x2816x1024 : Shape := ⟨3, ![2, 2816, 1024]⟩
abbrev S4x2x1024 : Shape := ⟨3, ![4, 2, 1024]⟩
abbrev S4x24x1x6144 : Shape := ⟨4, ![4, 24, 1, 6144]⟩
abbrev S4x2x1x1024 : Shape := ⟨4, ![4, 2, 1, 1024]⟩
abbrev S32768x1024 : Shape := ⟨2, ![32768, 1024]⟩
abbrev S512x1024 : Shape := ⟨2, ![512, 1024]⟩
abbrev S1x1x1x6144 : Shape := ⟨4, ![1, 1, 1, 6144]⟩
abbrev S1x1024x2816 : Shape := ⟨3, ![1, 1024, 2816]⟩
abbrev S1x2816x1024 : Shape := ⟨3, ![1, 2816, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S4x24x6144, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S4x2x1024, .f32⟩
  | .hbm, ⟨6, _⟩ => ⟨S4x2x1024, .f32⟩
  | .hbm, ⟨7, _⟩ => ⟨S4x24x1x6144, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S4x2x1x1024, .f32⟩
  | .hbm, ⟨12, _⟩ => ⟨S4x2x1x1024, .f32⟩
  | .hbm, ⟨13, _⟩ => ⟨S32768x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S512x1024, .f32⟩
  | .local _ .vmem, ⟨10, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16x2048x1024 : Shape := ⟨3, ![16, 2048, 1024]⟩
abbrev S4x24x6144 : Shape := ⟨3, ![4, 24, 6144]⟩
abbrev S2x1024x2816 : Shape := ⟨3, ![2, 1024, 2816]⟩
abbrev S2x2816x1024 : Shape := ⟨3, ![2, 2816, 1024]⟩
abbrev S4x2x1024 : Shape := ⟨3, ![4, 2, 1024]⟩
abbrev S1x16x6144 : Shape := ⟨3, ![1, 16, 6144]⟩
abbrev S16x6144 : Shape := ⟨2, ![16, 6144]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S1x1x1024 : Shape := ⟨3, ![1, 1, 1024]⟩
abbrev S1024 : Shape := ⟨1, ![1024]⟩
abbrev S32768x1024 : Shape := ⟨2, ![32768, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x24x6144, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S4x2x1024, .f32⟩
  | .hbm, ⟨6, _⟩ => ⟨S4x2x1024, .f32⟩
  | .hbm, ⟨7, _⟩ => ⟨S1x16x6144, .f32⟩
  | .hbm, ⟨8, _⟩ => ⟨S16x6144, .f32⟩
  | .hbm, ⟨9, _⟩ => ⟨S16x1x6144, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S1x1024x2816, .f32⟩
  | .hbm, ⟨50, _⟩ => ⟨S1024x2816, .f32⟩
  | .hbm, ⟨51, _⟩ => ⟨S1x1024x2816, .f32⟩
  | .hbm, ⟨52, _⟩ => ⟨S1024x2816, .f32⟩
  | .hbm, ⟨53, _⟩ => ⟨S1x2816x1024, .f32⟩
  | .hbm, ⟨54, _⟩ => ⟨S2816x1024, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S1x1x1024, .f32⟩
  | .hbm, ⟨72, _⟩ => ⟨S1024, .f32⟩
  | .hbm, ⟨73, _⟩ => ⟨S1x1x1024, .f32⟩
  | .hbm, ⟨74, _⟩ => ⟨S1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S_, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S1x1x1024, .f32⟩
  | .hbm, ⟨102, _⟩ => ⟨S16x2048x1024, .f32⟩
  | .hbm, ⟨103, _⟩ => ⟨S16x2048x1024, .f32⟩
  | .hbm, ⟨104, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x256 : Shape := ⟨3, ![16, 2048, 256]⟩
abbrev S4x24x6144 : Shape := ⟨3, ![4, 24, 6144]⟩
abbrev S4x4x1024x1024 : Shape := ⟨4, ![4, 4, 1024, 1024]⟩
abbrev S4x4x256x1024 : Shape := ⟨4, ![4, 4, 256, 1024]⟩
abbrev S4x1024x1024 : Shape := ⟨3, ![4, 1024, 1024]⟩
abbrev S4x2x1024 : Shape := ⟨3, ![4, 2, 1024]⟩
abbrev S4x24x1x6144 : Shape := ⟨4, ![4, 24, 1, 6144]⟩
abbrev S4x2x1x1024 : Shape := ⟨4, ![4, 2, 1, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩
abbrev S1x1x1x6144 : Shape := ⟨4, ![1, 1, 1, 6144]⟩
abbrev S1x4x1024x1024 : Shape := ⟨4, ![1, 4, 1024, 1024]⟩
abbrev S1x4x256x1024 : Shape := ⟨4, ![1, 4, 256, 1024]⟩
abbrev S1x1024x1024 : Shape := ⟨3, ![1, 1024, 1024]⟩
abbrev S1x1x1x1024 : Shape := ⟨4, ![1, 1, 1, 1024]⟩
abbrev S1x1x1024x256 : Shape := ⟨4, ![1, 1, 1024, 256]⟩
abbrev S1024x256 : Shape := ⟨2, ![1024, 256]⟩
abbrev S1x1x256x256 : Shape := ⟨4, ![1, 1, 256, 256]⟩
abbrev S256x256 : Shape := ⟨2, ![256, 256]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x256, .bf16⟩
  | .hbm, ⟨3, _⟩ => ⟨S16x2048x256, .bf16⟩
  | .hbm, ⟨4, _⟩ => ⟨S16x2048x256, .bf16⟩
  | .hbm, ⟨5, _⟩ => ⟨S16x2048x256, .bf16⟩
  | .hbm, ⟨6, _⟩ => ⟨S4x24x6144, .f32⟩
  | .hbm, ⟨7, _⟩ => ⟨S4x4x1024x1024, .f32⟩
  | .hbm, ⟨8, _⟩ => ⟨S4x4x256x1024, .f32⟩
  | .hbm, ⟨9, _⟩ => ⟨S4x1024x1024, .f32⟩
  | .hbm, ⟨10, _⟩ => ⟨S4x2x1024, .f32⟩
  | .hbm, ⟨11, _⟩ => ⟨S4x2x1024, .f32⟩
  | .hbm, ⟨12, _⟩ => ⟨S4x24x1x6144, .f32⟩
  | .hbm, ⟨13, _⟩ => ⟨S4x4x1024x1024, .bf16⟩
  | .hbm, ⟨14, _⟩ => ⟨S4x4x256x1024, .bf16⟩
  | .hbm, ⟨15, _⟩ => ⟨S4x1024x1024, .bf16⟩
  | .hbm, ⟨16, _⟩ => ⟨S4x2x1x1024, .f32⟩
  | .hbm, ⟨17, _⟩ => ⟨S4x2x1x1024, .f32⟩
  | .hbm, ⟨18, _⟩ => ⟨S32768x1024, .f32⟩
  | .hbm, ⟨19, _⟩ => ⟨S32768x1024, .bf16⟩
  | .hbm, ⟨20, _⟩ => ⟨S32768x256, .bf16⟩
  | .hbm, ⟨21, _⟩ => ⟨S32768x256, .bf16⟩
  | .hbm, ⟨22, _⟩ => ⟨S32768x256, .bf16⟩
  | .hbm, ⟨23, _⟩ => ⟨S32768x256, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S1x1x1x6144, .f32⟩
  | .local _ .vmem, ⟨13, _⟩ => ⟨S1x1x1x6144, .f32⟩
  | .local _ .vmem, ⟨14, _⟩ => ⟨S1x4x1024x1024, .bf16⟩
  | .local _ .vmem, ⟨15, _⟩ => ⟨S1x4x256x1024, .bf16⟩
  | .local _ .vmem, ⟨16, _⟩ => ⟨S1x1024x1024, .bf16⟩
  | .local _ .vmem, ⟨17, _⟩ => ⟨S1x1x1x1024, .f32⟩
  | .local _ .vmem, ⟨18, _⟩ => ⟨S1x1x1x1024, .f32⟩
  | .local _ .vmem, ⟨19, _⟩ => ⟨S512x1024, .f32⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S16x2048x1024 : Shape := ⟨3, ![16, 2048, 1024]⟩
abbrev S16x2048x256 : Shape := ⟨3, ![16, 2048, 256]⟩
abbrev S4x24x6144 : Shape := ⟨3, ![4, 24, 6144]⟩
abbrev S4x4x1024x1024 : Shape := ⟨4, ![4, 4, 1024, 1024]⟩
abbrev S4x4x256x1024 : Shape := ⟨4, ![4, 4, 256, 1024]⟩
abbrev S4x1024x1024 : Shape := ⟨3, ![4, 1024, 1024]⟩
abbrev S4x2x1024 : Shape := ⟨3, ![4, 2, 1024]⟩
abbrev S1x16x6144 : Shape := ⟨3, ![1, 16, 6144]⟩
abbrev S16x6144 : Shape := ⟨2, ![16, 6144]⟩
abbrev S16x1x6144 : Shape := ⟨3, ![16, 1, 6144]⟩
abbrev S16x1x1024 : Shape := ⟨3, ![16, 1, 1024]⟩
abbrev S1x1x1024x1024 : Shape := ⟨4, ![1, 1, 1024, 1024]⟩
abbrev S1024x1024 : Shape := ⟨2, ![1024, 1024]⟩
abbrev S_ : Shape := ⟨0, ![]⟩
abbrev S1x1x256x1024 : Shape := ⟨4, ![1, 1, 256, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 132
  | .vmem => 0
  | .smem => 0
  | _ => 0

abbrev hbmTy0_0 (i : Nat) : BufTy := match i % 128 with
  | 0 => ⟨S16x2048x1024, .f32⟩
  | 1 => ⟨S16x2048x1024, .bf16⟩
  | 2 => ⟨S16x2048x256, .bf16⟩
  | 3 => ⟨S16x2048x256, .bf16⟩
  | 4 => ⟨S16x2048x256, .bf16⟩
  | 5 => ⟨S16x2048x256, .bf16⟩
  | 6 => ⟨S4x24x6144, .f32⟩
  | 7 => ⟨S4x4x1024x1024, .f32⟩
  | 8 => ⟨S4x4x256x1024, .f32⟩
  | 9 => ⟨S4x1024x1024, .f32⟩
  | 10 => ⟨S4x2x1024, .f32⟩
  | 11 => ⟨S4x2x1024, .f32⟩
  | 12 => ⟨S1x16x6144, .f32⟩
  | 13 => ⟨S16x6144, .f32⟩
  | 14 => ⟨S16x1x6144, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x1x1024, .f32⟩
  | 21 => ⟨S16x2048x1024, .f32⟩
  | 22 => ⟨S16x2048x256, .f32⟩
  | 23 => ⟨S16x2048x256, .f32⟩
  | 24 => ⟨S16x2048x256, .f32⟩
  | 25 => ⟨S16x2048x256, .f32⟩
  | 26 => ⟨S1x1x1024x1024, .f32⟩
  | 27 => ⟨S1024x1024, .f32⟩
  | 28 => ⟨S16x2048x1024, .f32⟩
  | 29 => ⟨S16x2048x1024, .f32⟩
  | 30 => ⟨S16x2048x1024, .f32⟩
  | 31 => ⟨S_, .f32⟩
  | 32 => ⟨S16x2048x1024, .f32⟩
  | 33 => ⟨S16x2048x1024, .f32⟩
  | 34 => ⟨S_, .f32⟩
  | 35 => ⟨S16x2048x1024, .f32⟩
  | 36 => ⟨S16x2048x1024, .f32⟩
  | 37 => ⟨S1x1x256x1024, .f32⟩
  | 38 => ⟨S256x1024, .f32⟩
  | 39 => ⟨S16x2048x1024, .f32⟩
  | 40 => ⟨S16x2048x1024, .f32⟩
  | 41 => ⟨S1x1x1024x1024, .f32⟩
  | 42 => ⟨S1024x1024, .f32⟩
  | 43 => ⟨S16x2048x1024, .f32⟩
  | 44 => ⟨S16x2048x1024, .f32⟩
  | 45 => ⟨S16x2048x1024, .f32⟩
  | 46 => ⟨S_, .f32⟩
  | 47 => ⟨S16x2048x1024, .f32⟩
  | 48 => ⟨S16x2048x1024, .f32⟩
  | 49 => ⟨S_, .f32⟩
  | 50 => ⟨S16x2048x1024, .f32⟩
  | 51 => ⟨S16x2048x1024, .f32⟩
  | 52 => ⟨S1x1x256x1024, .f32⟩
  | 53 => ⟨S256x1024, .f32⟩
  | 54 => ⟨S16x2048x1024, .f32⟩
  | 55 => ⟨S16x2048x1024, .f32⟩
  | 56 => ⟨S16x2048x1024, .f32⟩
  | 57 => ⟨S1x1x1024x1024, .f32⟩
  | 58 => ⟨S1024x1024, .f32⟩
  | 59 => ⟨S16x2048x1024, .f32⟩
  | 60 => ⟨S16x2048x1024, .f32⟩
  | 61 => ⟨S16x2048x1024, .f32⟩
  | 62 => ⟨S_, .f32⟩
  | 63 => ⟨S16x2048x1024, .f32⟩
  | 64 => ⟨S16x2048x1024, .f32⟩
  | 65 => ⟨S_, .f32⟩
  | 66 => ⟨S16x2048x1024, .f32⟩
  | 67 => ⟨S16x2048x1024, .f32⟩
  | 68 => ⟨S1x1x256x1024, .f32⟩
  | 69 => ⟨S256x1024, .f32⟩
  | 70 => ⟨S16x2048x1024, .f32⟩
  | 71 => ⟨S16x2048x1024, .f32⟩
  | 72 => ⟨S16x2048x1024, .f32⟩
  | 73 => ⟨S1x1x1024x1024, .f32⟩
  | 74 => ⟨S1024x1024, .f32⟩
  | 75 => ⟨S16x2048x1024, .f32⟩
  | 76 => ⟨S16x2048x1024, .f32⟩
  | 77 => ⟨S16x2048x1024, .f32⟩
  | 78 => ⟨S_, .f32⟩
  | 79 => ⟨S16x2048x1024, .f32⟩
  | 80 => ⟨S16x2048x1024, .f32⟩
  | 81 => ⟨S_, .f32⟩
  | 82 => ⟨S16x2048x1024, .f32⟩
  | 83 => ⟨S16x2048x1024, .f32⟩
  | 84 => ⟨S1x1x256x1024, .f32⟩
  | 85 => ⟨S256x1024, .f32⟩
  | 86 => ⟨S16x2048x1024, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S1x1024x1024, .f32⟩
  | 93 => ⟨S1024x1024, .f32⟩
  | 94 => ⟨S16x2048x1024, .f32⟩
  | 95 => ⟨S16x2048x1024, .f32⟩
  | 96 => ⟨S16x2048x1024, .f32⟩
  | 97 => ⟨S16x2048x1024, .f32⟩
  | 98 => ⟨S1x1x1024, .f32⟩
  | 99 => ⟨S1024, .f32⟩
  | 100 => ⟨S1x1x1024, .f32⟩
  | 101 => ⟨S1024, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S16x2048x1024, .f32⟩
  | 109 => ⟨S16x2048x1024, .f32⟩
  | 110 => ⟨S16x2048x1024, .f32⟩
  | 111 => ⟨S_, .f32⟩
  | 112 => ⟨S16x2048, .f32⟩
  | 113 => ⟨S16x2048x1, .f32⟩
  | 114 => ⟨S_, .f32⟩
  | 115 => ⟨S16x2048x1, .f32⟩
  | 116 => ⟨S16x2048x1, .f32⟩
  | 117 => ⟨S16x2048x1024, .f32⟩
  | 118 => ⟨S16x2048x1024, .f32⟩
  | 119 => ⟨S_, .f32⟩
  | 120 => ⟨S16x2048x1, .f32⟩
  | 121 => ⟨S16x2048x1, .f32⟩
  | 122 => ⟨S16x2048x1, .f32⟩
  | 123 => ⟨S16x2048x1024, .f32⟩
  | 124 => ⟨S16x2048x1024, .f32⟩
  | 125 => ⟨S1x1x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S1x1x1024, .f32⟩
  | 1 => ⟨S16x2048x1024, .f32⟩
  | 2 => ⟨S16x2048x1024, .f32⟩
  | 3 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_8 : Ref sig .tc := ⟨.hbm, 102, rfl⟩
abbrev main_v81 : Ref sig .tc := ⟨.hbm, 103, rfl⟩
abbrev main_v82 : Ref sig .tc := ⟨.hbm, 104, rfl⟩
abbrev main_cst_9 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_cst_11 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== Modulation.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 26
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S_, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S4x6144x24, .f32⟩
  | .hbm, ⟨22, _⟩ => ⟨S4x24x6144, .f32⟩
  | .hbm, ⟨23, _⟩ => ⟨S4x1x6144, .f32⟩
  | .hbm, ⟨24, _⟩ => ⟨S4x24x6144, .f32⟩
  | .hbm, ⟨25, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== Proof.Gla.Math.lean ====
/- The recurrence of the gated linear attention over the reals: the state after the first `u` chunks and the output at a
   token are closed sums, and going chunk by chunk gives the same sums. Sequences are in the order a direction meets them. -/
module

public import Mathlib.Analysis.SpecialFunctions.Exp
public import Mathlib.Algebra.BigOperators.Intervals

@[expose] public section

noncomputable section

namespace Gla

open Finset Real

/-- The log decays of the first `n` tokens, added up. -/
def decay (L : ℕ → ℝ) (n : ℕ) : ℝ := ∑ s ∈ range n, L s

theorem decay_add (L : ℕ → ℝ) (m n : ℕ) : decay L (m + n) = decay L m + ∑ s ∈ range n, L (m + s) := by
  unfold decay; rw [sum_range_add]

/-- One entry of the state after `n` tokens: where it started, and each token's key times value, all decayed (`m` is 1 where
    the key lane and the value lane belong to one head, else 0). -/
def state (K L V : ℕ → ℝ) (h m : ℝ) (n : ℕ) : ℝ :=
  h * exp (decay L n) + m * ∑ p ∈ range n, V p * (K p * exp (decay L n - decay L (p + 1)))

theorem state_zero (K L V : ℕ → ℝ) (h m : ℝ) : state K L V h m 0 = h := by simp [state, decay]

/-- A chunk of `C` tokens takes the state on, by the sums of log decays within the chunk. -/
theorem state_add (K L V : ℕ → ℝ) (h m : ℝ) (n C : ℕ) :
    state K L V h m n * exp (∑ s ∈ range C, L (n + s))
      + m * ∑ j ∈ range C, V (n + j) * (K (n + j) * exp (∑ s ∈ range C, L (n + s) - ∑ s ∈ range (j + 1), L (n + s)))
      = state K L V h m (n + C) := by
  unfold state
  rw [sum_range_add, decay_add, add_mul, mul_assoc h, ← exp_add, mul_add m, add_assoc, mul_assoc m, sum_mul]
  congr 1
  congr 1
  · congr 1
    refine sum_congr rfl fun p _ => ?_
    rw [mul_assoc, mul_assoc, ← exp_add]
    congr 3; ring
  · congr 1
    refine sum_congr rfl fun j _ => ?_
    rw [add_assoc, decay_add]
    congr 3; ring

/-- The output at token `t`: the query on the start of the state, and on every token up to it (`e = 1`) or before it (`e = 0`). -/
def output {ι : Type*} [Fintype ι] (m : ι → ℝ) (Q K L : ℕ → ι → ℝ) (V : ℕ → ℝ) (h : ι → ℝ) (e t : ℕ) : ℝ :=
  ∑ l, Q t l * exp (decay (fun s => L s l) (t + 1)) * h l
    + ∑ p ∈ range (t + e), (∑ l, m l * (Q t l * K p l
        * exp (decay (fun s => L s l) (t + 1) - decay (fun s => L s l) (p + 1)))) * V p

/-- The output at a chunk's token: the query on the state before the chunk, and on the chunk's own tokens. -/
theorem output_add {ι : Type*} [Fintype ι] (m : ι → ℝ) (Q K L : ℕ → ι → ℝ) (V : ℕ → ℝ) (h : ι → ℝ) (e n i : ℕ) :
    ∑ l, Q (n + i) l * exp (∑ s ∈ range (i + 1), L (n + s) l)
        * state (fun s => K s l) (fun s => L s l) V (h l) (m l) n
      + ∑ j ∈ range (i + e), (∑ l, m l * (Q (n + i) l * K (n + j) l
          * exp (∑ s ∈ range (i + 1), L (n + s) l - ∑ s ∈ range (j + 1), L (n + s) l))) * V (n + j)
      = output m Q K L V h e (n + i) := by
  unfold output state
  rw [add_assoc n i e, sum_range_add _ n (i + e)]
  simp only [add_assoc n, decay_add _ n, mul_add, sum_add_distrib]
  rw [add_assoc]
  congr 1
  · refine sum_congr rfl fun l _ => ?_
    rw [mul_comm (h l), exp_add]; ring
  · congr 1
    · simp only [sum_mul, mul_sum]
      rw [Finset.sum_comm]
      refine sum_congr rfl fun p _ => ?_
      refine sum_congr rfl fun l _ => ?_
      rw [show decay (fun s => L s l) n + ∑ s ∈ range (i + 1), L (n + s) l - decay (fun s => L s l) (p + 1)
        = ∑ s ∈ range (i + 1), L (n + s) l + (decay (fun s => L s l) n - decay (fun s => L s l) (p + 1)) by ring, exp_add]
      ring
    · refine sum_congr rfl fun j _ => ?_
      congr 1
      refine sum_congr rfl fun l _ => ?_
      congr 3; ring

end Gla

end
-- ==== Proof.Gla.Spec.lean ====
/- What the layer's gated linear attention computes, over the reals: a recurrence over the tokens in each of two directions, the sum of
   both normalised over each head and gated; and the sequences it meets, from the arrays of queries, keys, values and log decays. -/
module

public import proofs.«01_k».proof.Proof.Gla.Math
public import Idealize.ShloMosaic.PureOps.Ideal
public import Idealize.ShloMosaic.Lib.Pointwise

@[expose] public section

noncomputable section

namespace Gla

open Idealize.ShloMosaic

/-- A sum of reals, as an extended real. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem coe_ite (p : Prop) [Decidable p] (a : ℝ) : ((if p then a else 0 : ℝ) : EReal) = if p then (a : EReal) else 0 := by
  split_ifs <;> simp

/-- A sequence of queries, keys, log decays and values, in the order a direction meets them. -/
structure Dir where
  Q : ℕ → Fin 128 → ℝ
  K : ℕ → Fin 128 → ℝ
  L : ℕ → Fin 128 → ℝ
  V : ℕ → Fin 256 → ℝ

/-- 1 where a value lane and a key lane belong to one head. -/
def same (w : Fin 256) (l : Fin 128) : ℝ := if w.val / 64 = l.val / 32 then 1 else 0

/-- The state after `n` tokens, from the state `h`. -/
def Dir.st (d : Dir) (h : Fin 256 → Fin 128 → ℝ) (n : ℕ) (w : Fin 256) (l : Fin 128) : ℝ :=
  state (fun s => d.K s l) (fun s => d.L s l) (fun s => d.V s w) (h w l) (same w l) n

/-- The output at token `t`, from the state `h`. -/
def Dir.out (d : Dir) (h : Fin 256 → Fin 128 → ℝ) (e t : ℕ) (w : Fin 256) : ℝ :=
  output (same w) d.Q d.K d.L (fun s => d.V s w) (h w) e t

/-- A direction's output at token `t` of `T`: the backward one meets the tokens from the last. -/
def dirOut (f b : Dir) (hf hb : Fin 256 → Fin 128 → ℝ) (T : ℕ) (d : Fin 2) (t : ℕ) (w : Fin 256) : ℝ :=
  if d = 0 then f.out hf 1 t w else b.out hb 0 (T - 1 - t) w

/-- The mean of the squares of a row over the head of lane `w`. -/
def headMean (S : Fin 256 → ℝ) (w : Fin 256) : ℝ := ∑ x : Fin 256, S x * S x * (if x.val / 64 = w.val / 64 then 1 / 64 else 0)

/-- A result's entry: the sum over its direction's sums, normalised over the head, times the gain `g`, times `r` through its gate. -/
def answer (S : Fin 256 → ℝ) (g r : EReal) (w : Fin 256) : EReal :=
  (S w : EReal) * Ideal.rsqrt ((headMean S w : EReal) + Ideal.ofBits .f32 0x358637BD#32) * g
    * (r * Ideal.div 1 (1 + Ideal.exp (-r)))

/-- An array's entry at token `p`, as a real; 0 past the end. -/
def seq {T W : ℕ} (x : FVec Ideal ⟨3, ![16, T, W]⟩ .f32) (s : Fin 16) (p : ℕ) (w : Fin W) : ℝ :=
  if h : p < T then (x (ix3 s (⟨p, h⟩ : Fin T) w)).toReal else 0

/-- The queries' scale, as it is rounded to a float. -/
def scale : ℝ := (Ideal.ofBits .f32 0x3E3504F3#32).toReal

theorem ofBits_scale : Ideal.ofBits .f32 0x3E3504F3#32 = (scale : EReal) := by
  have : Ideal.ofBits .f32 0x3E3504F3#32 = ((11863283 / 67108864 : ℝ) : EReal) := by
    simp [Ideal.ofBits, Ideal.ieee, -EReal.coe_mul]; norm_num
  unfold scale; rw [this, EReal.toReal_coe]

/-- Every entry is a real. -/
def IsReal {S : Shape} (x : FVec Ideal S .f32) : Prop := ∀ i, x i = ((x i).toReal : EReal)

theorem seq_eq {T W : ℕ} {x : FVec Ideal ⟨3, ![16, T, W]⟩ .f32} (hx : IsReal x) (s : Fin 16) (t : Fin T) (w : Fin W) :
    x (ix3 s t w) = (seq x s t.val w : EReal) := by
  unfold seq; rw [dif_pos t.isLt]; exact hx _

section
variable {T : ℕ} (q k : FVec Ideal ⟨3, ![16, T, 128]⟩ .f32) (v : FVec Ideal ⟨3, ![16, T, 256]⟩ .f32) (a : FVec Ideal ⟨3, ![16, T, 128]⟩ .f32)
  (s : Fin 16)

/-- A batch entry's tokens in order, -/
def dirF : Dir := ⟨fun p l => seq q s p l * scale, seq k s, seq a s, seq v s⟩
/-- and from the last. -/
def dirB : Dir :=
  ⟨fun p l => seq q s (T - 1 - p) l * scale, fun p => seq k s (T - 1 - p), fun p => seq a s (T - 1 - p), fun p => seq v s (T - 1 - p)⟩

end

end Gla

end
-- ==== Proof.Gla.Prefix.lean ====
/- Running sums along the third axis of a host array, as they print: a window of the axis's whole length, padded low by one less. -/
module

public import proofs.«01_k».proof.Proof.Gla.Spec

@[expose] public section

noncomputable section

namespace Gla

open Idealize.ShloMosaic

theorem sum_last {N Nm1 : ℕ} (hN : Nm1 + 1 = N) (X : ℕ → ℝ) (j : ℕ) (hj : j < N) :
    ∑ n : Fin N, (if Nm1 ≤ j + n.val then X (j + n.val - Nm1) else 0) = ∑ i ∈ Finset.range (j + 1), X i := by
  rw [Fin.sum_univ_eq_sum_range (fun n => if Nm1 ≤ j + n then X (j + n - Nm1) else 0) N, ← Finset.sum_filter]
  refine Finset.sum_nbij' (fun n => j + n - Nm1) (fun i => i + Nm1 - j) ?_ ?_ ?_ ?_ ?_ <;> intro x hx <;> simp at hx ⊢ <;> omega

theorem cumsum_apply {A B N C Nm1 : ℕ} (hN : Nm1 + 1 = N) (x : FVec Ideal ⟨4, ![A, B, N, C]⟩ .f32) (init : FVec Ideal ⟨0, ![]⟩ .f32)
    (hinit : ∀ i, init i = 0) (h : (⟨4, ![A, B, N, C]⟩ : Shape).ReduceWindows (![1, 1, N, 1] : Fin 4 → ℕ) ![1, 1, 1, 1] ![0, 0, Nm1, 0] ![0, 0, 0, 0] ⟨4, ![A, B, N, C]⟩)
    (hu : 0 < (⟨0, ![]⟩ : Shape).numel) (a : Fin A) (b : Fin B) (c : Fin C) {X : ℕ → ℝ} (hx : ∀ i : Fin N, x (ix4 a b i c) = (X i.val : EReal)) (j : Fin N) :
    Host.reduceWindowAdd (s := ⟨4, ![A, B, N, C]⟩) (t := ⟨4, ![A, B, N, C]⟩) ![1, 1, N, 1] ![1, 1, 1, 1] ![0, 0, Nm1, 0] ![0, 0, 0, 0] x init h hu (ix4 a b j c)
      = ((∑ i ∈ Finset.range (j.val + 1), X i : ℝ) : EReal) := by
  unfold Host.reduceWindowAdd
  rw [Ideal.hostReduceWindowAdd_def, hinit]
  unfold Ideal.hostReduceWindowAdd Host.reduceWindow
  dsimp only
  refine Eq.trans ?_ ((sum_idx_eq_foldl (M := EReal) (⟨4, ![1, 1, N, 1]⟩ : Shape) (fun k =>
    if hin : ∀ e : Fin 4, (![0, 0, Nm1, 0] : Fin 4 → ℕ) e ≤ (ix4 a b j c e).val * (![1, 1, 1, 1] : Fin 4 → ℕ) e + (k e).val
        ∧ (ix4 a b j c e).val * (![1, 1, 1, 1] : Fin 4 → ℕ) e + (k e).val - (![0, 0, Nm1, 0] : Fin 4 → ℕ) e < (![A, B, N, C] : Fin 4 → ℕ) e
      then x (fun e => ⟨_, (hin e).2⟩) else 0)).symm.trans ?_)
  · congr 1; funext r n; congr 1; congr
  rw [sum_idx4]
  simp only [Fin.sum_univ_one]
  rw [← sum_last hN X j.val j.isLt, coe_sum]
  refine Finset.sum_congr rfl fun n _ => ?_
  have hn := n.isLt
  have hj := j.isLt
  rw [coe_ite]
  by_cases hle : Nm1 ≤ j.val + n.val
  · rw [if_pos hle, ← hx ⟨j.val + n.val - Nm1, by omega⟩]
    rw [dif_pos fun e => by fin_cases e <;> simp [ix4] <;> omega]
    refine congrArg x (funext fun e => Fin.ext ?_)
    fin_cases e <;> simp [ix4]
  · rw [if_neg hle, dif_neg fun hin => hle (by simpa [ix4] using (hin 2).1)]

end Gla

end
-- ==== Proof.Gla.Entry.lean ====
/- What the kernel's host code lays out for it: queries scaled, keys, and the sums of log decays within each chunk in both directions,
   side by side; values, gates and gain as they are. -/
module

public import proofs.«01_k».proof.Proof.Gla.Prefix
public import proofs.«01_k».proof.Proof.Gen.KernelIdeal.Value
public import Idealize.ShloMosaic.Lib.Pipeline.ValueKit.Point

@[expose] public section

set_option maxRecDepth 16384

noncomputable section

namespace Cert.KernelIdeal.Gla

open Cert.KernelIdeal Cert.KernelIdeal.Gen Idealize.ShloMosaic Idealize.ShloMosaic.TcCoe Idealize.SL.Sem
open _root_.Gla

variable (m : (ℓ : Loc nD τ sig) → Buf (Elt Ideal) ℓ) (c : Dev nD)

/-- The sums of the log decays within each chunk of the latent stream, -/
def sumsL (a : FVec Ideal S16x16x128x128 .f32) : FVec Ideal S16x16x128x128 .f32 :=
  Host.reduceWindowAdd ![1, 1, 128, 1] ![1, 1, 1, 1] ![0, 0, 127, 0] ![0, 0, 0, 0] a
    (broadcastInDim S_ ![] bcast_S_S_ (constant S_ .f32 0x00000000#32)) reduceWindows_S16x16x128x128_S16x16x128x128_w1s1p0_0_w1s1p0_0_w128s1p127_0_w1s1p0_0 h_S_

/-- and of the context. -/
def sumsC (a : FVec Ideal S16x2x128x128 .f32) : FVec Ideal S16x2x128x128 .f32 :=
  Host.reduceWindowAdd ![1, 1, 128, 1] ![1, 1, 1, 1] ![0, 0, 127, 0] ![0, 0, 0, 0] a
    (broadcastInDim S_ ![] bcast_S_S_ (constant S_ .f32 0x00000000#32)) reduceWindows_S16x2x128x128_S16x2x128x128_w1s1p0_0_w1s1p0_0_w128s1p127_0_w1s1p0_0 h_S_

/-- The block of the latent stream that holds queries, keys, and the sums of log decays in both directions side by side, -/
def packL (q k : FVec Ideal S16x2048x128 .f32) (f b lb : FVec Ideal S16x16x128x128 .f32) : FVec Ideal S16x2048x512 .f32 :=
  concatenate S16x2048x512 2
    [⟨S16x2048x128, mulf q (broadcastInDim S16x2048x128 ![] bcast_S_S16x2048x128 (constant (F := Ideal) S_ .f32 0x3E3504F3#32))⟩,
     ⟨S16x2048x128, k⟩, ⟨S16x2048x128, shapeCast S16x2048x128 f shapeCasts_S16x16x128x128_S16x2048x128⟩,
     ⟨S16x2048x128, shapeCast S16x2048x128
        (addf (subf (broadcastInDim S16x16x128x128 ![0, 1, 2, 3] bcast_S16x16x1x128_S16x16x128x128_0_1_2_3
          (extractStridedSlice S16x16x1x128 ![0, 0, 127, 0] b slices_S16x16x128x128_S16x16x1x128_0_0_127_0)) b) lb)
        shapeCasts_S16x16x128x128_S16x2048x128⟩]
    concatenates_S16x2048x128_S16x2048x128_S16x2048x128_S16x2048x128_S16x2048x512_d2

/-- and of the context. -/
def packC (q k : FVec Ideal S16x256x128 .f32) (f b lb : FVec Ideal S16x2x128x128 .f32) : FVec Ideal S16x256x512 .f32 :=
  concatenate S16x256x512 2
    [⟨S16x256x128, mulf q (broadcastInDim S16x256x128 ![] bcast_S_S16x256x128 (constant (F := Ideal) S_ .f32 0x3E3504F3#32))⟩,
     ⟨S16x256x128, k⟩, ⟨S16x256x128, shapeCast S16x256x128 f shapeCasts_S16x2x128x128_S16x256x128⟩,
     ⟨S16x256x128, shapeCast S16x256x128
        (addf (subf (broadcastInDim S16x2x128x128 ![0, 1, 2, 3] bcast_S16x2x1x128_S16x2x128x128_0_1_2_3
          (extractStridedSlice S16x2x1x128 ![0, 0, 127, 0] b slices_S16x2x128x128_S16x2x1x128_0_0_127_0)) b) lb)
        shapeCasts_S16x2x128x128_S16x256x128⟩]
    concatenates_S16x256x128_S16x256x128_S16x256x128_S16x256x128_S16x256x512_d2

/-! Each stretch of host lines over any contents: what it leaves in the buffers that are read later, and that it keeps the others. -/

section
variable (σ : Valuation τ sig (Elt Ideal)) (r : Ref sig .tc)

theorem keep_0 (h : r ∉ [main_v0]) :
    StableHlo.after (hostOps0 (F := Ideal)) σ (Proc.devRef .tc r) = σ (Proc.devRef .tc r) :=
  StableHlo.after_of_writes_sub _ _ (StableHlo.forall_writes_sub_of_map (W := [main_v0]) rfl) h

theorem keep_1 (h : r ∉ [main_call0_call0_cst, main_call0_call0_v0, main_v1]) :
    StableHlo.after (hostOps0_1 (F := Ideal)) σ (Proc.devRef .tc r) = σ (Proc.devRef .tc r) :=
  StableHlo.after_of_writes_sub _ _ (StableHlo.forall_writes_sub_of_map (W := [main_call0_call0_cst, main_call0_call0_v0, main_v1]) rfl) h

theorem keep_2 (h : r ∉ [main_v2]) :
    StableHlo.after (hostOps0_2 (F := Ideal)) σ (Proc.devRef .tc r) = σ (Proc.devRef .tc r) :=
  StableHlo.after_of_writes_sub _ _ (StableHlo.forall_writes_sub_of_map (W := [main_v2]) rfl) h

theorem keep_3 (h : r ∉ [main_call1_call0_cst, main_call1_call0_v0, main_v3]) :
    StableHlo.after (hostOps0_3 (F := Ideal)) σ (Proc.devRef .tc r) = σ (Proc.devRef .tc r) :=
  StableHlo.after_of_writes_sub _ _ (StableHlo.forall_writes_sub_of_map (W := [main_call1_call0_cst, main_call1_call0_v0, main_v3]) rfl) h

theorem keep_4 (h : r ∉ [main_v4, main_v5, main_v6, main_v7, main_v8, main_cst, main_v9, main_v10, main_v11, main_v12, main_v13, main_v14, main_v15, main_v16]) :
    StableHlo.after (hostOps0_4 (F := Ideal)) σ (Proc.devRef .tc r) = σ (Proc.devRef .tc r) :=
  StableHlo.after_of_writes_sub _ _ (StableHlo.forall_writes_sub_of_map (W := [main_v4, main_v5, main_v6, main_v7, main_v8, main_cst, main_v9, main_v10, main_v11, main_v12, main_v13, main_v14, main_v15, main_v16]) rfl) h

theorem keep_5 (h : r ∉ [main_call2_call0_cst, main_call2_call0_v0, main_v17]) :
    StableHlo.after (hostOps0_5 (F := Ideal)) σ (Proc.devRef .tc r) = σ (Proc.devRef .tc r) :=
  StableHlo.after_of_writes_sub _ _ (StableHlo.forall_writes_sub_of_map (W := [main_call2_call0_cst, main_call2_call0_v0, main_v17]) rfl) h

theorem keep_6 (h : r ∉ [main_v18]) :
    StableHlo.after (hostOps0_6 (F := Ideal)) σ (Proc.devRef .tc r) = σ (Proc.devRef .tc r) :=
  StableHlo.after_of_writes_sub _ _ (StableHlo.forall_writes_sub_of_map (W := [main_v18]) rfl) h

theorem keep_7 (h : r ∉ [main_call3_call0_cst, main_call3_call0_v0, main_v19]) :
    StableHlo.after (hostOps0_7 (F := Ideal)) σ (Proc.devRef .tc r) = σ (Proc.devRef .tc r) :=
  StableHlo.after_of_writes_sub _ _ (StableHlo.forall_writes_sub_of_map (W := [main_call3_call0_cst, main_call3_call0_v0, main_v19]) rfl) h

theorem keep_8 (h : r ∉ [main_v20, main_v21, main_v22, main_v23, main_v24, main_cst_0, main_v25, main_v26, main_v27, main_v28, main_v29, main_v30, main_v31, main_v32]) :
    StableHlo.after (hostOps0_8 (F := Ideal)) σ (Proc.devRef .tc r) = σ (Proc.devRef .tc r) :=
  StableHlo.after_of_writes_sub _ _ (StableHlo.forall_writes_sub_of_map (W := [main_v20, main_v21, main_v22, main_v23, main_v24, main_cst_0, main_v25, main_v26, main_v27, main_v28, main_v29, main_v30, main_v31, main_v32]) rfl) h

theorem line_v0 : StableHlo.after (hostOps0 (F := Ideal)) σ (Proc.devRef .tc main_v0)
    = shapeCast S16x16x128x128 (σ (Proc.devRef .tc main_arg4)) shapeCasts_S16x2048x128_S16x16x128x128 := by
  after_results_simp; rfl

theorem line_v1 : StableHlo.after (hostOps0_1 (F := Ideal)) σ (Proc.devRef .tc main_v1)
    = sumsL (σ (Proc.devRef .tc main_v0)) := by
  after_results_simp; rfl

theorem line_v2 : StableHlo.after (hostOps0_2 (F := Ideal)) σ (Proc.devRef .tc main_v2)
    = shapeCast S16x16x128x128 (σ (Proc.devRef .tc main_arg5)) shapeCasts_S16x2048x128_S16x16x128x128 := by
  after_results_simp; rfl

theorem line_v3 : StableHlo.after (hostOps0_3 (F := Ideal)) σ (Proc.devRef .tc main_v3)
    = sumsL (σ (Proc.devRef .tc main_v2)) := by
  after_results_simp; rfl

theorem line_v13 : StableHlo.after (hostOps0_4 (F := Ideal)) σ (Proc.devRef .tc main_v13)
    = packL (σ (Proc.devRef .tc main_arg0)) (σ (Proc.devRef .tc main_arg1)) (σ (Proc.devRef .tc main_v1)) (σ (Proc.devRef .tc main_v3)) (shapeCast S16x16x128x128 (σ (Proc.devRef .tc main_arg5)) shapeCasts_S16x2048x128_S16x16x128x128) := by
  after_results_simp; rfl

theorem line_v14 : StableHlo.after (hostOps0_4 (F := Ideal)) σ (Proc.devRef .tc main_v14)
    = (truncf .bf16 (σ (Proc.devRef .tc main_arg2)) bitsLt_bf16_f32 : FVec Ideal S16x2048x256 .bf16) := by
  after_results_simp

theorem line_v15 : StableHlo.after (hostOps0_4 (F := Ideal)) σ (Proc.devRef .tc main_v15)
    = (truncf .bf16 (σ (Proc.devRef .tc main_arg3)) bitsLt_bf16_f32 : FVec Ideal S16x2048x256 .bf16) := by
  after_results_simp

theorem line_v16 : StableHlo.after (hostOps0_4 (F := Ideal)) σ (Proc.devRef .tc main_v16)
    = shapeCast S16x2x128x128 (σ (Proc.devRef .tc main_arg10)) shapeCasts_S16x256x128_S16x2x128x128 := by
  after_results_simp; rfl

theorem line_v17 : StableHlo.after (hostOps0_5 (F := Ideal)) σ (Proc.devRef .tc main_v17)
    = sumsC (σ (Proc.devRef .tc main_v16)) := by
  after_results_simp; rfl

theorem line_v18 : StableHlo.after (hostOps0_6 (F := Ideal)) σ (Proc.devRef .tc main_v18)
    = shapeCast S16x2x128x128 (σ (Proc.devRef .tc main_arg11)) shapeCasts_S16x256x128_S16x2x128x128 := by
  after_results_simp; rfl

theorem line_v19 : StableHlo.after (hostOps0_7 (F := Ideal)) σ (Proc.devRef .tc main_v19)
    = sumsC (σ (Proc.devRef .tc main_v18)) := by
  after_results_simp; rfl

theorem line_v29 : StableHlo.after (hostOps0_8 (F := Ideal)) σ (Proc.devRef .tc main_v29)
    = packC (σ (Proc.devRef .tc main_arg6)) (σ (Proc.devRef .tc main_arg7)) (σ (Proc.devRef .tc main_v17)) (σ (Proc.devRef .tc main_v19)) (shapeCast S16x2x128x128 (σ (Proc.devRef .tc main_arg11)) shapeCasts_S16x256x128_S16x2x128x128) := by
  after_results_simp; rfl

theorem line_v30 : StableHlo.after (hostOps0_8 (F := Ideal)) σ (Proc.devRef .tc main_v30)
    = (truncf .bf16 (σ (Proc.devRef .tc main_arg8)) bitsLt_bf16_f32 : FVec Ideal S16x256x256 .bf16) := by
  after_results_simp

theorem line_v31 : StableHlo.after (hostOps0_8 (F := Ideal)) σ (Proc.devRef .tc main_v31)
    = (truncf .bf16 (σ (Proc.devRef .tc main_arg9)) bitsLt_bf16_f32 : FVec Ideal S16x256x256 .bf16) := by
  after_results_simp

theorem line_v32 : StableHlo.after (hostOps0_8 (F := Ideal)) σ (Proc.devRef .tc main_v32)
    = shapeCast S4x1x256 (σ (Proc.devRef .tc main_arg12)) shapeCasts_S4x256_S4x1x256 := by
  after_results_simp; rfl

end

/-! What the launch finds in the kernel's arguments. -/

set_option maxHeartbeats 1000000 in
theorem V_v13 : V m c main_v13 = packL (m ((c : Thread nD τ).loc main_arg0)) (m ((c : Thread nD τ).loc main_arg1)) (sumsL (shapeCast S16x16x128x128 (m ((c : Thread nD τ).loc main_arg4)) shapeCasts_S16x2048x128_S16x16x128x128)) (sumsL (shapeCast S16x16x128x128 (m ((c : Thread nD τ).loc main_arg5)) shapeCasts_S16x2048x128_S16x16x128x128)) (shapeCast S16x16x128x128 (m ((c : Thread nD τ).loc main_arg5)) shapeCasts_S16x2048x128_S16x16x128x128) := by
  simp only [V, List.flatten_cons, List.flatten_nil, List.append_nil, StableHlo.after_append]
  repeat first
    | rw [line_v13] | rw [line_v3] | rw [line_v2] | rw [line_v1] | rw [line_v0]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v14 : V m c main_v14 = (truncf .bf16 (m ((c : Thread nD τ).loc main_arg2)) bitsLt_bf16_f32 : FVec Ideal S16x2048x256 .bf16) := by
  simp only [V, List.flatten_cons, List.flatten_nil, List.append_nil, StableHlo.after_append]
  repeat first
    | rw [line_v14]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v15 : V m c main_v15 = (truncf .bf16 (m ((c : Thread nD τ).loc main_arg3)) bitsLt_bf16_f32 : FVec Ideal S16x2048x256 .bf16) := by
  simp only [V, List.flatten_cons, List.flatten_nil, List.append_nil, StableHlo.after_append]
  repeat first
    | rw [line_v15]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v29 : V m c main_v29 = packC (m ((c : Thread nD τ).loc main_arg6)) (m ((c : Thread nD τ).loc main_arg7)) (sumsC (shapeCast S16x2x128x128 (m ((c : Thread nD τ).loc main_arg10)) shapeCasts_S16x256x128_S16x2x128x128)) (sumsC (shapeCast S16x2x128x128 (m ((c : Thread nD τ).loc main_arg11)) shapeCasts_S16x256x128_S16x2x128x128)) (shapeCast S16x2x128x128 (m ((c : Thread nD τ).loc main_arg11)) shapeCasts_S16x256x128_S16x2x128x128) := by
  simp only [V, List.flatten_cons, List.flatten_nil, List.append_nil, StableHlo.after_append]
  repeat first
    | rw [line_v29] | rw [line_v19] | rw [line_v18] | rw [line_v17] | rw [line_v16]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v30 : V m c main_v30 = (truncf .bf16 (m ((c : Thread nD τ).loc main_arg8)) bitsLt_bf16_f32 : FVec Ideal S16x256x256 .bf16) := by
  simp only [V, List.flatten_cons, List.flatten_nil, List.append_nil, StableHlo.after_append]
  repeat first
    | rw [line_v30]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v31 : V m c main_v31 = (truncf .bf16 (m ((c : Thread nD τ).loc main_arg9)) bitsLt_bf16_f32 : FVec Ideal S16x256x256 .bf16) := by
  simp only [V, List.flatten_cons, List.flatten_nil, List.append_nil, StableHlo.after_append]
  repeat first
    | rw [line_v31]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem V_v32 : V m c main_v32 = shapeCast S4x1x256 (m ((c : Thread nD τ).loc main_arg12)) shapeCasts_S4x256_S4x1x256 := by
  simp only [V, List.flatten_cons, List.flatten_nil, List.append_nil, StableHlo.after_append]
  repeat first
    | rw [line_v32]
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

end Cert.KernelIdeal.Gla

end
-- ==== Proof.Gla.Chunk.lean ====
/- One chunk of 128 tokens of the gated linear attention, as the kernel computes it: what it stores to the output
   accumulator, what it stores to the state, and how the two directions' sums become a result. All over any floats. -/
module

public import proofs.«01_k».proof.Proof.Gen.KernelIdeal.Frame.RunA

@[expose] public section

noncomputable section

namespace Cert.KernelIdeal.Gla

open Cert.KernelIdeal Cert.KernelIdeal.Gen Idealize.ShloMosaic Idealize.SL.Sem

variable {F : FTy → Type} [FloatOps F]

/-- The head of each lane of a query (32 lanes a head), at every token of a chunk. -/
noncomputable abbrev headQ : IVec S128x128 32 := kernelRun0_A.sl.v28

/-- The head of each lane of a value (64 lanes a head), at every token of a chunk. -/
noncomputable abbrev headV : IVec S128x256 32 := kernelRun0_A.sl.v53

/-- Where the state's value lane and key lane belong to one head. -/
noncomputable abbrev sameHead : IVec S256x128 1 := kernelRun0_A.sl.r

/-- The number of the token of each row of the four heads' stacked queries. -/
noncomputable abbrev rowTok : IVec S512x128 32 := andi kernelRun0_A.sl.v0 kernelRun0_A.sl.v1

/-- Which keys a query meets: its own and the earlier ones. -/
noncomputable abbrev pairFwd : IVec S512x128 1 := cmpi .sle kernelRun0_A.sl.v3 rowTok

/-- Which keys a query meets on the way back: the later ones. -/
noncomputable abbrev pairBwd : IVec S512x128 1 := cmpi .sgt kernelRun0_A.sl.v3 rowTok

/-- Zero at every index of a shape. -/
noncomputable abbrev zeros (s : Shape) : FVec F s .f32 := broadcast s (Scalar.ofBits .f32 0x00000000#32)

/-- A chunk's loaded queries, keys or decay sums as a matrix. -/
noncomputable abbrev mat (x : Vec F S1x128x128 .f32) : FVec F S128x128 .f32 := shapeCast S128x128 x shapeCasts_S1x128x128_S128x128

/-- A chunk's loaded values as a matrix. -/
noncomputable abbrev matV (x : Vec F S1x128x256 .bf16) : FVec F S128x256 .bf16 := shapeCast S128x256 x shapeCasts_S1x128x256_S128x256

/-- The loaded state as a matrix. -/
noncomputable abbrev matH (x : Vec F S1x256x128 .f32) : FVec F S256x128 .f32 := shapeCast S256x128 x shapeCasts_S1x256x128_S256x128

/-- The queries decayed from the chunk's middle token. -/
def qe (bm : FVec F S1x128 .f32) (q b : Vec F S1x128x128 .f32) : FVec F S128x128 .f32 :=
  mulf (mat q) (exp (subf (mat b) (broadcastTo S128x128 bm broadcasts_S1x128_S128x128)))

/-- The keys decayed to one token of the chunk (its middle for the products, its last for the state). -/
def ke (bm : FVec F S1x128 .f32) (k b : Vec F S1x128x128 .f32) : FVec F S128x128 .bf16 :=
  truncf .bf16 (mulf (mat k) (exp (subf (broadcastTo S128x128 bm broadcasts_S1x128_S128x128) (mat b)))) bitsLt_bf16_f32

/-- The queries of one head, the other heads' lanes zero. -/
def oneHead (h : BitVec 32) (x : FVec F S128x128 .f32) : FVec F S128x128 .f32 :=
  select (cmpi .eq headQ (broadcast S128x128 h)) x (zeros S128x128)

/-- The four heads' queries, one below the other. -/
def stacked (x : FVec F S128x128 .f32) : FVec F S512x128 .bf16 :=
  truncf .bf16 (concatenate S512x128 0 [⟨S128x128, oneHead 0#32 x⟩, ⟨S128x128, oneHead 1#32 x⟩, ⟨S128x128, oneHead 2#32 x⟩,
    ⟨S128x128, oneHead 3#32 x⟩] concatenates_S128x128_S128x128_S128x128_S128x128_S512x128_d0) bitsLt_bf16_f32

/-- The products of queries and keys, kept where they meet. -/
def att (pair : IVec S512x128 1) (x : FVec F S128x128 .f32) (y : FVec F S128x128 .bf16) : FVec F S512x128 .bf16 :=
  truncf .bf16 (select pair (matmul dot_S512x128_S128x128_S512x128_1_1_0_0_n_n none (stacked x) y
    (constant S512x128 .f32 0x00000000#32)) (zeros S512x128)) bitsLt_bf16_f32

/-- Each head's products times all values. -/
def mixed (a : FVec F S512x128 .bf16) (v : FVec F S128x256 .bf16) : FVec F S512x256 .f32 :=
  matmul dot_S512x128_S128x256_S512x256_1_0_0_1_n_n none a v (constant S512x256 .f32 0x00000000#32)

/-- What a chunk's queries read from the state. -/
def fromState (bm : FVec F S1x128 .f32) (x : FVec F S128x128 .f32) (h : Vec F S1x256x128 .f32) : FVec F S128x256 .f32 :=
  matmul dot_S128x128_S256x128_S128x256_1_1_0_0_n_n none
    (truncf .bf16 (mulf x (broadcastTo S128x128 (exp bm) broadcasts_S1x128_S128x128)) bitsLt_bf16_f32)
    (truncf .bf16 (matH h) bitsLt_bf16_f32) (constant S128x256 .f32 0x00000000#32)

/-- One head's rows of the mixed values, on that head's value lanes. -/
def pick (h : BitVec 32) (x : FVec F S128x256 .f32) : FVec F S128x256 .f32 :=
  select (cmpi .eq headV (broadcast S128x256 h)) x (zeros S128x256)

/-- What a chunk stores to the output accumulator of its direction. -/
def chunkO (pair : IVec S512x128 1) (bm : FVec F S1x128 .f32) (q k b : Vec F S1x128x128 .f32) (v : Vec F S1x128x256 .bf16)
    (h : Vec F S1x256x128 .f32) : FVec F S1x128x256 .f32 :=
  shapeCast S1x128x256
    (addf (addf (addf (addf (fromState bm (qe bm q b) h)
      (pick 0#32 (extractStridedSlice S128x256 ![0, 0] (mixed (att pair (qe bm q b) (ke bm k b)) (matV v)) slices_S512x256_o0_0_S128x256)))
      (pick 1#32 (extractStridedSlice S128x256 ![128, 0] (mixed (att pair (qe bm q b) (ke bm k b)) (matV v)) slices_S512x256_o128_0_S128x256)))
      (pick 2#32 (extractStridedSlice S128x256 ![256, 0] (mixed (att pair (qe bm q b) (ke bm k b)) (matV v)) slices_S512x256_o256_0_S128x256)))
      (pick 3#32 (extractStridedSlice S128x256 ![384, 0] (mixed (att pair (qe bm q b) (ke bm k b)) (matV v)) slices_S512x256_o384_0_S128x256)))
    shapeCasts_S128x256_S1x128x256

/-- What a chunk stores to the state of its direction. -/
def chunkH (bl : FVec F S1x128 .f32) (k b : Vec F S1x128x128 .f32) (v : Vec F S1x128x256 .bf16) (h : Vec F S1x256x128 .f32) :
    FVec F S1x256x128 .f32 :=
  shapeCast S1x256x128
    (addf (mulf (matH h) (broadcastTo S256x128 (exp bl) broadcasts_S1x128_S256x128))
      (select sameHead (matmul dot_S128x256_S128x128_S256x128_0_0_1_1_n_n none (matV v) (ke bl k b)
        (constant S256x128 .f32 0x00000000#32)) (zeros S256x128)))
    shapeCasts_S256x128_S1x256x128

/-- The decay sums of the token the forward direction takes as the middle of a chunk, -/
def midF (b : Vec F S1x128x128 .f32) : FVec F S1x128 .f32 := extractStridedSlice S1x128 ![63, 0] (mat b) slices_S128x128_o63_0_S1x128
/-- of the chunk's last token, -/
def lastF (b : Vec F S1x128x128 .f32) : FVec F S1x128 .f32 := extractStridedSlice S1x128 ![127, 0] (mat b) slices_S128x128_o127_0_S1x128
/-- of the token the backward direction takes as the middle, -/
def midB (b : Vec F S1x128x128 .f32) : FVec F S1x128 .f32 := extractStridedSlice S1x128 ![64, 0] (mat b) slices_S128x128_o64_0_S1x128
/-- and of the chunk's first token, which the backward direction meets last. -/
def lastB (b : Vec F S1x128x128 .f32) : FVec F S1x128 .f32 := extractStridedSlice S1x128 ![0, 0] (mat b) slices_S128x128_o0_0_S1x128

/-- Where two value lanes belong to one head, 1/64; elsewhere zero. -/
noncomputable abbrev meanHead : FVec F S256x256 .bf16 := kernelRun0_A.sl.r_344

/-- An accumulator's chunk as a matrix. -/
noncomputable abbrev matO (x : Vec F S1x128x256 .f32) : FVec F S128x256 .f32 := shapeCast S128x256 x shapeCasts_S1x128x256_S128x256

/-- The mean of the squares over a head, of the sum of both directions. -/
def meanSq (s : FVec F S128x256 .f32) : FVec F S128x256 .f32 :=
  addf (matmul dot_S128x256_S256x256_S128x256_1_0_0_1_n_n none (truncf .bf16 (mulf s s) bitsLt_bf16_f32) meanHead
      (constant S128x256 .f32 0x00000000#32))
    (matmul dot_S128x256_S256x256_S128x256_1_0_0_1_n_n none
      (truncf .bf16 (subf (mulf s s) (extf .f32 (truncf .bf16 (mulf s s) bitsLt_bf16_f32) bitsLt_bf16_f32)) bitsLt_bf16_f32) meanHead
      (constant S128x256 .f32 0x00000000#32))

/-- A value times its logistic function. -/
def silu (r : FVec F S128x256 .f32) : FVec F S128x256 .f32 :=
  mulf r (divf (broadcast S128x256 (Scalar.ofBits .f32 0x3F800000#32))
    (addf (broadcast S128x256 (Scalar.ofBits .f32 0x3F800000#32)) (exp (subf (zeros S128x256) r))))

/-- A chunk of a result: both directions' sums added, normalised over each head, times the gain and the gate. -/
def finish (g : Vec F S1x1x256 .f32) (of ob : Vec F S1x128x256 .f32) (r : Vec F S1x128x256 .bf16) : FVec F S1x128x256 .bf16 :=
  shapeCast S1x128x256
    (truncf .bf16
      (mulf (mulf (mulf (addf (matO of) (matO ob)) (rsqrt (addf (meanSq (addf (matO of) (matO ob)))
          (broadcast S128x256 (Scalar.ofBits .f32 0x358637BD#32)))))
        (broadcastTo S128x256 (shapeCast S1x256 g shapeCasts_S1x1x256_S1x256) broadcasts_S1x256_S128x256))
        (silu (extf .f32 (matV r) bitsLt_bf16_f32)))
      bitsLt_bf16_f32)
    shapeCasts_S128x256_S1x128x256

end Cert.KernelIdeal.Gla

end
-- ==== Proof.Gla.Masks.lean ====
/- The kernel's masks, entry by entry: which head a lane belongs to, and which rows meet which keys. -/
module

public import proofs.«01_k».proof.Proof.Gla.Chunk
public import Idealize.ShloMosaic.Lib.Pointwise

@[expose] public section

set_option maxRecDepth 16384

noncomputable section

namespace Cert.KernelIdeal.Gla

open Cert.KernelIdeal Cert.KernelIdeal.Gen Idealize.ShloMosaic Idealize.SL.Sem

theorem headQ_row0 : ∀ l : Fin 128, headQ (ix2 (0 : Fin 128) l) = BitVec.ofNat 32 (l.val / 32) := by decide +kernel

theorem headQ_apply (i l : Fin 128) : headQ (ix2 i l) = BitVec.ofNat 32 (l.val / 32) := headQ_row0 l

theorem headV_row0 : ∀ w : Fin 256, headV (ix2 (0 : Fin 128) w) = BitVec.ofNat 32 (w.val / 64) := by decide +kernel

theorem headV_apply (i : Fin 128) (w : Fin 256) : headV (ix2 i w) = BitVec.ofNat 32 (w.val / 64) := headV_row0 w

/-- The head of each of the state's key lanes. -/
noncomputable def keyHead : IVec S256x128 32 :=
  select (andi (cmpi .ne (subi kernelRun0_A.sl.v84 kernelRun0_A.sl.v87) (broadcast S256x128 (Scalar.subi 1#32 (Scalar.extui 0#1))))
      (cmpi .ne (remsi kernelRun0_A.sl.v79 (broadcast S256x128 32#32)) (broadcast S256x128 0#32)))
    (subi (divsi kernelRun0_A.sl.v79 kernelRun0_A.sl.v80) (broadcast S256x128 1#32)) (divsi kernelRun0_A.sl.v79 kernelRun0_A.sl.v80)

theorem keyHead_row0 : ∀ l : Fin 128, keyHead (ix2 (0 : Fin 256) l) = BitVec.ofNat 32 (l.val / 32) := by decide +kernel
theorem valHead_col0 : ∀ w : Fin 256, kernelRun0_A.sl.v78 (ix2 w (0 : Fin 128)) = BitVec.ofNat 32 (w.val / 64) := by decide +kernel

/-- Two head numbers as words are equal where the heads are. -/
theorem cmp_head : ∀ a b : Fin 4, Scalar.cmpi .eq (BitVec.ofNat 32 a.val) (BitVec.ofNat 32 b.val) = if a.val = b.val then 1#1 else 0#1 := by
  decide

theorem cmp_heads {w l : ℕ} (hw : w / 64 < 4) (hl : l / 32 < 4) :
    Scalar.cmpi .eq (BitVec.ofNat 32 (w / 64)) (BitVec.ofNat 32 (l / 32)) = if w / 64 = l / 32 then 1#1 else 0#1 :=
  cmp_head ⟨_, hw⟩ ⟨_, hl⟩

theorem sameHead_apply (w : Fin 256) (l : Fin 128) : sameHead (ix2 w l) = if w.val / 64 = l.val / 32 then 1#1 else 0#1 := by
  have hw := w.isLt; have hl := l.isLt
  show Scalar.cmpi .eq (kernelRun0_A.sl.v78 (ix2 w (0 : Fin 128))) (keyHead (ix2 (0 : Fin 256) l)) = _
  rw [keyHead_row0, valHead_col0, cmp_heads (by omega) (by omega)]

theorem rowTok_col0 : ∀ r : Fin 512, rowTok (ix2 r (0 : Fin 128)) = BitVec.ofNat 32 (r.val % 128) := by decide +kernel
theorem keyTok_row0 : ∀ j : Fin 128, kernelRun0_A.sl.v3 (ix2 (0 : Fin 512) j) = BitVec.ofNat 32 j.val := by decide +kernel

theorem cmp_tok : ∀ a b : Fin 128, Scalar.cmpi .sle (BitVec.ofNat 32 a.val) (BitVec.ofNat 32 b.val) = (if a.val ≤ b.val then 1#1 else 0#1)
    ∧ Scalar.cmpi .sgt (BitVec.ofNat 32 a.val) (BitVec.ofNat 32 b.val) = (if b.val < a.val then 1#1 else 0#1) := by
  decide +kernel

theorem pairFwd_apply (r : Fin 512) (j : Fin 128) : pairFwd (ix2 r j) = if j.val ≤ r.val % 128 then 1#1 else 0#1 := by
  show Scalar.cmpi .sle (kernelRun0_A.sl.v3 (ix2 (0 : Fin 512) j)) (rowTok (ix2 r (0 : Fin 128))) = _
  rw [rowTok_col0, keyTok_row0]
  exact (cmp_tok j ⟨r.val % 128, Nat.mod_lt _ (by decide)⟩).1

theorem pairBwd_apply (r : Fin 512) (j : Fin 128) : pairBwd (ix2 r j) = if r.val % 128 < j.val then 1#1 else 0#1 := by
  show Scalar.cmpi .sgt (kernelRun0_A.sl.v3 (ix2 (0 : Fin 512) j)) (rowTok (ix2 r (0 : Fin 128))) = _
  rw [rowTok_col0, keyTok_row0]
  exact (cmp_tok j ⟨r.val % 128, Nat.mod_lt _ (by decide)⟩).2

theorem cmpQ (h : Fin 4) (i l : Fin 128) :
    Scalar.cmpi .eq (headQ (ix2 i l)) (BitVec.ofNat 32 h.val) = if l.val / 32 = h.val then 1#1 else 0#1 := by
  have hl := l.isLt
  rw [headQ_apply]; exact cmp_head ⟨l.val / 32, by omega⟩ h

theorem cmpV (h : Fin 4) (i : Fin 128) (w : Fin 256) :
    Scalar.cmpi .eq (headV (ix2 i w)) (BitVec.ofNat 32 h.val) = if w.val / 64 = h.val then 1#1 else 0#1 := by
  have hw := w.isLt
  rw [headV_apply]; exact cmp_head ⟨w.val / 64, by omega⟩ h

/-- The head of each value lane met as a row and as a column of the averaging matrix. -/
noncomputable def colHead : IVec S256x256 32 :=
  select (andi kernelRun0_A.sl.v3912 (cmpi .ne (remsi kernelRun0_A.sl.v3896 kernelRun0_A.sl.v3872) (broadcast S256x256 0#32)))
    (subi (divsi kernelRun0_A.sl.v3896 kernelRun0_A.sl.v3872) (broadcast S256x256 1#32)) (divsi kernelRun0_A.sl.v3896 kernelRun0_A.sl.v3872)

theorem colHead_row0 : ∀ w : Fin 256, colHead (ix2 (0 : Fin 256) w) = BitVec.ofNat 32 (w.val / 64) := by decide +kernel
theorem rowHead_col0 : ∀ w : Fin 256, kernelRun0_A.sl.v3895 (ix2 w (0 : Fin 256)) = BitVec.ofNat 32 (w.val / 64) := by decide +kernel

theorem ofBits_64th : Ideal.ofBits .f32 0x3C800000#32 = ((1 / 64 : ℝ) : EReal) := by
  simp [Ideal.ofBits, Ideal.ieee, -EReal.coe_mul]; norm_num

theorem meanHead_apply (a b : Fin 256) :
    meanHead (F := Ideal) (ix2 a b) = if a.val / 64 = b.val / 64 then ((1 / 64 : ℝ) : EReal) else 0 := by
  have ha := a.isLt; have hb := b.isLt
  show Scalar.select (Scalar.cmpi .eq (kernelRun0_A.sl.v3895 (ix2 a (0 : Fin 256))) (colHead (ix2 (0 : Fin 256) b)))
    (Ideal.ofBits .f32 0x3C800000#32) (Ideal.ofBits .f32 0x00000000#32) = _
  rw [colHead_row0, rowHead_col0, ofBits_64th, Ideal.ofBits_zero_f32]
  rw [show Scalar.cmpi .eq (BitVec.ofNat 32 (a.val / 64)) (BitVec.ofNat 32 (b.val / 64)) = if a.val / 64 = b.val / 64 then 1#1 else 0#1
    from cmp_head ⟨a.val / 64, by omega⟩ ⟨b.val / 64, by omega⟩]
  unfold Scalar.select; split_ifs <;> simp_all

end Cert.KernelIdeal.Gla

end
-- ==== Proof.Gla.Read.lean ====
/- A chunk's terms read at an index, over the reals: the decayed queries and keys, their products, the values mixed by them, what the
   queries read from the state, and what the chunk adds to the state. -/
module

public import proofs.«01_k».proof.Proof.Gla.Masks
public import proofs.«01_k».proof.Proof.Gla.Spec

@[expose] public section

set_option maxRecDepth 16384

noncomputable section

namespace Cert.KernelIdeal.Gla

open Cert.KernelIdeal Cert.KernelIdeal.Gen Idealize.ShloMosaic Idealize.SL.Sem
open _root_.Gla

theorem mat_apply (x : Vec Ideal S1x128x128 .f32) (i l : Fin 128) : mat x (ix2 i l) = x (ix3 0 i l) := by
  pointwise [mat]

theorem matV_apply (x : Vec Ideal S1x128x256 .bf16) (i : Fin 128) (w : Fin 256) : matV x (ix2 i w) = x (ix3 0 i w) := by
  pointwise [matV]

theorem matO_apply (x : Vec Ideal S1x128x256 .f32) (i : Fin 128) (w : Fin 256) : matO x (ix2 i w) = x (ix3 0 i w) := by
  pointwise [matO]

theorem matH_apply (x : Vec Ideal S1x256x128 .f32) (w : Fin 256) (l : Fin 128) : matH x (ix2 w l) = x (ix3 0 w l) := by
  pointwise [matH]

theorem qe_apply {q b : Vec Ideal S1x128x128 .f32} {bm : FVec Ideal S1x128 .f32} {Q B : Fin 128 → Fin 128 → ℝ} {M : Fin 128 → ℝ}
    (hq : ∀ i l, q (ix3 0 i l) = (Q i l : EReal)) (hb : ∀ i l, b (ix3 0 i l) = (B i l : EReal)) (hm : ∀ l, bm (ix2 0 l) = (M l : EReal))
    (i l : Fin 128) : qe bm q b (ix2 i l) = ((Q i l * Real.exp (B i l - M l) : ℝ) : EReal) := by
  pointwise [qe, mat]
  rw [hq, hb, hm, ← EReal.coe_sub, Ideal.exp_coe, ← EReal.coe_mul]

theorem ke_apply {k b : Vec Ideal S1x128x128 .f32} {bm : FVec Ideal S1x128 .f32} {K B : Fin 128 → Fin 128 → ℝ} {M : Fin 128 → ℝ}
    (hk : ∀ i l, k (ix3 0 i l) = (K i l : EReal)) (hb : ∀ i l, b (ix3 0 i l) = (B i l : EReal)) (hm : ∀ l, bm (ix2 0 l) = (M l : EReal))
    (i l : Fin 128) : ke bm k b (ix2 i l) = ((K i l * Real.exp (M l - B i l) : ℝ) : EReal) := by
  pointwise [ke, mat]
  rw [hk, hb, hm, ← EReal.coe_sub, Ideal.exp_coe, ← EReal.coe_mul]

theorem oneHead_apply (h : Fin 4) (x : FVec Ideal S128x128 .f32) (i l : Fin 128) :
    oneHead (BitVec.ofNat 32 h.val) x (ix2 i l) = if l.val / 32 = h.val then x (ix2 i l) else 0 := by
  show Scalar.select (Scalar.cmpi .eq (headQ (ix2 i l)) (BitVec.ofNat 32 h.val)) (x (ix2 i l)) (Ideal.ofBits .f32 0x00000000#32) = _
  rw [cmpQ, Ideal.ofBits_zero_f32]; unfold Scalar.select; split_ifs <;> simp_all

theorem pick_apply (h : Fin 4) (x : FVec Ideal S128x256 .f32) (i : Fin 128) (w : Fin 256) :
    pick (BitVec.ofNat 32 h.val) x (ix2 i w) = if w.val / 64 = h.val then x (ix2 i w) else 0 := by
  show Scalar.select (Scalar.cmpi .eq (headV (ix2 i w)) (BitVec.ofNat 32 h.val)) (x (ix2 i w)) (Ideal.ofBits .f32 0x00000000#32) = _
  rw [cmpV, Ideal.ofBits_zero_f32]; unfold Scalar.select; split_ifs <;> simp_all

/-- A row of the stacked queries: head `h`, token `i`. -/
abbrev rowOf (h : Fin 4) (i : Fin 128) : Fin 512 := ⟨128 * h.val + i.val, by omega⟩

theorem stacked_apply (h : Fin 4) (x : FVec Ideal S128x128 .f32) (i l : Fin 128) :
    stacked x (ix2 (rowOf h i) l) = if l.val / 32 = h.val then x (ix2 i l) else 0 := by
  rw [← oneHead_apply]
  have hi := i.isLt
  fin_cases h <;> pointwise [stacked]
  · rw [dif_neg (by omega), dif_neg (by omega), dif_pos (by omega)]
    exact congrArg (fun z => oneHead 2#32 x (ix2 z l)) (Fin.ext (by dsimp only; omega))
  · rw [dif_neg (by omega), dif_neg (by omega), dif_neg (by omega)]
    exact congrArg (fun z => oneHead 3#32 x (ix2 z l)) (Fin.ext (by dsimp only; omega))

theorem fromState_apply {x : FVec Ideal S128x128 .f32} {bm : FVec Ideal S1x128 .f32} {h : Vec Ideal S1x256x128 .f32}
    {X : Fin 128 → Fin 128 → ℝ} {M : Fin 128 → ℝ} {H : Fin 256 → Fin 128 → ℝ} (hx : ∀ i l, x (ix2 i l) = (X i l : EReal))
    (hm : ∀ l, bm (ix2 0 l) = (M l : EReal)) (hh : ∀ w l, h (ix3 0 w l) = (H w l : EReal)) (i : Fin 128) (w : Fin 256) :
    fromState bm x h (ix2 i w) = ((∑ l, X i l * Real.exp (M l) * H w l : ℝ) : EReal) := by
  pointwise [fromState, matH]
  rw [coe_sum]
  refine Finset.sum_congr rfl fun l _ => ?_
  rw [hx, hm, hh, Ideal.exp_coe, ← EReal.coe_mul, ← EReal.coe_mul]

/-- Which keys of a chunk a query of the chunk meets. -/
def Meets (pair : IVec S512x128 1) (P : ℕ → ℕ → Prop) [DecidableRel P] : Prop :=
  ∀ (r : Fin 512) (j : Fin 128), pair (ix2 r j) = if P j.val (r.val % 128) then 1#1 else 0#1

theorem att_apply {pair : IVec S512x128 1} {P : ℕ → ℕ → Prop} [DecidableRel P] (hp : Meets pair P) {x : FVec Ideal S128x128 .f32}
    {y : FVec Ideal S128x128 .bf16} {X Y : Fin 128 → Fin 128 → ℝ} (hx : ∀ i l, x (ix2 i l) = (X i l : EReal))
    (hy : ∀ i l, y (ix2 i l) = (Y i l : EReal)) (h : Fin 4) (i j : Fin 128) :
    att pair x y (ix2 (rowOf h i) j)
      = ((if P j.val i.val then ∑ l : Fin 128, if l.val / 32 = h.val then X i l * Y j l else 0 else 0 : ℝ) : EReal) := by
  have e : (rowOf h i).val % 128 = i.val := by have := i.isLt; simp only [rowOf]; omega
  pointwise [att]
  rw [hp, e, coe_ite, coe_sum]
  unfold Scalar.select
  have : ∀ l : Fin 128, stacked x (ix2 (rowOf h i) l) * y (ix2 j l)
      = ((if l.val / 32 = h.val then X i l * Y j l else 0 : ℝ) : EReal) := by
    intro l; rw [stacked_apply, hx, hy, coe_ite]; split_ifs <;> simp
  simp only [rowOf] at this
  split_ifs <;> simp_all

theorem mixed_apply {a : FVec Ideal S512x128 .bf16} {v : FVec Ideal S128x256 .bf16} {A : Fin 4 → Fin 128 → Fin 128 → ℝ}
    {V : Fin 128 → Fin 256 → ℝ} (ha : ∀ h i j, a (ix2 (rowOf h i) j) = (A h i j : EReal)) (hv : ∀ j w, v (ix2 j w) = (V j w : EReal))
    (h : Fin 4) (i : Fin 128) (w : Fin 256) : mixed a v (ix2 (rowOf h i) w) = ((∑ j, A h i j * V j w : ℝ) : EReal) := by
  pointwise [mixed]
  rw [coe_sum]
  refine Finset.sum_congr rfl fun j _ => ?_
  have := ha h i j
  simp only [rowOf] at this
  rw [this, hv, ← EReal.coe_mul]

/-- What a chunk stores to an output accumulator, read at an index. -/
theorem chunkO_apply {pair : IVec S512x128 1} {P : ℕ → ℕ → Prop} [DecidableRel P] (hp : Meets pair P)
    {q k b : Vec Ideal S1x128x128 .f32} {v : Vec Ideal S1x128x256 .bf16} {h : Vec Ideal S1x256x128 .f32} {bm : FVec Ideal S1x128 .f32}
    {Q K B : Fin 128 → Fin 128 → ℝ} {V : Fin 128 → Fin 256 → ℝ} {H : Fin 256 → Fin 128 → ℝ} {M : Fin 128 → ℝ}
    (hq : ∀ i l, q (ix3 0 i l) = (Q i l : EReal)) (hk : ∀ i l, k (ix3 0 i l) = (K i l : EReal))
    (hb : ∀ i l, b (ix3 0 i l) = (B i l : EReal)) (hv : ∀ i w, v (ix3 0 i w) = (V i w : EReal))
    (hh : ∀ w l, h (ix3 0 w l) = (H w l : EReal)) (hm : ∀ l, bm (ix2 0 l) = (M l : EReal)) (i : Fin 128) (w : Fin 256) :
    chunkO pair bm q k b v h (ix3 0 i w)
      = ((∑ l, Q i l * Real.exp (B i l) * H w l
          + ∑ j : Fin 128, (if P j.val i.val then ∑ l : Fin 128, (if l.val / 32 = w.val / 64 then
              Q i l * K j l * Real.exp (B i l - B j l) else 0) else 0) * V j w : ℝ) : EReal) := by
  have hw := w.isLt
  have h0 := fromState_apply (qe_apply hq hb hm) hm hh i w
  have h1 : ∀ g : Fin 4, mixed (att pair (qe bm q b) (ke bm k b)) (matV v) (ix2 (rowOf g i) w) = _ :=
    fun g => mixed_apply (att_apply hp (qe_apply hq hb hm) (ke_apply hk hb hm)) (fun j w => (matV_apply v j w).trans (hv j w)) g i w
  have e : ∀ g : Fin 4, (g.val = w.val / 64) → mixed (att pair (qe bm q b) (ke bm k b)) (matV v) (ix2 (rowOf g i) w)
      = ((∑ j : Fin 128, (if P j.val i.val then ∑ l : Fin 128, (if l.val / 32 = w.val / 64 then
              Q i l * K j l * Real.exp (B i l - B j l) else 0) else 0) * V j w : ℝ) : EReal) := by
    intro g hg
    rw [h1, hg]
    congr 1
    refine Finset.sum_congr rfl fun j _ => ?_
    congr 2
    refine Finset.sum_congr rfl fun l _ => ?_
    congr 1
    rw [show B i l - B j l = (B i l - M l) + (M l - B j l) by ring, Real.exp_add]; ring
  have e0 : ∑ l, Q i l * Real.exp (B i l - M l) * Real.exp (M l) * H w l = ∑ l, Q i l * Real.exp (B i l) * H w l := by
    refine Finset.sum_congr rfl fun l _ => ?_
    rw [mul_assoc (Q i l), ← Real.exp_add, sub_add_cancel]
  rw [e0] at h0
  rw [EReal.coe_add, ← h0]
  unfold chunkO
  clear h1
  generalize mixed (att pair (qe bm q b) (ke bm k b)) (matV v) = z at e ⊢
  have s0 : extractStridedSlice S128x256 ![0, 0] z slices_S512x256_o0_0_S128x256 (ix2 i w) = z (ix2 (rowOf 0 i) w) := by
    pointwise; exact congrArg (fun r => z (ix2 r w)) (Fin.ext (by simp [rowOf]))
  have s1 : extractStridedSlice S128x256 ![128, 0] z slices_S512x256_o128_0_S128x256 (ix2 i w) = z (ix2 (rowOf 1 i) w) := by
    pointwise; exact congrArg (fun r => z (ix2 r w)) (Fin.ext (by simp [rowOf]))
  have s2 : extractStridedSlice S128x256 ![256, 0] z slices_S512x256_o256_0_S128x256 (ix2 i w) = z (ix2 (rowOf 2 i) w) := by
    pointwise; exact congrArg (fun r => z (ix2 r w)) (Fin.ext (by simp [rowOf]))
  have s3 : extractStridedSlice S128x256 ![384, 0] z slices_S512x256_o384_0_S128x256 (ix2 i w) = z (ix2 (rowOf 3 i) w) := by
    pointwise; exact congrArg (fun r => z (ix2 r w)) (Fin.ext (by simp [rowOf]))
  have p0 := pick_apply 0 (extractStridedSlice S128x256 ![0, 0] z slices_S512x256_o0_0_S128x256) i w
  have p1 := pick_apply 1 (extractStridedSlice S128x256 ![128, 0] z slices_S512x256_o128_0_S128x256) i w
  have p2 := pick_apply 2 (extractStridedSlice S128x256 ![256, 0] z slices_S512x256_o256_0_S128x256) i w
  have p3 := pick_apply 3 (extractStridedSlice S128x256 ![384, 0] z slices_S512x256_o384_0_S128x256) i w
  rw [s0] at p0; rw [s1] at p1; rw [s2] at p2; rw [s3] at p3
  pointwise
  refine Eq.trans (b := _ + pick (BitVec.ofNat 32 (0 : Fin 4).val) _ _ + pick (BitVec.ofNat 32 (1 : Fin 4).val) _ _
    + pick (BitVec.ofNat 32 (2 : Fin 4).val) _ _ + pick (BitVec.ofNat 32 (3 : Fin 4).val) _ _) rfl ?_
  rw [p0, p1, p2, p3]
  have hc : w.val / 64 = 0 ∨ w.val / 64 = 1 ∨ w.val / 64 = 2 ∨ w.val / 64 = 3 := by omega
  rcases hc with hc | hc | hc | hc
  · rw [← e 0 hc.symm]; simp [hc]
  · rw [← e 1 hc.symm]; simp [hc]
  · rw [← e 2 hc.symm]; simp [hc]
  · rw [← e 3 hc.symm]; simp [hc]

/-- What a chunk stores to the state, read at an index. -/
theorem chunkH_apply {k b : Vec Ideal S1x128x128 .f32} {v : Vec Ideal S1x128x256 .bf16} {h : Vec Ideal S1x256x128 .f32}
    {bl : FVec Ideal S1x128 .f32} {K B : Fin 128 → Fin 128 → ℝ} {V : Fin 128 → Fin 256 → ℝ} {H : Fin 256 → Fin 128 → ℝ} {M : Fin 128 → ℝ}
    (hk : ∀ i l, k (ix3 0 i l) = (K i l : EReal))
    (hb : ∀ i l, b (ix3 0 i l) = (B i l : EReal)) (hv : ∀ i w, v (ix3 0 i w) = (V i w : EReal))
    (hh : ∀ w l, h (ix3 0 w l) = (H w l : EReal)) (hm : ∀ l, bl (ix2 0 l) = (M l : EReal)) (w : Fin 256) (l : Fin 128) :
    chunkH bl k b v h (ix3 0 w l)
      = ((H w l * Real.exp (M l)
          + (if w.val / 64 = l.val / 32 then 1 else 0) * ∑ j : Fin 128, V j w * (K j l * Real.exp (M l - B j l)) : ℝ) : EReal) := by
  have e : ∑ j, v (ix3 0 j w) * ke bl k b (ix2 j l) = ((∑ j : Fin 128, V j w * (K j l * Real.exp (M l - B j l)) : ℝ) : EReal) := by
    rw [coe_sum]
    exact Finset.sum_congr rfl fun j _ => by rw [hv, ke_apply hk hb hm, ← EReal.coe_mul]
  pointwise [chunkH, matH]
  rw [e, hh, hm, Ideal.exp_coe, sameHead_apply, EReal.coe_add, ← EReal.coe_mul, EReal.coe_mul _ (∑ j : Fin 128, _), apply_ite Real.toEReal]
  unfold Scalar.select
  split_ifs <;> simp_all

end Cert.KernelIdeal.Gla

end
-- ==== Proof.Gla.Steps.lean ====
/- The order of the kernel's stores at one grid point: which chunk each store to the state and to the two output
   accumulators belongs to, and which stores it was loaded from. Over any floats. -/
module

public import proofs.«01_k».proof.Proof.Gla.Chunk

@[expose] public section

noncomputable section

namespace Cert.KernelIdeal.Gla

open Cert.KernelIdeal Cert.KernelIdeal.Gen Idealize.ShloMosaic Idealize.SL.Sem

variable {F : FTy → Type} [FloatOps F]

/-- One sequence of tokens as a body loads it, chunk by chunk: queries, keys, the decay sums of the two directions, values. -/
structure Stream (F : FTy → Type) (N : ℕ) where
  q : Fin N → Vec F S1x128x128 .f32
  k : Fin N → Vec F S1x128x128 .f32
  bf : Fin N → Vec F S1x128x128 .f32
  bb : Fin N → Vec F S1x128x128 .f32
  v : Fin N → Vec F S1x128x256 .bf16

theorem inbL (n : Fin 16) (col : ℕ) (h : col + 128 ≤ 512) (a : Fin 3) :
    (![0, 128 * n.val, col] : Fin 3 → ℕ) a + S1x128x128.size a ≤ S1x2048x512.size a := by
  have := n.isLt; fin_cases a <;> simp <;> omega

theorem inbLv (n : Fin 16) (a : Fin 3) :
    (![0, 128 * n.val, 0] : Fin 3 → ℕ) a + S1x128x256.size a ≤ S1x2048x256.size a := by
  have := n.isLt; fin_cases a <;> simp <;> omega

theorem inbC (n : Fin 2) (col : ℕ) (h : col + 128 ≤ 512) (a : Fin 3) :
    (![0, 128 * n.val, col] : Fin 3 → ℕ) a + S1x128x128.size a ≤ S1x256x512.size a := by
  have := n.isLt; fin_cases a <;> simp <;> omega

theorem inbCv (n : Fin 2) (a : Fin 3) :
    (![0, 128 * n.val, 0] : Fin 3 → ℕ) a + S1x128x256.size a ≤ S1x256x256.size a := by
  have := n.isLt; fin_cases a <;> simp <;> omega

/-- Where a chunk of one quarter of the latent tokens' staged array lies, -/
noncomputable abbrev rectL (n : Fin 16) (col : ℕ) (h : col + 128 ≤ 512) : Rect S1x2048x512 :=
  Rect.unit ![0, 128 * n.val, col] S1x128x128.size (inbL n col h)
/-- where a chunk of their values lies, -/
noncomputable abbrev rectLv (n : Fin 16) : Rect S1x2048x256 := Rect.unit ![0, 128 * n.val, 0] S1x128x256.size (inbLv n)
/-- and the same of the context tokens. -/
noncomputable abbrev rectC (n : Fin 2) (col : ℕ) (h : col + 128 ≤ 512) : Rect S1x256x512 :=
  Rect.unit ![0, 128 * n.val, col] S1x128x128.size (inbC n col h)
/-- Where a chunk of the context tokens' values lies. -/
noncomputable abbrev rectCv (n : Fin 2) : Rect S1x256x256 := Rect.unit ![0, 128 * n.val, 0] S1x128x256.size (inbCv n)

/-- A chunk of one quarter of the latent tokens' staged array. -/
noncomputable abbrev partL (arg1 : Memref sig .tc .vmem S1x2048x512 .f32) (harg1 : arg1.IsWhole) (x0 : Vec F S1x2048x512 .f32)
    (col : ℕ) (h : col + 128 ≤ 512) (n : Fin 16) : Vec F S1x128x128 .f32 :=
  View.readAt (Elt F) arg1.view (rectL n col h).toLoadRect (harg1.unread x0)

/-- A chunk of one quarter of the context tokens' staged array. -/
noncomputable abbrev partC (arg4 : Memref sig .tc .vmem S1x256x512 .f32) (harg4 : arg4.IsWhole) (x3 : Vec F S1x256x512 .f32)
    (col : ℕ) (h : col + 128 ≤ 512) (n : Fin 2) : Vec F S1x128x128 .f32 :=
  View.readAt (Elt F) arg4.view (rectC n col h).toLoadRect (harg4.unread x3)

/-- The latent tokens' chunks. -/
def streamL (arg1 : Memref sig .tc .vmem S1x2048x512 .f32) (harg1 : arg1.IsWhole)
    (arg2 : Memref sig .tc .vmem S1x2048x256 .bf16) (harg2 : arg2.IsWhole)
    (x0 : Vec F S1x2048x512 .f32) (x1 : Vec F S1x2048x256 .bf16) : Stream F 16 where
  q := partL arg1 harg1 x0 0 (by decide)
  k := partL arg1 harg1 x0 128 (by decide)
  bf := partL arg1 harg1 x0 256 (by decide)
  bb := partL arg1 harg1 x0 384 (by decide)
  v n := View.readAt (Elt F) arg2.view (rectLv n).toLoadRect (harg2.unread x1)

/-- The context tokens' chunks. -/
def streamC (arg4 : Memref sig .tc .vmem S1x256x512 .f32) (harg4 : arg4.IsWhole)
    (arg5 : Memref sig .tc .vmem S1x256x256 .bf16) (harg5 : arg5.IsWhole)
    (x3 : Vec F S1x256x512 .f32) (x4 : Vec F S1x256x256 .bf16) : Stream F 2 where
  q := partC arg4 harg4 x3 0 (by decide)
  k := partC arg4 harg4 x3 128 (by decide)
  bf := partC arg4 harg4 x3 256 (by decide)
  bb := partC arg4 harg4 x3 384 (by decide)
  v n := View.readAt (Elt F) arg5.view (rectCv n).toLoadRect (harg5.unread x4)

/-- Where the forward direction's state lies, -/
noncomputable abbrev rectF : Rect S2x256x128 := Rect.unit ![0, 0, 0] S1x256x128.size inb_S2x256x128_S1x256x128_0_0_0
/-- and the backward direction's. -/
noncomputable abbrev rectB : Rect S2x256x128 := Rect.unit ![1, 0, 0] S1x256x128.size inb_S2x256x128_S1x256x128_1_0_0

/-- The stores to a state buffer. -/
abbrev StateList (F : FTy → Type) [FloatOps F] := List (View.Piece (Elt F) S2x256x128 .f32)

variable (arg10 : Memref sig .tc .vmem S2x256x128 .f32)

/-- The state stored after the forward direction has met chunk `n`. -/
def nextF {N : ℕ} (s : Stream F N) (n : Fin N) (L : StateList F) : View.Piece (Elt F) S2x256x128 .f32 :=
  ⟨rectF, chunkH (lastF (s.bf n)) (s.k n) (s.bf n) (s.v n) (arg10.view.readCov L rectF.toLoadRect)⟩

/-- The state stored after the backward direction has met chunk `n`. -/
def nextB {N : ℕ} (s : Stream F N) (n : Fin N) (L : StateList F) : View.Piece (Elt F) S2x256x128 .f32 :=
  ⟨rectB, chunkH (lastB (s.bb n)) (s.k n) (s.bb n) (s.v n) (arg10.view.readCov L rectB.toLoadRect)⟩

/-- What the forward direction stores for chunk `n`, the state being what `L` left. -/
def outF {N : ℕ} (s : Stream F N) (n : Fin N) (L : StateList F) : FVec F S1x128x256 .f32 :=
  chunkO pairFwd (midF (s.bf n)) (s.q n) (s.k n) (s.bf n) (s.v n) (arg10.view.readCov L rectF.toLoadRect)

/-- What the backward direction stores for chunk `n`, the state being what `L` left. -/
def outB {N : ℕ} (s : Stream F N) (n : Fin N) (L : StateList F) : FVec F S1x128x256 .f32 :=
  chunkO pairBwd (midB (s.bb n)) (s.q n) (s.k n) (s.bb n) (s.v n) (arg10.view.readCov L rectB.toLoadRect)

/-- Stores to the state and to an accumulator in the kernel's order, last first, from the state stores `L₀` on: `u` forward
    chunks, from the first, and `w` backward chunks, from the last. A forward chunk's store to the accumulator is `pF`, a
    backward one's `pB`. -/
inductive Stores {N : ℕ} {P : Type} (pF pB : Fin N → FVec F S1x128x256 .f32 → P) (s : Stream F N) (L₀ : StateList F) :
    StateList F → List P → ℕ → ℕ → Prop
  | start : Stores pF pB s L₀ L₀ [] 0 0
  | fwd {L L' : StateList F} {O O' : List P} {u w : ℕ} (n : Fin N) (hn : n.val = u) (h : Stores pF pB s L₀ L O u w)
      (e : L' = nextF arg10 s n L :: L) (o : O' = pF n (outF arg10 s n L) :: O) : Stores pF pB s L₀ L' O' (u + 1) w
  | bwd {L L' : StateList F} {O O' : List P} {u w : ℕ} (n : Fin N) (hn : n.val + w + 1 = N) (h : Stores pF pB s L₀ L O u w)
      (e : L' = nextB arg10 s n L :: L) (o : O' = pB n (outB arg10 s n L) :: O) : Stores pF pB s L₀ L' O' u (w + 1)

end Cert.KernelIdeal.Gla

end
-- ==== Proof.Gla.Recur.lean ====
/- The kernel's stores over the reals: by induction along its order of chunks, the state buffer holds the recurrence's state of both
   directions, and every store to an accumulator is the recurrence's output at the chunk's tokens. -/
module

public import proofs.«01_k».proof.Proof.Gla.Read
public import proofs.«01_k».proof.Proof.Gla.Spec
public import proofs.«01_k».proof.Proof.Gla.Steps
public import Idealize.ShloMosaic.Lib.Pipeline.ReadBack

@[expose] public section

set_option maxRecDepth 16384

noncomputable section

namespace Cert.KernelIdeal.Gla

open Cert.KernelIdeal Cert.KernelIdeal.Gen Idealize.ShloMosaic Idealize.SL.Sem
open _root_.Gla

/-- A sum over the tokens of a chunk that come before a bound, in any order of the tokens. -/
theorem sum_before (ρ : Equiv.Perm (Fin 128)) (f : ℕ → ℝ) (n : ℕ) (hn : n ≤ 128) :
    ∑ j ∈ Finset.range n, f j = ∑ j : Fin 128, if (ρ j).val < n then f (ρ j).val else 0 := by
  rw [Equiv.sum_comp ρ (fun j : Fin 128 => if j.val < n then f j.val else 0),
    Fin.sum_univ_eq_sum_range (fun j => if j < n then f j else 0) 128, ← Finset.sum_filter]
  congr 1
  ext j; simp; omega

section
variable {k q b : Vec Ideal S1x128x128 .f32} {v : Vec Ideal S1x128x256 .bf16} {h : Vec Ideal S1x256x128 .f32}
variable (d : Dir) (ρ : Equiv.Perm (Fin 128)) (n : ℕ) (H : Fin 256 → Fin 128 → ℝ)
variable (hk : ∀ i l, k (ix3 0 i l) = (d.K (n + (ρ i).val) l : EReal))
  (hb : ∀ i l, b (ix3 0 i l) = ((∑ s ∈ Finset.range ((ρ i).val + 1), d.L (n + s) l : ℝ) : EReal))
  (hv : ∀ i w, v (ix3 0 i w) = (d.V (n + (ρ i).val) w : EReal))
  (hh : ∀ w l, h (ix3 0 w l) = (d.st H n w l : EReal))

include hk hb hv hh

/-- A chunk takes the state on. -/
theorem chunk_state {bl : FVec Ideal S1x128 .f32} (hm : ∀ l, bl (ix2 0 l) = ((∑ s ∈ Finset.range 128, d.L (n + s) l : ℝ) : EReal))
    (w : Fin 256) (l : Fin 128) : chunkH bl k b v h (ix3 0 w l) = (d.st H (n + 128) w l : EReal) := by
  rw [chunkH_apply hk hb hv hh hm]
  congr 1
  unfold Dir.st
  rw [← _root_.Gla.state_add]
  congr 2
  refine Eq.trans ?_ (sum_before ρ (fun j => d.V (n + j) w * (d.K (n + j) l
    * Real.exp (∑ s ∈ Finset.range 128, d.L (n + s) l - ∑ s ∈ Finset.range (j + 1), d.L (n + s) l))) 128 le_rfl).symm
  exact Finset.sum_congr rfl fun j _ => by rw [if_pos (ρ j).isLt]

/-- A chunk's output. -/
theorem chunk_out {pair : IVec S512x128 1} {P : ℕ → ℕ → Prop} [DecidableRel P] (hp : Meets pair P) {e : ℕ} (he : e ≤ 1)
    (hP : ∀ i j : Fin 128, P j.val i.val ↔ (ρ j).val < (ρ i).val + e)
    (hq : ∀ i l, q (ix3 0 i l) = (d.Q (n + (ρ i).val) l : EReal)) {bm : FVec Ideal S1x128 .f32} {M : Fin 128 → ℝ}
    (hm : ∀ l, bm (ix2 0 l) = (M l : EReal)) (i : Fin 128) (w : Fin 256) :
    chunkO pair bm q k b v h (ix3 0 i w) = (d.out H e (n + (ρ i).val) w : EReal) := by
  rw [chunkO_apply hp hq hk hb hv hh hm]
  congr 1
  unfold Dir.out
  rw [← _root_.Gla.output_add, sum_before ρ _ _ (by have := (ρ i).isLt; omega)]
  congr 1
  refine Finset.sum_congr rfl fun j _ => ?_
  rw [ite_mul, zero_mul]
  refine if_congr (hP i j) ?_ rfl
  congr 1
  refine Finset.sum_congr rfl fun l _ => ?_
  unfold same
  rw [ite_mul, one_mul, zero_mul]
  exact if_congr eq_comm rfl rfl

end

theorem lastF_apply (b : Vec Ideal S1x128x128 .f32) (l : Fin 128) : lastF b (ix2 0 l) = b (ix3 0 127 l) := by
  unfold lastF; pointwise [mat]
theorem lastB_apply (b : Vec Ideal S1x128x128 .f32) (l : Fin 128) : lastB b (ix2 0 l) = b (ix3 0 0 l) := by
  unfold lastB; pointwise [mat]
theorem midF_apply (b : Vec Ideal S1x128x128 .f32) (l : Fin 128) : midF b (ix2 0 l) = b (ix3 0 63 l) := by
  unfold midF; pointwise [mat]
theorem midB_apply (b : Vec Ideal S1x128x128 .f32) (l : Fin 128) : midB b (ix2 0 l) = b (ix3 0 64 l) := by
  unfold midB; pointwise [mat]

theorem meets_fwd : Meets pairFwd (fun j i => j ≤ i) := pairFwd_apply
theorem meets_bwd : Meets pairBwd (fun j i => i < j) := pairBwd_apply

/-- What a body's loads of a sequence are: the forward direction's tokens in order, the backward direction's from the last. -/
structure Holds {N : ℕ} (s : Stream Ideal N) (f b : Dir) : Prop where
  qf : ∀ n i l, s.q n (ix3 0 i l) = (f.Q (128 * n.val + i.val) l : EReal)
  kf : ∀ n i l, s.k n (ix3 0 i l) = (f.K (128 * n.val + i.val) l : EReal)
  vf : ∀ n i w, s.v n (ix3 0 i w) = (f.V (128 * n.val + i.val) w : EReal)
  bf : ∀ n i l, s.bf n (ix3 0 i l) = ((∑ x ∈ Finset.range (i.val + 1), f.L (128 * n.val + x) l : ℝ) : EReal)
  qb : ∀ n i l, s.q n (ix3 0 i l) = (b.Q (128 * (N - 1 - n.val) + (Fin.rev i).val) l : EReal)
  kb : ∀ n i l, s.k n (ix3 0 i l) = (b.K (128 * (N - 1 - n.val) + (Fin.rev i).val) l : EReal)
  vb : ∀ n i w, s.v n (ix3 0 i w) = (b.V (128 * (N - 1 - n.val) + (Fin.rev i).val) w : EReal)
  bb : ∀ n i l, s.bb n (ix3 0 i l) = ((∑ x ∈ Finset.range ((Fin.rev i).val + 1), b.L (128 * (N - 1 - n.val) + x) l : ℝ) : EReal)

section
variable {N : ℕ} {s : Stream Ideal N} {f b : Dir} (hs : Holds s f b) (n : Fin N) {h : Vec Ideal S1x256x128 .f32} {H : Fin 256 → Fin 128 → ℝ}
include hs

theorem fwd_state (hh : ∀ w l, h (ix3 0 w l) = (f.st H (128 * n.val) w l : EReal)) (w : Fin 256) (l : Fin 128) :
    chunkH (lastF (s.bf n)) (s.k n) (s.bf n) (s.v n) h (ix3 0 w l) = (f.st H (128 * n.val + 128) w l : EReal) :=
  chunk_state f (Equiv.refl _) (128 * n.val) H (fun i l => by rw [Equiv.refl_apply]; exact hs.kf n i l)
    (fun i l => by rw [Equiv.refl_apply]; exact hs.bf n i l) (fun i l => by rw [Equiv.refl_apply]; exact hs.vf n i l) hh
    (fun l => by rw [lastF_apply]; exact hs.bf n 127 l) w l

theorem fwd_out (hh : ∀ w l, h (ix3 0 w l) = (f.st H (128 * n.val) w l : EReal)) (i : Fin 128) (w : Fin 256) :
    chunkO pairFwd (midF (s.bf n)) (s.q n) (s.k n) (s.bf n) (s.v n) h (ix3 0 i w) = (f.out H 1 (128 * n.val + i.val) w : EReal) :=
  chunk_out f (Equiv.refl _) (128 * n.val) H (fun i l => by rw [Equiv.refl_apply]; exact hs.kf n i l)
    (fun i l => by rw [Equiv.refl_apply]; exact hs.bf n i l) (fun i l => by rw [Equiv.refl_apply]; exact hs.vf n i l) hh
    meets_fwd le_rfl (fun i j => by rw [Equiv.refl_apply, Equiv.refl_apply]; exact Nat.lt_succ_iff.symm)
    (fun i l => by rw [Equiv.refl_apply]; exact hs.qf n i l) (fun l => by rw [midF_apply]; exact hs.bf n 63 l) i w

theorem bwd_state (hh : ∀ w l, h (ix3 0 w l) = (b.st H (128 * (N - 1 - n.val)) w l : EReal)) (w : Fin 256) (l : Fin 128) :
    chunkH (lastB (s.bb n)) (s.k n) (s.bb n) (s.v n) h (ix3 0 w l) = (b.st H (128 * (N - 1 - n.val) + 128) w l : EReal) :=
  chunk_state b Fin.revPerm (128 * (N - 1 - n.val)) H (fun i l => by rw [Fin.revPerm_apply]; exact hs.kb n i l)
    (fun i l => by rw [Fin.revPerm_apply]; exact hs.bb n i l) (fun i l => by rw [Fin.revPerm_apply]; exact hs.vb n i l) hh
    (fun l => by rw [lastB_apply]; exact hs.bb n 0 l) w l

theorem bwd_out (hh : ∀ w l, h (ix3 0 w l) = (b.st H (128 * (N - 1 - n.val)) w l : EReal)) (i : Fin 128) (w : Fin 256) :
    chunkO pairBwd (midB (s.bb n)) (s.q n) (s.k n) (s.bb n) (s.v n) h (ix3 0 i w)
      = (b.out H 0 (128 * (N - 1 - n.val) + (Fin.rev i).val) w : EReal) :=
  chunk_out b Fin.revPerm (128 * (N - 1 - n.val)) H (fun i l => by rw [Fin.revPerm_apply]; exact hs.kb n i l)
    (fun i l => by rw [Fin.revPerm_apply]; exact hs.bb n i l) (fun i l => by rw [Fin.revPerm_apply]; exact hs.vb n i l) hh
    meets_bwd (Nat.zero_le 1) (fun i j => by
      rw [Fin.revPerm_apply, Fin.revPerm_apply, Fin.val_rev, Fin.val_rev]; have := i.isLt; have := j.isLt; omega)
    (fun i l => by rw [Fin.revPerm_apply]; exact hs.qb n i l) (fun l => by rw [midB_apply]; exact hs.bb n 64 l) i w

end

variable (arg10 : Memref sig .tc .vmem S2x256x128 .f32)

/-- The state buffer holds these states of the two directions. -/
def HoldsState (L : StateList Ideal) (hf hb : Fin 256 → Fin 128 → ℝ) : Prop :=
  (∀ w l, arg10.view.readCov L rectF.toLoadRect (ix3 0 w l) = (hf w l : EReal))
    ∧ ∀ w l, arg10.view.readCov L rectB.toLoadRect (ix3 0 w l) = (hb w l : EReal)

section
variable {N : ℕ} (s : Stream Ideal N) (n : Fin N) (L : StateList Ideal)

theorem nextF_F : arg10.view.readCov (nextF arg10 s n L :: L) rectF.toLoadRect
    = chunkH (lastF (s.bf n)) (s.k n) (s.bf n) (s.v n) (arg10.view.readCov L rectF.toLoadRect) :=
  View.readCov_cons_toLoadRect _ _ _ _

theorem nextB_B : arg10.view.readCov (nextB arg10 s n L :: L) rectB.toLoadRect
    = chunkH (lastB (s.bb n)) (s.k n) (s.bb n) (s.v n) (arg10.view.readCov L rectB.toLoadRect) :=
  View.readCov_cons_toLoadRect _ _ _ _

theorem nextF_B : arg10.view.readCov (nextF arg10 s n L :: L) rectB.toLoadRect = arg10.view.readCov L rectB.toLoadRect :=
  View.readCov_skip _ _ _ _ _ (by decide)

theorem nextB_F : arg10.view.readCov (nextB arg10 s n L :: L) rectF.toLoadRect = arg10.view.readCov L rectF.toLoadRect :=
  View.readCov_skip _ _ _ _ _ (by decide)

end

/-- After any number of the kernel's stores: the states, and every store to the accumulator. -/
theorem stores_hold {N : ℕ} {P : Type} {pF pB : Fin N → FVec Ideal S1x128x256 .f32 → P} {s : Stream Ideal N} {L₀ L : StateList Ideal}
    {O : List P} {u w : ℕ} (h : Stores arg10 pF pB s L₀ L O u w) {f b : Dir} (hs : Holds s f b) {hf hb : Fin 256 → Fin 128 → ℝ}
    (h0 : HoldsState arg10 L₀ hf hb) :
    HoldsState arg10 L (f.st hf (128 * u)) (b.st hb (128 * w))
      ∧ (∀ p ∈ O, (∃ n x, p = pF n x ∧ ∀ i w, x (ix3 0 i w) = (f.out hf 1 (128 * n.val + i.val) w : EReal))
          ∨ ∃ n x, p = pB n x ∧ ∀ i w, x (ix3 0 i w) = (b.out hb 0 (128 * (N - 1 - n.val) + (Fin.rev i).val) w : EReal))
      ∧ (∀ n : Fin N, n.val < u → ∃ x, pF n x ∈ O) ∧ ∀ n : Fin N, N ≤ n.val + w → ∃ x, pB n x ∈ O := by
  induction h with
  | start =>
    refine ⟨⟨fun w l => ?_, fun w l => ?_⟩, by simp, by simp, fun n hn => absurd n.isLt (by omega)⟩
    · rw [h0.1]; unfold Dir.st; rw [Nat.mul_zero, _root_.Gla.state_zero]
    · rw [h0.2]; unfold Dir.st; rw [Nat.mul_zero, _root_.Gla.state_zero]
  | @fwd L L' O O' u w n hn _ e o ih =>
    obtain ⟨⟨hF, hB⟩, hO, cF, cB⟩ := ih
    subst e o hn
    refine ⟨⟨fun w l => ?_, fun w' l => ?_⟩, ?_, ?_, fun m hm => ?_⟩
    · rw [nextF_F]; exact fwd_state hs n hF w l
    · rw [nextF_B]; exact hB w' l
    · refine List.forall_mem_cons.2 ⟨.inl ⟨n, _, rfl, fwd_out hs n hF⟩, hO⟩
    · intro m hm
      rcases Nat.lt_succ_iff_lt_or_eq.1 hm with hm | hm
      · exact (cF m hm).imp fun x hx => List.mem_cons_of_mem _ hx
      · exact ⟨_, by rw [Fin.ext hm]; exact List.mem_cons_self⟩
    · exact (cB m hm).imp fun x hx => List.mem_cons_of_mem _ hx
  | @bwd L L' O O' u w n hn _ e o ih =>
    obtain ⟨⟨hF, hB⟩, hO, cF, cB⟩ := ih
    subst e o
    have hw : w = N - 1 - n.val := by omega
    subst hw
    refine ⟨⟨fun w l => ?_, fun w' l => ?_⟩, ?_, fun m hm => ?_, ?_⟩
    · rw [nextB_F]; exact hF w l
    · rw [nextB_B]; exact bwd_state hs n hB w' l
    · refine List.forall_mem_cons.2 ⟨.inr ⟨n, _, rfl, bwd_out hs n hB⟩, hO⟩
    · exact (cF m hm).imp fun x hx => List.mem_cons_of_mem _ hx
    · intro m hm
      by_cases h : N ≤ m.val + (N - 1 - n.val)
      · exact (cB m h).imp fun x hx => List.mem_cons_of_mem _ hx
      · exact ⟨_, by rw [show m = n from Fin.ext (by omega)]; exact List.mem_cons_self⟩

end Cert.KernelIdeal.Gla

end
-- ==== Proof.Gla.Chain.lean ====
/- The kernel's stores at one grid point, read off its run: the context tokens' two chunks from a zero state, then the latent
   tokens' sixteen chunks from the state the context left, each chunk in both directions; and what the result windows get. -/
module

public import proofs.«01_k».proof.Proof.Gla.Steps

@[expose] public section

set_option maxRecDepth 16384

noncomputable section

namespace Cert.KernelIdeal.Gla

open Cert.KernelIdeal Cert.KernelIdeal.Gen Idealize.ShloMosaic Idealize.SL.Sem

variable {F : FTy → Type} [FloatOps F]

/-- Where a chunk of a direction's sums lies in the latent tokens' accumulator, -/
theorem inbOL (d : Fin 2) (n : Fin 16) (a : Fin 3) :
    (![d.val, 128 * n.val, 0] : Fin 3 → ℕ) a + S1x128x256.size a ≤ S2x2048x256.size a := by
  have := n.isLt; have := d.isLt; fin_cases a <;> simp <;> omega
/-- and in the context tokens'. -/
theorem inbOC (d : Fin 2) (n : Fin 2) (a : Fin 3) :
    (![d.val, 128 * n.val, 0] : Fin 3 → ℕ) a + S1x128x256.size a ≤ S2x256x256.size a := by
  have := n.isLt; have := d.isLt; fin_cases a <;> simp <;> omega

noncomputable abbrev rectOL (d : Fin 2) (n : Fin 16) : Rect S2x2048x256 :=
  Rect.unit ![d.val, 128 * n.val, 0] S1x128x256.size (inbOL d n)
noncomputable abbrev rectOC (d : Fin 2) (n : Fin 2) : Rect S2x256x256 :=
  Rect.unit ![d.val, 128 * n.val, 0] S1x128x256.size (inbOC d n)

/-- A store to the latent tokens' accumulator, -/
noncomputable abbrev pieceOL (d : Fin 2) (n : Fin 16) (x : FVec F S1x128x256 .f32) : View.Piece (Elt F) S2x2048x256 .f32 := ⟨rectOL d n, x⟩
/-- to the context tokens'. -/
noncomputable abbrev pieceOC (d : Fin 2) (n : Fin 2) (x : FVec F S1x128x256 .f32) : View.Piece (Elt F) S2x256x256 .f32 := ⟨rectOC d n, x⟩

section
variable (c : Dev nD) (arg1 : Memref sig .tc .vmem S1x2048x512 .f32) (harg1 : arg1.IsWhole)
  (arg2 : Memref sig .tc .vmem S1x2048x256 .bf16) (harg2 : arg2.IsWhole) (arg4 : Memref sig .tc .vmem S1x256x512 .f32) (harg4 : arg4.IsWhole)
  (arg5 : Memref sig .tc .vmem S1x256x256 .bf16) (harg5 : arg5.IsWhole) (arg10 : Memref sig .tc .vmem S2x256x128 .f32)
  (x0 : Vec F S1x2048x512 .f32) (x1 : Vec F S1x2048x256 .bf16) (x3 : Vec F S1x256x512 .f32) (x4 : Vec F S1x256x256 .bf16)

/-- The context tokens' stores. -/
theorem stores_ctx : Stores arg10 (pieceOC 0) (pieceOC 1) (streamC arg4 harg4 arg5 harg5 x3 x4) (kernelRun0_A.sl.HS0_1 (F := F))
    (kernelRun0_A.sl.HS0_5 c arg4 harg4 arg5 harg5 arg10 x3 x4) (kernelRun0_A.sl.HS2_4 c arg4 harg4 arg5 harg5 arg10 x3 x4) 2 2 := by
  refine .bwd (L := kernelRun0_A.sl.HS0_4 c arg4 harg4 arg5 harg5 arg10 x3 x4) 0 rfl ?_ rfl rfl
  refine .fwd (L := kernelRun0_A.sl.HS0_3 c arg4 harg4 arg5 harg5 arg10 x3 x4) 1 rfl ?_ rfl rfl
  refine .bwd (L := kernelRun0_A.sl.HS0_2 c arg4 harg4 arg5 harg5 arg10 x3 x4) 1 rfl ?_ rfl rfl
  refine .fwd (L := kernelRun0_A.sl.HS0_1) 0 rfl ?_ rfl rfl
  exact .start

set_option maxHeartbeats 0 in
/-- The latent tokens' stores. -/
theorem stores_lat : ∃ L, Stores arg10 (pieceOL 0) (pieceOL 1) (streamL arg1 harg1 arg2 harg2 x0 x1)
    (kernelRun0_A.sl.HS0_5 c arg4 harg4 arg5 harg5 arg10 x3 x4) L (kernelRun0_A.sl.HS1_32 c arg1 harg1 arg2 harg2 arg4 harg4 arg5 harg5 arg10 x0 x1 x3 x4) 16 16 := by
  refine ⟨_, .bwd (L := kernelRun0_A.sl.HS0_36 c arg1 harg1 arg2 harg2 arg4 harg4 arg5 harg5 arg10 x0 x1 x3 x4) 0 rfl ?_ rfl rfl⟩
  refine .fwd (L := kernelRun0_A.sl.HS0_35 c arg1 harg1 arg2 harg2 arg4 harg4 arg5 harg5 arg10 x0 x1 x3 x4) 15 rfl ?_ rfl rfl
  refine .bwd (L := kernelRun0_A.sl.HS0_34 c arg1 harg1 arg2 harg2 arg4 harg4 arg5 harg5 arg10 x0 x1 x3 x4) 1 rfl ?_ rfl rfl
  refine .fwd (L := kernelRun0_A.sl.HS0_33 c arg1 harg1 arg2 harg2 arg4 harg4 arg5 harg5 arg10 x0 x1 x3 x4) 14 rfl ?_ rfl rfl
  refine .bwd (L := kernelRun0_A.sl.HS0_32 c arg1 harg1 arg2 harg2 arg4 harg4 arg5 harg5 arg10 x0 x1 x3 x4) 2 rfl ?_ rfl rfl
  refine .fwd (L := kernelRun0_A.sl.HS0_31 c arg1 harg1 arg2 harg2 arg4 harg4 arg5 harg5 arg10 x0 x1 x3 x4) 13 rfl ?_ rfl rfl
  refine .bwd (L := kernelRun0_A.sl.HS0_30 c arg1 harg1 arg2 harg2 arg4 harg4 arg5 harg5 arg10 x0 x1 x3 x4) 3 rfl ?_ rfl rfl
  refine .fwd (L := kernelRun0_A.sl.HS0_29 c arg1 harg1 arg2 harg2 arg4 harg4 arg5 harg5 arg10 x0 x1 x3 x4) 12 rfl ?_ rfl rfl
  refine .bwd (L := kernelRun0_A.sl.HS0_28 c arg1 harg1 arg2 harg2 arg4 harg4 arg5 harg5 arg10 x0 x1 x3 x4) 4 rfl ?_ rfl rfl
  refine .fwd (L := kernelRun0_A.sl.HS0_27 c arg1 harg1 arg2 harg2 arg4 harg4 arg5 harg5 arg10 x0 x1 x3 x4) 11 rfl ?_ rfl rfl
  refine .bwd (L := kernelRun0_A.sl.HS0_26 c arg1 harg1 arg2 harg2 arg4 harg4 arg5 harg5 arg10 x0 x1 x3 x4) 5 rfl ?_ rfl rfl
  refine .fwd (L := kernelRun0_A.sl.HS0_25 c arg1 harg1 arg2 harg2 arg4 harg4 arg5 harg5 arg10 x0 x1 x3 x4) 10 rfl ?_ rfl rfl
  refine .bwd (L := kernelRun0_A.sl.HS0_24 c arg1 harg1 arg2 harg2 arg4 harg4 arg5 harg5 arg10 x0 x1 x3 x4) 6 rfl ?_ rfl rfl
  refine .fwd (L := kernelRun0_A.sl.HS0_23 c arg1 harg1 arg2 harg2 arg4 harg4 arg5 harg5 arg10 x0 x1 x3 x4) 9 rfl ?_ rfl rfl
  refine .bwd (L := kernelRun0_A.sl.HS0_22 c arg1 harg1 arg2 harg2 arg4 harg4 arg5 harg5 arg10 x0 x1 x3 x4) 7 rfl ?_ rfl rfl
  refine .fwd (L := kernelRun0_A.sl.HS0_21 c arg1 harg1 arg2 harg2 arg4 harg4 arg5 harg5 arg10 x0 x1 x3 x4) 8 rfl ?_ rfl rfl
  refine .bwd (L := kernelRun0_A.sl.HS0_20 c arg1 harg1 arg2 harg2 arg4 harg4 arg5 harg5 arg10 x0 x1 x3 x4) 8 rfl ?_ rfl rfl
  refine .fwd (L := kernelRun0_A.sl.HS0_19 c arg1 harg1 arg2 harg2 arg4 harg4 arg5 harg5 arg10 x0 x1 x3 x4) 7 rfl ?_ rfl rfl
  refine .bwd (L := kernelRun0_A.sl.HS0_18 c arg1 harg1 arg2 harg2 arg4 harg4 arg5 harg5 arg10 x0 x1 x3 x4) 9 rfl ?_ rfl rfl
  refine .fwd (L := kernelRun0_A.sl.HS0_17 c arg1 harg1 arg2 harg2 arg4 harg4 arg5 harg5 arg10 x0 x1 x3 x4) 6 rfl ?_ rfl rfl
  refine .bwd (L := kernelRun0_A.sl.HS0_16 c arg1 harg1 arg2 harg2 arg4 harg4 arg5 harg5 arg10 x0 x1 x3 x4) 10 rfl ?_ rfl rfl
  refine .fwd (L := kernelRun0_A.sl.HS0_15 c arg1 harg1 arg2 harg2 arg4 harg4 arg5 harg5 arg10 x0 x1 x3 x4) 5 rfl ?_ rfl rfl
  refine .bwd (L := kernelRun0_A.sl.HS0_14 c arg1 harg1 arg2 harg2 arg4 harg4 arg5 harg5 arg10 x0 x1 x3 x4) 11 rfl ?_ rfl rfl
  refine .fwd (L := kernelRun0_A.sl.HS0_13 c arg1 harg1 arg2 harg2 arg4 harg4 arg5 harg5 arg10 x0 x1 x3 x4) 4 rfl ?_ rfl rfl
  refine .bwd (L := kernelRun0_A.sl.HS0_12 c arg1 harg1 arg2 harg2 arg4 harg4 arg5 harg5 arg10 x0 x1 x3 x4) 12 rfl ?_ rfl rfl
  refine .fwd (L := kernelRun0_A.sl.HS0_11 c arg1 harg1 arg2 harg2 arg4 harg4 arg5 harg5 arg10 x0 x1 x3 x4) 3 rfl ?_ rfl rfl
  refine .bwd (L := kernelRun0_A.sl.HS0_10 c arg1 harg1 arg2 harg2 arg4 harg4 arg5 harg5 arg10 x0 x1 x3 x4) 13 rfl ?_ rfl rfl
  refine .fwd (L := kernelRun0_A.sl.HS0_9 c arg1 harg1 arg2 harg2 arg4 harg4 arg5 harg5 arg10 x0 x1 x3 x4) 2 rfl ?_ rfl rfl
  refine .bwd (L := kernelRun0_A.sl.HS0_8 c arg1 harg1 arg2 harg2 arg4 harg4 arg5 harg5 arg10 x0 x1 x3 x4) 14 rfl ?_ rfl rfl
  refine .fwd (L := kernelRun0_A.sl.HS0_7 c arg1 harg1 arg2 harg2 arg4 harg4 arg5 harg5 arg10 x0 x1 x3 x4) 1 rfl ?_ rfl rfl
  refine .bwd (L := kernelRun0_A.sl.HS0_6 c arg1 harg1 arg2 harg2 arg4 harg4 arg5 harg5 arg10 x0 x1 x3 x4) 15 rfl ?_ rfl rfl
  refine .fwd (L := kernelRun0_A.sl.HS0_5 c arg4 harg4 arg5 harg5 arg10 x3 x4) 0 rfl ?_ rfl rfl
  exact .start
end

end Cert.KernelIdeal.Gla

end
-- ==== Proof.Gla.Finish.lean ====
/- What the kernel's result windows get at one grid point: each chunk of both results, from the two accumulators. -/
module

public import proofs.«01_k».proof.Proof.Gla.Chain

@[expose] public section

set_option maxRecDepth 16384

noncomputable section

namespace Cert.KernelIdeal.Gla

open Cert.KernelIdeal Cert.KernelIdeal.Gen Idealize.ShloMosaic Idealize.SL.Sem

variable {F : FTy → Type} [FloatOps F]

variable (c : Dev nD) (i : grid0.Coords) (arg1 : Memref sig .tc .vmem S1x2048x512 .f32) (harg1 : arg1.IsWhole)
  (arg2 : Memref sig .tc .vmem S1x2048x256 .bf16) (harg2 : arg2.IsWhole) (arg3 : Memref sig .tc .vmem S1x2048x256 .bf16) (harg3 : arg3.IsWhole)
  (arg4 : Memref sig .tc .vmem S1x256x512 .f32) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x1x256 .f32) (harg7 : arg7.IsWhole)
  (arg8 : Memref sig .tc .vmem S1x2048x256 .bf16) (harg8 : arg8.IsWhole) (arg9 : Memref sig .tc .vmem S1x256x256 .bf16) (harg9 : arg9.IsWhole)
  (arg10 : Memref sig .tc .vmem S2x256x128 .f32) (harg10 : arg10.IsWhole) (arg11 : Memref sig .tc .vmem S2x2048x256 .f32) (harg11 : arg11.IsWhole)
  (arg12 : Memref sig .tc .vmem S2x256x256 .f32) (harg12 : arg12.IsWhole)
  (x0 : Vec F S1x2048x512 .f32) (x1 : Vec F S1x2048x256 .bf16) (x2 : Vec F S1x2048x256 .bf16) (x3 : Vec F S1x256x512 .f32)
  (x4 : Vec F S1x256x256 .bf16) (x5 : Vec F S1x256x256 .bf16) (x6 : Vec F S1x1x256 .f32)

set_option maxHeartbeats 0 in
/-- The context tokens' result. -/
theorem pieces_ctx : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.1
    = ([1, 0] : List (Fin 2)).map (fun n => (⟨rectCv n,
        finish (View.readAt (Elt F) arg7.view (Rect.unit (s := S1x1x256) ![0, 0, 0] S1x1x256.size inb_S1x1x256_S1x1x256_0_0_0).toLoadRect (harg7.unread x6))
          (arg12.view.readCov (kernelRun0_A.sl.HS2_4 c arg4 harg4 arg5 harg5 arg10 x3 x4) (rectOC 0 n).toLoadRect)
          (arg12.view.readCov (kernelRun0_A.sl.HS2_4 c arg4 harg4 arg5 harg5 arg10 x3 x4) (rectOC 1 n).toLoadRect)
          (View.readAt (Elt F) arg6.view (rectCv n).toLoadRect (harg6.unread x5))⟩ : View.Piece (Elt F) _ .bf16)) := rfl

set_option maxHeartbeats 0 in
/-- The latent tokens' result. -/
theorem pieces_lat : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).1
    = ([15, 14, 13, 12, 11, 10, 9, 8, 7, 6, 5, 4, 3, 2, 1, 0] : List (Fin 16)).map (fun n => (⟨rectLv n,
        finish (View.readAt (Elt F) arg7.view (Rect.unit (s := S1x1x256) ![0, 0, 0] S1x1x256.size inb_S1x1x256_S1x1x256_0_0_0).toLoadRect (harg7.unread x6))
          (arg11.view.readCov (kernelRun0_A.sl.HS1_32 c arg1 harg1 arg2 harg2 arg4 harg4 arg5 harg5 arg10 x0 x1 x3 x4) (rectOL 0 n).toLoadRect)
          (arg11.view.readCov (kernelRun0_A.sl.HS1_32 c arg1 harg1 arg2 harg2 arg4 harg4 arg5 harg5 arg10 x0 x1 x3 x4) (rectOL 1 n).toLoadRect)
          (View.readAt (Elt F) arg3.view (rectLv n).toLoadRect (harg3.unread x2))⟩ : View.Piece (Elt F) _ .bf16)) := rfl

end Cert.KernelIdeal.Gla

end
-- ==== Proof.Gla.Out.lean ====
/- A chunk's end over the reals: both directions' sums added, divided by the root of their mean square over the head, times the
   gain and the gate. -/
module

public import proofs.«01_k».proof.Proof.Gla.Read
public import proofs.«01_k».proof.Proof.Gla.Spec

@[expose] public section

set_option maxRecDepth 16384

noncomputable section

namespace Cert.KernelIdeal.Gla

open Cert.KernelIdeal Cert.KernelIdeal.Gen Idealize.ShloMosaic Idealize.SL.Sem
open _root_.Gla

theorem meanSq_apply {s : FVec Ideal S128x256 .f32} {S : Fin 128 → Fin 256 → ℝ} (hs : ∀ i w, s (ix2 i w) = (S i w : EReal))
    (i : Fin 128) (w : Fin 256) : meanSq s (ix2 i w) = (headMean (S i) w : EReal) := by
  pointwise [meanSq]
  simp only [hs, ← EReal.coe_mul, ← EReal.coe_sub, sub_self]
  simp only [meanHead_apply, EReal.coe_zero, zero_mul, Finset.sum_const_zero, add_zero]
  unfold headMean
  rw [coe_sum]
  refine Finset.sum_congr rfl fun x _ => ?_
  rw [← coe_ite, ← EReal.coe_mul]

theorem finish_apply {g : Vec Ideal S1x1x256 .f32} {of ob : Vec Ideal S1x128x256 .f32} {r : Vec Ideal S1x128x256 .bf16}
    {A B : Fin 128 → Fin 256 → ℝ} (ha : ∀ i w, of (ix3 0 i w) = (A i w : EReal)) (hb : ∀ i w, ob (ix3 0 i w) = (B i w : EReal))
    (i : Fin 128) (w : Fin 256) :
    finish g of ob r (ix3 0 i w) = answer (fun w => A i w + B i w) (g (ix3 0 0 w)) (r (ix3 0 i w)) w := by
  have hs : ∀ i w, addf (matO of) (matO ob) (ix2 i w) = ((A i w + B i w : ℝ) : EReal) := by
    intro i w
    pointwise [matO]
    rw [ha, hb, EReal.coe_add]
  have hm := meanSq_apply hs i w
  generalize he : meanSq (addf (matO of) (matO ob)) = e at hm
  unfold finish
  rw [he]
  pointwise [silu, matO, matV]
  rw [ha, hb, hm]
  unfold answer
  simp

end Cert.KernelIdeal.Gla

end
-- ==== Proof.Gla.Body.lean ====
/- What the kernel's result windows hold at one grid point, over the reals: at every token the recurrence's output of both directions,
   normalised and gated. -/
module

public import proofs.«01_k».proof.Proof.Gla.Recur
public import proofs.«01_k».proof.Proof.Gla.Finish
public import proofs.«01_k».proof.Proof.Gla.Out
public import proofs.«01_k».proof.Proof.Gen.KernelIdeal.Frame

@[expose] public section

set_option maxRecDepth 16384

noncomputable section

namespace Cert.KernelIdeal.Gla

open Cert.KernelIdeal Cert.KernelIdeal.Gen Idealize.ShloMosaic Idealize.SL.Sem
open _root_.Gla

theorem ix3_eta {a b c : ℕ} (x : (Shape.mk 3 ![a, b, c]).Idx) : x = ix3 (x 0) (x 1) (x 2) := by
  funext k; fin_cases k <;> rfl

/-- Where a chunk of a direction's sums lies in an accumulator of `T` tokens. -/
abbrev rectO {N T : ℕ} (d : Fin 2) (n : Fin N) (inb : ∀ a, (![d.val, 128 * n.val, 0] : Fin 3 → ℕ) a + S1x128x256.size a ≤ (![2, T, 256] : Fin 3 → ℕ) a) :
    Rect (Shape.mk 3 ![2, T, 256]) :=
  Rect.unit (s := Shape.mk 3 ![2, T, 256]) ![d.val, 128 * n.val, 0] S1x128x256.size inb

theorem emb_O {N T : ℕ} (hT : T = 128 * N) (d : Fin 2) (n : Fin N) (inb) (i : Fin 128) (w : Fin 256) :
    (rectO (T := T) d n inb).emb (ix3 (0 : Fin 1) i w) = ix3 d (⟨128 * n.val + i.val, by omega⟩ : Fin T) w := by
  funext a; fin_cases a <;> exact Fin.ext (by simp [Rect.emb, Rect.unit, ix3])

theorem emb_mem {S : Shape} (r : Rect S) (x : r.shape.Idx) : r.emb x ∈ r.set := by
  rw [← Rect.map_emb_univ]; exact Finset.mem_map_of_mem _ (Finset.mem_univ _)

theorem chunk_index (y : S1x128x256.Idx) : ∃ (i : Fin 128) (w : Fin 256), y = ix3 0 i w := by
  refine ⟨y 1, y 2, ?_⟩
  conv_lhs => rw [ix3_eta y]
  congr 1; exact Subsingleton.elim (α := Fin 1) _ _

/-- A chunk of a sequence of `T` tokens. -/
theorem emb_cv {N T : ℕ} (hT : T = 128 * N) (n : Fin N)
    (inb : ∀ a, (![0, 128 * n.val, 0] : Fin 3 → ℕ) a + S1x128x256.size a ≤ (![1, T, 256] : Fin 3 → ℕ) a) (i : Fin 128) (w : Fin 256) :
    (Rect.unit (s := Shape.mk 3 ![1, T, 256]) ![0, 128 * n.val, 0] S1x128x256.size inb).emb (ix3 (0 : Fin 1) i w)
      = ix3 0 (⟨128 * n.val + i.val, by omega⟩ : Fin T) w := by
  funext a; fin_cases a <;> exact Fin.ext (by simp [Rect.emb, Rect.unit, ix3])

section
variable {arg10 : Memref sig .tc .vmem S2x256x128 .f32} {L₀ L : StateList Ideal} {f b : Dir} {hf hb : Fin 256 → Fin 128 → ℝ}

/-- An accumulator, read back at a chunk. -/
theorem read_acc {N T : ℕ} (hT : T = 128 * N)
    {inb : ∀ (d : Fin 2) (n : Fin N) (a : Fin 3), (![d.val, 128 * n.val, 0] : Fin 3 → ℕ) a + S1x128x256.size a ≤ (![2, T, 256] : Fin 3 → ℕ) a}
    {acc : Memref sig .tc .vmem (Shape.mk 3 ![2, T, 256]) .f32} {s : Stream Ideal N}
    {O : List (View.Piece (Elt Ideal) (Shape.mk 3 ![2, T, 256]) .f32)}
    (h : Stores arg10 (fun n x => ⟨rectO 0 n (inb 0 n), x⟩) (fun n x => ⟨rectO 1 n (inb 1 n), x⟩) s L₀ L O N N) (hs : Holds s f b)
    (h0 : HoldsState arg10 L₀ hf hb) (d : Fin 2) (n : Fin N) (i : Fin 128) (w : Fin 256) :
    acc.view.readCov O (rectO d n (inb d n)).toLoadRect (ix3 0 i w) = (dirOut f b hf hb T d (128 * n.val + i.val) w : EReal) := by
  obtain ⟨-, hO, cF, cB⟩ := stores_hold arg10 h hs h0
  rw [View.readCov_eq_canon']
  show View.canon O ((rectO d n (inb d n)).emb (ix3 (0 : Fin 1) i w)) = _
  rw [View.canon_apply_of_pieces (fun y : (Shape.mk 3 ![2, T, 256]).Idx => ((dirOut f b hf hb T (y 0) (y 1).val (y 2) : ℝ) : EReal)) O ?_ _ ?_]
  · rw [emb_O hT]; rfl
  · intro p hp
    rcases hO p hp with ⟨m, x, rfl, hx⟩ | ⟨m, x, rfl, hx⟩ <;> intro (y : S1x128x256.Idx) <;> obtain ⟨i, w, rfl⟩ := chunk_index y
    · show x (ix3 0 i w) = ((dirOut f b hf hb T ((rectO 0 m (inb 0 m)).emb (ix3 (0 : Fin 1) i w) 0)
        ((rectO 0 m (inb 0 m)).emb (ix3 (0 : Fin 1) i w) 1).val ((rectO 0 m (inb 0 m)).emb (ix3 (0 : Fin 1) i w) 2) : ℝ) : EReal)
      rw [hx, emb_O hT]; rfl
    · show x (ix3 0 i w) = ((dirOut f b hf hb T ((rectO 1 m (inb 1 m)).emb (ix3 (0 : Fin 1) i w) 0)
        ((rectO 1 m (inb 1 m)).emb (ix3 (0 : Fin 1) i w) 1).val ((rectO 1 m (inb 1 m)).emb (ix3 (0 : Fin 1) i w) 2) : ℝ) : EReal)
      rw [hx, emb_O hT]
      show _ = ((b.out hb 0 (T - 1 - (128 * m.val + i.val)) w : ℝ) : EReal)
      rw [show T - 1 - (128 * m.val + i.val) = 128 * (N - 1 - m.val) + (Fin.rev i).val by rw [Fin.val_rev]; omega]
  · match d with
    | 0 =>
      obtain ⟨x, hx⟩ := cF n n.isLt
      exact ⟨_, hx, emb_mem _ _⟩
    | 1 =>
      obtain ⟨x, hx⟩ := cB n (by omega)
      exact ⟨_, hx, emb_mem _ _⟩

end

/-- A chunk of an array of `T` tokens, loaded from the buffer that holds it, -/
theorem read_chunk {N T : ℕ} (hT : T = 128 * N) {e : EltTy} {arg : Memref sig .tc .vmem (Shape.mk 3 ![1, T, 256]) e} (harg : arg.IsWhole)
    (x : Vec Ideal (Shape.mk 3 ![1, T, 256]) e) (n : Fin N)
    (inb : ∀ a, (![0, 128 * n.val, 0] : Fin 3 → ℕ) a + S1x128x256.size a ≤ (![1, T, 256] : Fin 3 → ℕ) a) (i : Fin 128) (w : Fin 256) :
    View.readAt (Elt Ideal) arg.view (Rect.unit (s := Shape.mk 3 ![1, T, 256]) ![0, 128 * n.val, 0] S1x128x256.size inb).toLoadRect
        (harg.unread x) (ix3 (0 : Fin 1) i w) = x (ix3 0 (⟨128 * n.val + i.val, by omega⟩ : Fin T) w) := by
  rw [View.readAt_eq_ld, harg.read_unread]
  exact congrArg x (emb_cv hT n inb i w)

/-- and the gain. -/
theorem read_gain {arg7 : Memref sig .tc .vmem S1x1x256 .f32} (harg7 : arg7.IsWhole) (x6 : Vec Ideal S1x1x256 .f32) (w : Fin 256) :
    View.readAt (Elt Ideal) arg7.view (Rect.unit (s := S1x1x256) ![0, 0, 0] S1x1x256.size inb_S1x1x256_S1x1x256_0_0_0).toLoadRect
      (harg7.unread x6) (ix3 0 0 w) = x6 (ix3 0 0 w) := by
  rw [View.readAt_eq_ld, harg7.read_unread]
  refine congrArg x6 (funext fun a => ?_)
  fin_cases a <;> exact Fin.ext (by simp [Rect.unit, ix3, LoadRect.idx])

/-- Every token lies in a chunk. -/
theorem token_mem {N T : ℕ} (hT : T = 128 * N)
    (inb : ∀ (n : Fin N) a, (![0, 128 * n.val, 0] : Fin 3 → ℕ) a + S1x128x256.size a ≤ (![1, T, 256] : Fin 3 → ℕ) a) (t : Fin T) (w : Fin 256) :
    ∃ n : Fin N, ix3 (0 : Fin 1) t w ∈ (Rect.unit (s := Shape.mk 3 ![1, T, 256]) ![0, 128 * n.val, 0] S1x128x256.size (inb n)).set := by
  have ht := t.isLt
  refine ⟨⟨t.val / 128, by omega⟩, ?_⟩
  have := emb_mem (Rect.unit (s := Shape.mk 3 ![1, T, 256]) ![0, 128 * (t.val / 128), 0] S1x128x256.size (inb ⟨t.val / 128, by omega⟩))
    (ix3 (0 : Fin 1) (⟨t.val % 128, Nat.mod_lt _ (by decide)⟩ : Fin 128) w)
  have e := emb_cv hT ⟨t.val / 128, by omega⟩ (inb _) (⟨t.val % 128, Nat.mod_lt _ (by decide)⟩ : Fin 128) w
  rw [show (⟨128 * (t.val / 128) + t.val % 128, by omega⟩ : Fin T) = t from Fin.ext (Nat.div_add_mod _ _)] at e
  exact e ▸ this

section
variable (c : Dev nD) (i : grid0.Coords) (arg1 : Memref sig .tc .vmem S1x2048x512 .f32) (harg1 : arg1.IsWhole)
  (arg2 : Memref sig .tc .vmem S1x2048x256 .bf16) (harg2 : arg2.IsWhole) (arg3 : Memref sig .tc .vmem S1x2048x256 .bf16) (harg3 : arg3.IsWhole)
  (arg4 : Memref sig .tc .vmem S1x256x512 .f32) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x1x256 .f32) (harg7 : arg7.IsWhole)
  (arg8 : Memref sig .tc .vmem S1x2048x256 .bf16) (harg8 : arg8.IsWhole) (arg9 : Memref sig .tc .vmem S1x256x256 .bf16) (harg9 : arg9.IsWhole)
  (arg10 : Memref sig .tc .vmem S2x256x128 .f32) (harg10 : arg10.IsWhole) (arg11 : Memref sig .tc .vmem S2x2048x256 .f32) (harg11 : arg11.IsWhole)
  (arg12 : Memref sig .tc .vmem S2x256x256 .f32) (harg12 : arg12.IsWhole)
  (x0 : Vec Ideal S1x2048x512 .f32) (x1 : Vec Ideal S1x2048x256 .bf16) (x2 : Vec Ideal S1x2048x256 .bf16) (x3 : Vec Ideal S1x256x512 .f32)
  (x4 : Vec Ideal S1x256x256 .bf16) (x5 : Vec Ideal S1x256x256 .bf16) (x6 : Vec Ideal S1x1x256 .f32)

/-- The state starts from zero. -/
theorem zero_state : HoldsState arg10 (kernelRun0_A.sl.HS0_1 (F := Ideal)) 0 0 := by
  have z (x : S2x256x128.Idx) : k0_pay11 (F := Ideal) x = 0 := Ideal.ofBits_zero_f32
  constructor <;> intro w l
  · have h := View.readCov_fill (Val := Elt Ideal) arg10.view inb_S2x256x128_S2x256x128_0_0_0 (k0_pay11 (F := Ideal)) [] rectF (by decide)
    exact (congrFun h (ix3 0 w l)).trans (z _)
  · have h := View.readCov_fill (Val := Elt Ideal) arg10.view inb_S2x256x128_S2x256x128_0_0_0 (k0_pay11 (F := Ideal)) [] rectB (by decide)
    exact (congrFun h (ix3 0 w l)).trans (z _)

variable {fc bc fl bl : Dir} (hc : Holds (streamC arg4 harg4 arg5 harg5 x3 x4) fc bc) (hl : Holds (streamL arg1 harg1 arg2 harg2 x0 x1) fl bl)
include hc

/-- The context tokens' result. -/
theorem out_ctx (t w : Fin 256) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 t w)
      = answer (fun w => dirOut fc bc 0 0 256 0 t.val w + dirOut fc bc 0 0 256 1 t.val w) (x6 (ix3 0 0 w)) (x5 (ix3 0 t w)) w := by
  unfold out0_A_8
  rw [View.read_writes_junk_eq_canon, pieces_ctx]
  rw [View.canon_apply_of_pieces (fun y : S1x256x256.Idx => answer (fun w => dirOut fc bc 0 0 256 0 (y 1).val w + dirOut fc bc 0 0 256 1 (y 1).val w)
    (x6 (ix3 0 0 (y 2))) (x5 (ix3 0 (y 1) (y 2))) (y 2)) _ ?_ _ ?_]
  · rfl
  · intro p hp
    obtain ⟨n, -, rfl⟩ := List.mem_map.1 hp
    intro (y : S1x128x256.Idx)
    obtain ⟨i, w, rfl⟩ := chunk_index y
    have hr := read_acc (T := 256) (N := 2) rfl (inb := inbOC) (acc := arg12)
      (stores_ctx (F := Ideal) c arg4 harg4 arg5 harg5 arg10 x3 x4) hc (zero_state arg10)
    refine Eq.trans ?_ (congrArg (fun y : S1x256x256.Idx => answer (fun w => dirOut fc bc 0 0 256 0 (y 1).val w + dirOut fc bc 0 0 256 1 (y 1).val w)
      (x6 (ix3 0 0 (y 2))) (x5 (ix3 0 (y 1) (y 2))) (y 2)) (emb_cv rfl n (inbCv n) i w).symm)
    refine (finish_apply (hr 0 n) (hr 1 n) i w).trans ?_
    rw [read_gain harg7, read_chunk (T := 256) (N := 2) rfl harg6 x5 n (inbCv n)]
    rfl
  · obtain ⟨n, hn⟩ := token_mem (T := 256) (N := 2) rfl inbCv t w
    exact ⟨_, List.mem_map_of_mem (by fin_cases n <;> decide), hn⟩

include hl

/-- The latent tokens' result, from the states the context leaves. -/
theorem out_lat (t : Fin 2048) (w : Fin 256) :
    out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 t w)
      = answer (fun w => dirOut fl bl (fc.st 0 256) (bc.st 0 256) 2048 0 t.val w + dirOut fl bl (fc.st 0 256) (bc.st 0 256) 2048 1 t.val w) (x6 (ix3 0 0 w)) (x2 (ix3 0 t w)) w := by
  obtain ⟨L, hL⟩ := stores_lat (F := Ideal) c arg1 harg1 arg2 harg2 arg4 harg4 arg5 harg5 arg10 x0 x1 x3 x4
  have hz : HoldsState arg10 (kernelRun0_A.sl.HS0_5 c arg4 harg4 arg5 harg5 arg10 x3 x4) (fc.st 0 256) (bc.st 0 256) :=
    (stores_hold arg10 (stores_ctx c arg4 harg4 arg5 harg5 arg10 x3 x4) hc (zero_state arg10)).1
  unfold out0_A_7
  rw [View.read_writes_junk_eq_canon, pieces_lat]
  rw [View.canon_apply_of_pieces (fun y : S1x2048x256.Idx => answer (fun w => dirOut fl bl (fc.st 0 256) (bc.st 0 256) 2048 0 (y 1).val w + dirOut fl bl (fc.st 0 256) (bc.st 0 256) 2048 1 (y 1).val w)
    (x6 (ix3 0 0 (y 2))) (x2 (ix3 0 (y 1) (y 2))) (y 2)) _ ?_ _ ?_]
  · rfl
  · intro p hp
    obtain ⟨n, -, rfl⟩ := List.mem_map.1 hp
    intro (y : S1x128x256.Idx)
    obtain ⟨i, w, rfl⟩ := chunk_index y
    have hr := read_acc (T := 2048) (N := 16) rfl (inb := inbOL) (acc := arg11)
      hL hl hz
    refine Eq.trans ?_ (congrArg (fun y : S1x2048x256.Idx => answer (fun w => dirOut fl bl (fc.st 0 256) (bc.st 0 256) 2048 0 (y 1).val w + dirOut fl bl (fc.st 0 256) (bc.st 0 256) 2048 1 (y 1).val w)
      (x6 (ix3 0 0 (y 2))) (x2 (ix3 0 (y 1) (y 2))) (y 2)) (emb_cv rfl n (inbLv n) i w).symm)
    refine (finish_apply (hr 0 n) (hr 1 n) i w).trans ?_
    rw [read_gain harg7, read_chunk (T := 2048) (N := 16) rfl harg3 x2 n (inbLv n)]
    rfl
  · obtain ⟨n, hn⟩ := token_mem (T := 2048) (N := 16) rfl inbLv t w
    exact ⟨_, List.mem_map_of_mem (by fin_cases n <;> decide), hn⟩

end

end Cert.KernelIdeal.Gla

end
-- ==== Proof.Gla.Packed.lean ====
/- The kernel's staged arrays, entry by entry: each is read at a chunk `n` and a row `i` of it. -/
module

public import proofs.«01_k».proof.Proof.Gla.Entry
public import proofs.«01_k».proof.Proof.Gla.Body

@[expose] public section

set_option maxRecDepth 16384

noncomputable section

namespace Cert.KernelIdeal.Gla

open Cert.KernelIdeal Cert.KernelIdeal.Gen Idealize.ShloMosaic Idealize.ShloMosaic.TcCoe Idealize.SL.Sem
open _root_.Gla

/-- The sum from a row to its chunk's end, from the running sums. -/
theorem suffix_sum (X : ℕ → ℝ) (i : Fin 128) :
    ∑ x ∈ Finset.range 128, X x - ∑ x ∈ Finset.range (i.val + 1), X x + X i.val = ∑ x ∈ Finset.range ((Fin.rev i).val + 1), X (127 - x) := by
  have h1 : ∑ x ∈ Finset.range 128, X x = ∑ x ∈ Finset.range i.val, X x + ∑ x ∈ Finset.range (128 - i.val), X (i.val + x) := by
    rw [← Finset.sum_range_add]; congr 2; omega
  have h2 : ∑ x ∈ Finset.range (128 - i.val), X (i.val + x) = ∑ x ∈ Finset.range ((Fin.rev i).val + 1), X (127 - x) := by
    have hr : (Fin.rev i).val + 1 = 128 - i.val := by simp [Fin.rev]; omega
    rw [hr, ← Finset.sum_range_reflect]
    refine Finset.sum_congr rfl fun x hx => congrArg X ?_
    have := Finset.mem_range.mp hx
    omega
  rw [h1, h2, Finset.sum_range_succ X i.val]; ring

section
variable (q k : FVec Ideal S16x2048x128 .f32) (f b lb : FVec Ideal S16x16x128x128 .f32) (s n : Fin 16) (i l : Fin 128)

theorem packL_q : packL q k f b lb (ix3 s (⟨128 * n.val + i.val, by omega⟩ : Fin 2048) (⟨0 + l.val, by omega⟩ : Fin 512))
    = q (ix3 s (⟨128 * n.val + i.val, by omega⟩ : Fin 2048) l) * Ideal.ofBits .f32 0x3E3504F3#32 := by
  pointwise [packL]

theorem packL_k : packL q k f b lb (ix3 s (⟨128 * n.val + i.val, by omega⟩ : Fin 2048) (⟨128 + l.val, by omega⟩ : Fin 512))
    = k (ix3 s (⟨128 * n.val + i.val, by omega⟩ : Fin 2048) l) := by
  pointwise [packL]

theorem packL_f : packL q k f b lb (ix3 s (⟨128 * n.val + i.val, by omega⟩ : Fin 2048) (⟨256 + l.val, by omega⟩ : Fin 512))
    = f (ix4 s n i l) := by
  pointwise [packL]
  rw [dif_neg (by omega), dif_neg (by omega), dif_pos (by omega)]
  congr 2; exact Fin.ext (by simp only []; omega)

theorem packL_b : packL q k f b lb (ix3 s (⟨128 * n.val + i.val, by omega⟩ : Fin 2048) (⟨384 + l.val, by omega⟩ : Fin 512))
    = b (ix4 s n 127 l) - b (ix4 s n i l) + lb (ix4 s n i l) := by
  pointwise [packL]
  rw [dif_neg (by omega), dif_neg (by omega), dif_neg (by omega)]
  have e : (⟨384 + l.val - 128 - 128 - 128, by omega⟩ : Fin 128) = l := Fin.ext (by simp only []; omega)
  rw [e]

end

theorem split_L (a : FVec Ideal S16x2048x128 .f32) (s n : Fin 16) (i l : Fin 128) :
    shapeCast S16x16x128x128 a shapeCasts_S16x2048x128_S16x16x128x128 (ix4 s n i l) = a (ix3 s (⟨128 * n.val + i.val, by omega⟩ : Fin 2048) l) := by
  pointwise
  congr 2; exact Fin.ext (by simp only []; omega)

theorem sums_L {a : FVec Ideal S16x2048x128 .f32} (ha : IsReal (S := S16x2048x128) a) (s n : Fin 16) (i l : Fin 128) :
    sumsL (shapeCast S16x16x128x128 a shapeCasts_S16x2048x128_S16x16x128x128) (ix4 s n i l)
      = ((∑ x ∈ Finset.range (i.val + 1), seq a s (128 * n.val + x) l : ℝ) : EReal) :=
  cumsum_apply rfl _ _ (fun j => by simp [broadcastInDim, constant, Ideal.ofBits_zero_f32]) _ _ s n l
    (X := fun x => seq a s (128 * n.val + x) l) (fun i => by rw [split_L]; exact seq_eq ha _ _ _) i

/-- The chunks a launch stages hold the batch entry's sequences. -/
theorem holdsL {q k f b : FVec Ideal S16x2048x128 .f32} {v : FVec Ideal S16x2048x256 .f32}
    (hq : IsReal (S := S16x2048x128) q) (hk : IsReal (S := S16x2048x128) k) (hf : IsReal (S := S16x2048x128) f) (hb : IsReal (S := S16x2048x128) b)
    (hv : IsReal (S := S16x2048x256) v) (s : Fin 16)
    {a : Memref sig .tc .vmem S1x2048x512 .f32} (ha : a.IsWhole) {a' : Memref sig .tc .vmem S1x2048x256 .bf16} (ha' : a'.IsWhole)
    {x : Vec Ideal S1x2048x512 .f32} {x' : Vec Ideal S1x2048x256 .bf16}
    (hx : ∀ (t : Fin 2048) (c : Fin 512), x (ix3 0 t c) = packL q k (sumsL (shapeCast S16x16x128x128 f shapeCasts_S16x2048x128_S16x16x128x128))
      (sumsL (shapeCast S16x16x128x128 b shapeCasts_S16x2048x128_S16x16x128x128)) (shapeCast S16x16x128x128 b shapeCasts_S16x2048x128_S16x16x128x128) (ix3 s t c))
    (hx' : ∀ (t : Fin 2048) (w : Fin 256), x' (ix3 0 t w) = v (ix3 s t w)) :
    Holds (streamL a ha a' ha' x x') (dirF q k v f s) (dirB q k v b s) := by
  have rd : ∀ (col : ℕ) (h : col + 128 ≤ 512) (n : Fin 16) (i l : Fin 128),
      partL a ha x col h n (ix3 0 i l) = x (ix3 0 (⟨128 * n.val + i.val, by omega⟩ : Fin 2048) (⟨col + l.val, by omega⟩ : Fin 512)) := by
    intro col h n i l
    unfold partL
    rw [View.readAt_eq_ld, ha.read_unread]
    refine congrArg x (funext fun e => ?_)
    fin_cases e <;> exact Fin.ext (by simp [Rect.unit, ix3, LoadRect.idx])
  have rv : ∀ (n : Fin 16) (i : Fin 128) (w : Fin 256),
      (streamL a ha a' ha' x x').v n (ix3 0 i w) = (seq v s (128 * n.val + i.val) w : EReal) := by
    intro n i w
    refine (read_chunk (T := 2048) (N := 16) rfl ha' x' n _ i w).trans ?_
    rw [hx']; exact seq_eq hv _ _ _
  have rq : ∀ (n : Fin 16) (i l : Fin 128),
      (streamL a ha a' ha' x x').q n (ix3 0 i l) = ((seq q s (128 * n.val + i.val) l * scale : ℝ) : EReal) := by
    intro n i l
    refine (rd 0 (by decide) n i l).trans ?_
    rw [hx, packL_q, seq_eq hq, ofBits_scale, EReal.coe_mul]
  have rk : ∀ (n : Fin 16) (i l : Fin 128),
      (streamL a ha a' ha' x x').k n (ix3 0 i l) = (seq k s (128 * n.val + i.val) l : EReal) := by
    intro n i l
    refine (rd 128 (by decide) n i l).trans ?_
    rw [hx, packL_k, seq_eq hk]
  have tb : ∀ (n : Fin 16) (i : Fin 128), 2048 - 1 - (128 * (16 - 1 - n.val) + (Fin.rev i).val) = 128 * n.val + i.val := by
    intro n i; simp only [Fin.val_rev]; omega
  refine ⟨rq, rk, rv, ?_, ?_, ?_, ?_, ?_⟩
  · intro n i l
    refine (rd 256 (by decide) n i l).trans ?_
    rw [hx, packL_f, sums_L hf]; rfl
  · intro n i l; rw [rq, dirB]; simp only [tb]
  · intro n i l; rw [rk, dirB]; simp only [tb]
  · intro n i w; rw [rv, dirB]; simp only [tb]
  · intro n i l
    refine (rd 384 (by decide) n i l).trans ?_
    rw [hx, packL_b, sums_L hb, sums_L hb, split_L, seq_eq hb, ← EReal.coe_sub, ← EReal.coe_add]
    refine congrArg _ ((suffix_sum (fun x => seq b s (128 * n.val + x) l) i).trans ?_)
    refine Finset.sum_congr rfl fun y hy => ?_
    have := Finset.mem_range.mp hy
    simp only [dirB, Fin.val_rev] at this ⊢
    congr 1; omega

section
variable (q k : FVec Ideal S16x256x128 .f32) (f b lb : FVec Ideal S16x2x128x128 .f32) (s : Fin 16) (n : Fin 2) (i l : Fin 128)

theorem packC_q : packC q k f b lb (ix3 s (⟨128 * n.val + i.val, by omega⟩ : Fin 256) (⟨0 + l.val, by omega⟩ : Fin 512))
    = q (ix3 s (⟨128 * n.val + i.val, by omega⟩ : Fin 256) l) * Ideal.ofBits .f32 0x3E3504F3#32 := by
  pointwise [packC]

theorem packC_k : packC q k f b lb (ix3 s (⟨128 * n.val + i.val, by omega⟩ : Fin 256) (⟨128 + l.val, by omega⟩ : Fin 512))
    = k (ix3 s (⟨128 * n.val + i.val, by omega⟩ : Fin 256) l) := by
  pointwise [packC]

theorem packC_f : packC q k f b lb (ix3 s (⟨128 * n.val + i.val, by omega⟩ : Fin 256) (⟨256 + l.val, by omega⟩ : Fin 512))
    = f (ix4 s n i l) := by
  pointwise [packC]
  rw [dif_neg (by omega), dif_neg (by omega), dif_pos (by omega)]
  congr 2; exact Fin.ext (by simp only []; omega)

theorem packC_b : packC q k f b lb (ix3 s (⟨128 * n.val + i.val, by omega⟩ : Fin 256) (⟨384 + l.val, by omega⟩ : Fin 512))
    = b (ix4 s n 127 l) - b (ix4 s n i l) + lb (ix4 s n i l) := by
  pointwise [packC]
  rw [dif_neg (by omega), dif_neg (by omega), dif_neg (by omega)]
  have e : (⟨384 + l.val - 128 - 128 - 128, by omega⟩ : Fin 128) = l := Fin.ext (by simp only []; omega)
  rw [e]

end

theorem split_C (a : FVec Ideal S16x256x128 .f32) (s : Fin 16) (n : Fin 2) (i l : Fin 128) :
    shapeCast S16x2x128x128 a shapeCasts_S16x256x128_S16x2x128x128 (ix4 s n i l) = a (ix3 s (⟨128 * n.val + i.val, by omega⟩ : Fin 256) l) := by
  pointwise
  congr 2; exact Fin.ext (by simp only []; omega)

theorem sums_C {a : FVec Ideal S16x256x128 .f32} (ha : IsReal (S := S16x256x128) a) (s : Fin 16) (n : Fin 2) (i l : Fin 128) :
    sumsC (shapeCast S16x2x128x128 a shapeCasts_S16x256x128_S16x2x128x128) (ix4 s n i l)
      = ((∑ x ∈ Finset.range (i.val + 1), seq a s (128 * n.val + x) l : ℝ) : EReal) :=
  cumsum_apply rfl _ _ (fun j => by simp [broadcastInDim, constant, Ideal.ofBits_zero_f32]) _ _ s n l
    (X := fun x => seq a s (128 * n.val + x) l) (fun i => by rw [split_C]; exact seq_eq ha _ _ _) i

/-- The chunks a launch stages hold the batch entry's sequences. -/
theorem holdsC {q k f b : FVec Ideal S16x256x128 .f32} {v : FVec Ideal S16x256x256 .f32}
    (hq : IsReal (S := S16x256x128) q) (hk : IsReal (S := S16x256x128) k) (hf : IsReal (S := S16x256x128) f) (hb : IsReal (S := S16x256x128) b)
    (hv : IsReal (S := S16x256x256) v) (s : Fin 16)
    {a : Memref sig .tc .vmem S1x256x512 .f32} (ha : a.IsWhole) {a' : Memref sig .tc .vmem S1x256x256 .bf16} (ha' : a'.IsWhole)
    {x : Vec Ideal S1x256x512 .f32} {x' : Vec Ideal S1x256x256 .bf16}
    (hx : ∀ (t : Fin 256) (c : Fin 512), x (ix3 0 t c) = packC q k (sumsC (shapeCast S16x2x128x128 f shapeCasts_S16x256x128_S16x2x128x128))
      (sumsC (shapeCast S16x2x128x128 b shapeCasts_S16x256x128_S16x2x128x128)) (shapeCast S16x2x128x128 b shapeCasts_S16x256x128_S16x2x128x128) (ix3 s t c))
    (hx' : ∀ (t : Fin 256) (w : Fin 256), x' (ix3 0 t w) = v (ix3 s t w)) :
    Holds (streamC a ha a' ha' x x') (dirF q k v f s) (dirB q k v b s) := by
  have rd : ∀ (col : ℕ) (h : col + 128 ≤ 512) (n : Fin 2) (i l : Fin 128),
      partC a ha x col h n (ix3 0 i l) = x (ix3 0 (⟨128 * n.val + i.val, by omega⟩ : Fin 256) (⟨col + l.val, by omega⟩ : Fin 512)) := by
    intro col h n i l
    unfold partC
    rw [View.readAt_eq_ld, ha.read_unread]
    refine congrArg x (funext fun e => ?_)
    fin_cases e <;> exact Fin.ext (by simp [Rect.unit, ix3, LoadRect.idx])
  have rv : ∀ (n : Fin 2) (i : Fin 128) (w : Fin 256),
      (streamC a ha a' ha' x x').v n (ix3 0 i w) = (seq v s (128 * n.val + i.val) w : EReal) := by
    intro n i w
    refine (read_chunk (T := 256) (N := 2) rfl ha' x' n _ i w).trans ?_
    rw [hx']; exact seq_eq hv _ _ _
  have rq : ∀ (n : Fin 2) (i l : Fin 128),
      (streamC a ha a' ha' x x').q n (ix3 0 i l) = ((seq q s (128 * n.val + i.val) l * scale : ℝ) : EReal) := by
    intro n i l
    refine (rd 0 (by decide) n i l).trans ?_
    rw [hx, packC_q, seq_eq hq, ofBits_scale, EReal.coe_mul]
  have rk : ∀ (n : Fin 2) (i l : Fin 128),
      (streamC a ha a' ha' x x').k n (ix3 0 i l) = (seq k s (128 * n.val + i.val) l : EReal) := by
    intro n i l
    refine (rd 128 (by decide) n i l).trans ?_
    rw [hx, packC_k, seq_eq hk]
  have tb : ∀ (n : Fin 2) (i : Fin 128), 256 - 1 - (128 * (2 - 1 - n.val) + (Fin.rev i).val) = 128 * n.val + i.val := by
    intro n i; simp only [Fin.val_rev]; omega
  refine ⟨rq, rk, rv, ?_, ?_, ?_, ?_, ?_⟩
  · intro n i l
    refine (rd 256 (by decide) n i l).trans ?_
    rw [hx, packC_f, sums_C hf]; rfl
  · intro n i l; rw [rq, dirB]; simp only [tb]
  · intro n i l; rw [rk, dirB]; simp only [tb]
  · intro n i w; rw [rv, dirB]; simp only [tb]
  · intro n i l
    refine (rd 384 (by decide) n i l).trans ?_
    rw [hx, packC_b, sums_C hb, sums_C hb, split_C, seq_eq hb, ← EReal.coe_sub, ← EReal.coe_add]
    refine congrArg _ ((suffix_sum (fun x => seq b s (128 * n.val + x) l) i).trans ?_)
    refine Finset.sum_congr rfl fun y hy => ?_
    have := Finset.mem_range.mp hy
    simp only [dirB, Fin.val_rev] at this ⊢
    congr 1; omega

end Cert.KernelIdeal.Gla

end
-- ==== Proof.Gla.Result.lean ====
/- The layer's two results as functions of its arguments, over the reals. -/
module

public import proofs.«01_k».proof.Proof.Gla.Spec

@[expose] public section

noncomputable section

namespace Gla

open Idealize.ShloMosaic

/-- The arguments: queries, keys, values, gates and the two directions' log decays of the latent tokens and of the context, and the gains. -/
structure Args where
  q : FVec Ideal ⟨3, ![16, 2048, 128]⟩ .f32
  k : FVec Ideal ⟨3, ![16, 2048, 128]⟩ .f32
  v : FVec Ideal ⟨3, ![16, 2048, 256]⟩ .f32
  r : FVec Ideal ⟨3, ![16, 2048, 256]⟩ .f32
  f : FVec Ideal ⟨3, ![16, 2048, 128]⟩ .f32
  b : FVec Ideal ⟨3, ![16, 2048, 128]⟩ .f32
  cq : FVec Ideal ⟨3, ![16, 256, 128]⟩ .f32
  ck : FVec Ideal ⟨3, ![16, 256, 128]⟩ .f32
  cv : FVec Ideal ⟨3, ![16, 256, 256]⟩ .f32
  cr : FVec Ideal ⟨3, ![16, 256, 256]⟩ .f32
  cf : FVec Ideal ⟨3, ![16, 256, 128]⟩ .f32
  cb : FVec Ideal ⟨3, ![16, 256, 128]⟩ .f32
  g : FVec Ideal ⟨2, ![4, 256]⟩ .f32

namespace Args

/-- What the recurrence meets is real. -/
structure AllReal (A : Args) : Prop where
  q : IsReal A.q
  k : IsReal A.k
  v : IsReal A.v
  f : IsReal A.f
  b : IsReal A.b
  cq : IsReal A.cq
  ck : IsReal A.ck
  cv : IsReal A.cv
  cf : IsReal A.cf
  cb : IsReal A.cb

variable (A : Args) (s : Fin 16)

abbrev fl : Dir := dirF A.q A.k A.v A.f s
abbrev bl : Dir := dirB A.q A.k A.v A.b s
abbrev fc : Dir := dirF A.cq A.ck A.cv A.cf s
abbrev bc : Dir := dirB A.cq A.ck A.cv A.cb s

/-- The latent tokens' result: each direction starts from the state the context leaves it. -/
def latent (t : Fin 2048) (w : Fin 256) : EReal :=
  answer (fun w => dirOut (A.fl s) (A.bl s) ((A.fc s).st 0 256) ((A.bc s).st 0 256) 2048 0 t.val w
      + dirOut (A.fl s) (A.bl s) ((A.fc s).st 0 256) ((A.bc s).st 0 256) 2048 1 t.val w)
    (A.g (ix2 0 w)) (A.r (ix3 s t w)) w

/-- The context's result: each direction starts from nothing. -/
def context (t w : Fin 256) : EReal :=
  answer (fun w => dirOut (A.fc s) (A.bc s) 0 0 256 0 t.val w + dirOut (A.fc s) (A.bc s) 0 0 256 1 t.val w)
    (A.g (ix2 0 w)) (A.cr (ix3 s t w)) w

end Args

end Gla

end
-- ==== Proof.Gla.Launch.lean ====
/- The kernel's two results, entry by entry, from its arguments. -/
module

public import proofs.«01_k».proof.Proof.Gla.Packed
public import proofs.«01_k».proof.Proof.Gla.Result

@[expose] public section

set_option maxRecDepth 16384

noncomputable section

namespace Cert.KernelIdeal.Gla

open Cert.KernelIdeal Cert.KernelIdeal.Gen Idealize.ShloMosaic Idealize.ShloMosaic.TcCoe Idealize.SL.Sem
open _root_.Gla

variable (m : (ℓ : Loc nD τ sig) → Buf (Elt Ideal) ℓ) (c : Dev nD)

/-- A point's windows are at its batch entry. -/
theorem idx (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![0, 0, 0] ∧ win0_7.index t = ![t.val, 0, 0] ∧ win0_8.index t = ![t.val, 0, 0] := by
  revert t; decide +kernel

theorem blk0 (t : Fin cfg0.N) (p : Fin 2048) (l : Fin 512) : iblk m c 0 t (ix3 0 p l) = V m c main_v13 (ix3 (⟨t.val, t.isLt⟩ : Fin 16) p l) := by
  have h := idx t
  blk_ext [iblk, h]

theorem blk1 (t : Fin cfg0.N) (p : Fin 2048) (l : Fin 256) : iblk m c 1 t (ix3 0 p l) = V m c main_v14 (ix3 (⟨t.val, t.isLt⟩ : Fin 16) p l) := by
  have h := idx t
  blk_ext [iblk, h]

theorem blk2 (t : Fin cfg0.N) (p : Fin 2048) (l : Fin 256) : iblk m c 2 t (ix3 0 p l) = V m c main_v15 (ix3 (⟨t.val, t.isLt⟩ : Fin 16) p l) := by
  have h := idx t
  blk_ext [iblk, h]

theorem blk3 (t : Fin cfg0.N) (p : Fin 256) (l : Fin 512) : iblk m c 3 t (ix3 0 p l) = V m c main_v29 (ix3 (⟨t.val, t.isLt⟩ : Fin 16) p l) := by
  have h := idx t
  blk_ext [iblk, h]

theorem blk4 (t : Fin cfg0.N) (p : Fin 256) (l : Fin 256) : iblk m c 4 t (ix3 0 p l) = V m c main_v30 (ix3 (⟨t.val, t.isLt⟩ : Fin 16) p l) := by
  have h := idx t
  blk_ext [iblk, h]

theorem blk5 (t : Fin cfg0.N) (p : Fin 256) (l : Fin 256) : iblk m c 5 t (ix3 0 p l) = V m c main_v31 (ix3 (⟨t.val, t.isLt⟩ : Fin 16) p l) := by
  have h := idx t
  blk_ext [iblk, h]

theorem blk6 (t : Fin cfg0.N) (w : Fin 256) : iblk m c 6 t (ix3 0 0 w) = V m c main_v32 (ix3 (0 : Fin 4) 0 w) := by
  have h := idx t
  blk_ext [iblk, h]

/-- The arguments at a launch. -/
def args : Args where
  q := m ((c : Thread nD τ).loc main_arg0)
  k := m ((c : Thread nD τ).loc main_arg1)
  v := m ((c : Thread nD τ).loc main_arg2)
  r := m ((c : Thread nD τ).loc main_arg3)
  f := m ((c : Thread nD τ).loc main_arg4)
  b := m ((c : Thread nD τ).loc main_arg5)
  cq := m ((c : Thread nD τ).loc main_arg6)
  ck := m ((c : Thread nD τ).loc main_arg7)
  cv := m ((c : Thread nD τ).loc main_arg8)
  cr := m ((c : Thread nD τ).loc main_arg9)
  cf := m ((c : Thread nD τ).loc main_arg10)
  cb := m ((c : Thread nD τ).loc main_arg11)
  g := m ((c : Thread nD τ).loc main_arg12)

theorem at_v14 (s : Fin 16) (p : Fin 2048) (w : Fin 256) : V m c main_v14 (ix3 s p w) = (args m c).v (ix3 s p w) := by rw [V_v14]; rfl
theorem at_v15 (s : Fin 16) (p : Fin 2048) (w : Fin 256) : V m c main_v15 (ix3 s p w) = (args m c).r (ix3 s p w) := by rw [V_v15]; rfl
theorem at_v30 (s : Fin 16) (p : Fin 256) (w : Fin 256) : V m c main_v30 (ix3 s p w) = (args m c).cv (ix3 s p w) := by rw [V_v30]; rfl
theorem at_v31 (s : Fin 16) (p : Fin 256) (w : Fin 256) : V m c main_v31 (ix3 s p w) = (args m c).cr (ix3 s p w) := by rw [V_v31]; rfl
theorem at_v32 (w : Fin 256) : V m c main_v32 (ix3 (0 : Fin 4) 0 w) = (args m c).g (ix2 0 w) := by
  rw [V_v32]; pointwise; rfl

/-- The results as arrays. -/
def latentArray (A : Args) : FVec Ideal S16x2048x256 .bf16 := fun y => A.latent (y 0) (y 1) (y 2)
def contextArray (A : Args) : FVec Ideal S16x256x256 .bf16 := fun y => A.context (y 0) (y 1) (y 2)

variable {m c} (hA : (args m c).AllReal)
include hA

/-- The latent chunks at a point. -/
theorem holds_lat (t : Fin cfg0.N) : Holds (streamL (ms0_0 t) (hs0_0 t) (ms0_1 t) (hs0_1 t) (iblk m c 0 t) (iblk m c 1 t))
    ((args m c).fl ⟨t.val, t.isLt⟩) ((args m c).bl ⟨t.val, t.isLt⟩) :=
  holdsL hA.q hA.k hA.f hA.b hA.v ⟨t.val, t.isLt⟩ (hs0_0 t) (hs0_1 t) (fun p l => by rw [blk0, V_v13]; rfl)
    (fun p w => by rw [blk1, at_v14])

/-- The context's. -/
theorem holds_ctx (t : Fin cfg0.N) : Holds (streamC (ms0_3 t) (hs0_3 t) (ms0_4 t) (hs0_4 t) (iblk m c 3 t) (iblk m c 4 t))
    ((args m c).fc ⟨t.val, t.isLt⟩) ((args m c).bc ⟨t.val, t.isLt⟩) :=
  holdsC hA.cq hA.ck hA.cf hA.cb hA.cv ⟨t.val, t.isLt⟩ (hs0_3 t) (hs0_4 t) (fun p l => by rw [blk3, V_v29]; rfl)
    (fun p w => by rw [blk4, at_v30])

/-- The latent result's array after the launch, -/
theorem final_lat : (dats m 0 c).arrAt 7 cfg0.N = latentArray (args m c) := by
  refine (dats m 0 c).arrAt_eq_of_covers 7 _ (by decide +kernel) fun t hf y => ?_
  refine (congrFun (Value.flushed7_A m c t) y).trans ?_
  obtain ⟨p, w, rfl⟩ : ∃ (p : Fin 2048) (w : Fin 256), y = ix3 0 p w := by
    refine ⟨y 1, y 2, ?_⟩
    conv_lhs => rw [ix3_eta (a := 1) (b := 2048) (c := 256) y]
    congr 1; exact Subsingleton.elim (α := Fin 1) _ _
  refine (out_lat c (grid0.coords t) _ _ _ _ _ _ _ _ _ _ _ _ _ _ _ _ _ _ _ _ _ _ _ _ _ _ _ _ _ _ _ (holds_ctx hA t) (holds_lat hA t) p w).trans ?_
  rw [blk2, blk6, at_v15, at_v32]
  have h := idx t
  have e : ((cfg0.win 7).blk t).view.emb (ix3 0 p w) = ix3 (⟨t.val, t.isLt⟩ : Fin 16) p w := by blk_ext [h]
  exact (congrArg (latentArray (args m c)) e).symm

/-- and the context's. -/
theorem final_ctx : (dats m 0 c).arrAt 8 cfg0.N = contextArray (args m c) := by
  refine (dats m 0 c).arrAt_eq_of_covers 8 _ (by decide +kernel) fun t hf y => ?_
  refine (congrFun (Value.flushed8_A m c t) y).trans ?_
  obtain ⟨p, w, rfl⟩ : ∃ (p : Fin 256) (w : Fin 256), y = ix3 0 p w := by
    refine ⟨y 1, y 2, ?_⟩
    conv_lhs => rw [ix3_eta (a := 1) (b := 256) (c := 256) y]
    congr 1; exact Subsingleton.elim (α := Fin 1) _ _
  refine (out_ctx c (grid0.coords t) _ _ _ _ _ _ _ _ _ _ _ _ _ _ _ _ _ _ _ _ _ _ _ _ _ _ _ _ _ _ _ (holds_ctx hA t) p w).trans ?_
  rw [blk5, blk6, at_v31, at_v32]
  have h := idx t
  have e : ((cfg0.win 8).blk t).view.emb (ix3 0 p w) = ix3 (⟨t.val, t.isLt⟩ : Fin 16) p w := by blk_ext [h]
  exact (congrArg (contextArray (args m c)) e).symm

end Cert.KernelIdeal.Gla

end
-- ==== Proof.Gla.Heads.lean ====
/- A head's recurrence in its own lanes: what one row of scores, masked, gives when each is a product of a query and a key with the decays
   split between them, and what the tokens leave in the state. -/
module

public import proofs.«01_k».proof.Proof.Gla.Spec

@[expose] public section

noncomputable section

namespace Gla

open Idealize.ShloMosaic

/-- Lane `d` of head `h`, of `m` lanes a head. -/
def lane {m : ℕ} (h : Fin 4) (d : Fin m) : Fin (4 * m) := ⟨h.val * m + d.val, by
  have := h.isLt; have := d.isLt; nlinarith⟩

theorem sum_head {m : ℕ} (h : Fin 4) (X : Fin (4 * m) → ℝ) :
    ∑ l : Fin (4 * m), (if l.val / m = h.val then X l else 0) = ∑ d : Fin m, X (lane h d) := by
  rw [← Equiv.sum_comp finProdFinEquiv, Fintype.sum_prod_type, Finset.sum_eq_single h]
  · refine Finset.sum_congr rfl fun d _ => ?_
    have hm : 0 < m := d.pos
    have e : (finProdFinEquiv (h, d)).val = d.val + m * h.val := rfl
    rw [if_pos (by rw [e, Nat.add_mul_div_left _ _ hm, Nat.div_eq_of_lt d.isLt, zero_add])]
    exact congrArg X (Fin.ext (by rw [e]; simp only [lane]; ring))
  · intro a _ hne
    refine Finset.sum_eq_zero fun d _ => if_neg ?_
    have hm : 0 < m := d.pos
    have e : (finProdFinEquiv (a, d)).val = d.val + m * a.val := rfl
    rw [e, Nat.add_mul_div_left _ _ hm, Nat.div_eq_of_lt d.isLt, zero_add]
    exact fun he => hne (Fin.ext he)
  · intro hn; exact absurd (Finset.mem_univ h) hn

/-- The lanes of a head among the keys' 128, and among the values' 256. -/
abbrev kl (h : Fin 4) (d : Fin 32) : Fin 128 := lane h d
abbrev vl (h : Fin 4) (v : Fin 64) : Fin 256 := lane h v

theorem vl_div (h : Fin 4) (v : Fin 64) : (vl h v).val / 64 = h.val := by simp only [vl, lane]; omega
theorem kl_div (h : Fin 4) (d : Fin 32) : (kl h d).val / 32 = h.val := by simp only [kl, lane]; omega

theorem same_lane (h : Fin 4) (v : Fin 64) (d : Fin 32) : same (vl h v) (kl h d) = 1 := by
  unfold same; rw [if_pos (by rw [vl_div, kl_div])]

theorem sum_same (h : Fin 4) (v : Fin 64) (X : Fin 128 → ℝ) : ∑ l, same (vl h v) l * X l = ∑ d, X (kl h d) := by
  refine Eq.trans ?_ (sum_head (m := 32) h X)
  refine Finset.sum_congr rfl fun l _ => ?_
  unfold same
  rw [vl_div]
  by_cases hl : l.val / 32 = h.val
  · rw [if_pos hl.symm, if_pos hl, one_mul]
  · rw [if_neg fun e => hl e.symm, if_neg hl, zero_mul]

/-- A state with nothing between different heads. -/
def Split (H : Fin 256 → Fin 128 → ℝ) : Prop := ∀ w l, w.val / 64 ≠ l.val / 32 → H w l = 0

theorem split_zero : Split 0 := fun _ _ _ => rfl

theorem split_st (d : Dir) {H : Fin 256 → Fin 128 → ℝ} (hH : Split H) (n : ℕ) : Split (d.st H n) := by
  intro w l h
  unfold Dir.st state
  rw [hH w l h, same, if_neg h]; ring

theorem same_mul {H : Fin 256 → Fin 128 → ℝ} (hH : Split H) (w : Fin 256) (l : Fin 128) : H w l = same w l * H w l := by
  unfold same
  by_cases h : w.val / 64 = l.val / 32
  · rw [if_pos h, one_mul]
  · rw [if_neg h, hH w l h, mul_zero]

/-- A sum over the tokens of which the first `n` count. -/
theorem sum_first {T n : ℕ} (hn : n ≤ T) (X : ℕ → ℝ) : ∑ j : Fin T, (if j.val < n then X j.val else 0) = ∑ p ∈ Finset.range n, X p := by
  rw [Fin.sum_univ_eq_sum_range (fun j => if j < n then X j else 0) T, ← Finset.sum_filter]
  refine Finset.sum_congr (Finset.ext fun x => ?_) fun _ _ => rfl
  simp; omega

theorem select_one {α : Type} (a b : α) : Scalar.select (1 : BitVec 1) a b = a := rfl
theorem select_zero {α : Type} (a b : α) : Scalar.select (0 : BitVec 1) a b = b := rfl

section
variable {T : ℕ} (D : Dir) {H0 : Fin 256 → Fin 128 → ℝ} (h : Fin 4) (v : Fin 64)
  {k b : Fin T → Fin 32 → EReal} {x : Fin T → EReal}
  (hk : ∀ j d, k j d = (D.K j.val (kl h d) : EReal))
  (hb : ∀ j d, b j d = ((∑ i ∈ Finset.range (j.val + 1), D.L i (kl h d) : ℝ) : EReal))
  (hx : ∀ j, x j = (D.V j.val (vl h v) : EReal))
include hk hb hx

theorem row_out (hH : Split H0) {e : ℕ} (he : e ≤ 1) (t : Fin T) {q : Fin 32 → EReal} {M : Fin T → BitVec 1} {z : EReal} {H : Fin 32 → EReal}
    (hq : ∀ d, q d = (D.Q t.val (kl h d) : EReal)) (hS : ∀ d, H d = (H0 (vl h v) (kl h d) : EReal))
    (hM : ∀ j, M j = if j.val < t.val + e then 1 else 0) (hz : z = 0) :
    ∑ j, Scalar.select (M j) (∑ d, q d * Ideal.exp (b t d) * (k j d * Ideal.exp (-b j d))) z * x j
      + ∑ d, q d * Ideal.exp (b t d) * H d = (D.out H0 e t.val (vl h v) : EReal) := by
  let P : ℕ → ℝ := fun p => (∑ l, same (vl h v) l * (D.Q t.val l * D.K p l
    * Real.exp (decay (fun s => D.L s l) (t.val + 1) - decay (fun s => D.L s l) (p + 1)))) * D.V p (vl h v)
  have h1 : ∀ j : Fin T, Scalar.select (M j) (∑ d, q d * Ideal.exp (b t d) * (k j d * Ideal.exp (-b j d))) z * x j
      = ((if j.val < t.val + e then P j.val else 0 : ℝ) : EReal) := by
    intro j
    rw [hM, coe_ite]
    by_cases hj : j.val < t.val + e
    · rw [if_pos hj, if_pos hj, hx, EReal.coe_mul, sum_same, coe_sum, select_one]
      congr 1
      refine Finset.sum_congr rfl fun d _ => ?_
      rw [hq, hk, hb, hb, ← EReal.coe_neg, Ideal.exp_coe, Ideal.exp_coe, ← EReal.coe_mul, ← EReal.coe_mul, ← EReal.coe_mul, sub_eq_add_neg,
        Real.exp_add]
      congr 1; unfold decay; ring
    · rw [if_neg hj, if_neg hj, hz, select_zero, zero_mul]
  have h2 : ∑ d, q d * Ideal.exp (b t d) * H d
      = ((∑ l, D.Q t.val l * Real.exp (decay (fun s => D.L s l) (t.val + 1)) * H0 (vl h v) l : ℝ) : EReal) := by
    have e2 : ∀ l, D.Q t.val l * Real.exp (decay (fun s => D.L s l) (t.val + 1)) * H0 (vl h v) l
        = same (vl h v) l * (D.Q t.val l * Real.exp (decay (fun s => D.L s l) (t.val + 1)) * H0 (vl h v) l) := by
      intro l; conv_lhs => rw [same_mul hH]
      ring
    rw [Finset.sum_congr rfl fun l _ => e2 l, sum_same, coe_sum]
    refine Finset.sum_congr rfl fun d _ => ?_
    rw [hq, hb, hS, Ideal.exp_coe, ← EReal.coe_mul, ← EReal.coe_mul]
    rfl
  rw [Finset.sum_congr rfl fun j _ => h1 j, h2, ← coe_sum, ← EReal.coe_add, sum_first (by have := t.isLt; omega) P, add_comm]
  rfl

theorem row_state (d : Fin 32) {bT : EReal} (hT : bT = ((∑ i ∈ Finset.range T, D.L i (kl h d) : ℝ) : EReal)) :
    ∑ j, k j d * Ideal.exp (bT - b j d) * x j = (D.st 0 T (vl h v) (kl h d) : EReal) := by
  unfold Dir.st state
  rw [same_lane, one_mul, Pi.zero_apply, Pi.zero_apply, zero_mul, zero_add,
    ← Fin.sum_univ_eq_sum_range (fun p => D.V p (vl h v) * (D.K p (kl h d) * Real.exp (decay (fun s => D.L s (kl h d)) T - decay (fun s => D.L s (kl h d)) (p + 1)))) T,
    coe_sum]
  refine Finset.sum_congr rfl fun j _ => ?_
  rw [hk, hb, hx, hT, ← EReal.coe_sub, Ideal.exp_coe, ← EReal.coe_mul, ← EReal.coe_mul, mul_comm]
  rfl

end

/-- The mean over a head, from its own lanes. -/
theorem headMean_eq (S : Fin 256 → ℝ) (h : Fin 4) (v : Fin 64) :
    Ideal.div (∑ x : Fin 64, ((S (vl h x) : EReal) * (S (vl h x) : EReal))) ((64 : ℝ) : EReal) = (headMean S (vl h v) : EReal) := by
  have e : headMean S (vl h v) = (∑ x : Fin 64, S (vl h x) * S (vl h x)) / 64 := by
    unfold headMean
    rw [vl_div, Finset.sum_div]
    refine Eq.trans ?_ (sum_head (m := 64) h fun x => S x * S x / 64)
    refine Finset.sum_congr rfl fun x _ => ?_
    split_ifs <;> ring
  rw [e, Ideal.div_coe (by norm_num), div_eq_mul_one_div (∑ x : Fin 64, S (vl h x) * S (vl h x)), EReal.coe_mul, coe_sum]
  simp only [EReal.coe_mul]

end Gla

end
-- ==== Proof.Gla.RefRead.lean ====
/- The reference's arrays over heads, entry by entry: its queries, keys, values and running sums of log decays are the sequences the
   recurrence meets, forwards and from the last token. -/
module

public import proofs.«01_k».proof.Proof.Gla.Prefix
public import proofs.«01_k».proof.Proof.Gla.Result
public import proofs.«01_k».proof.Proof.Gla.Heads
public import proofs.«01_k».proof.Proof.Gen.ReferenceIdeal.Read

@[expose] public section

set_option maxRecDepth 16384

noncomputable section

namespace Cert.ReferenceIdeal.Gla

open Cert.ReferenceIdeal Cert.ReferenceIdeal.Gen Cert.ReferenceIdeal.Read Idealize.ShloMosaic Idealize.SL.Sem
open _root_.Gla

/-- An array over heads from its last token. -/
theorem reverse_apply {T W : ℕ} (x : FVec Ideal ⟨4, ![16, 4, T, W]⟩ .f32) (s : Fin 16) (h : Fin 4) (t : Fin T) (d : Fin W) :
    Host.reverse (s := ⟨4, ![16, 4, T, W]⟩) [2] x (ix4 s h t d) = x (ix4 s h t.rev d) := by
  unfold Host.reverse
  refine congrArg x (funext fun a => ?_)
  fin_cases a <;> rfl

theorem rev_eq {T : ℕ} (t : Fin T) : T - 1 - t.val = t.rev.val := by rw [Fin.val_rev]; omega

theorem word_int {n : ℕ} (hn : n < 2048) : (BitVec.ofNat 32 n).toInt = n := by
  rw [BitVec.toInt_eq_toNat_of_lt (by rw [BitVec.toNat_ofNat]; omega), BitVec.toNat_ofNat]; omega

/-- The order of two tokens, as words. -/
theorem word_le {x t : ℕ} (hx : x < 2048) (ht : t < 2048) :
    IntOp.cmpi .sle (BitVec.ofNat 32 x) (BitVec.ofNat 32 t) = if x < t + 1 then 1 else 0 := by
  have e : IntOp.cmpi .sle (BitVec.ofNat 32 x) (BitVec.ofNat 32 t) = BitVec.ofBool (decide ((x : ℤ) ≤ t)) := by
    simp only [IntOp.cmpi, BitVec.sle, word_int hx, word_int ht]
  rw [e]
  by_cases h : x < t + 1
  · rw [if_pos h, decide_eq_true (by omega)]; rfl
  · rw [if_neg h, decide_eq_false (by omega)]; rfl

theorem word_lt {x t : ℕ} (hx : x < 2048) (ht : t < 2048) :
    IntOp.cmpi .slt (BitVec.ofNat 32 x) (BitVec.ofNat 32 t) = if x < t + 0 then 1 else 0 := by
  have e : IntOp.cmpi .slt (BitVec.ofNat 32 x) (BitVec.ofNat 32 t) = BitVec.ofBool (decide ((x : ℤ) < t)) := by
    simp only [IntOp.cmpi, BitVec.slt, word_int hx, word_int ht]
  rw [e]
  by_cases h : x < t + 0
  · rw [if_pos h, decide_eq_true (by omega)]; rfl
  · rw [if_neg h, decide_eq_false (by omega)]; rfl

section
variable {A : Args} (hA : A.AllReal) (s : Fin 16) (h : Fin 4)
include hA

section
variable (t : Fin 256) (d : Fin 32) (v : Fin 64)

theorem c_q : val_main_v15 (F := Ideal) A.cq (ix4 s h t d) = ((A.fc s).Q t.val (kl h d) : EReal) := by
  pointwise [val_main_v15, val_main_v14, val_main_v13, val_main_v12, val_main_cst_0]
  refine (congrArg (· * _) (seq_eq hA.cq s t (kl h d))).trans ?_
  rw [ofBits_scale, ← EReal.coe_mul]; rfl

theorem c_k : val_main_v17 (F := Ideal) A.ck (ix4 s h t d) = ((A.fc s).K t.val (kl h d) : EReal) := by
  pointwise [val_main_v17, val_main_v16]
  exact seq_eq hA.ck s t (kl h d)

theorem c_v : val_main_v19 (F := Ideal) A.cv (ix4 s h t v) = ((A.fc s).V t.val (vl h v) : EReal) := by
  pointwise [val_main_v19, val_main_v18]
  exact seq_eq hA.cv s t (vl h v)

theorem c_f : val_main_v21 (F := Ideal) A.cf (ix4 s h t d) = ((A.fc s).L t.val (kl h d) : EReal) := by
  pointwise [val_main_v21, val_main_v20]
  exact seq_eq hA.cf s t (kl h d)

theorem c_b : val_main_v23 (F := Ideal) A.cb (ix4 s h t d) = (seq A.cb s t.val (kl h d) : EReal) := by
  pointwise [val_main_v23, val_main_v22]
  exact seq_eq hA.cb s t (kl h d)

theorem c_sum : val_main_v42 (F := Ideal) A.cf (ix4 s h t d) = ((∑ i ∈ Finset.range (t.val + 1), (A.fc s).L i (kl h d) : ℝ) : EReal) :=
  cumsum_apply rfl _ _ (fun j => by simp [val_main_call5_call0_v0, val_main_call5_call0_cst, broadcastInDim, constant, Ideal.ofBits_zero_f32])
    _ _ s h d (X := fun i => (A.fc s).L i (kl h d)) (fun i => c_f hA s h i d) t

theorem c_rq : val_main_v59 (F := Ideal) A.cq (ix4 s h t d) = ((A.bc s).Q t.val (kl h d) : EReal) :=
  (reverse_apply _ s h t d).trans ((c_q hA s h t.rev d).trans (by simp only [Args.fc, Args.bc, dirF, dirB, rev_eq]))

theorem c_rk : val_main_v60 (F := Ideal) A.ck (ix4 s h t d) = ((A.bc s).K t.val (kl h d) : EReal) :=
  (reverse_apply _ s h t d).trans ((c_k hA s h t.rev d).trans (by simp only [Args.fc, Args.bc, dirF, dirB, rev_eq]))

theorem c_rv : val_main_v61 (F := Ideal) A.cv (ix4 s h t v) = ((A.bc s).V t.val (vl h v) : EReal) :=
  (reverse_apply _ s h t v).trans ((c_v hA s h t.rev v).trans (by simp only [Args.fc, Args.bc, dirF, dirB, rev_eq]))

theorem c_rb : val_main_v62 (F := Ideal) A.cb (ix4 s h t d) = ((A.bc s).L t.val (kl h d) : EReal) :=
  (reverse_apply _ s h t d).trans ((c_b hA s h t.rev d).trans (by simp only [Args.bc, dirB, rev_eq]))

theorem c_rsum : val_main_v63 (F := Ideal) A.cb (ix4 s h t d) = ((∑ i ∈ Finset.range (t.val + 1), (A.bc s).L i (kl h d) : ℝ) : EReal) :=
  cumsum_apply rfl _ _ (fun j => by simp [val_main_call11_call0_v0, val_main_call11_call0_cst, broadcastInDim, constant, Ideal.ofBits_zero_f32])
    _ _ s h d (X := fun i => (A.bc s).L i (kl h d)) (fun i => c_rb hA s h i d) t

end

/-- The state the context leaves forwards, -/
theorem state_f (d : Fin 32) (v : Fin 64) : val_main_v31 (F := Ideal) A.ck A.cv A.cf (ix4 s h d v) = ((A.fc s).st 0 256 (vl h v) (kl h d) : EReal) := by
  refine Eq.trans ?_ (row_state (T := 256) (A.fc s) h v (fun j d => c_k hA s h j d) (fun j d => c_sum hA s h j d) (fun j => c_v hA s h j v) d
    (c_sum hA s h 255 d))
  pointwise [val_main_v31, val_main_v30, val_main_v29, val_main_v28, val_main_v27, val_main_v26]
  rfl

/-- and backwards. -/
theorem state_b (d : Fin 32) (v : Fin 64) : val_main_v41 (F := Ideal) A.ck A.cv A.cb (ix4 s h d v) = ((A.bc s).st 0 256 (vl h v) (kl h d) : EReal) := by
  refine Eq.trans ?_ (row_state (T := 256) (A.bc s) h v (fun j d => c_rk hA s h j d) (fun j d => c_rsum hA s h j d) (fun j => c_rv hA s h j v) d
    (c_rsum hA s h 255 d))
  pointwise [val_main_v41, val_main_v40, val_main_v39, val_main_v38, val_main_v37, val_main_v36]
  rfl

section
variable (t : Fin 2048) (d : Fin 32) (v : Fin 64)

theorem l_q : val_main_v3 (F := Ideal) A.q (ix4 s h t d) = ((A.fl s).Q t.val (kl h d) : EReal) := by
  pointwise [val_main_v3, val_main_v2, val_main_v1, val_main_v0, val_main_cst]
  refine (congrArg (· * _) (seq_eq hA.q s t (kl h d))).trans ?_
  rw [ofBits_scale, ← EReal.coe_mul]; rfl

theorem l_k : val_main_v5 (F := Ideal) A.k (ix4 s h t d) = ((A.fl s).K t.val (kl h d) : EReal) := by
  pointwise [val_main_v5, val_main_v4]
  exact seq_eq hA.k s t (kl h d)

theorem l_v : val_main_v7 (F := Ideal) A.v (ix4 s h t v) = ((A.fl s).V t.val (vl h v) : EReal) := by
  pointwise [val_main_v7, val_main_v6]
  exact seq_eq hA.v s t (vl h v)

theorem l_f : val_main_v9 (F := Ideal) A.f (ix4 s h t d) = ((A.fl s).L t.val (kl h d) : EReal) := by
  pointwise [val_main_v9, val_main_v8]
  exact seq_eq hA.f s t (kl h d)

theorem l_b : val_main_v11 (F := Ideal) A.b (ix4 s h t d) = (seq A.b s t.val (kl h d) : EReal) := by
  pointwise [val_main_v11, val_main_v10]
  exact seq_eq hA.b s t (kl h d)

theorem l_sum : val_main_v81 (F := Ideal) A.f (ix4 s h t d) = ((∑ i ∈ Finset.range (t.val + 1), (A.fl s).L i (kl h d) : ℝ) : EReal) :=
  cumsum_apply rfl _ _ (fun j => by simp [val_main_call14_call0_v0, val_main_call14_call0_cst, broadcastInDim, constant, Ideal.ofBits_zero_f32])
    _ _ s h d (X := fun i => (A.fl s).L i (kl h d)) (fun i => l_f hA s h i d) t

theorem l_rq : val_main_v98 (F := Ideal) A.q (ix4 s h t d) = ((A.bl s).Q t.val (kl h d) : EReal) :=
  (reverse_apply _ s h t d).trans ((l_q hA s h t.rev d).trans (by simp only [Args.fl, Args.bl, dirF, dirB, rev_eq]))

theorem l_rk : val_main_v99 (F := Ideal) A.k (ix4 s h t d) = ((A.bl s).K t.val (kl h d) : EReal) :=
  (reverse_apply _ s h t d).trans ((l_k hA s h t.rev d).trans (by simp only [Args.fl, Args.bl, dirF, dirB, rev_eq]))

theorem l_rv : val_main_v100 (F := Ideal) A.v (ix4 s h t v) = ((A.bl s).V t.val (vl h v) : EReal) :=
  (reverse_apply _ s h t v).trans ((l_v hA s h t.rev v).trans (by simp only [Args.fl, Args.bl, dirF, dirB, rev_eq]))

theorem l_rb : val_main_v101 (F := Ideal) A.b (ix4 s h t d) = ((A.bl s).L t.val (kl h d) : EReal) :=
  (reverse_apply _ s h t d).trans ((l_b hA s h t.rev d).trans (by simp only [Args.bl, dirB, rev_eq]))

theorem l_rsum : val_main_v102 (F := Ideal) A.b (ix4 s h t d) = ((∑ i ∈ Finset.range (t.val + 1), (A.bl s).L i (kl h d) : ℝ) : EReal) :=
  cumsum_apply rfl _ _ (fun j => by simp [val_main_call20_call0_v0, val_main_call20_call0_cst, broadcastInDim, constant, Ideal.ofBits_zero_f32])
    _ _ s h d (X := fun i => (A.bl s).L i (kl h d)) (fun i => l_rb hA s h i d) t

end

/-! The four passes. -/

/-- The context forwards, -/
theorem ctx_f (t : Fin 256) (v : Fin 64) : val_main_v58 (F := Ideal) A.cq A.ck A.cv A.cf (ix4 s h t v)
    = ((A.fc s).out 0 1 t.val (vl h v) : EReal) := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_call6_v0, val_main_call6_v1, val_main_call6_v2, val_main_cst_2, val_main_v24, val_main_cst_1]
  exact row_out (A.fc s) h v (fun j d => c_k hA s h j d) (fun j d => c_sum hA s h j d) (fun j => c_v hA s h j v)
    split_zero (e := 1) (by omega) t (fun d => c_q hA s h t d) (fun d => rfl)
    (fun j => word_le (by have := j.isLt; omega) (by have := t.isLt; omega)) Ideal.ofBits_zero_f32

/-- the context from its last token, -/
theorem ctx_b (t : Fin 256) (v : Fin 64) : val_main_v79 (F := Ideal) A.cq A.ck A.cv A.cb (ix4 s h t v)
    = ((A.bc s).out 0 0 t.val (vl h v) : EReal) := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_call12_v0, val_main_call12_v1, val_main_call12_v2, val_main_cst_3, val_main_v24, val_main_cst_1]
  exact row_out (A.bc s) h v (fun j d => c_rk hA s h j d) (fun j d => c_rsum hA s h j d) (fun j => c_rv hA s h j v)
    split_zero (e := 0) (by omega) t (fun d => c_rq hA s h t d) (fun d => rfl)
    (fun j => word_lt (by have := j.isLt; omega) (by have := t.isLt; omega)) Ideal.ofBits_zero_f32

set_option maxRecDepth 200000 in
/-- the latent tokens forwards, -/
theorem lat_f (t : Fin 2048) (v : Fin 64) : val_main_v97 (F := Ideal) A.q A.k A.v A.f A.ck A.cv A.cf (ix4 s h t v)
    = ((A.fl s).out ((A.fc s).st 0 256) 1 t.val (vl h v) : EReal) := by
  pointwise [val_main_v97, val_main_v96, val_main_v95, val_main_v94, val_main_v93, val_main_v92, val_main_v91, val_main_v90, val_main_v89, val_main_v88, val_main_v87, val_main_v86, val_main_v85, val_main_v84, val_main_v83, val_main_v82, val_main_call15_v0, val_main_call15_v1, val_main_call15_v2, val_main_cst_4]
  exact row_out (A.fl s) h v (fun j d => l_k hA s h j d) (fun j d => l_sum hA s h j d) (fun j => l_v hA s h j v)
    (split_st _ split_zero 256) (e := 1) (by omega) t (fun d => l_q hA s h t d) (fun d => state_f hA s h d v)
    (fun j => word_le (by have := j.isLt; omega) (by have := t.isLt; omega)) Ideal.ofBits_zero_f32

set_option maxRecDepth 200000 in
/-- and from the last. -/
theorem lat_b (t : Fin 2048) (v : Fin 64) : val_main_v118 (F := Ideal) A.q A.k A.v A.b A.ck A.cv A.cb (ix4 s h t v)
    = ((A.bl s).out ((A.bc s).st 0 256) 0 t.val (vl h v) : EReal) := by
  pointwise [val_main_v118, val_main_v117, val_main_v116, val_main_v115, val_main_v114, val_main_v113, val_main_v112, val_main_v111, val_main_v110, val_main_v109, val_main_v108, val_main_v107, val_main_v106, val_main_v105, val_main_v104, val_main_v103, val_main_call21_v0, val_main_call21_v1, val_main_call21_v2, val_main_cst_5]
  exact row_out (A.bl s) h v (fun j d => l_rk hA s h j d) (fun j d => l_rsum hA s h j d) (fun j => l_rv hA s h j v)
    (split_st _ split_zero 256) (e := 0) (by omega) t (fun d => l_rq hA s h t d) (fun d => state_b hA s h d v)
    (fun j => word_lt (by have := j.isLt; omega) (by have := t.isLt; omega)) Ideal.ofBits_zero_f32

end

end Cert.ReferenceIdeal.Gla

end
-- ==== Proof.Gla.RefOut.lean ====
/- The reference's two results. -/
module

public import proofs.«01_k».proof.Proof.Gla.RefRead

@[expose] public section

set_option maxRecDepth 16384

noncomputable section

namespace Cert.ReferenceIdeal.Gla

open Cert.ReferenceIdeal Cert.ReferenceIdeal.Gen Cert.ReferenceIdeal.Read Idealize.ShloMosaic Idealize.SL.Sem
open _root_.Gla

variable {A : Args} (hA : A.AllReal) (s : Fin 16) (h : Fin 4) (v : Fin 64)

theorem ofBits_64 : Ideal.ofBits .f32 0x42800000#32 = ((64 : ℝ) : EReal) := by
  simp [Ideal.ofBits, Ideal.ieee, -EReal.coe_mul]; norm_num

include hA

/-- The context's result. -/
theorem ctx_out (t : Fin 256) : val_main_v161 (F := Ideal) A.cq A.ck A.cv A.cr A.cf A.cb A.g (ix3 s t (vl h v)) = A.context s t (vl h v) := by
  have hS : ∀ x, val_main_v142 (F := Ideal) A.cq A.ck A.cv A.cf A.cb (ix4 s h t x)
      = ((fun w => dirOut (A.fc s) (A.bc s) 0 0 256 0 t.val w + dirOut (A.fc s) (A.bc s) 0 0 256 1 t.val w) (vl h x) : EReal) := by
    intro x
    refine (congrArg₂ (· + ·) (ctx_f hA s h t x) ((reverse_apply _ s h t x).trans (ctx_b hA s h t.rev x))).trans ?_
    rw [← EReal.coe_add, ← rev_eq]; rfl
  show val_main_v161 (F := Ideal) A.cq A.ck A.cv A.cr A.cf A.cb A.g (ix3 s t (⟨h.val * 64 + v.val, by omega⟩ : Fin 256)) = _
  pointwise [val_main_v161, val_main_v159, val_main_v158, val_main_call24_v5, val_main_call24_v4, val_main_call24_v3, val_main_call24_v2, val_main_call24_v1, val_main_call24_v0, val_main_call24_cst, val_main_call24_cst_0, val_main_v157, val_main_v156, val_main_v155, val_main_v154, val_main_v153, val_main_v152, val_main_v151, val_main_v150, val_main_v149, val_main_v148, val_main_v147, val_main_v146, val_main_v145, val_main_v144, val_main_v143, val_main_v141, val_main_v140, val_main_cst_9, val_main_cst_10, val_main_cst_11]
  rw [hS v, Finset.sum_congr rfl fun x _ => by rw [hS x], ofBits_64,
    headMean_eq (fun w => dirOut (A.fc s) (A.bc s) 0 0 256 0 t.val w + dirOut (A.fc s) (A.bc s) 0 0 256 1 t.val w) h v]
  rfl

set_option maxRecDepth 200000 in
/-- The latent tokens' result. -/
theorem lat_out (t : Fin 2048) : val_main_v160 (F := Ideal) A.q A.k A.v A.r A.f A.b A.ck A.cv A.cf A.cb A.g (ix3 s t (vl h v)) = A.latent s t (vl h v) := by
  have hS : ∀ x, val_main_v122 (F := Ideal) A.q A.k A.v A.f A.b A.ck A.cv A.cf A.cb (ix4 s h t x)
      = ((fun w => dirOut (A.fl s) (A.bl s) ((A.fc s).st 0 256) ((A.bc s).st 0 256) 2048 0 t.val w + dirOut (A.fl s) (A.bl s) ((A.fc s).st 0 256) ((A.bc s).st 0 256) 2048 1 t.val w) (vl h x) : EReal) := by
    intro x
    refine (congrArg₂ (· + ·) (lat_f hA s h t x) ((reverse_apply _ s h t x).trans (lat_b hA s h t.rev x))).trans ?_
    rw [← EReal.coe_add, ← rev_eq]; rfl
  show val_main_v160 (F := Ideal) A.q A.k A.v A.r A.f A.b A.ck A.cv A.cf A.cb A.g (ix3 s t (⟨h.val * 64 + v.val, by omega⟩ : Fin 256)) = _
  pointwise [val_main_v160, val_main_v139, val_main_v138, val_main_call23_v5, val_main_call23_v4, val_main_call23_v3, val_main_call23_v2, val_main_call23_v1, val_main_call23_v0, val_main_call23_cst, val_main_call23_cst_0, val_main_v137, val_main_v136, val_main_v135, val_main_v134, val_main_v133, val_main_v132, val_main_v131, val_main_v130, val_main_v129, val_main_v128, val_main_v127, val_main_v126, val_main_v125, val_main_v124, val_main_v123, val_main_v121, val_main_v120, val_main_cst_6, val_main_cst_7, val_main_cst_8]
  rw [hS v, Finset.sum_congr rfl fun x _ => by rw [hS x], ofBits_64,
    headMean_eq (fun w => dirOut (A.fl s) (A.bl s) ((A.fc s).st 0 256) ((A.bc s).st 0 256) 2048 0 t.val w + dirOut (A.fl s) (A.bl s) ((A.fc s).st 0 256) ((A.bc s).st 0 256) 2048 1 t.val w) h v]
  rfl

end Cert.ReferenceIdeal.Gla

end
-- ==== Proof.Gla.Finite.lean ====
/- The precondition, decoded: an array whose magnitudes are all below infinity is an array of reals. -/
module

public import proofs.«01_k».proof.Defs
public import proofs.«01_k».proof.Proof.Gen.Pre_all_finite
public import proofs.«01_k».proof.Proof.Gla.Launch

@[expose] public section

noncomputable section

namespace Cert.Pre_all_finite.Gla

open Cert.Pre_all_finite Idealize.ShloMosaic Idealize.SL.Sem
open _root_.Gla

theorem ofBits_inf : Ideal.ofBits .f32 0x7F800000#32 = (⊤ : EReal) := by
  simp [Ideal.ofBits, Ideal.ieee]

/-- One comparison of the precondition. -/
theorem real_of_abs_lt {S : Shape} (hb : S_.BroadcastsInDim S (![] : Fin 0 → Fin S.rank)) (x : FVec Ideal S .f32)
    (h : cmpf .olt (Host.absf x) (broadcastInDim S ![] hb (constant S_ .f32 0x7F800000#32)) = fun _ => 1#1) : IsReal x := by
  intro i
  have e : Ideal.cmp .olt (max (x i) (-(x i)) : EReal) (Ideal.ofBits .f32 0x7F800000#32) = 1#1 := congrFun h i
  rw [ofBits_inf] at e
  have lt : (max (x i) (-(x i)) : EReal) < ⊤ := by
    by_contra hn
    simp [Ideal.cmp, hn] at e
  refine (EReal.coe_toReal ?_ ?_).symm
  · intro ht; rw [ht] at lt; simp at lt
  · intro ht; rw [ht] at lt; simp at lt

/-- The precondition makes every operand but the two gates' inputs and the gain real. -/
theorem args_real {m : (ℓ : Loc Cert.KernelIdeal.nD Cert.KernelIdeal.τ Cert.KernelIdeal.sig) → Buf (Elt Ideal) ℓ}
    (h : Cert.Pre_KernelIdeal_all_finite m) (c : Dev Cert.KernelIdeal.nD) : (Cert.KernelIdeal.Gla.args m c).AllReal := by
  obtain ⟨h0, h1, h2, h3, h4, h5, h6, h7, h8, h9⟩ := h c
  exact ⟨real_of_abs_lt _ _ h0, real_of_abs_lt _ _ h1, real_of_abs_lt _ _ h2, real_of_abs_lt _ _ h3, real_of_abs_lt _ _ h4,
    real_of_abs_lt _ _ h5, real_of_abs_lt _ _ h6, real_of_abs_lt _ _ h7, real_of_abs_lt _ _ h8, real_of_abs_lt _ _ h9⟩

end Cert.Pre_all_finite.Gla

end
-- ==== Proof.Moe.Spec.lean ====
/- The routed experts over the reals: one row of one tile goes through the expert its tile is labelled with, times the row's gate. -/
module

public import Idealize.ShloMosaic.Lib.Pointwise
public import Idealize.ShloMosaic.PureOps.Ideal

@[expose] public section

noncomputable section

namespace Moe

open Idealize.ShloMosaic

/-- `v · sigmoid v`. -/
def silu (v : EReal) : EReal := v * Ideal.div 1 (1 + Ideal.exp (-v))

/-- One row through a gated feed-forward block, at one output lane. -/
def swiglu {D H : ℕ} (h : Fin D → EReal) (wg wu : Fin D → Fin H → EReal) (wd : Fin H → EReal) : EReal :=
  ∑ x, (silu (∑ i, h i * wg i x) * ∑ i, h i * wu i x) * wd x

theorem swiglu_congr {D H : ℕ} {h h' : Fin D → EReal} {wg wu wg' wu' : Fin D → Fin H → EReal} {wd wd' : Fin H → EReal} (e : ∀ i, h i = h' i)
    (eg : ∀ i x, wg i x = wg' i x) (eu : ∀ i x, wu i x = wu' i x) (ed : ∀ x, wd x = wd' x) : swiglu h wg wu wd = swiglu h' wg' wu' wd' := by
  obtain rfl : h = h' := funext e
  obtain rfl : wg = wg' := funext fun i => funext (eg i)
  obtain rfl : wu = wu' := funext fun i => funext (eu i)
  obtain rfl : wd = wd' := funext ed
  rfl

/-- The hidden lanes in two blocks. -/
theorem swiglu_split {D a b H : ℕ} (e : a + b = H) (h : Fin D → EReal) (wg wu : Fin D → Fin H → EReal) (wd : Fin H → EReal) :
    swiglu h wg wu wd = swiglu h (fun i x => wg i (⟨x.val, by omega⟩ : Fin H)) (fun i x => wu i (⟨x.val, by omega⟩ : Fin H)) (fun x : Fin a => wd ⟨x.val, by omega⟩)
      + swiglu h (fun i x => wg i (⟨a + x.val, by omega⟩ : Fin H)) (fun i x => wu i (⟨a + x.val, by omega⟩ : Fin H)) (fun x : Fin b => wd ⟨a + x.val, by omega⟩) := by
  subst e
  exact Fin.sum_univ_add _

/-- The label of a tile: its expert if the tile is active, else none's. -/
def label (t : ℕ) (active : BitVec 32) (expert : BitVec 32) : BitVec 32 :=
  if IntOp.cmpi .slt (BitVec.ofNat 32 t) active = 1#1 then expert else 4294967295#32

/-- The experts' sum as the layer writes it: every expert weighed by the row's gate where the tile carries its label, by nothing elsewhere. -/
def mixture (l : BitVec 32) (gate : EReal) (s : Fin 8 → EReal) : EReal :=
  ∑ e : Fin 8, (if l = BitVec.ofNat 32 e.val then gate else 0) * s e

theorem mixture_inactive (gate : EReal) (s : Fin 8 → EReal) : mixture 4294967295#32 gate s = 0 := by
  refine Finset.sum_eq_zero fun e _ => ?_
  rw [if_neg (by revert e; decide), zero_mul]

theorem mixture_active (l : BitVec 32) (h : l.toNat < 8) (gate : EReal) (s : Fin 8 → EReal) : mixture l gate s = gate * s ⟨l.toNat, h⟩ := by
  unfold mixture
  have hl : l = BitVec.ofNat 32 l.toNat := by simp
  rw [Finset.sum_eq_single (⟨l.toNat, h⟩ : Fin 8), if_pos hl]
  · intro e _ hne
    rw [if_neg, zero_mul]
    intro h'
    apply hne
    apply Fin.ext
    have := congrArg BitVec.toNat h'
    rw [BitVec.toNat_ofNat, Nat.mod_eq_of_lt (by omega)] at this
    exact this.symm
  · intro h'; exact absurd (Finset.mem_univ _) h'

/-- The call's result at row `p` of tile `t`, lane `j`. -/
def routed (te : Fin 151 → BitVec 32) (na : BitVec 32) (xs : Fin 77312 → Fin 1152 → EReal) (wg wu : Fin 8 → Fin 1024 → Fin 2816 → EReal)
    (wd : Fin 8 → Fin 2816 → Fin 1024 → EReal) (t : Fin 151) (p : Fin 512) (j : Fin 1024) : EReal :=
  mixture (label t.val na (te t)) (∑ x : Fin 128, xs ⟨t.val * 512 + p.val, by omega⟩ ⟨1024 + x.val, by omega⟩)
    fun e => swiglu (fun i : Fin 1024 => xs ⟨t.val * 512 + p.val, by omega⟩ ⟨i.val, by omega⟩) (wg e) (wu e) (fun x => wd e x j)

/-- Only the experts of the tiles in use matter. -/
theorem routed_congr {te te' : Fin 151 → BitVec 32} {na : BitVec 32} (xs : Fin 77312 → Fin 1152 → EReal) (wg wu : Fin 8 → Fin 1024 → Fin 2816 → EReal)
    (wd : Fin 8 → Fin 2816 → Fin 1024 → EReal) (t : Fin 151) (p : Fin 512) (j : Fin 1024)
    (h : IntOp.cmpi .slt (BitVec.ofNat 32 t.val) na = 1#1 → te t = te' t) : routed te na xs wg wu wd t p j = routed te' na xs wg wu wd t p j := by
  have e : label t.val na (te t) = label t.val na (te' t) := by
    unfold label
    split
    · exact h ‹_›
    · rfl
  unfold routed
  rw [e]

section
variable (te : Fin 151 → BitVec 32) (na : BitVec 32) (xs : Fin 77312 → Fin 1152 → EReal) (wg wu : Fin 8 → Fin 1024 → Fin 2816 → EReal)
    (wd : Fin 8 → Fin 2816 → Fin 1024 → EReal) (t : Fin 151) (p : Fin 512) (j : Fin 1024)

theorem routed_inactive (h : ¬IntOp.cmpi .slt (BitVec.ofNat 32 t.val) na = 1#1) : routed te na xs wg wu wd t p j = 0 := by
  unfold routed label
  rw [if_neg h, mixture_inactive]

theorem routed_active (h : IntOp.cmpi .slt (BitVec.ofNat 32 t.val) na = 1#1) (hl : (te t).toNat < 8) :
    routed te na xs wg wu wd t p j = (∑ x : Fin 128, xs ⟨t.val * 512 + p.val, by omega⟩ ⟨1024 + x.val, by omega⟩)
      * swiglu (fun i : Fin 1024 => xs ⟨t.val * 512 + p.val, by omega⟩ ⟨i.val, by omega⟩) (wg ⟨_, hl⟩) (wu ⟨_, hl⟩) (fun x => wd ⟨_, hl⟩ x j) := by
  unfold routed label
  rw [if_pos h, mixture_active _ hl]

end

end Moe

end
-- ==== Proof.Moe.Reference.lean ====
/- The reference of the experts' call, entry by entry: every expert applied to every row, weighed by the row's gate where the row's tile is
   labelled with that expert. -/
module

public import proofs.«01_k».proof.Proof.Gen.ExpertsReferenceIdeal.Read
public import proofs.«01_k».proof.Proof.Moe.Spec

@[expose] public section

set_option maxRecDepth 200000

noncomputable section

namespace Cert.ExpertsReferenceIdeal.Moe

open Cert.ExpertsReferenceIdeal Cert.ExpertsReferenceIdeal.Gen Cert.ExpertsReferenceIdeal.Read Idealize.ShloMosaic Idealize.SL.Sem
open _root_.Moe

variable (x0 : (⟨S64x8, .i32⟩ : BufTy).Contents (Elt Ideal)) (x1 : (⟨S77312x1152, .bf16⟩ : BufTy).Contents (Elt Ideal))
  (x2 x3 : (⟨S2x8x1024x2816, .f32⟩ : BufTy).Contents (Elt Ideal)) (x4 : (⟨S2x8x2816x1024, .f32⟩ : BufTy).Contents (Elt Ideal))

/-- One expert on one row. -/
abbrev expertOf (e : Fin 8) (r : Fin 77312) (j : Fin 1024) : EReal :=
  swiglu (fun i : Fin 1024 => x1 (ix2 r (⟨i.val, by omega⟩ : Fin 1152))) (fun i x => x2 (ix4 (0 : Fin 2) e i x)) (fun i x => x3 (ix4 (0 : Fin 2) e i x))
    (fun x => x4 (ix4 (0 : Fin 2) e x j))

theorem weigh (e l : BitVec 32) (a z : EReal) (hz : z = 0) : Scalar.select (IntOp.cmpi .eq e l) a z = if e = l then a else 0 := by
  subst hz
  have eq_iff (a b : BitVec 32) : IntOp.cmpi .eq a b = 1#1 ↔ a = b := IntOp.cmpi_eq
  by_cases h : e = l
  · rw [if_pos h]; exact if_pos ((eq_iff _ _).2 h)
  · rw [if_neg h]; exact if_neg fun h' => h ((eq_iff _ _).1 h')

/-- The experts of the tiles, and the number of tiles in use. -/
abbrev tileExpert (t : Fin 151) : BitVec 32 := val_main_v28 (F := Ideal) x0 (ix1 t)
abbrev inUse : BitVec 32 := val_main_v19 (F := Ideal) x0 ix0

theorem label_at (t : Fin 151) (p : Fin 512) : val_main_v31 (F := Ideal) x0 (ix1 (⟨t.val * 512 + p.val, by omega⟩ : Fin 77312)) = label t.val (inUse x0) (tileExpert x0 t) := by
  pointwise [val_main_v31, val_main_v30, val_main_v29, val_main_call4_v1, val_main_call4_v0, val_main_c_6, val_main_v21, val_main_v17, val_main_v20]
  rfl

/-- The gates: a row's gate in the column of its tile's label. -/
theorem gates (t : Fin 151) (p : Fin 512) (e : Fin 8) :
    val_main_v39 (F := Ideal) x0 x1 (ix2 (⟨t.val * 512 + p.val, by omega⟩ : Fin 77312) e)
      = if label t.val (inUse x0) (tileExpert x0 t) = BitVec.ofNat 32 e.val
        then ∑ x : Fin 128, x1 (ix2 (⟨t.val * 512 + p.val, by omega⟩ : Fin 77312) (⟨1024 + x.val, by omega⟩ : Fin 1152)) else 0 := by
  rw [← label_at x0 t p]
  pointwise [val_main_v39, val_main_call5_v2, val_main_call5_v1, val_main_call5_v0, val_main_cst_7, val_main_v38, val_main_v37, val_main_v36,
    val_main_v35, val_main_v34, val_main_v33, val_main_v32, val_main_v3, val_main_v2, val_main_v1, val_main_v0, val_main_cst]
  exact weigh _ _ _ _ Ideal.ofBits_zero_f32

theorem expert_0 (r : Fin 77312) (j : Fin 1024) : val_main_v57 (F := Ideal) x1 x2 x3 x4 (ix2 r j) = expertOf x1 x2 x3 x4 0 r j := by
  pointwise [val_main_v57, val_main_v56, val_main_v55, val_main_v54, val_main_v53, val_main_v52, val_main_v51, val_main_v50, val_main_v49,
    val_main_v48, val_main_v47, val_main_v46, val_main_call6_v5, val_main_call6_v4, val_main_call6_v3, val_main_call6_v2, val_main_call6_v1,
    val_main_call6_v0, val_main_call6_cst, val_main_call6_cst_0, val_main_v45, val_main_v44, val_main_v43,
    val_main_v42, val_main_v41, val_main_v40, val_main_v1, val_main_v0]
  rfl

theorem expert_1 (r : Fin 77312) (j : Fin 1024) : val_main_v71 (F := Ideal) x1 x2 x3 x4 (ix2 r j) = expertOf x1 x2 x3 x4 1 r j := by
  pointwise [val_main_v71, val_main_v70, val_main_v69, val_main_v68, val_main_v67, val_main_v66, val_main_v65, val_main_v64, val_main_v63,
    val_main_v62, val_main_v61, val_main_call7_v5, val_main_call7_v4, val_main_call7_v3, val_main_call7_v2, val_main_call7_v1,
    val_main_call7_v0, val_main_call7_cst, val_main_call7_cst_0, val_main_v45, val_main_v44, val_main_v43,
    val_main_v42, val_main_v41, val_main_v40, val_main_v1, val_main_v0]
  rfl

theorem expert_2 (r : Fin 77312) (j : Fin 1024) : val_main_v86 (F := Ideal) x1 x2 x3 x4 (ix2 r j) = expertOf x1 x2 x3 x4 2 r j := by
  pointwise [val_main_v86, val_main_v85, val_main_v84, val_main_v83, val_main_v82, val_main_v81, val_main_v80, val_main_v79, val_main_v78,
    val_main_v77, val_main_v76, val_main_call8_v5, val_main_call8_v4, val_main_call8_v3, val_main_call8_v2, val_main_call8_v1,
    val_main_call8_v0, val_main_call8_cst, val_main_call8_cst_0, val_main_v45, val_main_v44, val_main_v43,
    val_main_v42, val_main_v41, val_main_v40, val_main_v1, val_main_v0]
  rfl

theorem expert_3 (r : Fin 77312) (j : Fin 1024) : val_main_v101 (F := Ideal) x1 x2 x3 x4 (ix2 r j) = expertOf x1 x2 x3 x4 3 r j := by
  pointwise [val_main_v101, val_main_v100, val_main_v99, val_main_v98, val_main_v97, val_main_v96, val_main_v95, val_main_v94, val_main_v93,
    val_main_v92, val_main_v91, val_main_call9_v5, val_main_call9_v4, val_main_call9_v3, val_main_call9_v2, val_main_call9_v1,
    val_main_call9_v0, val_main_call9_cst, val_main_call9_cst_0, val_main_v45, val_main_v44, val_main_v43,
    val_main_v42, val_main_v41, val_main_v40, val_main_v1, val_main_v0]
  rfl

theorem expert_4 (r : Fin 77312) (j : Fin 1024) : val_main_v116 (F := Ideal) x1 x2 x3 x4 (ix2 r j) = expertOf x1 x2 x3 x4 4 r j := by
  pointwise [val_main_v116, val_main_v115, val_main_v114, val_main_v113, val_main_v112, val_main_v111, val_main_v110, val_main_v109, val_main_v108,
    val_main_v107, val_main_v106, val_main_call10_v5, val_main_call10_v4, val_main_call10_v3, val_main_call10_v2, val_main_call10_v1,
    val_main_call10_v0, val_main_call10_cst, val_main_call10_cst_0, val_main_v45, val_main_v44, val_main_v43,
    val_main_v42, val_main_v41, val_main_v40, val_main_v1, val_main_v0]
  rfl

theorem expert_5 (r : Fin 77312) (j : Fin 1024) : val_main_v131 (F := Ideal) x1 x2 x3 x4 (ix2 r j) = expertOf x1 x2 x3 x4 5 r j := by
  pointwise [val_main_v131, val_main_v130, val_main_v129, val_main_v128, val_main_v127, val_main_v126, val_main_v125, val_main_v124,
    val_main_v123, val_main_v122, val_main_v121, val_main_call11_v5, val_main_call11_v4, val_main_call11_v3, val_main_call11_v2,
    val_main_call11_v1, val_main_call11_v0, val_main_call11_cst, val_main_call11_cst_0, val_main_v45, val_main_v44, val_main_v43, val_main_v42, val_main_v41, val_main_v40, val_main_v1, val_main_v0]
  rfl

theorem expert_6 (r : Fin 77312) (j : Fin 1024) : val_main_v146 (F := Ideal) x1 x2 x3 x4 (ix2 r j) = expertOf x1 x2 x3 x4 6 r j := by
  pointwise [val_main_v146, val_main_v145, val_main_v144, val_main_v143, val_main_v142, val_main_v141, val_main_v140, val_main_v139,
    val_main_v138, val_main_v137, val_main_v136, val_main_call12_v5, val_main_call12_v4, val_main_call12_v3, val_main_call12_v2,
    val_main_call12_v1, val_main_call12_v0, val_main_call12_cst, val_main_call12_cst_0, val_main_v45, val_main_v44, val_main_v43, val_main_v42, val_main_v41, val_main_v40, val_main_v1, val_main_v0]
  rfl

theorem expert_7 (r : Fin 77312) (j : Fin 1024) : val_main_v161 (F := Ideal) x1 x2 x3 x4 (ix2 r j) = expertOf x1 x2 x3 x4 7 r j := by
  pointwise [val_main_v161, val_main_v160, val_main_v159, val_main_v158, val_main_v157, val_main_v156, val_main_v155, val_main_v154,
    val_main_v153, val_main_v152, val_main_v151, val_main_call13_v5, val_main_call13_v4, val_main_call13_v3, val_main_call13_v2,
    val_main_call13_v1, val_main_call13_v0, val_main_call13_cst, val_main_call13_cst_0, val_main_v45, val_main_v44, val_main_v43, val_main_v42, val_main_v41, val_main_v40, val_main_v1, val_main_v0]
  rfl

/-- The result. -/
theorem result (t : Fin 151) (p : Fin 512) (j : Fin 1024) :
    val_main_v165 (F := Ideal) x0 x1 x2 x3 x4 (ix2 (⟨t.val * 512 + p.val, by omega⟩ : Fin 77312) j)
      = routed (tileExpert x0) (inUse x0) (fun r i => x1 (ix2 r i)) (fun e i x => x2 (ix4 (0 : Fin 2) e i x))
          (fun e i x => x3 (ix4 (0 : Fin 2) e i x)) (fun e x j => x4 (ix4 (0 : Fin 2) e x j)) t p j := by
  pointwise [val_main_v165, val_main_v164, val_main_v163, val_main_v162, val_main_v150, val_main_v149, val_main_v148, val_main_v147, val_main_v135, val_main_v134, val_main_v133, val_main_v132, val_main_v120, val_main_v119, val_main_v118, val_main_v117, val_main_v105, val_main_v104, val_main_v103, val_main_v102, val_main_v90, val_main_v89, val_main_v88, val_main_v87, val_main_v75, val_main_v74, val_main_v73, val_main_v72, val_main_v60, val_main_v59, val_main_v58, val_main_v46]
  unfold routed mixture
  rw [Fin.sum_univ_eight]
  simp only [gates, expert_0, expert_1, expert_2, expert_3, expert_4, expert_5, expert_6, expert_7]

end Cert.ExpertsReferenceIdeal.Moe

end
-- ==== Proof.Moe.RunsIdeal.lean ====
/- The experts' kernel body run once at a tile, on any buffers: the path of an active tile and the path of a tile past the active ones. -/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Routed

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The algebra the runs are stated in. -/
local notation "𝕄" => MT nD τ sig Unit (Elt Ideal) ℕ (UR sig nD τ) ℕ

/-- The two tables. -/
abbrev tbM0_0 : Memref sig .tc .smem S151 .i32 := Memref.whole main_v28
abbrev tbM0_1 : Memref sig .tc .smem S1 .i32 := Memref.whole main_v29

/-- A buffer of the output's, to read its contents through. -/
abbrev VO0_4 : View sig .tc .vmem S512x1024 .bf16 := (Memref.whole cc0_stg4_0 : Memref sig .tc .vmem S512x1024 .bf16).view

/-- The word the body loads of the second table. -/
abbrev loaded (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

variable (c : Dev nD) (i : grid0.Coords) (arg3 : Memref sig .tc .vmem S512x1152 .bf16) (harg3 : arg3.IsWhole)
  (arg4 : Memref sig .tc .vmem S1x1x1024x2816 .bf16) (harg4 : arg4.IsWhole) (arg5 : Memref sig .tc .vmem S1x1x1024x2816 .bf16) (harg5 : arg5.IsWhole)
  (arg6 : Memref sig .tc .vmem S1x1x2816x1024 .bf16) (harg6 : arg6.IsWhole) (arg7 : Memref sig .tc .vmem S512x1024 .bf16) (harg7 : arg7.IsWhole)
  (T0 : S151.Idx → Elt Ideal .i32) (T1 : S1.Idx → Elt Ideal .i32) (x0 : S512x1152.Idx → Elt Ideal .bf16) (x1 : S1x1x1024x2816.Idx → Elt Ideal .bf16)
  (x2 : S1x1x1024x2816.Idx → Elt Ideal .bf16) (x3 : S1x1x2816x1024.Idx → Elt Ideal .bf16)

/-- The body's buffers at their contents: four inputs, halves of the tables, and the output `O`. -/
abbrev around (O : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tbM0_0.view.loc (c : Thread nD τ) ↦{fullShare.right} T0)
    ∗ (tbM0_1.view.loc (c : Thread nD τ) ↦{fullShare.right} T1)
    ∗ O)

set_option backward.proofsInPublic true in
set_option maxHeartbeats 8000000 in
/-- The body at an active tile: its stores, with the proof that the body runs from these buffers and leaves them so stored. -/
noncomputable def activeRun (past : ¬k0_cond1 i (loaded T1) = 1#1) (act : k0_cond2 i (loaded T1) = 1#1) :
    { out : List (View.Piece (Elt Ideal) S512x1024 .bf16) //
      ∀ (K : PUnit → sProp 𝕄),
        around c arg3 arg4 arg5 arg6 T0 T1 x0 x1 x2 x3 iprop((∃ d, owns (c : Thread nD τ) arg7 fullShare d)
            ∗ (around c arg3 arg4 arg5 arg6 T0 T1 x0 x1 x2 x3
                iprop(∃ f, arg7.view.loc (c : Thread nD τ) ↦[arg7.view.set]{fullShare} arg7.view.writes (Elt Ideal) f out) -∗ K ⟨⟩))
          ⊢ wp frame (wpE (defs₀ (F := Ideal)) Variants.none c none) Set.univ
              (cc0_moe_experts i tbM0_0 (Memref.isWhole_whole _) tbM0_1 (Memref.isWhole_whole _) arg3 harg3 arg4 harg4 arg5 harg5 arg6 harg6 arg7 harg7) K } :=
  ⟨_, fun K => by
    unfold around owns
    rw [cc0_moe_experts_eq_skeleton]; unfold cc0_moe_experts_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact past) | (guard_target = k0_cond2 _ _ = _; exact act))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The stores cover the block. -/
theorem activeCover (past : ¬k0_cond1 i (loaded T1) = 1#1) (act : k0_cond2 i (loaded T1) = 1#1) (y : S512x1024.Idx) :
    ∃ pc ∈ (activeRun c i arg3 harg3 arg4 harg4 arg5 harg5 arg6 harg6 arg7 harg7 T0 T1 x0 x1 x2 x3 past act).1, y ∈ pc.1.set :=
  View.cover_of_tiledL (activeRun c i arg3 harg3 arg4 harg4 arg5 harg5 arg6 harg6 arg7 harg7 T0 T1 x0 x1 x2 x3 past act).1 S512x1024.size (by sl_kernel_rfl) y

set_option backward.proofsInPublic true in
set_option maxHeartbeats 8000000 in
/-- The body at a tile past the active ones: its stores, with the proof that the body runs from these buffers and leaves them so stored. -/
noncomputable def pastRun (past : k0_cond1 i (loaded T1) = 1#1) (act : ¬k0_cond2 i (loaded T1) = 1#1) :
    { out : List (View.Piece (Elt Ideal) S512x1024 .bf16) //
      ∀ (K : PUnit → sProp 𝕄),
        around c arg3 arg4 arg5 arg6 T0 T1 x0 x1 x2 x3 iprop((∃ d, owns (c : Thread nD τ) arg7 fullShare d)
            ∗ (around c arg3 arg4 arg5 arg6 T0 T1 x0 x1 x2 x3
                iprop(∃ f, arg7.view.loc (c : Thread nD τ) ↦[arg7.view.set]{fullShare} arg7.view.writes (Elt Ideal) f out) -∗ K ⟨⟩))
          ⊢ wp frame (wpE (defs₀ (F := Ideal)) Variants.none c none) Set.univ
              (cc0_moe_experts i tbM0_0 (Memref.isWhole_whole _) tbM0_1 (Memref.isWhole_whole _) arg3 harg3 arg4 harg4 arg5 harg5 arg6 harg6 arg7 harg7) K } :=
  ⟨_, fun K => by
    unfold around owns
    rw [cc0_moe_experts_eq_skeleton]; unfold cc0_moe_experts_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact past) | (guard_target = ¬(k0_cond2 _ _ = _); exact act))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The stores cover the block. -/
theorem pastCover (past : k0_cond1 i (loaded T1) = 1#1) (act : ¬k0_cond2 i (loaded T1) = 1#1) (y : S512x1024.Idx) :
    ∃ pc ∈ (pastRun c i arg3 harg3 arg4 harg4 arg5 harg5 arg6 harg6 arg7 harg7 T0 T1 x0 x1 x2 x3 past act).1, y ∈ pc.1.set :=
  View.cover_of_tiledL (pastRun c i arg3 harg3 arg4 harg4 arg5 harg5 arg6 harg6 arg7 harg7 T0 T1 x0 x1 x2 x3 past act).1 S512x1024.size (by sl_kernel_rfl) y

end Cert.ExpertsIdeal.Routed

end
-- ==== Proof.Moe.Count.lean ====
/- The tiles' experts from the ends of the experts' segments, on the words the host computes with: a tile's expert is the number of segments
   that end at or before it. -/
module

public import proofs.«01_k».proof.Proof.Moe.Spec
public import Idealize.ShloMosaic.Lib.Pointwise
public import Mathlib.Data.BitVec

@[expose] public section

noncomputable section

namespace Moe

open Idealize.ShloMosaic

/-- The rounded-down quotient by `k`, as it prints. -/
def floorDiv {s : Shape} (h : (⟨0, ![]⟩ : Shape).BroadcastsInDim s (![] : Fin 0 → Fin s.rank)) (x : IVec s 32) (k : IVec ⟨0, ![]⟩ 32) : IVec s 32 :=
  select (andi (cmpi .ne (signi x) (broadcastInDim s ![] h (signi k)))
      (cmpi .ne (Host.remsi x (broadcastInDim s ![] h k)) (broadcastInDim s ![] h (constantI (⟨0, ![]⟩ : Shape) 32 0#32))))
    (subi (Host.divsi x (broadcastInDim s ![] h k)) (broadcastInDim s ![] h (constantI (⟨0, ![]⟩ : Shape) 32 1#32)))
    (Host.divsi x (broadcastInDim s ![] h k))

theorem quotient_range (x : BitVec 32) : -4194304 ≤ (IntOp.divsi .host x 512#32).toInt ∧ (IntOp.divsi .host x 512#32).toInt ≤ 4194304 := by
  have hc : ¬IntOp.SDivCorner x 512#32 := by
    rintro (h | ⟨-, h⟩) <;> exact absurd h (by decide)
  unfold IntOp.divsi
  rw [if_neg hc, BitVec.toInt_sdiv_of_ne_or_ne _ _ (.inr (by decide))]
  have h512 : (512#32 : BitVec 32).toInt = 512 := by decide
  rw [h512]
  have lo := BitVec.le_toInt x
  have hi := BitVec.toInt_lt (x := x)
  norm_num at lo hi
  rcases le_total 0 x.toInt with h | h
  · rw [Int.tdiv_eq_ediv_of_nonneg h]; omega
  · obtain ⟨n, hn⟩ : ∃ n : Int, x.toInt = -n := ⟨-x.toInt, by omega⟩
    rw [hn, Int.neg_tdiv, Int.tdiv_eq_ediv_of_nonneg (by omega)]; omega

/-- A quotient by 512 is above the least word. -/
theorem floorDiv_gt {s : Shape} (h) (x : IVec s 32) (i : s.Idx) : -2147483648 < (floorDiv h x (constantI (⟨0, ![]⟩ : Shape) 32 512#32) i).toInt := by
  have q := quotient_range (x i)
  show -2147483648 < (if _ = 1#1 then IntOp.divsi .host (x i) 512#32 - 1#32 else IntOp.divsi .host (x i) 512#32).toInt
  generalize IntOp.divsi .host (x i) 512#32 = w at q
  split
  · rw [BitVec.toInt_sub, show (1#32 : BitVec 32).toInt = 1 by decide]
    unfold Int.bmod
    norm_num
    omega
  · omega

/-- How many of eight ends lie at or below `v`. -/
def passed (v : BitVec 32) (e : Fin 8 → BitVec 32) : BitVec 32 := ∑ k, (IntOp.cmpi .sge v (e k)).setWidth 32

theorem passed_lt (v : BitVec 32) (e : Fin 8 → BitVec 32) (h : v.toInt < (e 7).toInt) : (passed v e).toNat < 8 := by
  have last : IntOp.cmpi .sge v (e 7) = 0#1 := by
    show BitVec.ofBool (decide ((e 7).toInt ≤ v.toInt)) = 0#1
    rw [decide_eq_false (by omega)]; rfl
  have bit (b : BitVec 1) : (b.setWidth 32).toNat ≤ 1 := by revert b; decide
  unfold passed
  rw [Fin.sum_univ_eight, last]
  have b0 := bit (IntOp.cmpi .sge v (e 0))
  have b1 := bit (IntOp.cmpi .sge v (e 1))
  have b2 := bit (IntOp.cmpi .sge v (e 2))
  have b3 := bit (IntOp.cmpi .sge v (e 3))
  have b4 := bit (IntOp.cmpi .sge v (e 4))
  have b5 := bit (IntOp.cmpi .sge v (e 5))
  have b6 := bit (IntOp.cmpi .sge v (e 6))
  have b7 : ((0#1 : BitVec 1).setWidth 32).toNat = 0 := by decide
  simp only [BitVec.toNat_add]
  omega

/-- A tile's number held below the number of tiles in use lies below the last end. -/
theorem held_lt (t n : BitVec 32) (h : -2147483648 < n.toInt) : (IntOp.minsi t (n - 1#32)).toInt < n.toInt := by
  have hs : (n - 1#32).toInt = n.toInt - 1 := by
    rw [BitVec.toInt_sub, show (1#32 : BitVec 32).toInt = 1 by decide]
    have hi := BitVec.toInt_lt (x := n)
    norm_num at hi
    unfold Int.bmod
    norm_num
    omega
  unfold IntOp.minsi
  split
  · rename_i c
    rw [BitVec.slt_iff_toInt_lt] at c
    omega
  · omega

/-- A tile in use is not held back. -/
theorem held_eq (t n : BitVec 32) (h : IntOp.cmpi .slt t n = 1#1) : IntOp.minsi t (n - 1#32) = t := by
  have lt : t.toInt < n.toInt := by
    have e : BitVec.ofBool (decide (t.toInt < n.toInt)) = 1#1 := h
    by_contra hn
    rw [decide_eq_false hn] at e
    exact absurd e (by decide)
  have hs : (n - 1#32).toInt = n.toInt - 1 := by
    rw [BitVec.toInt_sub, show (1#32 : BitVec 32).toInt = 1 by decide]
    have hi := BitVec.toInt_lt (x := n)
    have lo := BitVec.le_toInt t
    norm_num at hi lo
    unfold Int.bmod
    norm_num
    omega
  unfold IntOp.minsi
  split
  · rfl
  · rename_i c
    rw [BitVec.slt_iff_toInt_lt] at c
    exact BitVec.eq_of_toInt_eq (by omega)

/-- The tables' entry at a tile, as it prints: the count along a row of comparisons. -/
theorem row_count (h : (⟨2, ![151, 8]⟩ : Shape).ReducesTo [1] ⟨1, ![151]⟩) (hw : 1 < 32) (hu : 0 < (⟨0, ![]⟩ : Shape).numel)
    (x : IVec ⟨1, ![151]⟩ 32) (e : IVec ⟨1, ![8]⟩ 32) (b : IVec ⟨2, ![151, 8]⟩ 1) (hb : ∀ (t : Fin 151) (k : Fin 8), b (ix2 t k) = IntOp.cmpi .sge (x (ix1 t)) (e (ix1 k))) (t : Fin 151) :
    Host.reduce IntOp.addi (extui 32 b hw) (constantI (⟨0, ![]⟩ : Shape) 32 0#32) h hu (ix1 t) = passed (x (ix1 t)) fun k => e (ix1 k) := by
  pointwise
  unfold passed
  simp only [hb]
  first | rfl | exact (Finset.sum_eq_fold _ _).symm

end Moe

end
-- ==== Proof.Moe.HostIdeal.lean ====
/- What the host lays out before the experts' call: the weights cast, the tiles' experts and the number of tiles in use. -/
module

public import proofs.«01_k».proof.Proof.Gen.ExpertsIdeal.Launch
public import proofs.«01_k».proof.Proof.Moe.Count
public import Idealize.ShloMosaic.Lib.Pipeline.ValueKit.Point
public import Idealize.ShloMosaic.PureOps.Ideal

@[expose] public section

set_option maxRecDepth 16384

noncomputable section

namespace Cert.ExpertsIdeal.Routed

open Cert.ExpertsIdeal Cert.ExpertsIdeal.Gen Idealize.ShloMosaic Idealize.ShloMosaic.TcCoe Idealize.SL.Sem
open _root_.Moe

/-- The tile each expert's segment ends at, from the experts' counts of rows: each count up to whole pieces, their sum over the tokens' tiles up
    to whole tiles of rows, and the running sums of these. -/
def ends (cnt : IVec S64x8 32) : IVec S8 32 :=
  floorDiv bcast_S_S8 (Host.reduceWindow IntOp.addi ![8] ![1] ![7] ![0]
    (muli (negi (floorDiv bcast_S_S8 (negi (Host.reduce IntOp.addi
        (muli (negi (floorDiv bcast_S_S64x8 (negi cnt) (constantI S_ 32 16#32))) (broadcastInDim S64x8 ![] bcast_S_S64x8 (constantI S_ 32 16#32)))
        (constantI S_ 32 0#32) reducesTo_S64x8_S8_d0 h_S_)) (constantI S_ 32 512#32)))
      (broadcastInDim S8 ![] bcast_S_S8 (constantI S_ 32 512#32)))
    (broadcastInDim S_ ![] bcast_S_S_ (constantI S_ 32 0#32)) reduceWindows_S8_S8_w8s1p7_0 h_S_) (constantI S_ 32 512#32)

/-- The last of them. -/
def last (e : IVec S8 32) : IVec S_ 32 := shapeCast S_ (extractStridedSlice S1 ![7] e slices_S8_S1_7) shapeCasts_S1_S_

/-- The tiles' numbers, none past the last in use. -/
def held (e : IVec S8 32) : IVec S151 32 :=
  minsi (iotaInDim S151 32 0) (broadcastInDim S151 ![] bcast_S_S151 (subi (last e) (constantI S_ 32 1#32)))

/-- The tiles' experts. -/
def tileExpert (e : IVec S8 32) : IVec S151 32 :=
  Host.reduce IntOp.addi (extui 32 (cmpi .sge
      (broadcastInDim S151x8 ![0, 1] bcast_S151x1_S151x8_0_1 (broadcastInDim S151x1 ![0] bcast_S151_S151x1_0 (held e)))
      (broadcastInDim S151x8 ![0, 1] bcast_S1x8_S151x8_0_1 (broadcastInDim S1x8 ![1] bcast_S8_S1x8_1 e))) natLt_1_32)
    (constantI S_ 32 0#32) reducesTo_S151x8_S151_d1 h_S_

theorem last_at (e : IVec S8 32) (i : S_.Idx) : last e i = e (ix1 (7 : Fin 8)) := by
  refine congrArg e ?_
  funext k; fin_cases k
  exact Fin.ext (congrArg (7 + ·) (Nat.lt_one_iff.1 (Fin.isLt (n := 1) _)))

theorem held_at (e : IVec S8 32) (t : Fin 151) : held e (ix1 t) = IntOp.minsi (BitVec.ofNat 32 t.val) (e (ix1 (7 : Fin 8)) - 1#32) :=
  congrArg (fun v => IntOp.minsi (BitVec.ofNat 32 t.val) (v - 1#32)) (last_at e _)

theorem tileExpert_at (e : IVec S8 32) (t : Fin 151) :
    tileExpert e (ix1 t) = passed (IntOp.minsi (BitVec.ofNat 32 t.val) (e (ix1 (7 : Fin 8)) - 1#32)) fun k => e (ix1 k) := by
  rw [← held_at]
  exact row_count _ _ _ (held e) e _ (fun t k => by pointwise) t

/-- A tile's expert is one of the eight. -/
theorem tileExpert_lt (cnt : IVec S64x8 32) (x : S151.Idx) : (tileExpert (ends cnt) x).toNat < 8 := by
  obtain ⟨t, rfl⟩ : ∃ t : Fin 151, x = ix1 t := ⟨x 0, by funext k; fin_cases k; rfl⟩
  rw [tileExpert_at]
  exact passed_lt _ _ (held_lt _ _ (floorDiv_gt _ _ _))

variable (m : (ℓ : Loc nD τ sig) → Buf (Elt Ideal) ℓ) (c : Dev nD)

/-- The host's lines before the call. -/
abbrev lines : List (List (HloOp τ sig (Elt Ideal))) :=
  [hostOps0, hostOps0_1, hostOps0_2, hostOps0_3, hostOps0_4, hostOps0_5, hostOps0_6, hostOps0_7, hostOps0_8]

/-- The memory the call finds. -/
def entry : (ℓ : Loc nD τ sig) → Buf (Elt Ideal) ℓ := fun ℓ => StableHlo.after lines.flatten (fun b => m (ℓ.1, b)) ℓ.2

/-! Each stretch of host lines over any contents: what it leaves in the buffers that are read later, and that it keeps the others. -/

section
variable (σ : Valuation τ sig (Elt Ideal)) (r : Ref sig .tc)

theorem keep_0 (h : r ∉ [main_v0, main_v1, main_v2, main_v3, main_c]) :
    StableHlo.after (hostOps0 (F := Ideal)) σ (Proc.devRef .tc r) = σ (Proc.devRef .tc r) :=
  StableHlo.after_of_writes_sub _ _ (StableHlo.forall_writes_sub_of_map (W := [main_v0, main_v1, main_v2, main_v3, main_c]) rfl) h

theorem keep_1 (h : r ∉ [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]) :
    StableHlo.after (hostOps0_1 (F := Ideal)) σ (Proc.devRef .tc r) = σ (Proc.devRef .tc r) :=
  StableHlo.after_of_writes_sub _ _ (StableHlo.forall_writes_sub_of_map (W := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]) rfl) h

theorem keep_2 (h : r ∉ [main_v5, main_c_0, main_v6, main_v7, main_c_1, main_v8, main_v9, main_c_2]) :
    StableHlo.after (hostOps0_2 (F := Ideal)) σ (Proc.devRef .tc r) = σ (Proc.devRef .tc r) :=
  StableHlo.after_of_writes_sub _ _ (StableHlo.forall_writes_sub_of_map (W := [main_v5, main_c_0, main_v6, main_v7, main_c_1, main_v8, main_v9, main_c_2]) rfl) h

theorem keep_3 (h : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]) :
    StableHlo.after (hostOps0_3 (F := Ideal)) σ (Proc.devRef .tc r) = σ (Proc.devRef .tc r) :=
  StableHlo.after_of_writes_sub _ _ (StableHlo.forall_writes_sub_of_map (W := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]) rfl) h

theorem keep_4 (h : r ∉ [main_v11, main_c_3, main_v12, main_v13]) :
    StableHlo.after (hostOps0_4 (F := Ideal)) σ (Proc.devRef .tc r) = σ (Proc.devRef .tc r) :=
  StableHlo.after_of_writes_sub _ _ (StableHlo.forall_writes_sub_of_map (W := [main_v11, main_c_3, main_v12, main_v13]) rfl) h

theorem keep_5 (h : r ∉ [main_call2_call0_c, main_call2_call0_v0, main_v14]) :
    StableHlo.after (hostOps0_5 (F := Ideal)) σ (Proc.devRef .tc r) = σ (Proc.devRef .tc r) :=
  StableHlo.after_of_writes_sub _ _ (StableHlo.forall_writes_sub_of_map (W := [main_call2_call0_c, main_call2_call0_v0, main_v14]) rfl) h

theorem keep_6 (h : r ∉ [main_c_4]) :
    StableHlo.after (hostOps0_6 (F := Ideal)) σ (Proc.devRef .tc r) = σ (Proc.devRef .tc r) :=
  StableHlo.after_of_writes_sub _ _ (StableHlo.forall_writes_sub_of_map (W := [main_c_4]) rfl) h

theorem keep_7 (h : r ∉ [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v15]) :
    StableHlo.after (hostOps0_7 (F := Ideal)) σ (Proc.devRef .tc r) = σ (Proc.devRef .tc r) :=
  StableHlo.after_of_writes_sub _ _ (StableHlo.forall_writes_sub_of_map (W := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v15]) rfl) h

theorem keep_8 (h : r ∉ [main_v16, main_v17, main_v18, main_c_5, main_v19, main_v20, main_v21, main_v22, main_v23, main_v24, main_v25, main_v26, main_v27, main_c_6, main_v28, main_v29]) :
    StableHlo.after (hostOps0_8 (F := Ideal)) σ (Proc.devRef .tc r) = σ (Proc.devRef .tc r) :=
  StableHlo.after_of_writes_sub _ _ (StableHlo.forall_writes_sub_of_map (W := [main_v16, main_v17, main_v18, main_c_5, main_v19, main_v20, main_v21, main_v22, main_v23, main_v24, main_v25, main_v26, main_v27, main_c_6, main_v28, main_v29]) rfl) h

theorem line_w0 : StableHlo.after (hostOps0 (F := Ideal)) σ (Proc.devRef .tc main_v0)
    = (truncf .bf16 (σ (Proc.devRef .tc main_arg2)) bitsLt_bf16_f32 : FVec Ideal S2x8x1024x2816 .bf16) := by
  after_results_simp; try rfl

theorem line_w1 : StableHlo.after (hostOps0 (F := Ideal)) σ (Proc.devRef .tc main_v1)
    = (truncf .bf16 (σ (Proc.devRef .tc main_arg3)) bitsLt_bf16_f32 : FVec Ideal S2x8x1024x2816 .bf16) := by
  after_results_simp; try rfl

theorem line_w2 : StableHlo.after (hostOps0 (F := Ideal)) σ (Proc.devRef .tc main_v2)
    = (truncf .bf16 (σ (Proc.devRef .tc main_arg4)) bitsLt_bf16_f32 : FVec Ideal S2x8x2816x1024 .bf16) := by
  after_results_simp; try rfl

theorem line_v3 : StableHlo.after (hostOps0 (F := Ideal)) σ (Proc.devRef .tc main_v3)
    = (negi (σ (Proc.devRef .tc main_arg0)) : IVec S64x8 32) := by
  after_results_simp; try rfl

theorem line_c : StableHlo.after (hostOps0 (F := Ideal)) σ (Proc.devRef .tc main_c)
    = constantI S_ 32 16#32 := by
  after_results_simp; try rfl

theorem line_v4 : StableHlo.after (hostOps0_1 (F := Ideal)) σ (Proc.devRef .tc main_v4)
    = floorDiv bcast_S_S64x8 (σ (Proc.devRef .tc main_v3)) (σ (Proc.devRef .tc main_c)) := by
  after_results_simp; try rfl

theorem line_v9 : StableHlo.after (hostOps0_2 (F := Ideal)) σ (Proc.devRef .tc main_v9)
    = (negi (Host.reduce IntOp.addi (muli (negi (σ (Proc.devRef .tc main_v4))) (broadcastInDim S64x8 ![] bcast_S_S64x8 (constantI S_ 32 16#32))) (constantI S_ 32 0#32) reducesTo_S64x8_S8_d0 h_S_) : IVec S8 32) := by
  after_results_simp; try rfl

theorem line_c2 : StableHlo.after (hostOps0_2 (F := Ideal)) σ (Proc.devRef .tc main_c_2)
    = constantI S_ 32 512#32 := by
  after_results_simp; try rfl

theorem line_v10 : StableHlo.after (hostOps0_3 (F := Ideal)) σ (Proc.devRef .tc main_v10)
    = floorDiv bcast_S_S8 (σ (Proc.devRef .tc main_v9)) (σ (Proc.devRef .tc main_c_2)) := by
  after_results_simp; try rfl

theorem line_v13 : StableHlo.after (hostOps0_4 (F := Ideal)) σ (Proc.devRef .tc main_v13)
    = (muli (negi (σ (Proc.devRef .tc main_v10))) (broadcastInDim S8 ![] bcast_S_S8 (constantI S_ 32 512#32)) : IVec S8 32) := by
  after_results_simp; try rfl

attribute [local irreducible] Host.reduceWindow in
theorem line_v14 : StableHlo.after (hostOps0_5 (F := Ideal)) σ (Proc.devRef .tc main_v14)
    = (Host.reduceWindow IntOp.addi ![8] ![1] ![7] ![0] (σ (Proc.devRef .tc main_v13)) (broadcastInDim S_ ![] bcast_S_S_ (constantI S_ 32 0#32)) reduceWindows_S8_S8_w8s1p7_0 h_S_ : IVec S8 32) := by
  after_results_simp; rfl

theorem line_c4 : StableHlo.after (hostOps0_6 (F := Ideal)) σ (Proc.devRef .tc main_c_4)
    = constantI S_ 32 512#32 := by
  after_results_simp; try rfl

theorem line_v15 : StableHlo.after (hostOps0_7 (F := Ideal)) σ (Proc.devRef .tc main_v15)
    = floorDiv bcast_S_S8 (σ (Proc.devRef .tc main_v14)) (σ (Proc.devRef .tc main_c_4)) := by
  after_results_simp; try rfl

theorem line_v28 : StableHlo.after (hostOps0_8 (F := Ideal)) σ (Proc.devRef .tc main_v28)
    = tileExpert (σ (Proc.devRef .tc main_v15)) := by
  after_results_simp; try rfl

theorem line_v29 : StableHlo.after (hostOps0_8 (F := Ideal)) σ (Proc.devRef .tc main_v29)
    = shapeCast S1 (last (σ (Proc.devRef .tc main_v15))) shapeCasts_S_S1 := by
  after_results_simp; try rfl

end

/-! What the call finds in its arguments. -/

set_option maxHeartbeats 1000000

theorem entry_gate : entry m ((c : Thread nD τ).loc main_v0) = (truncf .bf16 (m ((c : Thread nD τ).loc main_arg2)) bitsLt_bf16_f32 : FVec Ideal S2x8x1024x2816 .bf16) := by
  unfold entry
  simp only [lines, List.flatten_cons, List.flatten_nil, List.append_nil, StableHlo.after_append]
  repeat first
    | rw [line_w0] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_up : entry m ((c : Thread nD τ).loc main_v1) = (truncf .bf16 (m ((c : Thread nD τ).loc main_arg3)) bitsLt_bf16_f32 : FVec Ideal S2x8x1024x2816 .bf16) := by
  unfold entry
  simp only [lines, List.flatten_cons, List.flatten_nil, List.append_nil, StableHlo.after_append]
  repeat first
    | rw [line_w1] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_down : entry m ((c : Thread nD τ).loc main_v2) = (truncf .bf16 (m ((c : Thread nD τ).loc main_arg4)) bitsLt_bf16_f32 : FVec Ideal S2x8x2816x1024 .bf16) := by
  unfold entry
  simp only [lines, List.flatten_cons, List.flatten_nil, List.append_nil, StableHlo.after_append]
  repeat first
    | rw [line_w2] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_experts : entry m ((c : Thread nD τ).loc main_v28) = tileExpert (ends (m ((c : Thread nD τ).loc main_arg0))) := by
  unfold entry
  simp only [lines, List.flatten_cons, List.flatten_nil, List.append_nil, StableHlo.after_append]
  repeat first
    | rw [line_v28] | rw [line_v15] | rw [line_c4] | rw [line_v14] | rw [line_v13] | rw [line_v10] | rw [line_c2] | rw [line_v9] | rw [line_v4] | rw [line_c] | rw [line_v3] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]
    | rfl

theorem entry_active : entry m ((c : Thread nD τ).loc main_v29) = shapeCast S1 (last (ends (m ((c : Thread nD τ).loc main_arg0)))) shapeCasts_S_S1 := by
  unfold entry
  simp only [lines, List.flatten_cons, List.flatten_nil, List.append_nil, StableHlo.after_append]
  repeat first
    | rw [line_v29] | rw [line_v15] | rw [line_c4] | rw [line_v14] | rw [line_v13] | rw [line_v10] | rw [line_c2] | rw [line_v9] | rw [line_v4] | rw [line_c] | rw [line_v3] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]
    | rfl

theorem entry_arg0 : entry m ((c : Thread nD τ).loc main_arg0) = m ((c : Thread nD τ).loc main_arg0) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg1 : entry m ((c : Thread nD τ).loc main_arg1) = m ((c : Thread nD τ).loc main_arg1) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg2 : entry m ((c : Thread nD τ).loc main_arg2) = m ((c : Thread nD τ).loc main_arg2) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg3 : entry m ((c : Thread nD τ).loc main_arg3) = m ((c : Thread nD τ).loc main_arg3) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg4 : entry m ((c : Thread nD τ).loc main_arg4) = m ((c : Thread nD τ).loc main_arg4) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

end Cert.ExpertsIdeal.Routed

end
-- ==== Proof.Moe.FrameIdeal.lean ====
/- The experts' call run at any tables: every tile's expert read from the first, the count of active tiles from the second. -/
module

public import proofs.«01_k».proof.Proof.Gen.ExpertsIdeal.Skeleton
public import proofs.«01_k».proof.Proof.Gen.ExpertsIdeal.Launch
public import proofs.«01_k».proof.Proof.Moe.RunsIdeal
public import proofs.«01_k».proof.Proof.Moe.HostIdeal
public import Idealize.ShloMosaic.Lib.Pipeline.TableIdle
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpertsIdeal.Routed

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The algebra the frame is proved in. -/
local notation "𝕄" => MT nD τ sig Unit (Elt Ideal) ℕ (UR sig nD τ) ℕ

/-- The rounds' algebra in it. -/
abbrev EP : Emb (UR sig nD τ) 𝕄 := emb₁

/-! ## The tables and the pipeline at them -/

variable (a : (pcfg0 (F := Ideal)).Adm)

abbrev cfgAt : Pipeline.Cfg sig Λ₀ := cfg0 (F := Ideal) a
abbrev pinned : Fin 1 → Pipeline.Cfg sig Λ₀ := Pipeline.pin (pcfgs (F := Ideal)) fun _ => a

/-- The experts of the tiles, and the number of active tiles. -/
abbrev experts : S151.Idx → Elt Ideal .i32 := a.1 0
abbrev active : S1.Idx → Elt Ideal .i32 := a.1 1

abbrev point (t : Fin (cfgAt a).N) : (cfgAt a).grid.Coords := (cfgAt a).grid.coords t

/-- The word the body loads of the second table. -/
abbrev count : BitVec 32 := loaded (active a)

/-- Tile `t` is past the active ones. -/
abbrev Past (t : Fin (cfgAt a).N) : Prop := k0_cond1 (point a t) (count a) = 1#1

theorem cond_neg (i : grid0.Coords) (v : BitVec 32) : k0_cond1 i v = 1#1 ↔ ¬k0_cond2 i v = 1#1 := by
  unfold k0_cond1 k0_cond2
  dsimp only
  generalize Scalar.cmpi .slt (BitVec.ofNat 32 (i 0).val) v = b
  revert b
  decide

theorem live (i : grid0.Coords) (v : BitVec 32) : (!(k0_cond1 i v == 1#1) && !(k0_cond2 i v == 1#1)) = false := by
  have h := cond_neg i v
  by_cases h2 : k0_cond2 i v = 1#1 <;> simp_all

theorem not_idle (t : Fin (cfgAt a).N) : (cfgAt a).idle (4 : Fin 5) ((cfgAt a).grid.coords t) = false := live _ _

/-! ## The staging buffers and the blocks -/

variable (m : (ℓ : Loc nD τ sig) → Buf (Elt Ideal) ℓ) (ρ : Dev nD → PrngReg)

abbrev st0 (t : Fin (cfgAt a).N) : Memref sig .tc .vmem S512x1152 .bf16 := spec0_0.stage ((cfgAt a).slots t (0 : Fin 5))
abbrev st1 (t : Fin (cfgAt a).N) : Memref sig .tc .vmem S1x1x1024x2816 .bf16 := spec0_1.stage ((cfgAt a).slots t (1 : Fin 5))
abbrev st2 (t : Fin (cfgAt a).N) : Memref sig .tc .vmem S1x1x1024x2816 .bf16 := spec0_2.stage ((cfgAt a).slots t (2 : Fin 5))
abbrev st3 (t : Fin (cfgAt a).N) : Memref sig .tc .vmem S1x1x2816x1024 .bf16 := spec0_3.stage ((cfgAt a).slots t (3 : Fin 5))
abbrev st4 (t : Fin (cfgAt a).N) : Memref sig .tc .vmem S512x1024 .bf16 := spec0_4.stage ((cfgAt a).slots t (4 : Fin 5))
abbrev wh0 (t : Fin (cfgAt a).N) : (st0 a t).IsWhole := hstage0_0 (((cfgAt a).slots t (0 : Fin 5)).cast nbuf0_0)
abbrev wh1 (t : Fin (cfgAt a).N) : (st1 a t).IsWhole := hstage0_1 (((cfgAt a).slots t (1 : Fin 5)).cast nbuf0_1)
abbrev wh2 (t : Fin (cfgAt a).N) : (st2 a t).IsWhole := hstage0_2 (((cfgAt a).slots t (2 : Fin 5)).cast nbuf0_2)
abbrev wh3 (t : Fin (cfgAt a).N) : (st3 a t).IsWhole := hstage0_3 (((cfgAt a).slots t (3 : Fin 5)).cast nbuf0_3)
abbrev wh4 (t : Fin (cfgAt a).N) : (st4 a t).IsWhole := hstage0_4 (((cfgAt a).slots t (4 : Fin 5)).cast nbuf0_4)

/-- The block a window brings to point `t`. -/
def brought (c : Dev nD) (w : Fin (cfgAt a).W) (t : Fin (cfgAt a).N) : (((cfgAt a).win w).xblock (point a t)).Idx → Elt Ideal ((cfgAt a).win w).elt :=
  (((cfgAt a).win w).blk t).view.read (Elt Ideal) ((s₀ m ρ).mem (((cfgAt a).win w).arr.view.loc (c : Thread nD τ)))

/-! ## The body at a point, past the active tiles or not -/

/-- The stores of the body at point `t`. -/
def stores (c : Dev nD) (t : Fin (cfgAt a).N) : List (View.Piece (Elt Ideal) S512x1024 .bf16) :=
  if h : Past a t then
    (pastRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h ((cond_neg _ _).1 h)).1
  else
    (activeRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h (not_not.1 fun h2 => h ((cond_neg _ _).2 h2))).1

theorem stores_cover (c : Dev nD) (t : Fin (cfgAt a).N) (y : S512x1024.Idx) : ∃ pc ∈ stores a m ρ c t, y ∈ pc.1.set := by
  unfold stores
  split
  · exact pastCover c _ _ _ _ _ _ _ _ _ _ _ _ _ _ _ _ _ _ _ y
  · exact activeCover c _ _ _ _ _ _ _ _ _ _ _ _ _ _ _ _ _ _ _ y

/-- The output's block after point `t`. -/
def left (c : Dev nD) (t : Fin (cfgAt a).N) : S512x1024.Idx → Elt Ideal .bf16 :=
  VO0_4.read (Elt Ideal) (VO0_4.writes (Elt Ideal) VO0_4.junk (stores a m ρ c t))

abbrev bodyAt (t : Fin (cfgAt a).N) : Prog (TpuEff nD τ sig (Elt Ideal) Λ₀ .tc) PUnit :=
  cc0_moe_experts (point a t) tbM0_0 (Memref.isWhole_whole _) tbM0_1 (Memref.isWhole_whole _) (st0 a t) (wh0 a t) (st1 a t) (wh1 a t) (st2 a t) (wh2 a t)
    (st3 a t) (wh3 a t) (st4 a t) (wh4 a t)

/-- The memory the body takes and hands back: its four inputs, its halves of the tables, and the output `O`. -/
abbrev carried (c : Dev nD) (t : Fin (cfgAt a).N) (O : sProp 𝕄) : sProp 𝕄 :=
  iprop(((st0 a t).view.loc (c : Thread nD τ) ↦[(st0 a t).view.set]{fullShare} (st0 a t).view.rep (brought a m ρ c 0 t))
    ∗ ((st1 a t).view.loc (c : Thread nD τ) ↦[(st1 a t).view.set]{fullShare} (st1 a t).view.rep (brought a m ρ c 1 t))
    ∗ ((st2 a t).view.loc (c : Thread nD τ) ↦[(st2 a t).view.set]{fullShare} (st2 a t).view.rep (brought a m ρ c 2 t))
    ∗ ((st3 a t).view.loc (c : Thread nD τ) ↦[(st3 a t).view.set]{fullShare} (st3 a t).view.rep (brought a m ρ c 3 t))
    ∗ (tbM0_0.view.loc (c : Thread nD τ) ↦{fullShare.right} experts a)
    ∗ (tbM0_1.view.loc (c : Thread nD τ) ↦{fullShare.right} active a)
    ∗ O)

set_option maxHeartbeats 1000000 in
theorem body_runs (c : Dev nD) (t : Fin (cfgAt a).N) (K : PUnit → sProp 𝕄) :
    carried a m ρ c t iprop((∃ d, owns (c : Thread nD τ) (st4 a t) fullShare d)
        ∗ (carried a m ρ c t iprop(∃ f, (st4 a t).view.loc (c : Thread nD τ) ↦[(st4 a t).view.set]{fullShare} (st4 a t).view.writes (Elt Ideal) f (stores a m ρ c t)) -∗ K ⟨⟩))
      ⊢ wp frame (wpE (defs₀ (F := Ideal)) Variants.none c none) Set.univ (bodyAt a t) K := by
  unfold stores
  split
  · rename_i h
    exact (pastRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h ((cond_neg _ _).1 h)).2 K
  · rename_i h
    exact (activeRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h (not_not.1 fun h2 => h ((cond_neg _ _).2 h2))).2 K

/-! ## The pipeline's data -/

/-- Between points the body keeps its halves of the tables. -/
def keeps (c : Dev nD) : sProp 𝕄 :=
  iprop((tbM0_0.view.loc (c : Thread nD τ) ↦{fullShare.right} experts a) ∗ (tbM0_1.view.loc (c : Thread nD τ) ↦{fullShare.right} active a))

def dats (_ : Fin 1) (c : Dev nD) : Dat τ (Elt Ideal) Unit ℕ (UR sig nD τ) ℕ (cfgAt a) c where
  A w := (s₀ m ρ).mem (((cfgAt a).win w).arr.view.loc (c : Thread nD τ))
  after w t := match w with
    | ⟨0, _⟩ => brought a m ρ c (0 : Fin 5) t
    | ⟨1, _⟩ => brought a m ρ c (1 : Fin 5) t
    | ⟨2, _⟩ => brought a m ρ c (2 : Fin 5) t
    | ⟨3, _⟩ => brought a m ρ c (3 : Fin 5) t
    | ⟨4, _⟩ => left a m ρ c t
  Φ _ := keeps a c
  q _ := fullShare
  owed _ := 0

theorem after_0 (c : Dev nD) (t : Fin (cfgAt a).N) : (dats a m ρ 0 c).after (0 : Fin 5) t = brought a m ρ c (0 : Fin 5) t := rfl
theorem after_1 (c : Dev nD) (t : Fin (cfgAt a).N) : (dats a m ρ 0 c).after (1 : Fin 5) t = brought a m ρ c (1 : Fin 5) t := rfl
theorem after_2 (c : Dev nD) (t : Fin (cfgAt a).N) : (dats a m ρ 0 c).after (2 : Fin 5) t = brought a m ρ c (2 : Fin 5) t := rfl
theorem after_3 (c : Dev nD) (t : Fin (cfgAt a).N) : (dats a m ρ 0 c).after (3 : Fin 5) t = brought a m ρ c (3 : Fin 5) t := rfl
theorem after_4 (c : Dev nD) (t : Fin (cfgAt a).N) : (dats a m ρ 0 c).after (4 : Fin 5) t = left a m ρ c t := rfl

theorem before_0 (c : Dev nD) (t : Fin (cfgAt a).N) (d) : (dats a m ρ 0 c).before (0 : Fin 5) t d = brought a m ρ c (0 : Fin 5) t :=
  ((dats a m ρ 0 c).before_in_eq_fetched (0 : Fin 5) rfl (fun _ => rfl) (fun _ _ _ => rfl) (fun t => by rw [after_0]; unfold Dat.blockOf brought; rfl) t d).trans
    (by unfold Dat.fetched Dat.blockOf brought; rfl)
theorem before_1 (c : Dev nD) (t : Fin (cfgAt a).N) (d) : (dats a m ρ 0 c).before (1 : Fin 5) t d = brought a m ρ c (1 : Fin 5) t :=
  ((dats a m ρ 0 c).before_in_eq_fetched (1 : Fin 5) rfl (fun _ => rfl) (fun _ _ _ => rfl) (fun t => by rw [after_1]; unfold Dat.blockOf brought; rfl) t d).trans
    (by unfold Dat.fetched Dat.blockOf brought; rfl)
theorem before_2 (c : Dev nD) (t : Fin (cfgAt a).N) (d) : (dats a m ρ 0 c).before (2 : Fin 5) t d = brought a m ρ c (2 : Fin 5) t :=
  ((dats a m ρ 0 c).before_in_eq_fetched (2 : Fin 5) rfl (fun _ => rfl) (fun _ _ _ => rfl) (fun t => by rw [after_2]; unfold Dat.blockOf brought; rfl) t d).trans
    (by unfold Dat.fetched Dat.blockOf brought; rfl)
theorem before_3 (c : Dev nD) (t : Fin (cfgAt a).N) (d) : (dats a m ρ 0 c).before (3 : Fin 5) t d = brought a m ρ c (3 : Fin 5) t :=
  ((dats a m ρ 0 c).before_in_eq_fetched (3 : Fin 5) rfl (fun _ => rfl) (fun _ _ _ => rfl) (fun t => by rw [after_3]; unfold Dat.blockOf brought; rfl) t d).trans
    (by unfold Dat.fetched Dat.blockOf brought; rfl)

set_option maxHeartbeats 4000000 in
theorem body_obligation (c : Dev nD) : BodyObligation (dats a m ρ 0 c) (defs₀ (F := Ideal)) Variants.none () Set.univ := fun t => by
  rw [bigSep_W0, bigSep_W0]
  rewrite [not_idle a t]
  simp only [before_0, before_1, before_2, before_3, after_0, after_1, after_2, after_3, after_4]
  rewrite [show (dats a m ρ 0 c).Φ t.succ = keeps a c from rfl, show (dats a m ρ 0 c).Φ t.castSucc = keeps a c from rfl,
    show (dats a m ρ 0 c).owesAt () t.succ = (dats a m ρ 0 c).owesAt () t.castSucc from rfl]
  unfold keeps
  iintro ⟨⟨HT0, HT1⟩, Ho, ⟨%d0, H0⟩, ⟨%d1, H1⟩, ⟨%d2, H2⟩, ⟨%d3, H3⟩, ⟨%d4, H4⟩⟩
  iapply (body_runs a m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, ⟨%e4, H4⟩⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact View.read_writes_of_cover _ _ _ _ _ (stores_cover a m ρ c t)

/-! ## The launch -/

theorem lines_fresh : (lines : List (List (HloOp τ sig (Elt Ideal)))).Forall fun ops => ops.Forall fun op => op.fresh = ∅ := by
  repeat' first
    | exact rfl
    | refine ⟨?_, ?_⟩

def start : UR sig nD τ :=
  initOf (Pipeline.cells (pinned a) ((launch0 (F := Ideal)).cellOf_inj fun _ => a))
    (Pipeline.launchToks (pinned a) ((launch0 (F := Ideal)).cellOf_inj fun _ => a))

theorem whole_share (c : Dev nD) (w : Fin (cfgAt a).W) : (dats a m ρ 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v28) ↦{q 0} v 0) ∗ (((c : Thread nD τ).loc main_v29) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = keeps a c from rfl]
  unfold keeps
  iintro ⟨-, ⟨HT0, HT1⟩, -⟩
  isplitl [HT0]
  · iexact HT0
  iexact HT1

theorem leave (c : Dev nD) : (dats a m ρ 0 c).Φ (Fin.last (cfgAt a).N) ⊢ iprop(BI.emp ∗ Pipeline.scopedRest spec0 c) := by
  rw [scopedRest0_eq]
  iintro -
  isplitr; · iempintro
  iempintro

/-- What the run leaves. -/
def Ends : PUnit × MemSt nD τ sig (Elt Ideal) → Prop := fun r =>
  ∀ c : Dev nD, (∀ w : Fin (cfgAt a).W, r.2.mem (((cfgAt a).win w).arr.view.loc (c : Thread nD τ)) = (dats a (entry m) ρ 0 c).arrAt w (cfgAt a).N)
    ∧ (∀ j, r.2.mem ((c : Thread nD τ).loc (pre0.ref j)) = a.1 j)
    ∧ ∀ b ∈ Pipeline.restRefsP sig pre0 spec0, r.2.mem ((c : Thread nD τ).loc b) = entry m ((c : Thread nD τ).loc b)

set_option backward.isDefEq.respectTransparency.types false in
set_option maxHeartbeats 4000000 in
theorem runs (ha : ∀ (c : Dev nD) (j : Fin 2), entry m ((c : Thread nD τ).loc (pre0.ref j)) = a.1 j) :
    θ_run (defs (F := Ideal)) (onTc (τ := τ) (main (F := Ideal))) (s₀ m ρ) (fun r => Ends a m ρ r ∧ r.2.sem = fun _ => 0) :=
  Pipeline.θ_run_region_noSem_pf_quiescent pcfgs (fun _ => a) (dats a (entry m) ρ) () ((launch0 (F := Ideal)).cellOf_inj fun _ => a) (0 : Fin 1)
    (launch0 (F := Ideal)).win.to₀ (launch0 (F := Ideal)).pre EP defs₀ Variants.none m ρ main
    (hbody := fun c => (body_obligation a (entry m) ρ c).loose) (hne := (launch0 (F := Ideal)).block_pos)
    (harr := (launch0 (F := Ideal)).arr_whole) (hstage := (launch0 (F := Ideal)).stage_whole) (howed := fun _ _ => rfl)
    (u₀ := start a) (hu₀ := .rfl)
    (V := fun c b => entry m ((c : Thread nD τ).loc b))
    (hmain := Pipeline.hmainP_prefixes pcfgs 0 defs₀ Variants.none m main lines
      ⟨hostOps0_sub, hostOps0_1_sub, hostOps0_2_sub, hostOps0_3_sub, hostOps0_4_sub, hostOps0_5_sub, hostOps0_6_sub, hostOps0_7_sub, hostOps0_8_sub⟩
      lines_fresh main_chain)
    (hsplit := fun c => Pipeline.arrays_split (pinned a) (dats a (entry m) ρ) 0 (launch0 (F := Ideal)).win.arr_inj c (launch0 (F := Ideal)).arr_whole
      (whole_share a (entry m) ρ c) _ _ fun _ => rfl)
    (hpf := ha)
    (X := fun _ => iprop(emp)) (Y := fun _ => iprop(emp))
    (Z := fun c => Pipeline.unscopedRestP pre0 spec0 c fun b => entry m ((c : Thread nD τ).loc b))
    (hX := fun c => by
      iintro H
      isplitr; · iempintro
      iexact H)
    (hin := enter a (entry m) ρ)
    (hout := leave a (entry m) ρ)
    (QY := fun c s => ∀ b ∈ Pipeline.restRefsP sig pre0 spec0, s.mem ((c : Thread nD τ).loc b) = entry m ((c : Thread nD τ).loc b))
    (hY := fun c s' => by
      iintro ⟨-, HU, HSI⟩
      unfold Pipeline.unscopedRestP
      imodintro
      iapply (pointsTo_read_all (Pipeline.restRefsP sig pre0 spec0) (fun b => (c : Thread nD τ).loc b) (fun b => entry m ((c : Thread nD τ).loc b)) s')
      isplitl [HU] <;> iassumption)
    (hQ := fun _ h hz => ⟨fun c => ⟨(h c).1, (h c).2.1, (h c).2.2⟩, hz⟩)

/-! ## Tables the call admits -/

theorem inside {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a :=
  Fin.cases (by simpa only [Matrix.cons_val_zero] using h0) fun a => by simpa only [Matrix.cons_val_succ] using hr a

/-- Contents whose first table names experts. -/
theorem admits (v : pre0.Contents (Elt Ideal)) (h : ∀ x : S151.Idx, BitVec.toNat (v 0 x) < 8) : ok0 (F := Ideal) v := by
  refine ⟨fun i => ⟨?_, .inr (Affine.block_words_dvd (s := S2x8x1024x2816) (p := EltTy.packing .bf16) (by decide) (by decide))⟩,
    fun i => ⟨?_, .inr (Affine.block_words_dvd (s := S2x8x1024x2816) (p := EltTy.packing .bf16) (by decide) (by decide))⟩,
    fun i => ⟨?_, .inr (Affine.block_words_dvd (s := S2x8x2816x1024) (p := EltTy.packing .bf16) (by decide) (by decide))⟩⟩ <;>
  exact inside (by decide) (inside (by rw [Nat.mul_one]; exact h _) (inside (by decide) (inside (by decide) fun a => a.elim0)))

def admitted (v : pre0.Contents (Elt Ideal)) (h : ∀ x : S151.Idx, BitVec.toNat (v 0 x) < 8) : (pcfg0 (F := Ideal)).Adm := ⟨v, admits v h⟩

/-- The tables the host makes of a memory. -/
def tables : pre0.Contents (Elt Ideal) := fun j => entry m (((0 : Dev nD) : Thread nD τ).loc (pre0.ref j))

theorem tables_entry (c : Dev nD) (j : Fin 2) : entry m ((c : Thread nD τ).loc (pre0.ref j)) = tables m j := by
  obtain rfl : c = 0 := Subsingleton.elim _ _
  rfl

/-- They name experts, whatever the counts. -/
theorem tables_lt (x : S151.Idx) : BitVec.toNat (tables m 0 x) < 8 :=
  Eq.subst (motive := fun v : IVec S151 32 => (v x).toNat < 8) (entry_experts m 0).symm (tileExpert_lt _ x)

/-- The tables as the call admits them. -/
def made : (pcfg0 (F := Ideal)).Adm := admitted (tables m) (tables_lt m)

/-- A run leaves the arguments as they were. -/
theorem kept {r} (h' : Ends (made m) m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h' c).2.2 main_arg0 (by decide)).trans (entry_arg0 m c),
    (((h' c).1 (0 : Fin 5)).trans ((dats (made m) (entry m) ρ 0 c).arrAt_in (0 : Fin 5) rfl _)).trans (entry_arg1 m c),
    ((h' c).2.2 main_arg2 (by decide)).trans (entry_arg2 m c),
    ((h' c).2.2 main_arg3 (by decide)).trans (entry_arg3 m c),
    ((h' c).2.2 main_arg4 (by decide)).trans (entry_arg4 m c)⟩

/-- From any memory: the arguments end as they began, every counter at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h' => ⟨kept m ρ h'.1, h'.2⟩) (runs (made m) m ρ (tables_entry m))

end Cert.ExpertsIdeal.Routed

end
-- ==== Proof.Moe.RunsBits.lean ====
/- The experts' kernel body run once at a tile, on any buffers: the path of an active tile and the path of a tile past the active ones. -/
module

public import proofs.«01_k».proof.Proof.Gen.Experts.Skeleton
public import proofs.«01_k».proof.Proof.Gen.Experts.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Routed

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The algebra the runs are stated in. -/
local notation "𝕄" => MT nD τ sig Unit (Elt Bits) ℕ (UR sig nD τ) ℕ

/-- The two tables. -/
abbrev tbM0_0 : Memref sig .tc .smem S151 .i32 := Memref.whole main_v28
abbrev tbM0_1 : Memref sig .tc .smem S1 .i32 := Memref.whole main_v29

/-- A buffer of the output's, to read its contents through. -/
abbrev VO0_4 : View sig .tc .vmem S512x1024 .bf16 := (Memref.whole cc0_stg4_0 : Memref sig .tc .vmem S512x1024 .bf16).view

/-- The word the body loads of the second table. -/
abbrev loaded (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

variable (c : Dev nD) (i : grid0.Coords) (arg3 : Memref sig .tc .vmem S512x1152 .bf16) (harg3 : arg3.IsWhole)
  (arg4 : Memref sig .tc .vmem S1x1x1024x2816 .bf16) (harg4 : arg4.IsWhole) (arg5 : Memref sig .tc .vmem S1x1x1024x2816 .bf16) (harg5 : arg5.IsWhole)
  (arg6 : Memref sig .tc .vmem S1x1x2816x1024 .bf16) (harg6 : arg6.IsWhole) (arg7 : Memref sig .tc .vmem S512x1024 .bf16) (harg7 : arg7.IsWhole)
  (T0 : S151.Idx → Elt Bits .i32) (T1 : S1.Idx → Elt Bits .i32) (x0 : S512x1152.Idx → Elt Bits .bf16) (x1 : S1x1x1024x2816.Idx → Elt Bits .bf16)
  (x2 : S1x1x1024x2816.Idx → Elt Bits .bf16) (x3 : S1x1x2816x1024.Idx → Elt Bits .bf16)

/-- The body's buffers at their contents: four inputs, halves of the tables, and the output `O`. -/
abbrev around (O : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tbM0_0.view.loc (c : Thread nD τ) ↦{fullShare.right} T0)
    ∗ (tbM0_1.view.loc (c : Thread nD τ) ↦{fullShare.right} T1)
    ∗ O)

set_option backward.proofsInPublic true in
set_option maxHeartbeats 8000000 in
/-- The body at an active tile: its stores, with the proof that the body runs from these buffers and leaves them so stored. -/
noncomputable def activeRun (past : ¬k0_cond1 i (loaded T1) = 1#1) (act : k0_cond2 i (loaded T1) = 1#1) :
    { out : List (View.Piece (Elt Bits) S512x1024 .bf16) //
      ∀ (K : PUnit → sProp 𝕄),
        around c arg3 arg4 arg5 arg6 T0 T1 x0 x1 x2 x3 iprop((∃ d, owns (c : Thread nD τ) arg7 fullShare d)
            ∗ (around c arg3 arg4 arg5 arg6 T0 T1 x0 x1 x2 x3
                iprop(∃ f, arg7.view.loc (c : Thread nD τ) ↦[arg7.view.set]{fullShare} arg7.view.writes (Elt Bits) f out) -∗ K ⟨⟩))
          ⊢ wp frame (wpE (defs₀ (F := Bits)) Variants.none c none) Set.univ
              (cc0_moe_experts i tbM0_0 (Memref.isWhole_whole _) tbM0_1 (Memref.isWhole_whole _) arg3 harg3 arg4 harg4 arg5 harg5 arg6 harg6 arg7 harg7) K } :=
  ⟨_, fun K => by
    unfold around owns
    rw [cc0_moe_experts_eq_skeleton]; unfold cc0_moe_experts_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact past) | (guard_target = k0_cond2 _ _ = _; exact act))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The stores cover the block. -/
theorem activeCover (past : ¬k0_cond1 i (loaded T1) = 1#1) (act : k0_cond2 i (loaded T1) = 1#1) (y : S512x1024.Idx) :
    ∃ pc ∈ (activeRun c i arg3 harg3 arg4 harg4 arg5 harg5 arg6 harg6 arg7 harg7 T0 T1 x0 x1 x2 x3 past act).1, y ∈ pc.1.set :=
  View.cover_of_tiledL (activeRun c i arg3 harg3 arg4 harg4 arg5 harg5 arg6 harg6 arg7 harg7 T0 T1 x0 x1 x2 x3 past act).1 S512x1024.size (by sl_kernel_rfl) y

set_option backward.proofsInPublic true in
set_option maxHeartbeats 8000000 in
/-- The body at a tile past the active ones: its stores, with the proof that the body runs from these buffers and leaves them so stored. -/
noncomputable def pastRun (past : k0_cond1 i (loaded T1) = 1#1) (act : ¬k0_cond2 i (loaded T1) = 1#1) :
    { out : List (View.Piece (Elt Bits) S512x1024 .bf16) //
      ∀ (K : PUnit → sProp 𝕄),
        around c arg3 arg4 arg5 arg6 T0 T1 x0 x1 x2 x3 iprop((∃ d, owns (c : Thread nD τ) arg7 fullShare d)
            ∗ (around c arg3 arg4 arg5 arg6 T0 T1 x0 x1 x2 x3
                iprop(∃ f, arg7.view.loc (c : Thread nD τ) ↦[arg7.view.set]{fullShare} arg7.view.writes (Elt Bits) f out) -∗ K ⟨⟩))
          ⊢ wp frame (wpE (defs₀ (F := Bits)) Variants.none c none) Set.univ
              (cc0_moe_experts i tbM0_0 (Memref.isWhole_whole _) tbM0_1 (Memref.isWhole_whole _) arg3 harg3 arg4 harg4 arg5 harg5 arg6 harg6 arg7 harg7) K } :=
  ⟨_, fun K => by
    unfold around owns
    rw [cc0_moe_experts_eq_skeleton]; unfold cc0_moe_experts_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact past) | (guard_target = ¬(k0_cond2 _ _ = _); exact act))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The stores cover the block. -/
theorem pastCover (past : k0_cond1 i (loaded T1) = 1#1) (act : ¬k0_cond2 i (loaded T1) = 1#1) (y : S512x1024.Idx) :
    ∃ pc ∈ (pastRun c i arg3 harg3 arg4 harg4 arg5 harg5 arg6 harg6 arg7 harg7 T0 T1 x0 x1 x2 x3 past act).1, y ∈ pc.1.set :=
  View.cover_of_tiledL (pastRun c i arg3 harg3 arg4 harg4 arg5 harg5 arg6 harg6 arg7 harg7 T0 T1 x0 x1 x2 x3 past act).1 S512x1024.size (by sl_kernel_rfl) y

end Cert.Experts.Routed

end
-- ==== Proof.Moe.HostBits.lean ====
/- What the host lays out before the experts' call: the weights cast, the tiles' experts and the number of tiles in use. -/
module

public import proofs.«01_k».proof.Proof.Gen.Experts.Launch
public import proofs.«01_k».proof.Proof.Moe.Count
public import Idealize.ShloMosaic.Lib.Pipeline.ValueKit.Point
public import Idealize.ShloMosaic.PureOps.BitExact

@[expose] public section

set_option maxRecDepth 16384

noncomputable section

namespace Cert.Experts.Routed

open Cert.Experts Cert.Experts.Gen Idealize.ShloMosaic Idealize.ShloMosaic.TcCoe Idealize.SL.Sem
open _root_.Moe

/-- The tile each expert's segment ends at, from the experts' counts of rows: each count up to whole pieces, their sum over the tokens' tiles up
    to whole tiles of rows, and the running sums of these. -/
def ends (cnt : IVec S64x8 32) : IVec S8 32 :=
  floorDiv bcast_S_S8 (Host.reduceWindow IntOp.addi ![8] ![1] ![7] ![0]
    (muli (negi (floorDiv bcast_S_S8 (negi (Host.reduce IntOp.addi
        (muli (negi (floorDiv bcast_S_S64x8 (negi cnt) (constantI S_ 32 16#32))) (broadcastInDim S64x8 ![] bcast_S_S64x8 (constantI S_ 32 16#32)))
        (constantI S_ 32 0#32) reducesTo_S64x8_S8_d0 h_S_)) (constantI S_ 32 512#32)))
      (broadcastInDim S8 ![] bcast_S_S8 (constantI S_ 32 512#32)))
    (broadcastInDim S_ ![] bcast_S_S_ (constantI S_ 32 0#32)) reduceWindows_S8_S8_w8s1p7_0 h_S_) (constantI S_ 32 512#32)

/-- The last of them. -/
def last (e : IVec S8 32) : IVec S_ 32 := shapeCast S_ (extractStridedSlice S1 ![7] e slices_S8_S1_7) shapeCasts_S1_S_

/-- The tiles' numbers, none past the last in use. -/
def held (e : IVec S8 32) : IVec S151 32 :=
  minsi (iotaInDim S151 32 0) (broadcastInDim S151 ![] bcast_S_S151 (subi (last e) (constantI S_ 32 1#32)))

/-- The tiles' experts. -/
def tileExpert (e : IVec S8 32) : IVec S151 32 :=
  Host.reduce IntOp.addi (extui 32 (cmpi .sge
      (broadcastInDim S151x8 ![0, 1] bcast_S151x1_S151x8_0_1 (broadcastInDim S151x1 ![0] bcast_S151_S151x1_0 (held e)))
      (broadcastInDim S151x8 ![0, 1] bcast_S1x8_S151x8_0_1 (broadcastInDim S1x8 ![1] bcast_S8_S1x8_1 e))) natLt_1_32)
    (constantI S_ 32 0#32) reducesTo_S151x8_S151_d1 h_S_

theorem last_at (e : IVec S8 32) (i : S_.Idx) : last e i = e (ix1 (7 : Fin 8)) := by
  refine congrArg e ?_
  funext k; fin_cases k
  exact Fin.ext (congrArg (7 + ·) (Nat.lt_one_iff.1 (Fin.isLt (n := 1) _)))

theorem held_at (e : IVec S8 32) (t : Fin 151) : held e (ix1 t) = IntOp.minsi (BitVec.ofNat 32 t.val) (e (ix1 (7 : Fin 8)) - 1#32) :=
  congrArg (fun v => IntOp.minsi (BitVec.ofNat 32 t.val) (v - 1#32)) (last_at e _)

theorem tileExpert_at (e : IVec S8 32) (t : Fin 151) :
    tileExpert e (ix1 t) = passed (IntOp.minsi (BitVec.ofNat 32 t.val) (e (ix1 (7 : Fin 8)) - 1#32)) fun k => e (ix1 k) := by
  rw [← held_at]
  exact row_count _ _ _ (held e) e _ (fun t k => by pointwise) t

/-- A tile's expert is one of the eight. -/
theorem tileExpert_lt (cnt : IVec S64x8 32) (x : S151.Idx) : (tileExpert (ends cnt) x).toNat < 8 := by
  obtain ⟨t, rfl⟩ : ∃ t : Fin 151, x = ix1 t := ⟨x 0, by funext k; fin_cases k; rfl⟩
  rw [tileExpert_at]
  exact passed_lt _ _ (held_lt _ _ (floorDiv_gt _ _ _))

variable (m : (ℓ : Loc nD τ sig) → Buf (Elt Bits) ℓ) (c : Dev nD)

/-- The host's lines before the call. -/
abbrev lines : List (List (HloOp τ sig (Elt Bits))) :=
  [hostOps0, hostOps0_1, hostOps0_2, hostOps0_3, hostOps0_4, hostOps0_5, hostOps0_6, hostOps0_7, hostOps0_8]

/-- The memory the call finds. -/
def entry : (ℓ : Loc nD τ sig) → Buf (Elt Bits) ℓ := fun ℓ => StableHlo.after lines.flatten (fun b => m (ℓ.1, b)) ℓ.2

/-! Each stretch of host lines over any contents: what it leaves in the buffers that are read later, and that it keeps the others. -/

section
variable (σ : Valuation τ sig (Elt Bits)) (r : Ref sig .tc)

theorem keep_0 (h : r ∉ [main_v0, main_v1, main_v2, main_v3, main_c]) :
    StableHlo.after (hostOps0 (F := Bits)) σ (Proc.devRef .tc r) = σ (Proc.devRef .tc r) :=
  StableHlo.after_of_writes_sub _ _ (StableHlo.forall_writes_sub_of_map (W := [main_v0, main_v1, main_v2, main_v3, main_c]) rfl) h

theorem keep_1 (h : r ∉ [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]) :
    StableHlo.after (hostOps0_1 (F := Bits)) σ (Proc.devRef .tc r) = σ (Proc.devRef .tc r) :=
  StableHlo.after_of_writes_sub _ _ (StableHlo.forall_writes_sub_of_map (W := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]) rfl) h

theorem keep_2 (h : r ∉ [main_v5, main_c_0, main_v6, main_v7, main_c_1, main_v8, main_v9, main_c_2]) :
    StableHlo.after (hostOps0_2 (F := Bits)) σ (Proc.devRef .tc r) = σ (Proc.devRef .tc r) :=
  StableHlo.after_of_writes_sub _ _ (StableHlo.forall_writes_sub_of_map (W := [main_v5, main_c_0, main_v6, main_v7, main_c_1, main_v8, main_v9, main_c_2]) rfl) h

theorem keep_3 (h : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]) :
    StableHlo.after (hostOps0_3 (F := Bits)) σ (Proc.devRef .tc r) = σ (Proc.devRef .tc r) :=
  StableHlo.after_of_writes_sub _ _ (StableHlo.forall_writes_sub_of_map (W := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]) rfl) h

theorem keep_4 (h : r ∉ [main_v11, main_c_3, main_v12, main_v13]) :
    StableHlo.after (hostOps0_4 (F := Bits)) σ (Proc.devRef .tc r) = σ (Proc.devRef .tc r) :=
  StableHlo.after_of_writes_sub _ _ (StableHlo.forall_writes_sub_of_map (W := [main_v11, main_c_3, main_v12, main_v13]) rfl) h

theorem keep_5 (h : r ∉ [main_call2_call0_c, main_call2_call0_v0, main_v14]) :
    StableHlo.after (hostOps0_5 (F := Bits)) σ (Proc.devRef .tc r) = σ (Proc.devRef .tc r) :=
  StableHlo.after_of_writes_sub _ _ (StableHlo.forall_writes_sub_of_map (W := [main_call2_call0_c, main_call2_call0_v0, main_v14]) rfl) h

theorem keep_6 (h : r ∉ [main_c_4]) :
    StableHlo.after (hostOps0_6 (F := Bits)) σ (Proc.devRef .tc r) = σ (Proc.devRef .tc r) :=
  StableHlo.after_of_writes_sub _ _ (StableHlo.forall_writes_sub_of_map (W := [main_c_4]) rfl) h

theorem keep_7 (h : r ∉ [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v15]) :
    StableHlo.after (hostOps0_7 (F := Bits)) σ (Proc.devRef .tc r) = σ (Proc.devRef .tc r) :=
  StableHlo.after_of_writes_sub _ _ (StableHlo.forall_writes_sub_of_map (W := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v15]) rfl) h

theorem keep_8 (h : r ∉ [main_v16, main_v17, main_v18, main_c_5, main_v19, main_v20, main_v21, main_v22, main_v23, main_v24, main_v25, main_v26, main_v27, main_c_6, main_v28, main_v29]) :
    StableHlo.after (hostOps0_8 (F := Bits)) σ (Proc.devRef .tc r) = σ (Proc.devRef .tc r) :=
  StableHlo.after_of_writes_sub _ _ (StableHlo.forall_writes_sub_of_map (W := [main_v16, main_v17, main_v18, main_c_5, main_v19, main_v20, main_v21, main_v22, main_v23, main_v24, main_v25, main_v26, main_v27, main_c_6, main_v28, main_v29]) rfl) h

theorem line_w0 : StableHlo.after (hostOps0 (F := Bits)) σ (Proc.devRef .tc main_v0)
    = (truncf .bf16 (σ (Proc.devRef .tc main_arg2)) bitsLt_bf16_f32 : FVec Bits S2x8x1024x2816 .bf16) := by
  after_results_simp; try rfl

theorem line_w1 : StableHlo.after (hostOps0 (F := Bits)) σ (Proc.devRef .tc main_v1)
    = (truncf .bf16 (σ (Proc.devRef .tc main_arg3)) bitsLt_bf16_f32 : FVec Bits S2x8x1024x2816 .bf16) := by
  after_results_simp; try rfl

theorem line_w2 : StableHlo.after (hostOps0 (F := Bits)) σ (Proc.devRef .tc main_v2)
    = (truncf .bf16 (σ (Proc.devRef .tc main_arg4)) bitsLt_bf16_f32 : FVec Bits S2x8x2816x1024 .bf16) := by
  after_results_simp; try rfl

theorem line_v3 : StableHlo.after (hostOps0 (F := Bits)) σ (Proc.devRef .tc main_v3)
    = (negi (σ (Proc.devRef .tc main_arg0)) : IVec S64x8 32) := by
  after_results_simp; try rfl

theorem line_c : StableHlo.after (hostOps0 (F := Bits)) σ (Proc.devRef .tc main_c)
    = constantI S_ 32 16#32 := by
  after_results_simp; try rfl

theorem line_v4 : StableHlo.after (hostOps0_1 (F := Bits)) σ (Proc.devRef .tc main_v4)
    = floorDiv bcast_S_S64x8 (σ (Proc.devRef .tc main_v3)) (σ (Proc.devRef .tc main_c)) := by
  after_results_simp; try rfl

theorem line_v9 : StableHlo.after (hostOps0_2 (F := Bits)) σ (Proc.devRef .tc main_v9)
    = (negi (Host.reduce IntOp.addi (muli (negi (σ (Proc.devRef .tc main_v4))) (broadcastInDim S64x8 ![] bcast_S_S64x8 (constantI S_ 32 16#32))) (constantI S_ 32 0#32) reducesTo_S64x8_S8_d0 h_S_) : IVec S8 32) := by
  after_results_simp; try rfl

theorem line_c2 : StableHlo.after (hostOps0_2 (F := Bits)) σ (Proc.devRef .tc main_c_2)
    = constantI S_ 32 512#32 := by
  after_results_simp; try rfl

theorem line_v10 : StableHlo.after (hostOps0_3 (F := Bits)) σ (Proc.devRef .tc main_v10)
    = floorDiv bcast_S_S8 (σ (Proc.devRef .tc main_v9)) (σ (Proc.devRef .tc main_c_2)) := by
  after_results_simp; try rfl

theorem line_v13 : StableHlo.after (hostOps0_4 (F := Bits)) σ (Proc.devRef .tc main_v13)
    = (muli (negi (σ (Proc.devRef .tc main_v10))) (broadcastInDim S8 ![] bcast_S_S8 (constantI S_ 32 512#32)) : IVec S8 32) := by
  after_results_simp; try rfl

attribute [local irreducible] Host.reduceWindow in
theorem line_v14 : StableHlo.after (hostOps0_5 (F := Bits)) σ (Proc.devRef .tc main_v14)
    = (Host.reduceWindow IntOp.addi ![8] ![1] ![7] ![0] (σ (Proc.devRef .tc main_v13)) (broadcastInDim S_ ![] bcast_S_S_ (constantI S_ 32 0#32)) reduceWindows_S8_S8_w8s1p7_0 h_S_ : IVec S8 32) := by
  after_results_simp; rfl

theorem line_c4 : StableHlo.after (hostOps0_6 (F := Bits)) σ (Proc.devRef .tc main_c_4)
    = constantI S_ 32 512#32 := by
  after_results_simp; try rfl

theorem line_v15 : StableHlo.after (hostOps0_7 (F := Bits)) σ (Proc.devRef .tc main_v15)
    = floorDiv bcast_S_S8 (σ (Proc.devRef .tc main_v14)) (σ (Proc.devRef .tc main_c_4)) := by
  after_results_simp; try rfl

theorem line_v28 : StableHlo.after (hostOps0_8 (F := Bits)) σ (Proc.devRef .tc main_v28)
    = tileExpert (σ (Proc.devRef .tc main_v15)) := by
  after_results_simp; try rfl

theorem line_v29 : StableHlo.after (hostOps0_8 (F := Bits)) σ (Proc.devRef .tc main_v29)
    = shapeCast S1 (last (σ (Proc.devRef .tc main_v15))) shapeCasts_S_S1 := by
  after_results_simp; try rfl

end

/-! What the call finds in its arguments. -/

set_option maxHeartbeats 1000000

theorem entry_gate : entry m ((c : Thread nD τ).loc main_v0) = (truncf .bf16 (m ((c : Thread nD τ).loc main_arg2)) bitsLt_bf16_f32 : FVec Bits S2x8x1024x2816 .bf16) := by
  unfold entry
  simp only [lines, List.flatten_cons, List.flatten_nil, List.append_nil, StableHlo.after_append]
  repeat first
    | rw [line_w0] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_up : entry m ((c : Thread nD τ).loc main_v1) = (truncf .bf16 (m ((c : Thread nD τ).loc main_arg3)) bitsLt_bf16_f32 : FVec Bits S2x8x1024x2816 .bf16) := by
  unfold entry
  simp only [lines, List.flatten_cons, List.flatten_nil, List.append_nil, StableHlo.after_append]
  repeat first
    | rw [line_w1] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_down : entry m ((c : Thread nD τ).loc main_v2) = (truncf .bf16 (m ((c : Thread nD τ).loc main_arg4)) bitsLt_bf16_f32 : FVec Bits S2x8x2816x1024 .bf16) := by
  unfold entry
  simp only [lines, List.flatten_cons, List.flatten_nil, List.append_nil, StableHlo.after_append]
  repeat first
    | rw [line_w2] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_experts : entry m ((c : Thread nD τ).loc main_v28) = tileExpert (ends (m ((c : Thread nD τ).loc main_arg0))) := by
  unfold entry
  simp only [lines, List.flatten_cons, List.flatten_nil, List.append_nil, StableHlo.after_append]
  repeat first
    | rw [line_v28] | rw [line_v15] | rw [line_c4] | rw [line_v14] | rw [line_v13] | rw [line_v10] | rw [line_c2] | rw [line_v9] | rw [line_v4] | rw [line_c] | rw [line_v3] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]
    | rfl

theorem entry_active : entry m ((c : Thread nD τ).loc main_v29) = shapeCast S1 (last (ends (m ((c : Thread nD τ).loc main_arg0)))) shapeCasts_S_S1 := by
  unfold entry
  simp only [lines, List.flatten_cons, List.flatten_nil, List.append_nil, StableHlo.after_append]
  repeat first
    | rw [line_v29] | rw [line_v15] | rw [line_c4] | rw [line_v14] | rw [line_v13] | rw [line_v10] | rw [line_c2] | rw [line_v9] | rw [line_v4] | rw [line_c] | rw [line_v3] | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]
    | rfl

theorem entry_arg0 : entry m ((c : Thread nD τ).loc main_arg0) = m ((c : Thread nD τ).loc main_arg0) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg1 : entry m ((c : Thread nD τ).loc main_arg1) = m ((c : Thread nD τ).loc main_arg1) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg2 : entry m ((c : Thread nD τ).loc main_arg2) = m ((c : Thread nD τ).loc main_arg2) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg3 : entry m ((c : Thread nD τ).loc main_arg3) = m ((c : Thread nD τ).loc main_arg3) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

theorem entry_arg4 : entry m ((c : Thread nD τ).loc main_arg4) = m ((c : Thread nD τ).loc main_arg4) := by
  unfold entry
  simp only [lines, List.flatten_cons, List.flatten_nil, List.append_nil, StableHlo.after_append]
  repeat first
    | rw [keep_8 _ _ (by decide)] | rw [keep_7 _ _ (by decide)] | rw [keep_6 _ _ (by decide)] | rw [keep_5 _ _ (by decide)] | rw [keep_4 _ _ (by decide)] | rw [keep_3 _ _ (by decide)] | rw [keep_2 _ _ (by decide)] | rw [keep_1 _ _ (by decide)] | rw [keep_0 _ _ (by decide)]

end Cert.Experts.Routed

end
-- ==== Proof.Moe.FrameBits.lean ====
/- The experts' call run at any tables: every tile's expert read from the first, the count of active tiles from the second. -/
module

public import proofs.«01_k».proof.Proof.Gen.Experts.Skeleton
public import proofs.«01_k».proof.Proof.Gen.Experts.Launch
public import proofs.«01_k».proof.Proof.Moe.RunsBits
public import proofs.«01_k».proof.Proof.Moe.HostBits
public import Idealize.ShloMosaic.Lib.Pipeline.TableIdle
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Experts.Routed

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The algebra the frame is proved in. -/
local notation "𝕄" => MT nD τ sig Unit (Elt Bits) ℕ (UR sig nD τ) ℕ

/-- The rounds' algebra in it. -/
abbrev EP : Emb (UR sig nD τ) 𝕄 := emb₁

/-! ## The tables and the pipeline at them -/

variable (a : (pcfg0 (F := Bits)).Adm)

abbrev cfgAt : Pipeline.Cfg sig Λ₀ := cfg0 (F := Bits) a
abbrev pinned : Fin 1 → Pipeline.Cfg sig Λ₀ := Pipeline.pin (pcfgs (F := Bits)) fun _ => a

/-- The experts of the tiles, and the number of active tiles. -/
abbrev experts : S151.Idx → Elt Bits .i32 := a.1 0
abbrev active : S1.Idx → Elt Bits .i32 := a.1 1

abbrev point (t : Fin (cfgAt a).N) : (cfgAt a).grid.Coords := (cfgAt a).grid.coords t

/-- The word the body loads of the second table. -/
abbrev count : BitVec 32 := loaded (active a)

/-- Tile `t` is past the active ones. -/
abbrev Past (t : Fin (cfgAt a).N) : Prop := k0_cond1 (point a t) (count a) = 1#1

theorem cond_neg (i : grid0.Coords) (v : BitVec 32) : k0_cond1 i v = 1#1 ↔ ¬k0_cond2 i v = 1#1 := by
  unfold k0_cond1 k0_cond2
  dsimp only
  generalize Scalar.cmpi .slt (BitVec.ofNat 32 (i 0).val) v = b
  revert b
  decide

theorem live (i : grid0.Coords) (v : BitVec 32) : (!(k0_cond1 i v == 1#1) && !(k0_cond2 i v == 1#1)) = false := by
  have h := cond_neg i v
  by_cases h2 : k0_cond2 i v = 1#1 <;> simp_all

theorem not_idle (t : Fin (cfgAt a).N) : (cfgAt a).idle (4 : Fin 5) ((cfgAt a).grid.coords t) = false := live _ _

/-! ## The staging buffers and the blocks -/

variable (m : (ℓ : Loc nD τ sig) → Buf (Elt Bits) ℓ) (ρ : Dev nD → PrngReg)

abbrev st0 (t : Fin (cfgAt a).N) : Memref sig .tc .vmem S512x1152 .bf16 := spec0_0.stage ((cfgAt a).slots t (0 : Fin 5))
abbrev st1 (t : Fin (cfgAt a).N) : Memref sig .tc .vmem S1x1x1024x2816 .bf16 := spec0_1.stage ((cfgAt a).slots t (1 : Fin 5))
abbrev st2 (t : Fin (cfgAt a).N) : Memref sig .tc .vmem S1x1x1024x2816 .bf16 := spec0_2.stage ((cfgAt a).slots t (2 : Fin 5))
abbrev st3 (t : Fin (cfgAt a).N) : Memref sig .tc .vmem S1x1x2816x1024 .bf16 := spec0_3.stage ((cfgAt a).slots t (3 : Fin 5))
abbrev st4 (t : Fin (cfgAt a).N) : Memref sig .tc .vmem S512x1024 .bf16 := spec0_4.stage ((cfgAt a).slots t (4 : Fin 5))
abbrev wh0 (t : Fin (cfgAt a).N) : (st0 a t).IsWhole := hstage0_0 (((cfgAt a).slots t (0 : Fin 5)).cast nbuf0_0)
abbrev wh1 (t : Fin (cfgAt a).N) : (st1 a t).IsWhole := hstage0_1 (((cfgAt a).slots t (1 : Fin 5)).cast nbuf0_1)
abbrev wh2 (t : Fin (cfgAt a).N) : (st2 a t).IsWhole := hstage0_2 (((cfgAt a).slots t (2 : Fin 5)).cast nbuf0_2)
abbrev wh3 (t : Fin (cfgAt a).N) : (st3 a t).IsWhole := hstage0_3 (((cfgAt a).slots t (3 : Fin 5)).cast nbuf0_3)
abbrev wh4 (t : Fin (cfgAt a).N) : (st4 a t).IsWhole := hstage0_4 (((cfgAt a).slots t (4 : Fin 5)).cast nbuf0_4)

/-- The block a window brings to point `t`. -/
def brought (c : Dev nD) (w : Fin (cfgAt a).W) (t : Fin (cfgAt a).N) : (((cfgAt a).win w).xblock (point a t)).Idx → Elt Bits ((cfgAt a).win w).elt :=
  (((cfgAt a).win w).blk t).view.read (Elt Bits) ((s₀ m ρ).mem (((cfgAt a).win w).arr.view.loc (c : Thread nD τ)))

/-! ## The body at a point, past the active tiles or not -/

/-- The stores of the body at point `t`. -/
def stores (c : Dev nD) (t : Fin (cfgAt a).N) : List (View.Piece (Elt Bits) S512x1024 .bf16) :=
  if h : Past a t then
    (pastRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h ((cond_neg _ _).1 h)).1
  else
    (activeRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h (not_not.1 fun h2 => h ((cond_neg _ _).2 h2))).1

theorem stores_cover (c : Dev nD) (t : Fin (cfgAt a).N) (y : S512x1024.Idx) : ∃ pc ∈ stores a m ρ c t, y ∈ pc.1.set := by
  unfold stores
  split
  · exact pastCover c _ _ _ _ _ _ _ _ _ _ _ _ _ _ _ _ _ _ _ y
  · exact activeCover c _ _ _ _ _ _ _ _ _ _ _ _ _ _ _ _ _ _ _ y

/-- The output's block after point `t`. -/
def left (c : Dev nD) (t : Fin (cfgAt a).N) : S512x1024.Idx → Elt Bits .bf16 :=
  VO0_4.read (Elt Bits) (VO0_4.writes (Elt Bits) VO0_4.junk (stores a m ρ c t))

abbrev bodyAt (t : Fin (cfgAt a).N) : Prog (TpuEff nD τ sig (Elt Bits) Λ₀ .tc) PUnit :=
  cc0_moe_experts (point a t) tbM0_0 (Memref.isWhole_whole _) tbM0_1 (Memref.isWhole_whole _) (st0 a t) (wh0 a t) (st1 a t) (wh1 a t) (st2 a t) (wh2 a t)
    (st3 a t) (wh3 a t) (st4 a t) (wh4 a t)

/-- The memory the body takes and hands back: its four inputs, its halves of the tables, and the output `O`. -/
abbrev carried (c : Dev nD) (t : Fin (cfgAt a).N) (O : sProp 𝕄) : sProp 𝕄 :=
  iprop(((st0 a t).view.loc (c : Thread nD τ) ↦[(st0 a t).view.set]{fullShare} (st0 a t).view.rep (brought a m ρ c 0 t))
    ∗ ((st1 a t).view.loc (c : Thread nD τ) ↦[(st1 a t).view.set]{fullShare} (st1 a t).view.rep (brought a m ρ c 1 t))
    ∗ ((st2 a t).view.loc (c : Thread nD τ) ↦[(st2 a t).view.set]{fullShare} (st2 a t).view.rep (brought a m ρ c 2 t))
    ∗ ((st3 a t).view.loc (c : Thread nD τ) ↦[(st3 a t).view.set]{fullShare} (st3 a t).view.rep (brought a m ρ c 3 t))
    ∗ (tbM0_0.view.loc (c : Thread nD τ) ↦{fullShare.right} experts a)
    ∗ (tbM0_1.view.loc (c : Thread nD τ) ↦{fullShare.right} active a)
    ∗ O)

set_option maxHeartbeats 1000000 in
theorem body_runs (c : Dev nD) (t : Fin (cfgAt a).N) (K : PUnit → sProp 𝕄) :
    carried a m ρ c t iprop((∃ d, owns (c : Thread nD τ) (st4 a t) fullShare d)
        ∗ (carried a m ρ c t iprop(∃ f, (st4 a t).view.loc (c : Thread nD τ) ↦[(st4 a t).view.set]{fullShare} (st4 a t).view.writes (Elt Bits) f (stores a m ρ c t)) -∗ K ⟨⟩))
      ⊢ wp frame (wpE (defs₀ (F := Bits)) Variants.none c none) Set.univ (bodyAt a t) K := by
  unfold stores
  split
  · rename_i h
    exact (pastRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h ((cond_neg _ _).1 h)).2 K
  · rename_i h
    exact (activeRun c (point a t) (st0 a t) (wh0 a t) (st1 a t) (wh1 a t) (st2 a t) (wh2 a t) (st3 a t) (wh3 a t) (st4 a t) (wh4 a t) (experts a) (active a)
      (brought a m ρ c 0 t) (brought a m ρ c 1 t) (brought a m ρ c 2 t) (brought a m ρ c 3 t) h (not_not.1 fun h2 => h ((cond_neg _ _).2 h2))).2 K

/-! ## The pipeline's data -/

/-- Between points the body keeps its halves of the tables. -/
def keeps (c : Dev nD) : sProp 𝕄 :=
  iprop((tbM0_0.view.loc (c : Thread nD τ) ↦{fullShare.right} experts a) ∗ (tbM0_1.view.loc (c : Thread nD τ) ↦{fullShare.right} active a))

def dats (_ : Fin 1) (c : Dev nD) : Dat τ (Elt Bits) Unit ℕ (UR sig nD τ) ℕ (cfgAt a) c where
  A w := (s₀ m ρ).mem (((cfgAt a).win w).arr.view.loc (c : Thread nD τ))
  after w t := match w with
    | ⟨0, _⟩ => brought a m ρ c (0 : Fin 5) t
    | ⟨1, _⟩ => brought a m ρ c (1 : Fin 5) t
    | ⟨2, _⟩ => brought a m ρ c (2 : Fin 5) t
    | ⟨3, _⟩ => brought a m ρ c (3 : Fin 5) t
    | ⟨4, _⟩ => left a m ρ c t
  Φ _ := keeps a c
  q _ := fullShare
  owed _ := 0

theorem after_0 (c : Dev nD) (t : Fin (cfgAt a).N) : (dats a m ρ 0 c).after (0 : Fin 5) t = brought a m ρ c (0 : Fin 5) t := rfl
theorem after_1 (c : Dev nD) (t : Fin (cfgAt a).N) : (dats a m ρ 0 c).after (1 : Fin 5) t = brought a m ρ c (1 : Fin 5) t := rfl
theorem after_2 (c : Dev nD) (t : Fin (cfgAt a).N) : (dats a m ρ 0 c).after (2 : Fin 5) t = brought a m ρ c (2 : Fin 5) t := rfl
theorem after_3 (c : Dev nD) (t : Fin (cfgAt a).N) : (dats a m ρ 0 c).after (3 : Fin 5) t = brought a m ρ c (3 : Fin 5) t := rfl
theorem after_4 (c : Dev nD) (t : Fin (cfgAt a).N) : (dats a m ρ 0 c).after (4 : Fin 5) t = left a m ρ c t := rfl

theorem before_0 (c : Dev nD) (t : Fin (cfgAt a).N) (d) : (dats a m ρ 0 c).before (0 : Fin 5) t d = brought a m ρ c (0 : Fin 5) t :=
  ((dats a m ρ 0 c).before_in_eq_fetched (0 : Fin 5) rfl (fun _ => rfl) (fun _ _ _ => rfl) (fun t => by rw [after_0]; unfold Dat.blockOf brought; rfl) t d).trans
    (by unfold Dat.fetched Dat.blockOf brought; rfl)
theorem before_1 (c : Dev nD) (t : Fin (cfgAt a).N) (d) : (dats a m ρ 0 c).before (1 : Fin 5) t d = brought a m ρ c (1 : Fin 5) t :=
  ((dats a m ρ 0 c).before_in_eq_fetched (1 : Fin 5) rfl (fun _ => rfl) (fun _ _ _ => rfl) (fun t => by rw [after_1]; unfold Dat.blockOf brought; rfl) t d).trans
    (by unfold Dat.fetched Dat.blockOf brought; rfl)
theorem before_2 (c : Dev nD) (t : Fin (cfgAt a).N) (d) : (dats a m ρ 0 c).before (2 : Fin 5) t d = brought a m ρ c (2 : Fin 5) t :=
  ((dats a m ρ 0 c).before_in_eq_fetched (2 : Fin 5) rfl (fun _ => rfl) (fun _ _ _ => rfl) (fun t => by rw [after_2]; unfold Dat.blockOf brought; rfl) t d).trans
    (by unfold Dat.fetched Dat.blockOf brought; rfl)
theorem before_3 (c : Dev nD) (t : Fin (cfgAt a).N) (d) : (dats a m ρ 0 c).before (3 : Fin 5) t d = brought a m ρ c (3 : Fin 5) t :=
  ((dats a m ρ 0 c).before_in_eq_fetched (3 : Fin 5) rfl (fun _ => rfl) (fun _ _ _ => rfl) (fun t => by rw [after_3]; unfold Dat.blockOf brought; rfl) t d).trans
    (by unfold Dat.fetched Dat.blockOf brought; rfl)

set_option maxHeartbeats 4000000 in
theorem body_obligation (c : Dev nD) : BodyObligation (dats a m ρ 0 c) (defs₀ (F := Bits)) Variants.none () Set.univ := fun t => by
  rw [bigSep_W0, bigSep_W0]
  rewrite [not_idle a t]
  simp only [before_0, before_1, before_2, before_3, after_0, after_1, after_2, after_3, after_4]
  rewrite [show (dats a m ρ 0 c).Φ t.succ = keeps a c from rfl, show (dats a m ρ 0 c).Φ t.castSucc = keeps a c from rfl,
    show (dats a m ρ 0 c).owesAt () t.succ = (dats a m ρ 0 c).owesAt () t.castSucc from rfl]
  unfold keeps
  iintro ⟨⟨HT0, HT1⟩, Ho, ⟨%d0, H0⟩, ⟨%d1, H1⟩, ⟨%d2, H2⟩, ⟨%d3, H3⟩, ⟨%d4, H4⟩⟩
  iapply (body_runs a m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, ⟨%e4, H4⟩⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact View.read_writes_of_cover _ _ _ _ _ (stores_cover a m ρ c t)

/-! ## The launch -/

theorem lines_fresh : (lines : List (List (HloOp τ sig (Elt Bits)))).Forall fun ops => ops.Forall fun op => op.fresh = ∅ := by
  repeat' first
    | exact rfl
    | refine ⟨?_, ?_⟩

def start : UR sig nD τ :=
  initOf (Pipeline.cells (pinned a) ((launch0 (F := Bits)).cellOf_inj fun _ => a))
    (Pipeline.launchToks (pinned a) ((launch0 (F := Bits)).cellOf_inj fun _ => a))

theorem whole_share (c : Dev nD) (w : Fin (cfgAt a).W) : (dats a m ρ 0 c).share w = fullShare := by unfold Dat.share; split <;> rfl

theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v28) ↦{q 0} v 0) ∗ (((c : Thread nD τ).loc main_v29) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = keeps a c from rfl]
  unfold keeps
  iintro ⟨-, ⟨HT0, HT1⟩, -⟩
  isplitl [HT0]
  · iexact HT0
  iexact HT1

theorem leave (c : Dev nD) : (dats a m ρ 0 c).Φ (Fin.last (cfgAt a).N) ⊢ iprop(BI.emp ∗ Pipeline.scopedRest spec0 c) := by
  rw [scopedRest0_eq]
  iintro -
  isplitr; · iempintro
  iempintro

/-- What the run leaves. -/
def Ends : PUnit × MemSt nD τ sig (Elt Bits) → Prop := fun r =>
  ∀ c : Dev nD, (∀ w : Fin (cfgAt a).W, r.2.mem (((cfgAt a).win w).arr.view.loc (c : Thread nD τ)) = (dats a (entry m) ρ 0 c).arrAt w (cfgAt a).N)
    ∧ (∀ j, r.2.mem ((c : Thread nD τ).loc (pre0.ref j)) = a.1 j)
    ∧ ∀ b ∈ Pipeline.restRefsP sig pre0 spec0, r.2.mem ((c : Thread nD τ).loc b) = entry m ((c : Thread nD τ).loc b)

set_option backward.isDefEq.respectTransparency.types false in
set_option maxHeartbeats 4000000 in
theorem runs (ha : ∀ (c : Dev nD) (j : Fin 2), entry m ((c : Thread nD τ).loc (pre0.ref j)) = a.1 j) :
    θ_run (defs (F := Bits)) (onTc (τ := τ) (main (F := Bits))) (s₀ m ρ) (fun r => Ends a m ρ r ∧ r.2.sem = fun _ => 0) :=
  Pipeline.θ_run_region_noSem_pf_quiescent pcfgs (fun _ => a) (dats a (entry m) ρ) () ((launch0 (F := Bits)).cellOf_inj fun _ => a) (0 : Fin 1)
    (launch0 (F := Bits)).win.to₀ (launch0 (F := Bits)).pre EP defs₀ Variants.none m ρ main
    (hbody := fun c => (body_obligation a (entry m) ρ c).loose) (hne := (launch0 (F := Bits)).block_pos)
    (harr := (launch0 (F := Bits)).arr_whole) (hstage := (launch0 (F := Bits)).stage_whole) (howed := fun _ _ => rfl)
    (u₀ := start a) (hu₀ := .rfl)
    (V := fun c b => entry m ((c : Thread nD τ).loc b))
    (hmain := Pipeline.hmainP_prefixes pcfgs 0 defs₀ Variants.none m main lines
      ⟨hostOps0_sub, hostOps0_1_sub, hostOps0_2_sub, hostOps0_3_sub, hostOps0_4_sub, hostOps0_5_sub, hostOps0_6_sub, hostOps0_7_sub, hostOps0_8_sub⟩
      lines_fresh main_chain)
    (hsplit := fun c => Pipeline.arrays_split (pinned a) (dats a (entry m) ρ) 0 (launch0 (F := Bits)).win.arr_inj c (launch0 (F := Bits)).arr_whole
      (whole_share a (entry m) ρ c) _ _ fun _ => rfl)
    (hpf := ha)
    (X := fun _ => iprop(emp)) (Y := fun _ => iprop(emp))
    (Z := fun c => Pipeline.unscopedRestP pre0 spec0 c fun b => entry m ((c : Thread nD τ).loc b))
    (hX := fun c => by
      iintro H
      isplitr; · iempintro
      iexact H)
    (hin := enter a (entry m) ρ)
    (hout := leave a (entry m) ρ)
    (QY := fun c s => ∀ b ∈ Pipeline.restRefsP sig pre0 spec0, s.mem ((c : Thread nD τ).loc b) = entry m ((c : Thread nD τ).loc b))
    (hY := fun c s' => by
      iintro ⟨-, HU, HSI⟩
      unfold Pipeline.unscopedRestP
      imodintro
      iapply (pointsTo_read_all (Pipeline.restRefsP sig pre0 spec0) (fun b => (c : Thread nD τ).loc b) (fun b => entry m ((c : Thread nD τ).loc b)) s')
      isplitl [HU] <;> iassumption)
    (hQ := fun _ h hz => ⟨fun c => ⟨(h c).1, (h c).2.1, (h c).2.2⟩, hz⟩)

/-! ## Tables the call admits -/

theorem inside {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a :=
  Fin.cases (by simpa only [Matrix.cons_val_zero] using h0) fun a => by simpa only [Matrix.cons_val_succ] using hr a

/-- Contents whose first table names experts. -/
theorem admits (v : pre0.Contents (Elt Bits)) (h : ∀ x : S151.Idx, BitVec.toNat (v 0 x) < 8) : ok0 (F := Bits) v := by
  refine ⟨fun i => ⟨?_, .inr (Affine.block_words_dvd (s := S2x8x1024x2816) (p := EltTy.packing .bf16) (by decide) (by decide))⟩,
    fun i => ⟨?_, .inr (Affine.block_words_dvd (s := S2x8x1024x2816) (p := EltTy.packing .bf16) (by decide) (by decide))⟩,
    fun i => ⟨?_, .inr (Affine.block_words_dvd (s := S2x8x2816x1024) (p := EltTy.packing .bf16) (by decide) (by decide))⟩⟩ <;>
  exact inside (by decide) (inside (by rw [Nat.mul_one]; exact h _) (inside (by decide) (inside (by decide) fun a => a.elim0)))

def admitted (v : pre0.Contents (Elt Bits)) (h : ∀ x : S151.Idx, BitVec.toNat (v 0 x) < 8) : (pcfg0 (F := Bits)).Adm := ⟨v, admits v h⟩

/-- The tables the host makes of a memory. -/
def tables : pre0.Contents (Elt Bits) := fun j => entry m (((0 : Dev nD) : Thread nD τ).loc (pre0.ref j))

theorem tables_entry (c : Dev nD) (j : Fin 2) : entry m ((c : Thread nD τ).loc (pre0.ref j)) = tables m j := by
  obtain rfl : c = 0 := Subsingleton.elim _ _
  rfl

/-- They name experts, whatever the counts. -/
theorem tables_lt (x : S151.Idx) : BitVec.toNat (tables m 0 x) < 8 :=
  Eq.subst (motive := fun v : IVec S151 32 => (v x).toNat < 8) (entry_experts m 0).symm (tileExpert_lt _ x)

/-- The tables as the call admits them. -/
def made : (pcfg0 (F := Bits)).Adm := admitted (tables m) (tables_lt m)

/-- A run leaves the arguments as they were. -/
theorem kept {r} (h' : Ends (made m) m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h' c).2.2 main_arg0 (by decide)).trans (entry_arg0 m c),
    (((h' c).1 (0 : Fin 5)).trans ((dats (made m) (entry m) ρ 0 c).arrAt_in (0 : Fin 5) rfl _)).trans (entry_arg1 m c),
    ((h' c).2.2 main_arg2 (by decide)).trans (entry_arg2 m c),
    ((h' c).2.2 main_arg3 (by decide)).trans (entry_arg3 m c),
    ((h' c).2.2 main_arg4 (by decide)).trans (entry_arg4 m c)⟩

/-- From any memory: the arguments end as they began, every counter at zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h' => ⟨kept m ρ h'.1, h'.2⟩) (runs (made m) m ρ (tables_entry m))

end Cert.Experts.Routed

end
-- ==== Proof.Moe.Body.lean ====
/- What the experts' kernel leaves in its result block at one tile: the tile's expert on every row times the row's gate, or zeros past the
   active tiles. -/
module

public import proofs.«01_k».proof.Proof.Moe.FrameIdeal
public import proofs.«01_k».proof.Proof.Moe.Spec
public import Idealize.ShloMosaic.Lib.Pipeline.ValueKit

@[expose] public section

set_option maxRecDepth 200000

noncomputable section

namespace Cert.ExpertsIdeal.Routed

open Cert.ExpertsIdeal Cert.ExpertsIdeal.Gen Idealize.ShloMosaic Idealize.SL.Sem
open Idealize.ShloMosaic.TcCoe
open _root_.Moe

abbrev wholeX : Rect S512x1152 := Rect.unit (s := S512x1152) ![0, 0] S512x1024.size inb_S512x1152_S512x1024_0_0
abbrev gateX : Rect S512x1152 := Rect.unit (s := S512x1152) ![0, 1024] S512x128.size inb_S512x1152_S512x128_0_1024
abbrev colsA : Rect S1x1x1024x2816 := Rect.unit (s := S1x1x1024x2816) ![0, 0, 0, 0] S1x1x1024x1536.size inb_S1x1x1024x2816_S1x1x1024x1536_0_0_0_0
abbrev colsB : Rect S1x1x1024x2816 := Rect.unit (s := S1x1x1024x2816) ![0, 0, 0, 1536] S1x1x1024x1280.size inb_S1x1x1024x2816_S1x1x1024x1280_0_0_0_1536
abbrev rowsA : Rect S1x1x2816x1024 := Rect.unit (s := S1x1x2816x1024) ![0, 0, 0, 0] S1x1x1536x1024.size inb_S1x1x2816x1024_S1x1x1536x1024_0_0_0_0
abbrev rowsB : Rect S1x1x2816x1024 := Rect.unit (s := S1x1x2816x1024) ![0, 0, 1536, 0] S1x1x1280x1024.size inb_S1x1x2816x1024_S1x1x1280x1024_0_0_1536_0
abbrev wholeO : Rect S512x1024 := Rect.unit (s := S512x1024) ![0, 0] S512x1024.size inb_S512x1024_S512x1024_0_0

/-- The block stored at an active tile, from the blocks brought in. -/
def stored (X : Vec Ideal S512x1152 .bf16) (G U : Vec Ideal S1x1x1024x2816 .bf16) (D : Vec Ideal S1x1x2816x1024 .bf16) : Vec Ideal S512x1024 .bf16 :=
  k0_pay2 (View.ld X wholeX) (k0_pay3 (View.ld X gateX)) (k0_pay4 (View.ld X wholeX) (View.ld G colsA) (View.ld U colsA) (View.ld D rowsA))
    (k0_pay5 (View.ld X wholeX) (View.ld G colsB)) (k0_pay6 (View.ld X wholeX) (View.ld G colsB)) (Scalar.ofBits .f32 0x3F800000#32)
    (View.ld U colsB) (View.ld D rowsB)

theorem stored_at (X : Vec Ideal S512x1152 .bf16) (G U : Vec Ideal S1x1x1024x2816 .bf16) (D : Vec Ideal S1x1x2816x1024 .bf16) (p : Fin 512) (j : Fin 1024) :
    stored X G U D (ix2 p j)
      = (∑ x : Fin 128, X (ix2 p (⟨1024 + x.val, by omega⟩ : Fin 1152)))
        * swiglu (fun i : Fin 1024 => X (ix2 p (⟨i.val, by omega⟩ : Fin 1152))) (fun i x => G (ix4 (0 : Fin 1) (0 : Fin 1) i x))
            (fun i x => U (ix4 (0 : Fin 1) (0 : Fin 1) i x)) (fun x => D (ix4 (0 : Fin 1) (0 : Fin 1) x j)) := by
  rw [swiglu_split (a := 1536) (b := 1280) rfl]
  unfold stored
  pointwise [k0_pay2, k0_pay3, k0_pay4, k0_pay5, k0_pay6]
  rw [mul_comm]
  simp only [zero_sub]
  rfl

variable (a : (pcfg0 (F := Ideal)).Adm) (m : (ℓ : Loc nD τ sig) → Buf (Elt Ideal) ℓ) (ρ : Dev nD → PrngReg)

theorem stores_past (c : Dev nD) (t : Fin (cfgAt a).N) (h : Past a t) : stores a m ρ c t = [⟨wholeO, k0_pay1 (F := Ideal)⟩] := by
  unfold stores; rw [dif_pos h]; rfl

set_option maxHeartbeats 0 in
theorem pieces (c : Dev nD) (i : grid0.Coords) (arg3 : Memref sig .tc .vmem S512x1152 .bf16) (harg3 : arg3.IsWhole) (arg4 : Memref sig .tc .vmem S1x1x1024x2816 .bf16)
    (harg4 : arg4.IsWhole) (arg5 : Memref sig .tc .vmem S1x1x1024x2816 .bf16) (harg5 : arg5.IsWhole) (arg6 : Memref sig .tc .vmem S1x1x2816x1024 .bf16)
    (harg6 : arg6.IsWhole) (arg7 : Memref sig .tc .vmem S512x1024 .bf16) (harg7 : arg7.IsWhole) (T0 : S151.Idx → Elt Ideal .i32) (T1 : S1.Idx → Elt Ideal .i32)
    (x0 : S512x1152.Idx → Elt Ideal .bf16) (x1 : S1x1x1024x2816.Idx → Elt Ideal .bf16) (x2 : S1x1x1024x2816.Idx → Elt Ideal .bf16)
    (x3 : S1x1x2816x1024.Idx → Elt Ideal .bf16) (h1) (h2) :
    (activeRun c i arg3 harg3 arg4 harg4 arg5 harg5 arg6 harg6 arg7 harg7 T0 T1 x0 x1 x2 x3 h1 h2).1
      = [⟨wholeO, stored x0 x1 x2 x3⟩] := by
  have h : (activeRun c i arg3 harg3 arg4 harg4 arg5 harg5 arg6 harg6 arg7 harg7 T0 T1 x0 x1 x2 x3 h1 h2).1
        = [⟨wholeO, k0_pay2 (View.readAt (Elt Ideal) arg3.view wholeX.toLoadRect (arg3.view.rep x0))
            (k0_pay3 (View.readAt (Elt Ideal) arg3.view gateX.toLoadRect (arg3.view.rep x0)))
            (k0_pay4 (View.readAt (Elt Ideal) arg3.view wholeX.toLoadRect (arg3.view.rep x0)) (View.readAt (Elt Ideal) arg4.view colsA.toLoadRect (arg4.view.rep x1))
              (View.readAt (Elt Ideal) arg5.view colsA.toLoadRect (arg5.view.rep x2)) (View.readAt (Elt Ideal) arg6.view rowsA.toLoadRect (arg6.view.rep x3)))
            (k0_pay5 (View.readAt (Elt Ideal) arg3.view wholeX.toLoadRect (arg3.view.rep x0)) (View.readAt (Elt Ideal) arg4.view colsB.toLoadRect (arg4.view.rep x1)))
            (k0_pay6 (View.readAt (Elt Ideal) arg3.view wholeX.toLoadRect (arg3.view.rep x0)) (View.readAt (Elt Ideal) arg4.view colsB.toLoadRect (arg4.view.rep x1)))
            (Scalar.ofBits .f32 0x3F800000#32)
            (View.readAt (Elt Ideal) arg5.view colsB.toLoadRect (arg5.view.rep x2)) (View.readAt (Elt Ideal) arg6.view rowsB.toLoadRect (arg6.view.rep x3))⟩] := rfl
  rw [h]
  unfold stored
  simp only [View.readAt_eq_ld, View.read_rep]

theorem stores_active (c : Dev nD) (t : Fin (cfgAt a).N) (h : ¬Past a t) :
    stores a m ρ c t = [⟨wholeO, stored (brought a m ρ c 0 t) (brought a m ρ c 1 t) (brought a m ρ c 2 t) (brought a m ρ c 3 t)⟩] := by
  unfold stores
  rw [dif_neg h]
  exact pieces c _ _ _ _ _ _ _ _ _ _ _ _ _ _ _ _ _ _ _

theorem left_past (c : Dev nD) (t : Fin (cfgAt a).N) (h : Past a t) : left a m ρ c t = k0_pay1 (F := Ideal) := by
  unfold left
  rw [View.read_writes_junk_eq_canon, stores_past a m ρ c t h]
  exact View.canon_unit_zero (by funext k; fin_cases k <;> rfl) _ _

theorem left_active (c : Dev nD) (t : Fin (cfgAt a).N) (h : ¬Past a t) :
    left a m ρ c t = stored (brought a m ρ c 0 t) (brought a m ρ c 1 t) (brought a m ρ c 2 t) (brought a m ρ c 3 t) := by
  unfold left
  rw [View.read_writes_junk_eq_canon, stores_active a m ρ c t h]
  exact View.canon_unit_zero (by funext k; fin_cases k <;> rfl) _ _

/-! ## The blocks brought in -/

theorem coords_val : ∀ t : Fin grid0.N, (grid0.coords t 0).val = t.val := by decide +kernel

theorem tile_index : ∀ t : Fin grid0.N, cc0_transform_0 (grid0.coords t) = ![t.val, 0] ∧ cc0_transform_4 (grid0.coords t) = ![t.val, 0] := by decide +kernel

theorem off_val : ∀ t : Fin grid0.N, k0_off1 (grid0.coords t) 0 = t.val := by decide +kernel

theorem expert_at (v : pre0.Contents (Elt Ideal)) (t : Fin grid0.N) :
    Pipeline.Prefetch.Contents.at v 0 (Rect.unit (s := S151) (k0_off1 (grid0.coords t)) S1.size (k0_off1_inb (grid0.coords t))) numel1_S1 = v 0 (ix1 (⟨t.val, t.isLt⟩ : Fin 151)) := by
  refine congrArg (v 0) ?_
  funext k; fin_cases k
  refine Fin.ext ?_
  have := off_val t
  show k0_off1 (grid0.coords t) 0 + _ = t.val
  rw [this]
  rfl

theorem expert_index (v : pre0.Contents (Elt Ideal)) (t : Fin grid0.N) :
    cc0_transform_1 k0_off1_inb numel1_S1 v (grid0.coords t) = ![0, BitVec.toNat (v 0 (ix1 (⟨t.val, t.isLt⟩ : Fin 151))), 0, 0] :=
  congrArg (fun b : BitVec 32 => ![0, b.toNat, 0, 0]) (expert_at v t)

/-- A row of the tile. -/
theorem brought_rows (c : Dev nD) (t : Fin grid0.N) (p : Fin 512) (i : Fin 1152) :
    brought a m ρ c 0 t (ix2 p i) = m ((c : Thread nD τ).loc main_arg1) (ix2 (⟨t.val * 512 + p.val, by have := t.isLt; have : grid0.N = 151 := rfl; omega⟩ : Fin 77312) i) := by
  refine congrArg (m ((c : Thread nD τ).loc main_arg1)) ?_
  funext k; fin_cases k <;> refine Fin.ext ?_
  · show cc0_transform_0 (grid0.coords t) 0 * 512 + 1 * p.val = _
    rw [(tile_index t).1]; simp
  · show cc0_transform_0 (grid0.coords t) 1 * 1152 + 1 * i.val = _
    rw [(tile_index t).1]; simp

theorem brought_gate (c : Dev nD) (t : Fin grid0.N) (h : BitVec.toNat (a.1 0 (ix1 (⟨t.val, t.isLt⟩ : Fin 151))) < 8) (i : Fin 1024) (x : Fin 2816) :
    brought a m ρ c 1 t (ix4 (0 : Fin 1) (0 : Fin 1) i x) = m ((c : Thread nD τ).loc main_v0) (ix4 (0 : Fin 2) (⟨_, h⟩ : Fin 8) i x) := by
  have e := expert_index a.1 t
  refine congrArg (m ((c : Thread nD τ).loc main_v0)) ?_
  funext k; fin_cases k <;> refine Fin.ext ?_
  · show cc0_transform_1 k0_off1_inb numel1_S1 a.1 (grid0.coords t) 0 * 1 + 1 * 0 = _
    rw [e]; simp
  · show cc0_transform_1 k0_off1_inb numel1_S1 a.1 (grid0.coords t) 1 * 1 + 1 * 0 = _
    rw [e]; simp
  · show cc0_transform_1 k0_off1_inb numel1_S1 a.1 (grid0.coords t) 2 * 1024 + 1 * i.val = _
    rw [e]; simp
  · show cc0_transform_1 k0_off1_inb numel1_S1 a.1 (grid0.coords t) 3 * 2816 + 1 * x.val = _
    rw [e]; simp

theorem brought_up (c : Dev nD) (t : Fin grid0.N) (h : BitVec.toNat (a.1 0 (ix1 (⟨t.val, t.isLt⟩ : Fin 151))) < 8) (i : Fin 1024) (x : Fin 2816) :
    brought a m ρ c 2 t (ix4 (0 : Fin 1) (0 : Fin 1) i x) = m ((c : Thread nD τ).loc main_v1) (ix4 (0 : Fin 2) (⟨_, h⟩ : Fin 8) i x) := by
  have e := expert_index a.1 t
  refine congrArg (m ((c : Thread nD τ).loc main_v1)) ?_
  funext k; fin_cases k <;> refine Fin.ext ?_
  · show cc0_transform_1 k0_off1_inb numel1_S1 a.1 (grid0.coords t) 0 * 1 + 1 * 0 = _
    rw [e]; simp
  · show cc0_transform_1 k0_off1_inb numel1_S1 a.1 (grid0.coords t) 1 * 1 + 1 * 0 = _
    rw [e]; simp
  · show cc0_transform_1 k0_off1_inb numel1_S1 a.1 (grid0.coords t) 2 * 1024 + 1 * i.val = _
    rw [e]; simp
  · show cc0_transform_1 k0_off1_inb numel1_S1 a.1 (grid0.coords t) 3 * 2816 + 1 * x.val = _
    rw [e]; simp

theorem brought_down (c : Dev nD) (t : Fin grid0.N) (h : BitVec.toNat (a.1 0 (ix1 (⟨t.val, t.isLt⟩ : Fin 151))) < 8) (x : Fin 2816) (j : Fin 1024) :
    brought a m ρ c 3 t (ix4 (0 : Fin 1) (0 : Fin 1) x j) = m ((c : Thread nD τ).loc main_v2) (ix4 (0 : Fin 2) (⟨_, h⟩ : Fin 8) x j) := by
  have e := expert_index a.1 t
  refine congrArg (m ((c : Thread nD τ).loc main_v2)) ?_
  funext k; fin_cases k <;> refine Fin.ext ?_
  · show cc0_transform_1 k0_off1_inb numel1_S1 a.1 (grid0.coords t) 0 * 1 + 1 * 0 = _
    rw [e]; simp
  · show cc0_transform_1 k0_off1_inb numel1_S1 a.1 (grid0.coords t) 1 * 1 + 1 * 0 = _
    rw [e]; simp
  · show cc0_transform_1 k0_off1_inb numel1_S1 a.1 (grid0.coords t) 2 * 2816 + 1 * x.val = _
    rw [e]; simp
  · show cc0_transform_1 k0_off1_inb numel1_S1 a.1 (grid0.coords t) 3 * 1024 + 1 * j.val = _
    rw [e]; simp

/-! ## The result -/

theorem count_eq : count a = a.1 1 (ix1 (0 : Fin 1)) := by
  refine congrArg (a.1 1) ?_
  funext k; fin_cases k; rfl

theorem past_iff (t : Fin grid0.N) : Past a t ↔ ¬IntOp.cmpi .slt (BitVec.ofNat 32 t.val) (a.1 1 (ix1 (0 : Fin 1))) = 1#1 := by
  unfold Past
  rw [count_eq]
  have e : ((point a t) 0).val = t.val := coords_val t
  unfold k0_cond1
  dsimp only
  rw [e]
  show _ ↔ ¬Scalar.cmpi .slt (BitVec.ofNat 32 t.val) (a.1 1 (ix1 (0 : Fin 1))) = 1#1
  generalize Scalar.cmpi .slt (BitVec.ofNat 32 t.val) (a.1 1 (ix1 (0 : Fin 1))) = b
  revert b
  decide

/-- The result's array. -/
def answer (c : Dev nD) : FVec Ideal S77312x1024 .bf16 := fun y =>
  routed (fun t => a.1 0 (ix1 t)) (a.1 1 (ix1 (0 : Fin 1))) (fun r i => m ((c : Thread nD τ).loc main_arg1) (ix2 r i))
    (fun e i x => m ((c : Thread nD τ).loc main_v0) (ix4 (0 : Fin 2) e i x)) (fun e i x => m ((c : Thread nD τ).loc main_v1) (ix4 (0 : Fin 2) e i x))
    (fun e x j => m ((c : Thread nD τ).loc main_v2) (ix4 (0 : Fin 2) e x j))
    ⟨(y 0).val / 512, Nat.div_lt_of_lt_mul (y 0).isLt⟩ ⟨(y 0).val % 512, Nat.mod_lt _ (by decide)⟩ (y 1)

theorem answer_at (c : Dev nD) (t : Fin 151) (p : Fin 512) (j : Fin 1024) :
    answer a m c (ix2 (⟨t.val * 512 + p.val, by omega⟩ : Fin 77312) j)
      = routed (fun t => a.1 0 (ix1 t)) (a.1 1 (ix1 (0 : Fin 1))) (fun r i => m ((c : Thread nD τ).loc main_arg1) (ix2 r i))
    (fun e i x => m ((c : Thread nD τ).loc main_v0) (ix4 (0 : Fin 2) e i x)) (fun e i x => m ((c : Thread nD τ).loc main_v1) (ix4 (0 : Fin 2) e i x))
    (fun e x j => m ((c : Thread nD τ).loc main_v2) (ix4 (0 : Fin 2) e x j)) t p j := by
  have e1 : ∀ h, (⟨(t.val * 512 + p.val) / 512, h⟩ : Fin 151) = t := fun _ => Fin.ext (by show _ / _ = t.val; omega)
  have e2 : ∀ h, (⟨(t.val * 512 + p.val) % 512, h⟩ : Fin 512) = p := fun _ => Fin.ext (by show _ % _ = p.val; omega)
  exact congrArg₂ (fun t p => routed (fun t => a.1 0 (ix1 t)) (a.1 1 (ix1 (0 : Fin 1))) (fun r i => m ((c : Thread nD τ).loc main_arg1) (ix2 r i))
    (fun e i x => m ((c : Thread nD τ).loc main_v0) (ix4 (0 : Fin 2) e i x)) (fun e i x => m ((c : Thread nD τ).loc main_v1) (ix4 (0 : Fin 2) e i x))
    (fun e x j => m ((c : Thread nD τ).loc main_v2) (ix4 (0 : Fin 2) e x j)) t p j) (e1 _) (e2 _)

theorem left_at (h : ∀ x : S151.Idx, BitVec.toNat (a.1 0 x) < 8) (c : Dev nD) (t : Fin grid0.N) (p : Fin 512) (j : Fin 1024) :
    left a m ρ c t (ix2 p j) = answer a m c (ix2 (⟨t.val * 512 + p.val, by have := t.isLt; have : grid0.N = 151 := rfl; omega⟩ : Fin 77312) j) := by
  refine Eq.trans ?_ (answer_at a m c ⟨t.val, t.isLt⟩ p j).symm
  by_cases hp : Past a t
  · refine (congrFun (left_past a m ρ c t hp) _).trans (Eq.trans ?_ (routed_inactive _ _ _ _ _ _ _ p j ((past_iff a t).1 hp)).symm)
    exact Ideal.ofBits_zero_bf16
  · refine (congrFun (left_active a m ρ c t hp) _).trans ((stored_at _ _ _ _ p j).trans
      (Eq.trans ?_ (routed_active _ _ _ _ _ _ _ p j (not_not.1 fun h' => hp ((past_iff a t).2 h')) (h _)).symm))
    exact congrArg₂ (fun u v : EReal => u * v) (Finset.sum_congr rfl fun x _ => brought_rows a m ρ c t p _)
      (swiglu_congr (fun i => brought_rows a m ρ c t p _) (fun i x => brought_gate a m ρ c t (h _) i x) (fun i x => brought_up a m ρ c t (h _) i x)
        (fun x => brought_down a m ρ c t (h _) x j))

theorem flushes (t : Fin grid0.N) : ((cfgAt a).win 4).flush t = true := by
  have e : ∀ t : Fin grid0.N, (t.val + 1 = grid0.N) ∨ ∃ h : t.val + 1 < grid0.N, cc0_transform_4 (grid0.coords ⟨t.val + 1, h⟩) ≠ cc0_transform_4 (grid0.coords t) := by decide +kernel
  unfold Pipeline.Window.flush
  refine Bool.and_eq_true_iff.2 ⟨rfl, Bool.or_eq_true_iff.2 ?_⟩
  rcases e t with e | e
  · exact .inl (decide_eq_true e)
  · exact .inr (decide_eq_true e)

theorem covers : ((cfgAt a).win 4).Covers := by
  refine ⟨fun (k : Fin 2) => ?_, fun β => ?_⟩
  · show 0 < S512x1024.size k
    revert k; decide
  have h0 : (β (0 : Fin 2)).val < (77312 + 512 - 1) / 512 := (β (0 : Fin 2)).isLt
  have h1 : (β (1 : Fin 2)).val < (1024 + 1024 - 1) / 1024 := (β (1 : Fin 2)).isLt
  replace h0 : (β (0 : Fin 2)).val < 151 := h0
  replace h1 : (β (1 : Fin 2)).val < 1 := h1
  have hi := (tile_index (⟨(β (0 : Fin 2)).val, h0⟩ : Fin grid0.N)).2
  refine ⟨⟨(β (0 : Fin 2)).val, h0⟩, flushes a _, fun (k : Fin 2) => ⟨?_, .inl rfl⟩⟩
  refine (congrFun hi k).trans ?_
  fin_cases k
  · rfl
  · show 0 = (β (1 : Fin 2)).val
    omega

theorem final (h : ∀ x : S151.Idx, BitVec.toNat (a.1 0 x) < 8) (c : Dev nD) : (dats a m ρ 0 c).arrAt (4 : Fin 5) (cfgAt a).N = answer a m c := by
  refine (dats a m ρ 0 c).arrAt_eq_of_covers (4 : Fin 5) _ (covers a) (fun t hf y => ?_) (Memref.isWhole_whole _)
  obtain ⟨p, j, rfl⟩ : ∃ (p : Fin 512) (j : Fin 1024), y = ix2 p j := ⟨y 0, y 1, by funext k; fin_cases k <;> rfl⟩
  refine (left_at a m ρ h c t p j).trans (congrArg (answer a m c) ?_)
  have hi := (tile_index t).2
  funext k; fin_cases k <;> refine Fin.ext ?_
  · show t.val * 512 + p.val = cc0_transform_4 (grid0.coords t) 0 * 512 + 1 * p.val
    rw [hi]; simp
  · show j.val = cc0_transform_4 (grid0.coords t) 1 * 1024 + 1 * j.val
    rw [hi]; simp

end Cert.ExpertsIdeal.Routed

end
-- ==== Proof.Moe.Claims.lean ====
/- The experts' claims, out of their two halves. -/
module

public import proofs.«01_k».proof.Defs
public import proofs.«01_k».proof.Proof.Gen.ExpertsIdeal
public import proofs.«01_k».proof.Proof.Gen.ExpertsReferenceIdeal
public import proofs.«01_k».proof.Proof.Moe.Reference
public import proofs.«01_k».proof.Proof.Moe.FrameIdeal
public import proofs.«01_k».proof.Proof.Moe.FrameBits
public import proofs.«01_k».proof.Proof.Moe.Body
public import Idealize.ShloMosaic.Adequacy
public import Idealize.ShloMosaic.Init

@[expose] public section

noncomputable section

namespace Cert.ExpertsIdeal.Routed

open Cert.ExpertsIdeal Cert.ExpertsIdeal.Gen Idealize.ShloMosaic Idealize.ShloMosaic.TcCoe Idealize.SL.Sem
open _root_.Moe

theorem frame_kernel : Cert.quiescent_ExpertsIdeal (hExpertsIdeal := Cert.ExpertsIdeal.Gen.facts) := fun m g _ => frame m g

theorem frame_kernel_bits : Cert.quiescent_Experts (hExperts := Cert.Experts.Gen.facts) := fun m g _ => Cert.Experts.Routed.frame m g

/-- The reference leaves its arguments and its counters as it found them. -/
theorem frame_reference : Cert.quiescent_ExpertsReferenceIdeal (hExpertsReferenceIdeal := Cert.ExpertsReferenceIdeal.Gen.facts) := by
  intro m g _
  exact (θ_run Cert.ExpertsReferenceIdeal.defs _ _).mono
    (fun r h => ⟨fun c => (h c).2, sem_eq_zero_of_no_sems (by decide) r.2⟩)
    (Cert.ExpertsReferenceIdeal.Value.run (F := Ideal) m g)

/-! ## The tables the host makes, and the tiles' experts as the reference counts them -/

attribute [local irreducible] Host.reduceWindow Host.reduce in
theorem reference_ends (cnt : IVec S64x8 32) : Cert.ExpertsReferenceIdeal.Read.val_main_v16 (F := Ideal) cnt = ends cnt := rfl

theorem reference_inUse (cnt : IVec S64x8 32) : Cert.ExpertsReferenceIdeal.Moe.inUse cnt = ends cnt (ix1 (7 : Fin 8)) := by
  refine Eq.trans ?_ (last_at (ends cnt) fun k => k.elim0)
  rw [← reference_ends]
  rfl

theorem reference_tileExpert (cnt : IVec S64x8 32) (t : Fin 151) :
    Cert.ExpertsReferenceIdeal.Moe.tileExpert cnt t = passed (BitVec.ofNat 32 t.val) fun k => ends cnt (ix1 k) := by
  rw [← reference_ends]
  refine row_count _ _ _ (iotaInDim S151 32 0) (Cert.ExpertsReferenceIdeal.Read.val_main_v16 (F := Ideal) cnt) _ (fun t k => ?_) t
  pointwise [Cert.ExpertsReferenceIdeal.Read.val_main_v26, Cert.ExpertsReferenceIdeal.Read.val_main_v25, Cert.ExpertsReferenceIdeal.Read.val_main_v24,
    Cert.ExpertsReferenceIdeal.Read.val_main_v23, Cert.ExpertsReferenceIdeal.Read.val_main_v22, Cert.ExpertsReferenceIdeal.Read.val_main_v17]

theorem made_experts (m : (ℓ : Loc nD τ sig) → Buf (Elt Ideal) ℓ) (c : Dev nD) (t : Fin 151) :
    (made m).1 0 (ix1 t) = tileExpert (ends (m ((c : Thread nD τ).loc main_arg0))) (ix1 t) := by
  obtain rfl : c = 0 := Subsingleton.elim _ _
  exact congrFun (entry_experts m 0) (ix1 t)

theorem made_active (m : (ℓ : Loc nD τ sig) → Buf (Elt Ideal) ℓ) (c : Dev nD) :
    (made m).1 1 (ix1 (0 : Fin 1)) = ends (m ((c : Thread nD τ).loc main_arg0)) (ix1 (7 : Fin 8)) := by
  obtain rfl : c = 0 := Subsingleton.elim _ _
  exact (congrFun (entry_active m 0) (ix1 (0 : Fin 1))).trans (last_at _ _)

/-- The reference's result is the routed experts of its arguments. -/
theorem reference_answer (m : (ℓ : Loc nD τ sig) → Buf (Elt Ideal) ℓ) (c : Dev nD) :
    Cert.ExpertsReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = answer (made m) (entry m) c := by
  funext y
  have hy : y = ix2 (⟨(y 0).val / 512 * 512 + (y 0).val % 512, by rw [Nat.div_add_mod']; exact (y 0).isLt⟩ : Fin 77312) (y 1) := by
    refine (ix2_eta (n0 := 77312) (n1 := 1024) y).symm.trans ?_
    exact congrArg (fun r : Fin 77312 => ix2 r (y 1)) (Fin.ext (Nat.div_add_mod' _ _).symm)
  refine (congrArg (Cert.ExpertsReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4))) hy).trans ?_
  refine (Cert.ExpertsReferenceIdeal.Moe.result _ _ _ _ _ (⟨(y 0).val / 512, by have : (y 0).val < 77312 := (y 0).isLt; omega⟩ : Fin 151) (⟨(y 0).val % 512, by omega⟩ : Fin 512) (y 1)).trans ?_
  unfold answer
  rw [entry_arg1 m c, entry_gate m c, entry_up m c, entry_down m c, made_active m c, reference_inUse]
  refine routed_congr _ _ _ _ _ _ _ fun h => ?_
  rw [reference_tileExpert, made_experts m c, tileExpert_at, held_eq _ _ h]

/-- The kernel and the reference leave the same array. -/
theorem algebraic : Cert.algebraic_ExpertsIdeal_ExpertsReferenceIdeal (hExpertsIdeal := Cert.ExpertsIdeal.Gen.facts)
    (hExpertsReferenceIdeal := Cert.ExpertsReferenceIdeal.Gen.facts) := by
  intro m g m' g' _ hagree
  refine ⟨fun c => answer (made m) (entry m) c, ?_, ?_⟩
  · exact (θ_run Cert.ExpertsIdeal.defs _ _).mono (fun r h' c =>
      ⟨((h'.1 c).1 (4 : Fin 5)).trans (final (made m) (entry m) g (tables_lt m) c), kept m g h'.1 c⟩)
      (runs (made m) m g (tables_entry m))
  · refine (θ_run Cert.ExpertsReferenceIdeal.defs _ _).mono (fun r h c => ?_) (Cert.ExpertsReferenceIdeal.Value.run (F := Ideal) m' g')
    obtain ⟨a0, a1, a2, a3, a4⟩ := hagree c
    refine ⟨((h c).1.trans (Cert.ExpertsReferenceIdeal.Read.val_main_v165_eq _)).trans (Eq.trans ?_ (reference_answer m c)), (h c).2⟩
    simp only [StableHlo.launchContents_devRef, a0, a1, a2, a3, a4]

end Cert.ExpertsIdeal.Routed

end
-- ==== Proof.Norm.lean ====
/- Layer normalisation over the reals, as both the feed-forward block and the merge use it. -/
module

public import Idealize.ShloMosaic.Lib.Pointwise
public import Idealize.ShloMosaic.PureOps.Ideal

@[expose] public section

noncomputable section

namespace LayerNorm

open Idealize.ShloMosaic

/-- The row length, the guard under the root and the residual's weight, as the layer's constants print. -/
abbrev width : EReal := Ideal.ofBits FTy.f32 1149239296#32
abbrev guard : EReal := Ideal.ofBits FTy.f32 897988541#32
abbrev residual : EReal := Ideal.ofBits FTy.f32 1071072509#32

/-- The mean of a row. -/
def mean (v : Fin 1024 → EReal) : EReal := Ideal.div (∑ x, v x) width

/-- A row standardised: its mean taken away, over the root of its variance. -/
def standard (v : Fin 1024 → EReal) (j : Fin 1024) : EReal :=
  (v j - mean v) * Ideal.rsqrt (Ideal.div (∑ x, (v x - mean v) * (v x - mean v)) width + guard)

/-- A standardised row scaled and shifted. -/
def modulated (v shift scale : Fin 1024 → EReal) (j : Fin 1024) : EReal := standard v j * (1 + scale j) + shift j

/-- The residual `v` with the gated branch `b` added, standardised, with its gain and bias. -/
def closed (v gate b gain bias : Fin 1024 → EReal) (j : Fin 1024) : EReal :=
  standard (fun i => residual * v i + gate i * b i) j * gain j + bias j

theorem closed_congr {v v' gate gate' b b' gain gain' bias bias' : Fin 1024 → EReal} (ev : ∀ i, v i = v' i) (eg : ∀ i, gate i = gate' i)
    (eb : ∀ i, b i = b' i) (en : ∀ i, gain i = gain' i) (es : ∀ i, bias i = bias' i) (j : Fin 1024) :
    closed v gate b gain bias j = closed v' gate' b' gain' bias' j := by
  obtain rfl : v = v' := funext ev
  obtain rfl : gate = gate' := funext eg
  obtain rfl : b = b' := funext eb
  obtain rfl : gain = gain' := funext en
  obtain rfl : bias = bias' := funext es
  rfl

theorem modulated_congr {v v' shift shift' scale scale' : Fin 1024 → EReal} (ev : ∀ i, v i = v' i) (eh : ∀ i, shift i = shift' i)
    (es : ∀ i, scale i = scale' i) (j : Fin 1024) : modulated v shift scale j = modulated v' shift' scale' j := by
  obtain rfl : v = v' := funext ev
  obtain rfl : shift = shift' := funext eh
  obtain rfl : scale = scale' := funext es
  rfl

end LayerNorm

end
-- ==== Proof.Ffn.Spec.lean ====
/- The dense feed-forward block over the reals, at one token. -/
module

public import proofs.«01_k».proof.Proof.Norm
public import proofs.«01_k».proof.Proof.Moe.Spec

@[expose] public section

noncomputable section

namespace Ffn

open Idealize.ShloMosaic LayerNorm

/-- One token through the block: normalised and modulated, through the gated feed-forward weights, gated back onto the residual, normalised. -/
def token (v shift scale gate : Fin 1024 → EReal) (wg wu : Fin 1024 → Fin 2816 → EReal) (wd : Fin 2816 → Fin 1024 → EReal)
    (gain bias : Fin 1024 → EReal) (j : Fin 1024) : EReal :=
  closed v gate (fun i => Moe.swiglu (modulated v shift scale) wg wu (fun x => wd x i)) gain bias j

/-- The block at token `p` of sequence `s`, from the layer's arguments. -/
def layer (x : Fin 16 → Fin 2048 → Fin 1024 → EReal) (mod : Fin 24 → Fin 6144 → EReal) (wg wu : Fin 1024 → Fin 2816 → EReal)
    (wd : Fin 2816 → Fin 1024 → EReal) (gain bias : Fin 1024 → EReal) (s : Fin 16) (p : Fin 2048) (j : Fin 1024) : EReal :=
  token (x s p) (fun i => mod ⟨s.val, by omega⟩ ⟨3072 + i.val, by omega⟩) (fun i => mod ⟨s.val, by omega⟩ ⟨4096 + i.val, by omega⟩)
    (fun i => mod ⟨s.val, by omega⟩ ⟨5120 + i.val, by omega⟩) wg wu wd gain bias j

theorem token_congr {v v' shift shift' scale scale' gate gate' gain gain' bias bias' : Fin 1024 → EReal} {wg wg' wu wu' : Fin 1024 → Fin 2816 → EReal}
    {wd wd' : Fin 2816 → Fin 1024 → EReal} (ev : ∀ i, v i = v' i) (eh : ∀ i, shift i = shift' i) (es : ∀ i, scale i = scale' i)
    (eg : ∀ i, gate i = gate' i) (e1 : ∀ i x, wg i x = wg' i x) (e2 : ∀ i x, wu i x = wu' i x) (e3 : ∀ x i, wd x i = wd' x i)
    (en : ∀ i, gain i = gain' i) (eb : ∀ i, bias i = bias' i) (j : Fin 1024) :
    token v shift scale gate wg wu wd gain bias j = token v' shift' scale' gate' wg' wu' wd' gain' bias' j :=
  closed_congr ev eg (fun i => Moe.swiglu_congr (modulated_congr ev eh es) e1 e2 fun x => e3 x i) en eb j

end Ffn

end
-- ==== Proof.Ffn.Reference.lean ====
/- The reference of the feed-forward block, entry by entry. -/
module

public import proofs.«01_k».proof.Proof.Gen.FfnReferenceIdeal.Read
public import proofs.«01_k».proof.Proof.Ffn.Spec

@[expose] public section

set_option maxRecDepth 200000

noncomputable section

namespace Cert.FfnReferenceIdeal.Ffn

open Cert.FfnReferenceIdeal Cert.FfnReferenceIdeal.Gen Cert.FfnReferenceIdeal.Read Idealize.ShloMosaic Idealize.SL.Sem
open _root_.LayerNorm (mean standard modulated closed closed_congr modulated_congr)

variable (x0 : (⟨S16x2048x1024, .f32⟩ : BufTy).Contents (Elt Ideal)) (x1 : (⟨S4x24x6144, .f32⟩ : BufTy).Contents (Elt Ideal))
  (x2 x3 : (⟨S2x1024x2816, .f32⟩ : BufTy).Contents (Elt Ideal)) (x4 : (⟨S2x2816x1024, .f32⟩ : BufTy).Contents (Elt Ideal))
  (x5 x6 : (⟨S4x2x1024, .f32⟩ : BufTy).Contents (Elt Ideal))

/-- The rows that enter the weights. -/
theorem entering (s : Fin 16) (p : Fin 2048) (i : Fin 1024) :
    val_main_v32 (F := Ideal) x0 x1 (ix3 s p i)
      = modulated (fun i => x0 (ix3 s p i)) (fun i => x1 (ix3 (0 : Fin 4) (⟨s.val, by omega⟩ : Fin 24) (⟨3072 + i.val, by omega⟩ : Fin 6144)))
          (fun i => x1 (ix3 (0 : Fin 4) (⟨s.val, by omega⟩ : Fin 24) (⟨4096 + i.val, by omega⟩ : Fin 6144))) i := by
  pointwise [val_main_v0, val_main_v1, val_main_v2, val_main_v6, val_main_v7, val_main_cst, val_main_v9, val_main_v10, val_main_cst_0,
    val_main_v11, val_main_v12, val_main_v13, val_main_v14, val_main_v15, val_main_cst_1, val_main_v16, val_main_v17, val_main_cst_2,
    val_main_v18, val_main_v19, val_main_v20, val_main_v21, val_main_cst_3, val_main_v22, val_main_v23, val_main_v24, val_main_v25,
    val_main_v26, val_main_cst_4, val_main_v27, val_main_v28, val_main_v29, val_main_v30, val_main_v31, val_main_v32]
  rfl

/-- The rows before the last normalisation. -/
theorem gated (s : Fin 16) (p : Fin 2048) (i : Fin 1024) :
    val_main_v48 (F := Ideal) x0 x1 x2 x3 x4 (ix3 s p i)
      = LayerNorm.residual * x0 (ix3 s p i) + x1 (ix3 (0 : Fin 4) (⟨s.val, by omega⟩ : Fin 24) (⟨5120 + i.val, by omega⟩ : Fin 6144))
          * Moe.swiglu (fun i => val_main_v32 (F := Ideal) x0 x1 (ix3 s p i)) (fun i x => x2 (ix3 (0 : Fin 2) i x)) (fun i x => x3 (ix3 (0 : Fin 2) i x))
              (fun x => x4 (ix3 (0 : Fin 2) x i)) := by
  pointwise [val_main_v0, val_main_v1, val_main_v2, val_main_v8, val_main_cst_5, val_main_v33, val_main_v34, val_main_v35, val_main_v36,
    val_main_v37, val_main_v38, val_main_v39, val_main_v40, val_main_v41, val_main_call0_v0, val_main_call0_v1, val_main_call0_cst,
    val_main_call0_v2, val_main_call0_v3, val_main_call0_cst_0, val_main_call0_v4, val_main_call0_v5, val_main_v42, val_main_v43,
    val_main_v44, val_main_v45, val_main_v46, val_main_v47, val_main_v48]
  rfl

/-- The result. -/
theorem result (s : Fin 16) (p : Fin 2048) (j : Fin 1024) :
    val_main_v77 (F := Ideal) x0 x1 x2 x3 x4 x5 x6 (ix2 (⟨s.val * 2048 + p.val, by omega⟩ : Fin 32768) j)
      = _root_.Ffn.layer (fun s p i => x0 (ix3 s p i)) (fun r i => x1 (ix3 (0 : Fin 4) r i)) (fun i x => x2 (ix3 (0 : Fin 2) i x))
          (fun i x => x3 (ix3 (0 : Fin 2) i x)) (fun x i => x4 (ix3 (0 : Fin 2) x i)) (fun i => x5 (ix3 (0 : Fin 4) (1 : Fin 2) i))
          (fun i => x6 (ix3 (0 : Fin 4) (1 : Fin 2) i)) s p j := by
  pointwise [val_main_v49, val_main_v50, val_main_v51, val_main_v52, val_main_cst_6, val_main_v53, val_main_v54, val_main_cst_7,
    val_main_v55, val_main_v56, val_main_v57, val_main_v58, val_main_v59, val_main_cst_8, val_main_v60, val_main_v61, val_main_cst_9,
    val_main_v62, val_main_v63, val_main_v64, val_main_v65, val_main_cst_10, val_main_v66, val_main_v67, val_main_v68, val_main_v69,
    val_main_v70, val_main_v71, val_main_v72, val_main_v73, val_main_v74, val_main_v75, val_main_v76, val_main_v77]
  simp only [gated, entering]
  rfl

end Cert.FfnReferenceIdeal.Ffn

end
-- ==== Proof.Ffn.Kernel.lean ====
/- The feed-forward kernel's result, entry by entry, from its arguments. -/
module

public import proofs.«01_k».proof.Proof.Gen.FfnIdeal.Value
public import proofs.«01_k».proof.Proof.Ffn.Spec
public import Idealize.ShloMosaic.Lib.Pipeline.ValueKit

@[expose] public section

set_option maxRecDepth 200000

noncomputable section

namespace Cert.FfnIdeal.Ffn

open Cert.FfnIdeal Cert.FfnIdeal.Gen Idealize.ShloMosaic Idealize.ShloMosaic.TcCoe Idealize.SL.Sem
open _root_.LayerNorm (mean standard modulated closed closed_congr modulated_congr)

section Body

variable (x0 : Vec Ideal S512x1024 .f32) (x1 : Vec Ideal S1x1x1x6144 .f32) (x2 x3 : Vec Ideal S1x1024x2816 .bf16)
  (x4 : Vec Ideal S1x2816x1024 .bf16) (x5 x6 : Vec Ideal S1x1x1x1024 .f32)

/-- The rows that enter the weights. -/
abbrev rows (p : Fin 512) (i : Fin 1024) : EReal :=
  modulated (fun i => x0 (ix2 p i)) (fun i => x1 (ix4 (0 : Fin 1) (0 : Fin 1) (0 : Fin 1) (⟨3072 + i.val, by omega⟩ : Fin 6144)))
    (fun i => x1 (ix4 (0 : Fin 1) (0 : Fin 1) (0 : Fin 1) (⟨4096 + i.val, by omega⟩ : Fin 6144))) i

theorem entering (p : Fin 512) (i : Fin 1024) : k0_pay4 (View.ld x0 r0_0) (View.ld x1 r0_1) (View.ld x1 r0_2) (ix2 p i) = rows x0 x1 p i := by
  pointwise [k0_pay4, k0_pay2]
  rfl

/-- The first block of hidden lanes, -/
theorem low (v : FVec Ideal S512x1024 .bf16) (p : Fin 512) (j : Fin 1024) :
    k0_pay6 v (k0_pay5 (View.ld x0 r0_0) (View.ld x1 r0_1) (View.ld x1 r0_2) (View.ld x2 r0_4)) (Scalar.ofBits .f32 0x00000000#32) (View.ld x3 r0_4)
        (View.ld x4 r0_5) (ix2 p j)
      = ∑ x : Fin 1536, (Moe.silu (∑ i, rows x0 x1 p i * x2 (ix3 (0 : Fin 1) i (⟨x.val, by omega⟩ : Fin 2816)))
          * ∑ i, v (ix2 p i) * x3 (ix3 (0 : Fin 1) i (⟨x.val, by omega⟩ : Fin 2816))) * x4 (ix3 (0 : Fin 1) (⟨x.val, by omega⟩ : Fin 2816) j) := by
  pointwise [k0_pay6, k0_pay5]
  simp only [zero_sub, entering]
  rfl

/-- and the second. -/
theorem high (v : FVec Ideal S512x1024 .bf16) (p : Fin 512) (j : Fin 1024) :
    k0_pay7 v (View.ld x2 r0_6) (View.ld x3 r0_6) (View.ld x4 r0_7) (ix2 p j)
      = ∑ x : Fin 1280, (Moe.silu (∑ i, v (ix2 p i) * x2 (ix3 (0 : Fin 1) i (⟨1536 + x.val, by omega⟩ : Fin 2816)))
          * ∑ i, v (ix2 p i) * x3 (ix3 (0 : Fin 1) i (⟨1536 + x.val, by omega⟩ : Fin 2816)))
          * x4 (ix3 (0 : Fin 1) (⟨1536 + x.val, by omega⟩ : Fin 2816) j) := by
  pointwise [k0_pay7]
  simp only [zero_sub]
  rfl

theorem closing (v b b' : FVec Ideal S512x1024 .f32) (g : FVec Ideal S1x1024 .f32) (p : Fin 512) (j : Fin 1024) :
    k0_pay1 v g b b' (View.ld x5 r0_8) (View.ld x6 r0_8) (ix2 p j)
      = closed (fun i => v (ix2 p i)) (fun i => g (ix2 (0 : Fin 1) i)) (fun i => b (ix2 p i) + b' (ix2 p i))
          (fun i => x5 (ix4 (0 : Fin 1) (0 : Fin 1) (0 : Fin 1) i)) (fun i => x6 (ix4 (0 : Fin 1) (0 : Fin 1) (0 : Fin 1) i)) j := by
  pointwise [k0_pay1]
  rfl

theorem residue (p : Fin 512) (i : Fin 1024) : k0_pay2 (View.ld x0 r0_0) (ix2 p i) = x0 (ix2 p i) := by pointwise [k0_pay2]

theorem gate (i : Fin 1024) : k0_pay3 (View.ld x1 r0_3) (ix2 (0 : Fin 1) i)
    = x1 (ix4 (0 : Fin 1) (0 : Fin 1) (0 : Fin 1) (⟨5120 + i.val, by omega⟩ : Fin 6144)) := by pointwise [k0_pay3]

theorem out_eq : out0_7 x0 x1 x2 x3 x4 x5 x6
    = k0_pay1 (k0_pay2 (View.ld x0 r0_0)) (k0_pay3 (View.ld x1 r0_3))
        (k0_pay6 (k0_pay4 (View.ld x0 r0_0) (View.ld x1 r0_1) (View.ld x1 r0_2))
          (k0_pay5 (View.ld x0 r0_0) (View.ld x1 r0_1) (View.ld x1 r0_2) (View.ld x2 r0_4)) (Scalar.ofBits .f32 0x00000000#32) (View.ld x3 r0_4) (View.ld x4 r0_5))
        (k0_pay7 (k0_pay4 (View.ld x0 r0_0) (View.ld x1 r0_1) (View.ld x1 r0_2)) (View.ld x2 r0_6) (View.ld x3 r0_6) (View.ld x4 r0_7))
        (View.ld x5 r0_8) (View.ld x6 r0_8) :=
  View.canon_unit_zero (by funext k; fin_cases k <;> rfl) _ _

/-- What the body leaves in its block. -/
theorem out_at (p : Fin 512) (j : Fin 1024) : out0_7 x0 x1 x2 x3 x4 x5 x6 (ix2 p j)
    = _root_.Ffn.token (fun i => x0 (ix2 p i)) (fun i => x1 (ix4 (0 : Fin 1) (0 : Fin 1) (0 : Fin 1) (⟨3072 + i.val, by omega⟩ : Fin 6144)))
        (fun i => x1 (ix4 (0 : Fin 1) (0 : Fin 1) (0 : Fin 1) (⟨4096 + i.val, by omega⟩ : Fin 6144)))
        (fun i => x1 (ix4 (0 : Fin 1) (0 : Fin 1) (0 : Fin 1) (⟨5120 + i.val, by omega⟩ : Fin 6144)))
        (fun i x => x2 (ix3 (0 : Fin 1) i x)) (fun i x => x3 (ix3 (0 : Fin 1) i x)) (fun x i => x4 (ix3 (0 : Fin 1) x i))
        (fun i => x5 (ix4 (0 : Fin 1) (0 : Fin 1) (0 : Fin 1) i)) (fun i => x6 (ix4 (0 : Fin 1) (0 : Fin 1) (0 : Fin 1) i)) j := by
  rw [out_eq]
  refine (closing x5 x6 _ _ _ _ p j).trans (closed_congr (residue x0 p) (gate x1) (fun i => ?_) (fun _ => rfl) (fun _ => rfl) j)
  rw [low, high, Moe.swiglu_split (a := 1536) (b := 1280) rfl]
  simp only [entering]
  rfl

theorem flat (x : Vec Ideal S16x2048x1024 .f32) (s : Fin 16) (p : Fin 2048) (i : Fin 1024) :
    shapeCast S32768x1024 x shapeCasts_S16x2048x1024_S32768x1024 (ix2 (⟨s.val * 2048 + p.val, by omega⟩ : Fin 32768) i) = x (ix3 s p i) := by pointwise

theorem spread (x : Vec Ideal S4x24x6144 .f32) (r : Fin 24) (i : Fin 6144) :
    shapeCast S4x24x1x6144 x shapeCasts_S4x24x6144_S4x24x1x6144 (ix4 (0 : Fin 4) r (0 : Fin 1) i) = x (ix3 (0 : Fin 4) r i) := by pointwise

theorem affine (x : Vec Ideal S4x2x1024 .f32) (i : Fin 1024) :
    shapeCast S4x2x1x1024 x shapeCasts_S4x2x1024_S4x2x1x1024 (ix4 (0 : Fin 4) (1 : Fin 2) (0 : Fin 1) i) = x (ix3 (0 : Fin 4) (1 : Fin 2) i) := by
  pointwise

end Body

variable (m : (ℓ : Loc nD τ sig) → Buf (Elt Ideal) ℓ) (c : Dev nD)

/-- A point's windows. -/
theorem idx (t : Fin cfg0.N) : win0_0.index t = ![t.val, 0] ∧ win0_1.index t = ![0, t.val / 4, 0, 0] ∧ win0_2.index t = ![0, 0, 0]
    ∧ win0_3.index t = ![0, 0, 0] ∧ win0_4.index t = ![0, 0, 0] ∧ win0_5.index t = ![0, 1, 0, 0] ∧ win0_6.index t = ![0, 1, 0, 0]
    ∧ win0_7.index t = ![t.val, 0] := by
  revert t; decide +kernel

theorem bound (t : Fin cfg0.N) : t.val < 64 := t.isLt

theorem blk0 (t : Fin cfg0.N) (p : Fin 512) (i : Fin 1024) : iblk m c 0 t (ix2 p i)
    = V m c main_v6 (ix2 (⟨t.val * 512 + p.val, by have := bound t; omega⟩ : Fin 32768) i) := by
  have h := idx t
  blk_ext [iblk, h]

theorem blk1 (t : Fin cfg0.N) (i : Fin 6144) : iblk m c 1 t (ix4 (0 : Fin 1) (0 : Fin 1) (0 : Fin 1) i)
    = V m c main_v0 (ix4 (0 : Fin 4) (⟨t.val / 4, by have := bound t; omega⟩ : Fin 24) (0 : Fin 1) i) := by
  have h := idx t
  blk_ext [iblk, h]

theorem blk2 (t : Fin cfg0.N) (i : Fin 1024) (x : Fin 2816) : iblk m c 2 t (ix3 (0 : Fin 1) i x) = V m c main_v1 (ix3 (0 : Fin 2) i x) := by
  have h := idx t
  blk_ext [iblk, h]

theorem blk3 (t : Fin cfg0.N) (i : Fin 1024) (x : Fin 2816) : iblk m c 3 t (ix3 (0 : Fin 1) i x) = V m c main_v2 (ix3 (0 : Fin 2) i x) := by
  have h := idx t
  blk_ext [iblk, h]

theorem blk4 (t : Fin cfg0.N) (x : Fin 2816) (i : Fin 1024) : iblk m c 4 t (ix3 (0 : Fin 1) x i) = V m c main_v3 (ix3 (0 : Fin 2) x i) := by
  have h := idx t
  blk_ext [iblk, h]

theorem blk5 (t : Fin cfg0.N) (i : Fin 1024) : iblk m c 5 t (ix4 (0 : Fin 1) (0 : Fin 1) (0 : Fin 1) i)
    = V m c main_v4 (ix4 (0 : Fin 4) (1 : Fin 2) (0 : Fin 1) i) := by
  have h := idx t
  blk_ext [iblk, h]

theorem blk6 (t : Fin cfg0.N) (i : Fin 1024) : iblk m c 6 t (ix4 (0 : Fin 1) (0 : Fin 1) (0 : Fin 1) i)
    = V m c main_v5 (ix4 (0 : Fin 4) (1 : Fin 2) (0 : Fin 1) i) := by
  have h := idx t
  blk_ext [iblk, h]

/-! What the host code lays out. -/

theorem V_v0 : V m c main_v0 = shapeCast S4x24x1x6144 (m ((c : Thread nD τ).loc main_arg1)) shapeCasts_S4x24x6144_S4x24x1x6144 := by
  simp only [V, List.flatten_cons, List.flatten_nil, List.append_nil]
  after_results_simp; rfl

theorem V_v1 : V m c main_v1 = (truncf .bf16 (m ((c : Thread nD τ).loc main_arg2)) bitsLt_bf16_f32 : FVec Ideal S2x1024x2816 .bf16) := by
  simp only [V, List.flatten_cons, List.flatten_nil, List.append_nil]
  after_results_simp

theorem V_v2 : V m c main_v2 = (truncf .bf16 (m ((c : Thread nD τ).loc main_arg3)) bitsLt_bf16_f32 : FVec Ideal S2x1024x2816 .bf16) := by
  simp only [V, List.flatten_cons, List.flatten_nil, List.append_nil]
  after_results_simp

theorem V_v3 : V m c main_v3 = (truncf .bf16 (m ((c : Thread nD τ).loc main_arg4)) bitsLt_bf16_f32 : FVec Ideal S2x2816x1024 .bf16) := by
  simp only [V, List.flatten_cons, List.flatten_nil, List.append_nil]
  after_results_simp

theorem V_v4 : V m c main_v4 = shapeCast S4x2x1x1024 (m ((c : Thread nD τ).loc main_arg5)) shapeCasts_S4x2x1024_S4x2x1x1024 := by
  simp only [V, List.flatten_cons, List.flatten_nil, List.append_nil]
  after_results_simp; rfl

theorem V_v5 : V m c main_v5 = shapeCast S4x2x1x1024 (m ((c : Thread nD τ).loc main_arg6)) shapeCasts_S4x2x1024_S4x2x1x1024 := by
  simp only [V, List.flatten_cons, List.flatten_nil, List.append_nil]
  after_results_simp; rfl

theorem V_v6 : V m c main_v6 = shapeCast S32768x1024 (m ((c : Thread nD τ).loc main_arg0)) shapeCasts_S16x2048x1024_S32768x1024 := by
  simp only [V, List.flatten_cons, List.flatten_nil, List.append_nil]
  after_results_simp; rfl

theorem at_v6 (s : Fin 16) (p : Fin 2048) (i : Fin 1024) : V m c main_v6 (ix2 (⟨s.val * 2048 + p.val, by omega⟩ : Fin 32768) i)
    = m ((c : Thread nD τ).loc main_arg0) (ix3 s p i) :=
  (congrFun (V_v6 m c) _).trans (flat _ s p i)

theorem at_v0 (r : Fin 24) (i : Fin 6144) : V m c main_v0 (ix4 (0 : Fin 4) r (0 : Fin 1) i)
    = m ((c : Thread nD τ).loc main_arg1) (ix3 (0 : Fin 4) r i) :=
  (congrFun (V_v0 m c) _).trans (spread _ r i)

theorem at_v1 (i : Fin 1024) (x : Fin 2816) : V m c main_v1 (ix3 (0 : Fin 2) i x) = m ((c : Thread nD τ).loc main_arg2) (ix3 (0 : Fin 2) i x) := by
  rw [V_v1]; rfl

theorem at_v2 (i : Fin 1024) (x : Fin 2816) : V m c main_v2 (ix3 (0 : Fin 2) i x) = m ((c : Thread nD τ).loc main_arg3) (ix3 (0 : Fin 2) i x) := by
  rw [V_v2]; rfl

theorem at_v3 (x : Fin 2816) (i : Fin 1024) : V m c main_v3 (ix3 (0 : Fin 2) x i) = m ((c : Thread nD τ).loc main_arg4) (ix3 (0 : Fin 2) x i) := by
  rw [V_v3]; rfl

theorem at_v4 (i : Fin 1024) : V m c main_v4 (ix4 (0 : Fin 4) (1 : Fin 2) (0 : Fin 1) i)
    = m ((c : Thread nD τ).loc main_arg5) (ix3 (0 : Fin 4) (1 : Fin 2) i) :=
  (congrFun (V_v4 m c) _).trans (affine _ i)

theorem at_v5 (i : Fin 1024) : V m c main_v5 (ix4 (0 : Fin 4) (1 : Fin 2) (0 : Fin 1) i)
    = m ((c : Thread nD τ).loc main_arg6) (ix3 (0 : Fin 4) (1 : Fin 2) i) :=
  (congrFun (V_v5 m c) _).trans (affine _ i)

/-- The result as an array. -/
def answer : FVec Ideal S32768x1024 .f32 := fun y =>
  _root_.Ffn.layer (fun s p i => m ((c : Thread nD τ).loc main_arg0) (ix3 s p i)) (fun r i => m ((c : Thread nD τ).loc main_arg1) (ix3 (0 : Fin 4) r i))
    (fun i x => m ((c : Thread nD τ).loc main_arg2) (ix3 (0 : Fin 2) i x)) (fun i x => m ((c : Thread nD τ).loc main_arg3) (ix3 (0 : Fin 2) i x))
    (fun x i => m ((c : Thread nD τ).loc main_arg4) (ix3 (0 : Fin 2) x i)) (fun i => m ((c : Thread nD τ).loc main_arg5) (ix3 (0 : Fin 4) (1 : Fin 2) i))
    (fun i => m ((c : Thread nD τ).loc main_arg6) (ix3 (0 : Fin 4) (1 : Fin 2) i))
    (⟨(y 0).val / 2048, by have : (y 0).val < 32768 := (y 0).isLt; omega⟩ : Fin 16) (⟨(y 0).val % 2048, by omega⟩ : Fin 2048) (y 1)

/-- A tile's rows in the argument. -/
theorem tile (t : Fin cfg0.N) (p : Fin 512) (i : Fin 1024) : iblk m c 0 t (ix2 p i)
    = m ((c : Thread nD τ).loc main_arg0) (ix3 (⟨(t.val * 512 + p.val) / 2048, by have := bound t; omega⟩ : Fin 16)
        (⟨(t.val * 512 + p.val) % 2048, by omega⟩ : Fin 2048) i) := by
  refine (blk0 m c t p i).trans (Eq.trans ?_ (at_v6 m c _ _ i))
  exact congrArg (fun r : Fin 32768 => V m c main_v6 (ix2 r i)) (Fin.ext (Nat.div_add_mod' _ _).symm)

theorem tileMod (t : Fin cfg0.N) (p : Fin 512) (i : Fin 6144) : iblk m c 1 t (ix4 (0 : Fin 1) (0 : Fin 1) (0 : Fin 1) i)
    = m ((c : Thread nD τ).loc main_arg1) (ix3 (0 : Fin 4) (⟨(t.val * 512 + p.val) / 2048, by have := bound t; omega⟩ : Fin 24) i) := by
  refine (blk1 m c t i).trans (Eq.trans ?_ (at_v0 m c _ i))
  exact congrArg (fun r : Fin 24 => V m c main_v0 (ix4 (0 : Fin 4) r (0 : Fin 1) i)) (Fin.ext (by show t.val / 4 = (t.val * 512 + p.val) / 2048; omega))

/-- The result's array after the launch. -/
theorem final : (dats m 0 c).arrAt 7 cfg0.N = answer m c := by
  refine (dats m 0 c).arrAt_eq_of_covers 7 _ (by decide +kernel) fun t hf y => ?_
  refine (congrFun (Value.flushed7 m c t) y).trans ?_
  obtain ⟨p, j, rfl⟩ : ∃ (p : Fin 512) (j : Fin 1024), y = ix2 p j := ⟨y 0, y 1, (ix2_eta (n0 := 512) (n1 := 1024) y).symm⟩
  refine (out_at _ _ _ _ _ _ _ p j).trans ?_
  have h := idx t
  have e : ((cfg0.win 7).blk t).view.emb (ix2 p j) = ix2 (⟨t.val * 512 + p.val, by have := bound t; omega⟩ : Fin 32768) j := by blk_ext [h]
  refine Eq.trans ?_ (congrArg (answer m c) e).symm
  exact _root_.Ffn.token_congr (tile m c t p) (fun i => tileMod m c t p _) (fun i => tileMod m c t p _) (fun i => tileMod m c t p _)
    (fun i x => (blk2 m c t i x).trans (at_v1 m c i x)) (fun i x => (blk3 m c t i x).trans (at_v2 m c i x))
    (fun x i => (blk4 m c t x i).trans (at_v3 m c x i)) (fun i => (blk5 m c t i).trans (at_v4 m c i)) (fun i => (blk6 m c t i).trans (at_v5 m c i)) j

end Cert.FfnIdeal.Ffn

end
-- ==== Proof.Ffn.Claims.lean ====
/- The feed-forward's claims, out of its two halves. -/
module

public import proofs.«01_k».proof.Defs
public import proofs.«01_k».proof.Proof.Gen.FfnIdeal
public import proofs.«01_k».proof.Proof.Gen.FfnReferenceIdeal
public import proofs.«01_k».proof.Proof.Ffn.Reference
public import proofs.«01_k».proof.Proof.Ffn.Kernel
public import Idealize.ShloMosaic.Adequacy
public import Idealize.ShloMosaic.Init

@[expose] public section

noncomputable section

namespace Cert.FfnIdeal.Ffn

open Cert.FfnIdeal Idealize.ShloMosaic Idealize.ShloMosaic.TcCoe Idealize.SL.Sem

/-- The reference leaves its arguments and its counters as it found them. -/
theorem frame_reference : Cert.quiescent_FfnReferenceIdeal (hFfnReferenceIdeal := Cert.FfnReferenceIdeal.Gen.facts) := by
  intro m g _
  exact (θ_run Cert.FfnReferenceIdeal.defs _ _).mono
    (fun r h => ⟨fun c => (h c).2, sem_eq_zero_of_no_sems (by decide) r.2⟩)
    (Cert.FfnReferenceIdeal.Value.run (F := Ideal) m g)

/-- The reference's result is the layer of its arguments. -/
theorem reference_answer (m : (ℓ : Loc nD τ sig) → Buf (Elt Ideal) ℓ) (c : Dev nD) :
    Cert.FfnReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = answer m c := by
  funext y
  have hy : y = ix2 (⟨(y 0).val / 2048 * 2048 + (y 0).val % 2048, by rw [Nat.div_add_mod']; exact (y 0).isLt⟩ : Fin 32768) (y 1) := by
    refine (ix2_eta (n0 := 32768) (n1 := 1024) y).symm.trans ?_
    exact congrArg (fun r : Fin 32768 => ix2 r (y 1)) (Fin.ext (Nat.div_add_mod' _ _).symm)
  refine (congrArg (Cert.FfnReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hy).trans ?_
  exact Cert.FfnReferenceIdeal.Ffn.result _ _ _ _ _ _ _ (⟨(y 0).val / 2048, by have : (y 0).val < 32768 := (y 0).isLt; omega⟩ : Fin 16) (⟨(y 0).val % 2048, by omega⟩ : Fin 2048) (y 1)

/-- The kernel and the reference leave the same array. -/
theorem algebraic : Cert.algebraic_FfnIdeal_FfnReferenceIdeal (hFfnIdeal := Cert.FfnIdeal.Gen.facts)
    (hFfnReferenceIdeal := Cert.FfnReferenceIdeal.Gen.facts) := by
  intro m g m' g' _ hagree
  refine ⟨fun c => answer m c, ?_, ?_⟩
  · exact (θ_run Cert.FfnIdeal.defs _ _).mono (fun r h c => ⟨(h c).1.trans (final m c), (h c).2⟩) (Cert.FfnIdeal.Value.run_blocks (F := Ideal) m g)
  · refine (θ_run Cert.FfnReferenceIdeal.defs _ _).mono (fun r h c => ?_) (Cert.FfnReferenceIdeal.Value.run (F := Ideal) m' g')
    obtain ⟨a0, a1, a2, a3, a4, a5, a6⟩ := hagree c
    refine ⟨((h c).1.trans (Cert.FfnReferenceIdeal.Read.val_main_v77_eq _ _)).trans (Eq.trans ?_ (reference_answer m c)), (h c).2⟩
    simp only [a0, a1, a2, a3, a4, a5, a6]

end Cert.FfnIdeal.Ffn

end
-- ==== Proof.Merge.Spec.lean ====
/- The merge of the four branches over the reals, at one token. -/
module

public import proofs.«01_k».proof.Proof.Norm

@[expose] public section

noncomputable section

namespace Merge

open Idealize.ShloMosaic
open _root_.LayerNorm (closed closed_congr)

def sigmoid (v : EReal) : EReal := Ideal.div 1 (1 + Ideal.exp (-v))

/-- One branch at one lane: its projection, gated by the token. -/
def branch (h : Fin 1024 → EReal) (y : Fin 256 → EReal) (wg : Fin 1024 → EReal) (wb : Fin 256 → EReal) : EReal :=
  sigmoid (∑ i, h i * wg i) * ∑ i, y i * wb i

/-- The four branches at one lane. -/
def mix (h : Fin 1024 → EReal) (ya yb yc yd : Fin 256 → EReal) (wg : Fin 4 → Fin 1024 → Fin 1024 → EReal) (wb : Fin 4 → Fin 256 → Fin 1024 → EReal)
    (x : Fin 1024) : EReal :=
  branch h ya (fun i => wg 0 i x) (fun i => wb 0 i x) + branch h yb (fun i => wg 1 i x) (fun i => wb 1 i x)
    + branch h yc (fun i => wg 2 i x) (fun i => wb 2 i x) + branch h yd (fun i => wg 3 i x) (fun i => wb 3 i x)

/-- One token through the merge: the branches mixed, projected, gated onto the residual, normalised. -/
def token (v h : Fin 1024 → EReal) (ya yb yc yd : Fin 256 → EReal) (gate : Fin 1024 → EReal) (wg : Fin 4 → Fin 1024 → Fin 1024 → EReal)
    (wb : Fin 4 → Fin 256 → Fin 1024 → EReal) (wo : Fin 1024 → Fin 1024 → EReal) (gain bias : Fin 1024 → EReal) (j : Fin 1024) : EReal :=
  closed v gate (fun i => ∑ x, mix h ya yb yc yd wg wb x * wo x i) gain bias j

/-- The merge at token `p` of sequence `s`, from the layer's arrays. -/
def layer (x h : Fin 16 → Fin 2048 → Fin 1024 → EReal) (ya yb yc yd : Fin 16 → Fin 2048 → Fin 256 → EReal) (mod : Fin 24 → Fin 6144 → EReal)
    (wg : Fin 4 → Fin 1024 → Fin 1024 → EReal) (wb : Fin 4 → Fin 256 → Fin 1024 → EReal) (wo : Fin 1024 → Fin 1024 → EReal)
    (gain bias : Fin 1024 → EReal) (s : Fin 16) (p : Fin 2048) (j : Fin 1024) : EReal :=
  token (x s p) (h s p) (ya s p) (yb s p) (yc s p) (yd s p) (fun i => mod ⟨s.val, by omega⟩ ⟨2048 + i.val, by omega⟩) wg wb wo gain bias j

theorem token_congr {v v' h h' gate gate' gain gain' bias bias' : Fin 1024 → EReal} {ya ya' yb yb' yc yc' yd yd' : Fin 256 → EReal}
    {wg wg' : Fin 4 → Fin 1024 → Fin 1024 → EReal} {wb wb' : Fin 4 → Fin 256 → Fin 1024 → EReal} {wo wo' : Fin 1024 → Fin 1024 → EReal}
    (ev : ∀ i, v i = v' i) (eh : ∀ i, h i = h' i) (ea : ∀ i, ya i = ya' i) (eb : ∀ i, yb i = yb' i) (ec : ∀ i, yc i = yc' i)
    (ed : ∀ i, yd i = yd' i) (eg : ∀ i, gate i = gate' i) (e1 : ∀ b i x, wg b i x = wg' b i x) (e2 : ∀ b i x, wb b i x = wb' b i x)
    (e3 : ∀ x i, wo x i = wo' x i) (en : ∀ i, gain i = gain' i) (es : ∀ i, bias i = bias' i) (j : Fin 1024) :
    token v h ya yb yc yd gate wg wb wo gain bias j = token v' h' ya' yb' yc' yd' gate' wg' wb' wo' gain' bias' j := by
  obtain rfl : h = h' := funext eh
  obtain rfl : ya = ya' := funext ea
  obtain rfl : yb = yb' := funext eb
  obtain rfl : yc = yc' := funext ec
  obtain rfl : yd = yd' := funext ed
  obtain rfl : wg = wg' := funext fun b => funext fun i => funext (e1 b i)
  obtain rfl : wb = wb' := funext fun b => funext fun i => funext (e2 b i)
  obtain rfl : wo = wo' := funext fun x => funext (e3 x)
  exact closed_congr ev eg (fun _ => rfl) en es j

end Merge

end
-- ==== Proof.Merge.Reference.lean ====
/- The reference of the merge, entry by entry. -/
module

public import proofs.«01_k».proof.Proof.Gen.MergeReferenceIdeal.Read
public import proofs.«01_k».proof.Proof.Merge.Spec

@[expose] public section

set_option maxRecDepth 200000

noncomputable section

namespace Cert.MergeReferenceIdeal.Merge

open Cert.MergeReferenceIdeal Cert.MergeReferenceIdeal.Gen Cert.MergeReferenceIdeal.Read Idealize.ShloMosaic Idealize.SL.Sem

variable (x0 : (⟨S16x2048x1024, .f32⟩ : BufTy).Contents (Elt Ideal)) (x1 : (⟨S16x2048x1024, .bf16⟩ : BufTy).Contents (Elt Ideal))
  (x2 x3 x4 x5 : (⟨S16x2048x256, .bf16⟩ : BufTy).Contents (Elt Ideal)) (x6 : (⟨S4x24x6144, .f32⟩ : BufTy).Contents (Elt Ideal))
  (x7 : (⟨S4x4x1024x1024, .f32⟩ : BufTy).Contents (Elt Ideal)) (x8 : (⟨S4x4x256x1024, .f32⟩ : BufTy).Contents (Elt Ideal))
  (x9 : (⟨S4x1024x1024, .f32⟩ : BufTy).Contents (Elt Ideal)) (x10 x11 : (⟨S4x2x1024, .f32⟩ : BufTy).Contents (Elt Ideal))

/-- The branches mixed. -/
theorem mixed (s : Fin 16) (p : Fin 2048) (i : Fin 1024) : val_main_v68 (F := Ideal) x1 x2 x3 x4 x5 x7 x8 (ix3 s p i)
    = _root_.Merge.mix (fun i => x1 (ix3 s p i)) (fun i => x2 (ix3 s p i)) (fun i => x3 (ix3 s p i)) (fun i => x4 (ix3 s p i)) (fun i => x5 (ix3 s p i))
        (fun b i x => x7 (ix4 (0 : Fin 4) b i x)) (fun b i x => x8 (ix4 (0 : Fin 4) b i x)) i := by
  pointwise [val_main_v9, val_main_v10, val_main_v11, val_main_v12, val_main_v13, val_main_v14, val_main_v15, val_main_v16, val_main_v17,
    val_main_v18, val_main_cst, val_main_v19, val_main_v20, val_main_cst_0, val_main_v21, val_main_v22, val_main_v23, val_main_v24,
    val_main_v25, val_main_v26, val_main_v27, val_main_v28, val_main_v29, val_main_v30, val_main_v31, val_main_cst_1, val_main_v32,
    val_main_v33, val_main_cst_2, val_main_v34, val_main_v35, val_main_v36, val_main_v37, val_main_v38, val_main_v39, val_main_v40,
    val_main_v41, val_main_v42, val_main_v43, val_main_v44, val_main_v45, val_main_cst_3, val_main_v46, val_main_v47, val_main_cst_4,
    val_main_v48, val_main_v49, val_main_v50, val_main_v51, val_main_v52, val_main_v53, val_main_v54, val_main_v55, val_main_v56,
    val_main_v57, val_main_v58, val_main_v59, val_main_cst_5, val_main_v60, val_main_v61, val_main_cst_6, val_main_v62, val_main_v63,
    val_main_v64, val_main_v65, val_main_v66, val_main_v67, val_main_v68]
  rfl

/-- The rows before the normalisation. -/
theorem gated (s : Fin 16) (p : Fin 2048) (i : Fin 1024) : val_main_v76 (F := Ideal) x0 x1 x2 x3 x4 x5 x6 x7 x8 x9 (ix3 s p i)
    = LayerNorm.residual * x0 (ix3 s p i) + x6 (ix3 (0 : Fin 4) (⟨s.val, by omega⟩ : Fin 24) (⟨2048 + i.val, by omega⟩ : Fin 6144))
        * ∑ x, val_main_v68 (F := Ideal) x1 x2 x3 x4 x5 x7 x8 (ix3 s p x) * x9 (ix3 (0 : Fin 4) x i) := by
  pointwise [val_main_v0, val_main_v1, val_main_v2, val_main_v5, val_main_cst_7, val_main_v69, val_main_v70, val_main_v71, val_main_v72,
    val_main_v73, val_main_v74, val_main_v75, val_main_v76]

/-- The result. -/
theorem result (s : Fin 16) (p : Fin 2048) (j : Fin 1024) :
    val_main_v105 (F := Ideal) x0 x1 x2 x3 x4 x5 x6 x7 x8 x9 x10 x11 (ix2 (⟨s.val * 2048 + p.val, by omega⟩ : Fin 32768) j)
      = _root_.Merge.layer (fun s p i => x0 (ix3 s p i)) (fun s p i => x1 (ix3 s p i)) (fun s p i => x2 (ix3 s p i)) (fun s p i => x3 (ix3 s p i))
          (fun s p i => x4 (ix3 s p i)) (fun s p i => x5 (ix3 s p i)) (fun r i => x6 (ix3 (0 : Fin 4) r i))
          (fun b i x => x7 (ix4 (0 : Fin 4) b i x)) (fun b i x => x8 (ix4 (0 : Fin 4) b i x)) (fun x i => x9 (ix3 (0 : Fin 4) x i))
          (fun i => x10 (ix3 (0 : Fin 4) (0 : Fin 2) i)) (fun i => x11 (ix3 (0 : Fin 4) (0 : Fin 2) i)) s p j := by
  pointwise [val_main_cst_8, val_main_v77, val_main_v78, val_main_v79, val_main_v80, val_main_v81, val_main_v82, val_main_v83, val_main_v84,
    val_main_v85, val_main_v86, val_main_v87, val_main_v88, val_main_v89, val_main_v90, val_main_v91, val_main_v92, val_main_v93,
    val_main_v94, val_main_v95, val_main_v96, val_main_v97, val_main_v98, val_main_v99, val_main_v100, val_main_v101, val_main_v102,
    val_main_v103, val_main_v104, val_main_v105, val_main_cst_9, val_main_cst_10, val_main_cst_11, val_main_cst_12]
  simp only [gated, mixed]
  rfl

end Cert.MergeReferenceIdeal.Merge

end
-- ==== Proof.Merge.Kernel.lean ====
/- The merge kernel's result, entry by entry, from its arguments. -/
module

public import proofs.«01_k».proof.Proof.Gen.MergeIdeal.Value
public import proofs.«01_k».proof.Proof.Merge.Spec
public import Idealize.ShloMosaic.Lib.Pipeline.ValueKit

@[expose] public section

set_option maxRecDepth 200000

noncomputable section

namespace Cert.MergeIdeal.Merge

open Cert.MergeIdeal Cert.MergeIdeal.Gen Idealize.ShloMosaic Idealize.ShloMosaic.TcCoe Idealize.SL.Sem
open _root_.LayerNorm (closed closed_congr)

section Body

variable (x0 : Vec Ideal S512x1024 .f32) (x1 : Vec Ideal S512x1024 .bf16) (x2 x3 x4 x5 : Vec Ideal S512x256 .bf16) (x6 : Vec Ideal S1x1x1x6144 .f32)
  (x7 : Vec Ideal S1x4x1024x1024 .bf16) (x8 : Vec Ideal S1x4x256x1024 .bf16) (x9 : Vec Ideal S1x1024x1024 .bf16) (x10 x11 : Vec Ideal S1x1x1x1024 .f32)

/-- The branches mixed, at a row of the tile. -/
abbrev mixed (p : Fin 512) (x : Fin 1024) : EReal :=
  _root_.Merge.mix (fun i => x1 (ix2 p i)) (fun i => x2 (ix2 p i)) (fun i => x3 (ix2 p i)) (fun i => x4 (ix2 p i)) (fun i => x5 (ix2 p i))
    (fun b i x => x7 (ix4 (0 : Fin 1) b i x)) (fun b i x => x8 (ix4 (0 : Fin 1) b i x)) x

/-- The first quarter of the lanes, -/
theorem lanes_0 (p : Fin 512) (l : Fin 256) : (k0_pay10 (k0_pay5 (View.ld x5 r0_1)) (k0_pay8 (k0_pay1 (View.ld x1 r0_0)) (k0_pay3 (View.ld x3 r0_1)) (k0_pay4 (View.ld x4 r0_1)) (k0_pay6 (View.ld x1 r0_0) (View.ld x2 r0_1) (View.ld x7 r0_2) (View.ld x8 r0_3)) (k0_pay7 (View.ld x1 r0_0) (View.ld x7 r0_4)) (View.ld x8 r0_5) (View.ld x7 r0_6) (View.ld x8 r0_7)) (k0_pay9 (k0_pay1 (View.ld x1 r0_0)) (View.ld x7 r0_8)) (Scalar.ofBits .f32 0x3F800000#32) (View.ld x8 r0_9) : FVec Ideal S512x256 .bf16) (ix2 p l) = mixed x1 x2 x3 x4 x5 x7 x8 p ⟨l.val, by omega⟩ := by
  pointwise [k0_pay10, k0_pay9, k0_pay8, k0_pay7, k0_pay6, k0_pay5, k0_pay4, k0_pay3, k0_pay2, k0_pay1]
  simp only [zero_sub]
  rfl

/-- the second, -/
theorem lanes_1 (p : Fin 512) (l : Fin 256) : (k0_pay16 (k0_pay5 (View.ld x5 r0_1)) (k0_pay13 (k0_pay1 (View.ld x1 r0_0)) (k0_pay3 (View.ld x3 r0_1)) (k0_pay4 (View.ld x4 r0_1)) (k0_pay11 (k0_pay1 (View.ld x1 r0_0)) (k0_pay2 (View.ld x2 r0_1)) (View.ld x7 r0_10) (View.ld x8 r0_11)) (k0_pay12 (k0_pay1 (View.ld x1 r0_0)) (View.ld x7 r0_12)) (View.ld x8 r0_13) (View.ld x7 r0_14) (View.ld x8 r0_15)) (k0_pay14 (k0_pay1 (View.ld x1 r0_0)) (View.ld x7 r0_16)) (k0_pay15 (View.ld x8 r0_17)) : FVec Ideal S512x256 .bf16) (ix2 p l) = mixed x1 x2 x3 x4 x5 x7 x8 p ⟨256 + l.val, by omega⟩ := by
  pointwise [k0_pay16, k0_pay15, k0_pay14, k0_pay13, k0_pay12, k0_pay11, k0_pay5, k0_pay4, k0_pay3, k0_pay2, k0_pay1]
  simp only [zero_sub]
  rfl

/-- the third, -/
theorem lanes_2 (p : Fin 512) (l : Fin 256) : (k0_pay18 (k0_pay1 (View.ld x1 r0_0)) (k0_pay4 (View.ld x4 r0_1)) (k0_pay5 (View.ld x5 r0_1)) (k0_pay17 (k0_pay1 (View.ld x1 r0_0)) (k0_pay2 (View.ld x2 r0_1)) (k0_pay3 (View.ld x3 r0_1)) (View.ld x7 r0_18) (View.ld x8 r0_19) (View.ld x7 r0_20) (View.ld x8 r0_21)) (View.ld x7 r0_22) (View.ld x8 r0_23) (View.ld x7 r0_24) (View.ld x8 r0_25) : FVec Ideal S512x256 .bf16) (ix2 p l) = mixed x1 x2 x3 x4 x5 x7 x8 p ⟨512 + l.val, by omega⟩ := by
  pointwise [k0_pay18, k0_pay17, k0_pay5, k0_pay4, k0_pay3, k0_pay2, k0_pay1]
  simp only [zero_sub]
  rfl

/-- and the last, of which two branches and a third one's gate are formed beforehand. -/
theorem lanes_3 (p : Fin 512) (l : Fin 256) :
    (k0_pay19 (k0_pay1 (View.ld x1 r0_0)) (k0_pay2 (View.ld x2 r0_1)) (k0_pay3 (View.ld x3 r0_1)) (View.ld x7 r0_26) (View.ld x8 r0_27) (View.ld x7 r0_28) (View.ld x8 r0_29) : FVec Ideal S512x256 .f32) (ix2 p l)
        + Ideal.div 1 (1 + Ideal.exp (0 - (k0_pay20 (k0_pay1 (View.ld x1 r0_0)) (View.ld x7 r0_30) : FVec Ideal S512x256 .f32) (ix2 p l)))
          * ∑ x : Fin 256, ((k0_pay4 (View.ld x4 r0_1)) : FVec Ideal S512x256 .bf16) (ix2 p x) * x8 (ix4 (0 : Fin 1) (2 : Fin 4) x (⟨768 + l.val, by omega⟩ : Fin 1024))
        + Ideal.div 1 (1 + Ideal.exp (0 - ∑ x : Fin 1024, ((k0_pay1 (View.ld x1 r0_0)) : FVec Ideal S512x1024 .bf16) (ix2 p x) * x7 (ix4 (0 : Fin 1) (3 : Fin 4) x (⟨768 + l.val, by omega⟩ : Fin 1024))))
          * ∑ x : Fin 256, ((k0_pay5 (View.ld x5 r0_1)) : FVec Ideal S512x256 .bf16) (ix2 p x) * x8 (ix4 (0 : Fin 1) (3 : Fin 4) x (⟨768 + l.val, by omega⟩ : Fin 1024))
      = mixed x1 x2 x3 x4 x5 x7 x8 p ⟨768 + l.val, by omega⟩ := by
  pointwise [k0_pay20, k0_pay19, k0_pay5, k0_pay4, k0_pay3, k0_pay2, k0_pay1]
  simp only [zero_sub]
  rfl

/-- The projection of the quarters, side by side. -/
theorem projected (v1 : FVec Ideal S512x1024 .bf16) (v7 v9 a b c : FVec Ideal S512x256 .bf16) (d e : FVec Ideal S512x256 .f32) (p : Fin 512) (j : Fin 1024)
    (M : Fin 1024 → EReal) (h0 : ∀ l : Fin 256, a (ix2 p l) = M ⟨l.val, by omega⟩) (h1 : ∀ l : Fin 256, b (ix2 p l) = M ⟨256 + l.val, by omega⟩)
    (h2 : ∀ l : Fin 256, c (ix2 p l) = M ⟨512 + l.val, by omega⟩)
    (h3 : ∀ l : Fin 256, d (ix2 p l)
        + Ideal.div 1 (1 + Ideal.exp (0 - e (ix2 p l)))
          * ∑ x : Fin 256, v7 (ix2 p x) * x8 (ix4 (0 : Fin 1) (2 : Fin 4) x (⟨768 + l.val, by omega⟩ : Fin 1024))
        + Ideal.div 1 (1 + Ideal.exp (0 - ∑ x : Fin 1024, v1 (ix2 p x) * x7 (ix4 (0 : Fin 1) (3 : Fin 4) x (⟨768 + l.val, by omega⟩ : Fin 1024))))
          * ∑ x : Fin 256, v9 (ix2 p x) * x8 (ix4 (0 : Fin 1) (3 : Fin 4) x (⟨768 + l.val, by omega⟩ : Fin 1024))
      = M ⟨768 + l.val, by omega⟩) :
    k0_pay21 v1 v7 v9 a b c d e (View.ld x8 r0_31) (View.ld x7 r0_32) (View.ld x8 r0_33) (View.ld x9 r0_34) (ix2 p j) = ∑ x, M x * x9 (ix3 (0 : Fin 1) x j) := by
  pointwise [k0_pay21]
  refine Finset.sum_congr rfl fun x _ => congrArg (· * x9 (ix3 (0 : Fin 1) x j)) ?_
  have hx := x.isLt
  by_cases g0 : x.val < 256
  · exact (dif_pos g0).trans ((h0 ⟨x.val, g0⟩).trans (congrArg M (Fin.ext rfl)))
  refine (dif_neg g0).trans ?_
  by_cases g1 : x.val - 256 < 256
  · exact (dif_pos g1).trans ((h1 ⟨x.val - 256, g1⟩).trans (congrArg M (Fin.ext (by show 256 + (x.val - 256) = x.val; omega))))
  refine (dif_neg g1).trans ?_
  by_cases g2 : x.val - 256 - 256 < 256
  · exact (dif_pos g2).trans ((h2 ⟨x.val - 256 - 256, g2⟩).trans (congrArg M (Fin.ext (by show 512 + (x.val - 256 - 256) = x.val; omega))))
  refine (dif_neg g2).trans ?_
  have hl : x.val - 256 - 256 - 256 < 256 := by omega
  exact (h3 ⟨x.val - 256 - 256 - 256, hl⟩).trans (congrArg M (Fin.ext (by show 768 + (x.val - 256 - 256 - 256) = x.val; omega)))

theorem closing (v : FVec Ideal S512x1024 .f32) (p : Fin 512) (j : Fin 1024) :
    k0_pay22 v (View.ld x6 r0_35) (View.ld x0 r0_0) (View.ld x10 r0_36) (View.ld x11 r0_36) (ix2 p j)
      = closed (fun i => x0 (ix2 p i)) (fun i => x6 (ix4 (0 : Fin 1) (0 : Fin 1) (0 : Fin 1) (⟨2048 + i.val, by omega⟩ : Fin 6144))) (fun i => v (ix2 p i))
          (fun i => x10 (ix4 (0 : Fin 1) (0 : Fin 1) (0 : Fin 1) i)) (fun i => x11 (ix4 (0 : Fin 1) (0 : Fin 1) (0 : Fin 1) i)) j := by
  pointwise [k0_pay22]
  rfl

theorem out_eq : out0_12 x0 x1 x2 x3 x4 x5 x6 x7 x8 x9 x10 x11
    = k0_pay22 (k0_pay21 (k0_pay1 (View.ld x1 r0_0)) (k0_pay4 (View.ld x4 r0_1)) (k0_pay5 (View.ld x5 r0_1)) (k0_pay10 (k0_pay5 (View.ld x5 r0_1)) (k0_pay8 (k0_pay1 (View.ld x1 r0_0)) (k0_pay3 (View.ld x3 r0_1)) (k0_pay4 (View.ld x4 r0_1)) (k0_pay6 (View.ld x1 r0_0) (View.ld x2 r0_1) (View.ld x7 r0_2) (View.ld x8 r0_3)) (k0_pay7 (View.ld x1 r0_0) (View.ld x7 r0_4)) (View.ld x8 r0_5) (View.ld x7 r0_6) (View.ld x8 r0_7)) (k0_pay9 (k0_pay1 (View.ld x1 r0_0)) (View.ld x7 r0_8)) (Scalar.ofBits .f32 0x3F800000#32) (View.ld x8 r0_9)) (k0_pay16 (k0_pay5 (View.ld x5 r0_1)) (k0_pay13 (k0_pay1 (View.ld x1 r0_0)) (k0_pay3 (View.ld x3 r0_1)) (k0_pay4 (View.ld x4 r0_1)) (k0_pay11 (k0_pay1 (View.ld x1 r0_0)) (k0_pay2 (View.ld x2 r0_1)) (View.ld x7 r0_10) (View.ld x8 r0_11)) (k0_pay12 (k0_pay1 (View.ld x1 r0_0)) (View.ld x7 r0_12)) (View.ld x8 r0_13) (View.ld x7 r0_14) (View.ld x8 r0_15)) (k0_pay14 (k0_pay1 (View.ld x1 r0_0)) (View.ld x7 r0_16)) (k0_pay15 (View.ld x8 r0_17))) (k0_pay18 (k0_pay1 (View.ld x1 r0_0)) (k0_pay4 (View.ld x4 r0_1)) (k0_pay5 (View.ld x5 r0_1)) (k0_pay17 (k0_pay1 (View.ld x1 r0_0)) (k0_pay2 (View.ld x2 r0_1)) (k0_pay3 (View.ld x3 r0_1)) (View.ld x7 r0_18) (View.ld x8 r0_19) (View.ld x7 r0_20) (View.ld x8 r0_21)) (View.ld x7 r0_22) (View.ld x8 r0_23) (View.ld x7 r0_24) (View.ld x8 r0_25)) (k0_pay19 (k0_pay1 (View.ld x1 r0_0)) (k0_pay2 (View.ld x2 r0_1)) (k0_pay3 (View.ld x3 r0_1)) (View.ld x7 r0_26) (View.ld x8 r0_27) (View.ld x7 r0_28) (View.ld x8 r0_29)) (k0_pay20 (k0_pay1 (View.ld x1 r0_0)) (View.ld x7 r0_30)) (View.ld x8 r0_31) (View.ld x7 r0_32) (View.ld x8 r0_33) (View.ld x9 r0_34)) (View.ld x6 r0_35) (View.ld x0 r0_0) (View.ld x10 r0_36) (View.ld x11 r0_36) :=
  View.canon_unit_zero (by funext k; fin_cases k <;> rfl) _ _

/-- What the body leaves in its block. -/
theorem out_at (p : Fin 512) (j : Fin 1024) : out0_12 x0 x1 x2 x3 x4 x5 x6 x7 x8 x9 x10 x11 (ix2 p j)
    = _root_.Merge.token (fun i => x0 (ix2 p i)) (fun i => x1 (ix2 p i)) (fun i => x2 (ix2 p i)) (fun i => x3 (ix2 p i)) (fun i => x4 (ix2 p i))
        (fun i => x5 (ix2 p i)) (fun i => x6 (ix4 (0 : Fin 1) (0 : Fin 1) (0 : Fin 1) (⟨2048 + i.val, by omega⟩ : Fin 6144)))
        (fun b i x => x7 (ix4 (0 : Fin 1) b i x)) (fun b i x => x8 (ix4 (0 : Fin 1) b i x)) (fun x i => x9 (ix3 (0 : Fin 1) x i))
        (fun i => x10 (ix4 (0 : Fin 1) (0 : Fin 1) (0 : Fin 1) i)) (fun i => x11 (ix4 (0 : Fin 1) (0 : Fin 1) (0 : Fin 1) i)) j := by
  rw [out_eq]
  exact (closing x0 x6 x10 x11 _ p j).trans (closed_congr (fun _ => rfl) (fun _ => rfl)
    (fun i => projected x7 x8 x9 _ _ _ _ _ _ _ _ p i (mixed x1 x2 x3 x4 x5 x7 x8 p) (lanes_0 x1 x2 x3 x4 x5 x7 x8 p) (lanes_1 x1 x2 x3 x4 x5 x7 x8 p)
      (lanes_2 x1 x2 x3 x4 x5 x7 x8 p) (lanes_3 x1 x2 x3 x4 x5 x7 x8 p)) (fun _ => rfl) (fun _ => rfl) j)

theorem flat (x : Vec Ideal S16x2048x1024 .f32) (s : Fin 16) (p : Fin 2048) (i : Fin 1024) :
    shapeCast S32768x1024 x shapeCasts_S16x2048x1024_S32768x1024 (ix2 (⟨s.val * 2048 + p.val, by omega⟩ : Fin 32768) i) = x (ix3 s p i) := by pointwise

theorem flatHalf (x : Vec Ideal S16x2048x1024 .bf16) (s : Fin 16) (p : Fin 2048) (i : Fin 1024) :
    shapeCast S32768x1024 x shapeCasts_S16x2048x1024_S32768x1024 (ix2 (⟨s.val * 2048 + p.val, by omega⟩ : Fin 32768) i) = x (ix3 s p i) := by pointwise

theorem flatBranch (x : Vec Ideal S16x2048x256 .bf16) (s : Fin 16) (p : Fin 2048) (i : Fin 256) :
    shapeCast S32768x256 x shapeCasts_S16x2048x256_S32768x256 (ix2 (⟨s.val * 2048 + p.val, by omega⟩ : Fin 32768) i) = x (ix3 s p i) := by pointwise

theorem spread (x : Vec Ideal S4x24x6144 .f32) (r : Fin 24) (i : Fin 6144) :
    shapeCast S4x24x1x6144 x shapeCasts_S4x24x6144_S4x24x1x6144 (ix4 (0 : Fin 4) r (0 : Fin 1) i) = x (ix3 (0 : Fin 4) r i) := by pointwise

theorem affine (x : Vec Ideal S4x2x1024 .f32) (i : Fin 1024) :
    shapeCast S4x2x1x1024 x shapeCasts_S4x2x1024_S4x2x1x1024 (ix4 (0 : Fin 4) (0 : Fin 2) (0 : Fin 1) i) = x (ix3 (0 : Fin 4) (0 : Fin 2) i) := by
  pointwise

end Body

variable (m : (ℓ : Loc nD τ sig) → Buf (Elt Ideal) ℓ) (c : Dev nD)

/-- A point's windows. -/
theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, t.val / 4, 0, 0]
    ∧ win0_7.index t = ![0, 0, 0, 0] ∧ win0_8.index t = ![0, 0, 0, 0] ∧ win0_9.index t = ![0, 0, 0] ∧ win0_10.index t = ![0, 0, 0, 0]
    ∧ win0_11.index t = ![0, 0, 0, 0] ∧ win0_12.index t = ![t.val, 0] := by
  revert t; decide +kernel

theorem bound (t : Fin cfg0.N) : t.val < 64 := t.isLt

/-! What the host code lays out. -/

theorem V_v0 : V m c main_v0 = shapeCast S4x24x1x6144 (m ((c : Thread nD τ).loc main_arg6)) shapeCasts_S4x24x6144_S4x24x1x6144 := by
  simp only [V, List.flatten_cons, List.flatten_nil, List.append_nil]
  after_results_simp; rfl

theorem V_v1 : V m c main_v1 = (truncf .bf16 (m ((c : Thread nD τ).loc main_arg7)) bitsLt_bf16_f32 : FVec Ideal S4x4x1024x1024 .bf16) := by
  simp only [V, List.flatten_cons, List.flatten_nil, List.append_nil]
  after_results_simp

theorem V_v2 : V m c main_v2 = (truncf .bf16 (m ((c : Thread nD τ).loc main_arg8)) bitsLt_bf16_f32 : FVec Ideal S4x4x256x1024 .bf16) := by
  simp only [V, List.flatten_cons, List.flatten_nil, List.append_nil]
  after_results_simp

theorem V_v3 : V m c main_v3 = (truncf .bf16 (m ((c : Thread nD τ).loc main_arg9)) bitsLt_bf16_f32 : FVec Ideal S4x1024x1024 .bf16) := by
  simp only [V, List.flatten_cons, List.flatten_nil, List.append_nil]
  after_results_simp

theorem V_v4 : V m c main_v4 = shapeCast S4x2x1x1024 (m ((c : Thread nD τ).loc main_arg10)) shapeCasts_S4x2x1024_S4x2x1x1024 := by
  simp only [V, List.flatten_cons, List.flatten_nil, List.append_nil]
  after_results_simp; rfl

theorem V_v5 : V m c main_v5 = shapeCast S4x2x1x1024 (m ((c : Thread nD τ).loc main_arg11)) shapeCasts_S4x2x1024_S4x2x1x1024 := by
  simp only [V, List.flatten_cons, List.flatten_nil, List.append_nil]
  after_results_simp; rfl

theorem V_v6 : V m c main_v6 = shapeCast S32768x1024 (m ((c : Thread nD τ).loc main_arg0)) shapeCasts_S16x2048x1024_S32768x1024 := by
  simp only [V, List.flatten_cons, List.flatten_nil, List.append_nil]
  after_results_simp; rfl

theorem V_v7 : V m c main_v7 = shapeCast S32768x1024 (m ((c : Thread nD τ).loc main_arg1)) shapeCasts_S16x2048x1024_S32768x1024 := by
  simp only [V, List.flatten_cons, List.flatten_nil, List.append_nil]
  after_results_simp; rfl

theorem V_v8 : V m c main_v8 = shapeCast S32768x256 (m ((c : Thread nD τ).loc main_arg2)) shapeCasts_S16x2048x256_S32768x256 := by
  simp only [V, List.flatten_cons, List.flatten_nil, List.append_nil]
  after_results_simp; rfl

theorem V_v9 : V m c main_v9 = shapeCast S32768x256 (m ((c : Thread nD τ).loc main_arg3)) shapeCasts_S16x2048x256_S32768x256 := by
  simp only [V, List.flatten_cons, List.flatten_nil, List.append_nil]
  after_results_simp; rfl

theorem V_v10 : V m c main_v10 = shapeCast S32768x256 (m ((c : Thread nD τ).loc main_arg4)) shapeCasts_S16x2048x256_S32768x256 := by
  simp only [V, List.flatten_cons, List.flatten_nil, List.append_nil]
  after_results_simp; rfl

theorem V_v11 : V m c main_v11 = shapeCast S32768x256 (m ((c : Thread nD τ).loc main_arg5)) shapeCasts_S16x2048x256_S32768x256 := by
  simp only [V, List.flatten_cons, List.flatten_nil, List.append_nil]
  after_results_simp; rfl

/-! The windows' blocks, from the arguments. -/

theorem blk0 (t : Fin cfg0.N) (p : Fin 512) (i : Fin 1024) : iblk m c 0 t (ix2 p i)
    = V m c main_v6 (ix2 (⟨t.val * 512 + p.val, by have := bound t; omega⟩ : Fin 32768) i) := by
  have h := idx t
  blk_ext [iblk, h]

theorem tile0 (t : Fin cfg0.N) (p : Fin 512) (i : Fin 1024) : iblk m c 0 t (ix2 p i)
    = m ((c : Thread nD τ).loc main_arg0) (ix3 (⟨(t.val * 512 + p.val) / 2048, by have := bound t; omega⟩ : Fin 16)
        (⟨(t.val * 512 + p.val) % 2048, by omega⟩ : Fin 2048) i) := by
  refine (blk0 m c t p i).trans (Eq.trans ?_ ((congrFun (V_v6 m c) _).trans (flat _ _ _ i)))
  exact congrArg (fun r : Fin 32768 => V m c main_v6 (ix2 r i)) (Fin.ext (Nat.div_add_mod' _ _).symm)

theorem blk1 (t : Fin cfg0.N) (p : Fin 512) (i : Fin 1024) : iblk m c 1 t (ix2 p i)
    = V m c main_v7 (ix2 (⟨t.val * 512 + p.val, by have := bound t; omega⟩ : Fin 32768) i) := by
  have h := idx t
  blk_ext [iblk, h]

theorem tile1 (t : Fin cfg0.N) (p : Fin 512) (i : Fin 1024) : iblk m c 1 t (ix2 p i)
    = m ((c : Thread nD τ).loc main_arg1) (ix3 (⟨(t.val * 512 + p.val) / 2048, by have := bound t; omega⟩ : Fin 16)
        (⟨(t.val * 512 + p.val) % 2048, by omega⟩ : Fin 2048) i) := by
  refine (blk1 m c t p i).trans (Eq.trans ?_ ((congrFun (V_v7 m c) _).trans (flatHalf _ _ _ i)))
  exact congrArg (fun r : Fin 32768 => V m c main_v7 (ix2 r i)) (Fin.ext (Nat.div_add_mod' _ _).symm)

theorem blk2 (t : Fin cfg0.N) (p : Fin 512) (i : Fin 256) : iblk m c 2 t (ix2 p i)
    = V m c main_v8 (ix2 (⟨t.val * 512 + p.val, by have := bound t; omega⟩ : Fin 32768) i) := by
  have h := idx t
  blk_ext [iblk, h]

theorem tile2 (t : Fin cfg0.N) (p : Fin 512) (i : Fin 256) : iblk m c 2 t (ix2 p i)
    = m ((c : Thread nD τ).loc main_arg2) (ix3 (⟨(t.val * 512 + p.val) / 2048, by have := bound t; omega⟩ : Fin 16)
        (⟨(t.val * 512 + p.val) % 2048, by omega⟩ : Fin 2048) i) := by
  refine (blk2 m c t p i).trans (Eq.trans ?_ ((congrFun (V_v8 m c) _).trans (flatBranch _ _ _ i)))
  exact congrArg (fun r : Fin 32768 => V m c main_v8 (ix2 r i)) (Fin.ext (Nat.div_add_mod' _ _).symm)

theorem blk3 (t : Fin cfg0.N) (p : Fin 512) (i : Fin 256) : iblk m c 3 t (ix2 p i)
    = V m c main_v9 (ix2 (⟨t.val * 512 + p.val, by have := bound t; omega⟩ : Fin 32768) i) := by
  have h := idx t
  blk_ext [iblk, h]

theorem tile3 (t : Fin cfg0.N) (p : Fin 512) (i : Fin 256) : iblk m c 3 t (ix2 p i)
    = m ((c : Thread nD τ).loc main_arg3) (ix3 (⟨(t.val * 512 + p.val) / 2048, by have := bound t; omega⟩ : Fin 16)
        (⟨(t.val * 512 + p.val) % 2048, by omega⟩ : Fin 2048) i) := by
  refine (blk3 m c t p i).trans (Eq.trans ?_ ((congrFun (V_v9 m c) _).trans (flatBranch _ _ _ i)))
  exact congrArg (fun r : Fin 32768 => V m c main_v9 (ix2 r i)) (Fin.ext (Nat.div_add_mod' _ _).symm)

theorem blk4 (t : Fin cfg0.N) (p : Fin 512) (i : Fin 256) : iblk m c 4 t (ix2 p i)
    = V m c main_v10 (ix2 (⟨t.val * 512 + p.val, by have := bound t; omega⟩ : Fin 32768) i) := by
  have h := idx t
  blk_ext [iblk, h]

theorem tile4 (t : Fin cfg0.N) (p : Fin 512) (i : Fin 256) : iblk m c 4 t (ix2 p i)
    = m ((c : Thread nD τ).loc main_arg4) (ix3 (⟨(t.val * 512 + p.val) / 2048, by have := bound t; omega⟩ : Fin 16)
        (⟨(t.val * 512 + p.val) % 2048, by omega⟩ : Fin 2048) i) := by
  refine (blk4 m c t p i).trans (Eq.trans ?_ ((congrFun (V_v10 m c) _).trans (flatBranch _ _ _ i)))
  exact congrArg (fun r : Fin 32768 => V m c main_v10 (ix2 r i)) (Fin.ext (Nat.div_add_mod' _ _).symm)

theorem blk5 (t : Fin cfg0.N) (p : Fin 512) (i : Fin 256) : iblk m c 5 t (ix2 p i)
    = V m c main_v11 (ix2 (⟨t.val * 512 + p.val, by have := bound t; omega⟩ : Fin 32768) i) := by
  have h := idx t
  blk_ext [iblk, h]

theorem tile5 (t : Fin cfg0.N) (p : Fin 512) (i : Fin 256) : iblk m c 5 t (ix2 p i)
    = m ((c : Thread nD τ).loc main_arg5) (ix3 (⟨(t.val * 512 + p.val) / 2048, by have := bound t; omega⟩ : Fin 16)
        (⟨(t.val * 512 + p.val) % 2048, by omega⟩ : Fin 2048) i) := by
  refine (blk5 m c t p i).trans (Eq.trans ?_ ((congrFun (V_v11 m c) _).trans (flatBranch _ _ _ i)))
  exact congrArg (fun r : Fin 32768 => V m c main_v11 (ix2 r i)) (Fin.ext (Nat.div_add_mod' _ _).symm)

theorem blk6 (t : Fin cfg0.N) (i : Fin 6144) : iblk m c 6 t (ix4 (0 : Fin 1) (0 : Fin 1) (0 : Fin 1) i)
    = V m c main_v0 (ix4 (0 : Fin 4) (⟨t.val / 4, by have := bound t; omega⟩ : Fin 24) (0 : Fin 1) i) := by
  have h := idx t
  blk_ext [iblk, h]

theorem tile6 (t : Fin cfg0.N) (p : Fin 512) (i : Fin 6144) : iblk m c 6 t (ix4 (0 : Fin 1) (0 : Fin 1) (0 : Fin 1) i)
    = m ((c : Thread nD τ).loc main_arg6) (ix3 (0 : Fin 4) (⟨(t.val * 512 + p.val) / 2048, by have := bound t; omega⟩ : Fin 24) i) := by
  refine (blk6 m c t i).trans (Eq.trans ?_ ((congrFun (V_v0 m c) _).trans (spread _ _ i)))
  exact congrArg (fun r : Fin 24 => V m c main_v0 (ix4 (0 : Fin 4) r (0 : Fin 1) i)) (Fin.ext (by show t.val / 4 = (t.val * 512 + p.val) / 2048; omega))

theorem blk7 (t : Fin cfg0.N) (b : Fin 4) (i x : Fin 1024) : iblk m c 7 t (ix4 (0 : Fin 1) b i x) = V m c main_v1 (ix4 (0 : Fin 4) b i x) := by
  have h := idx t
  blk_ext [iblk, h]

theorem blk8 (t : Fin cfg0.N) (b : Fin 4) (i : Fin 256) (x : Fin 1024) : iblk m c 8 t (ix4 (0 : Fin 1) b i x) = V m c main_v2 (ix4 (0 : Fin 4) b i x) := by
  have h := idx t
  blk_ext [iblk, h]

theorem blk9 (t : Fin cfg0.N) (x i : Fin 1024) : iblk m c 9 t (ix3 (0 : Fin 1) x i) = V m c main_v3 (ix3 (0 : Fin 4) x i) := by
  have h := idx t
  blk_ext [iblk, h]

theorem blk10 (t : Fin cfg0.N) (i : Fin 1024) : iblk m c 10 t (ix4 (0 : Fin 1) (0 : Fin 1) (0 : Fin 1) i)
    = V m c main_v4 (ix4 (0 : Fin 4) (0 : Fin 2) (0 : Fin 1) i) := by
  have h := idx t
  blk_ext [iblk, h]

theorem blk11 (t : Fin cfg0.N) (i : Fin 1024) : iblk m c 11 t (ix4 (0 : Fin 1) (0 : Fin 1) (0 : Fin 1) i)
    = V m c main_v5 (ix4 (0 : Fin 4) (0 : Fin 2) (0 : Fin 1) i) := by
  have h := idx t
  blk_ext [iblk, h]

theorem at_v1 (b : Fin 4) (i x : Fin 1024) : V m c main_v1 (ix4 (0 : Fin 4) b i x) = m ((c : Thread nD τ).loc main_arg7) (ix4 (0 : Fin 4) b i x) := by
  rw [V_v1]; rfl

theorem at_v2 (b : Fin 4) (i : Fin 256) (x : Fin 1024) : V m c main_v2 (ix4 (0 : Fin 4) b i x) = m ((c : Thread nD τ).loc main_arg8) (ix4 (0 : Fin 4) b i x) := by
  rw [V_v2]; rfl

theorem at_v3 (x i : Fin 1024) : V m c main_v3 (ix3 (0 : Fin 4) x i) = m ((c : Thread nD τ).loc main_arg9) (ix3 (0 : Fin 4) x i) := by
  rw [V_v3]; rfl

/-- The result as an array. -/
def answer : FVec Ideal S32768x1024 .f32 := fun y =>
  _root_.Merge.layer (fun s p i => m ((c : Thread nD τ).loc main_arg0) (ix3 s p i)) (fun s p i => m ((c : Thread nD τ).loc main_arg1) (ix3 s p i)) (fun s p i => m ((c : Thread nD τ).loc main_arg2) (ix3 s p i))
    (fun s p i => m ((c : Thread nD τ).loc main_arg3) (ix3 s p i)) (fun s p i => m ((c : Thread nD τ).loc main_arg4) (ix3 s p i)) (fun s p i => m ((c : Thread nD τ).loc main_arg5) (ix3 s p i))
    (fun r i => m ((c : Thread nD τ).loc main_arg6) (ix3 (0 : Fin 4) r i)) (fun b i x => m ((c : Thread nD τ).loc main_arg7) (ix4 (0 : Fin 4) b i x))
    (fun b i x => m ((c : Thread nD τ).loc main_arg8) (ix4 (0 : Fin 4) b i x)) (fun x i => m ((c : Thread nD τ).loc main_arg9) (ix3 (0 : Fin 4) x i))
    (fun i => m ((c : Thread nD τ).loc main_arg10) (ix3 (0 : Fin 4) (0 : Fin 2) i)) (fun i => m ((c : Thread nD τ).loc main_arg11) (ix3 (0 : Fin 4) (0 : Fin 2) i))
    (⟨(y 0).val / 2048, by have : (y 0).val < 32768 := (y 0).isLt; omega⟩ : Fin 16) (⟨(y 0).val % 2048, by omega⟩ : Fin 2048) (y 1)

/-- The result's array after the launch. -/
theorem final : (dats m 0 c).arrAt 12 cfg0.N = answer m c := by
  refine (dats m 0 c).arrAt_eq_of_covers 12 _ (by decide +kernel) fun t hf y => ?_
  refine (congrFun (Value.flushed12 m c t) y).trans ?_
  obtain ⟨p, j, rfl⟩ : ∃ (p : Fin 512) (j : Fin 1024), y = ix2 p j := ⟨y 0, y 1, (ix2_eta (n0 := 512) (n1 := 1024) y).symm⟩
  refine (out_at _ _ _ _ _ _ _ _ _ _ _ _ p j).trans ?_
  have h := idx t
  have e : ((cfg0.win 12).blk t).view.emb (ix2 p j) = ix2 (⟨t.val * 512 + p.val, by have := bound t; omega⟩ : Fin 32768) j := by blk_ext [h]
  refine Eq.trans ?_ (congrArg (answer m c) e).symm
  exact _root_.Merge.token_congr (tile0 m c t p) (tile1 m c t p) (tile2 m c t p) (tile3 m c t p) (tile4 m c t p) (tile5 m c t p)
    (fun i => tile6 m c t p _) (fun b i x => (blk7 m c t b i x).trans (at_v1 m c b i x)) (fun b i x => (blk8 m c t b i x).trans (at_v2 m c b i x))
    (fun x i => (blk9 m c t x i).trans (at_v3 m c x i)) (fun i => (blk10 m c t i).trans ((congrFun (V_v4 m c) _).trans (affine _ i)))
    (fun i => (blk11 m c t i).trans ((congrFun (V_v5 m c) _).trans (affine _ i))) j

end Cert.MergeIdeal.Merge

end
-- ==== Proof.Merge.Claims.lean ====
/- The merge's claims, out of its two halves. -/
module

public import proofs.«01_k».proof.Defs
public import proofs.«01_k».proof.Proof.Gen.MergeIdeal
public import proofs.«01_k».proof.Proof.Gen.MergeReferenceIdeal
public import proofs.«01_k».proof.Proof.Merge.Reference
public import proofs.«01_k».proof.Proof.Merge.Kernel
public import Idealize.ShloMosaic.Adequacy
public import Idealize.ShloMosaic.Init

@[expose] public section

noncomputable section

namespace Cert.MergeIdeal.Merge

open Cert.MergeIdeal Idealize.ShloMosaic Idealize.ShloMosaic.TcCoe Idealize.SL.Sem

/-- The reference leaves its arguments and its counters as it found them. -/
theorem frame_reference : Cert.quiescent_MergeReferenceIdeal (hMergeReferenceIdeal := Cert.MergeReferenceIdeal.Gen.facts) := by
  intro m g _
  exact (θ_run Cert.MergeReferenceIdeal.defs _ _).mono
    (fun r h => ⟨fun c => (h c).2, sem_eq_zero_of_no_sems (by decide) r.2⟩)
    (Cert.MergeReferenceIdeal.Value.run (F := Ideal) m g)

/-- The reference's result is the layer of its arguments. -/
theorem reference_answer (m : (ℓ : Loc nD τ sig) → Buf (Elt Ideal) ℓ) (c : Dev nD) :
    Cert.MergeReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = answer m c := by
  funext y
  have hy : y = ix2 (⟨(y 0).val / 2048 * 2048 + (y 0).val % 2048, by rw [Nat.div_add_mod']; exact (y 0).isLt⟩ : Fin 32768) (y 1) := by
    refine (ix2_eta (n0 := 32768) (n1 := 1024) y).symm.trans ?_
    exact congrArg (fun r : Fin 32768 => ix2 r (y 1)) (Fin.ext (Nat.div_add_mod' _ _).symm)
  refine (congrArg (Cert.MergeReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) hy).trans ?_
  exact Cert.MergeReferenceIdeal.Merge.result _ _ _ _ _ _ _ _ _ _ _ _ (⟨(y 0).val / 2048, by have : (y 0).val < 32768 := (y 0).isLt; omega⟩ : Fin 16) (⟨(y 0).val % 2048, by omega⟩ : Fin 2048) (y 1)

/-- The kernel and the reference leave the same array. -/
theorem algebraic : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => answer m c, ?_, ?_⟩
  · exact (θ_run Cert.MergeIdeal.defs _ _).mono (fun r h c => ⟨(h c).1.trans (final m c), (h c).2⟩) (Cert.MergeIdeal.Value.run_blocks (F := Ideal) m g)
  · refine (θ_run Cert.MergeReferenceIdeal.defs _ _).mono (fun r h c => ?_) (Cert.MergeReferenceIdeal.Value.run (F := Ideal) m' g')
    obtain ⟨a0, a1, a2, a3, a4, a5, a6, a7, a8, a9, a10, a11⟩ := hagree c
    refine ⟨((h c).1.trans (Cert.MergeReferenceIdeal.Read.val_main_v105_eq _ _)).trans (Eq.trans ?_ (reference_answer m c)), (h c).2⟩
    simp only [a0, a1, a2, a3, a4, a5, a6, a7, a8, a9, a10, a11]

end Cert.MergeIdeal.Merge

end
-- ==== Proof.Modulation.lean ====
/- The modulation's claims: the vectors that shift, scale and gate every layer, from the conditioning vectors. -/
module

public import proofs.«01_k».proof.Defs
public import proofs.«01_k».proof.Proof.Gen.Pre_conditioning_finite
public import proofs.«01_k».proof.Proof.Gen.ModulationIdeal.Value
public import proofs.«01_k».proof.Proof.Gen.ModulationReferenceIdeal.Run
public import proofs.«01_k».proof.Proof.Gen.ModulationReferenceIdeal.Read
public import proofs.«01_k».proof.Proof.Gla.Finite
public import proofs.«01_k».proof.Proof.Moe.Spec
public import Idealize.ShloMosaic.Lib.Pipeline.ValueKit
public import Idealize.ShloMosaic.Lib.Routing.OpsOrder
public import Idealize.ShloMosaic.Adequacy
public import Idealize.ShloMosaic.Init

@[expose] public section

set_option maxRecDepth 200000

noncomputable section

/-! ## Over the reals -/

namespace Modulation

open Idealize.ShloMosaic

/-- A number that is no infinity. -/
def IsFinite (a : EReal) : Prop := ∃ r : ℝ, a = (r : EReal)

theorem IsFinite.rest {a : EReal} (h : IsFinite a) : a - a = 0 := by
  obtain ⟨r, rfl⟩ := h
  rw [← EReal.coe_sub, sub_self, EReal.coe_zero]

theorem IsFinite.silu {a : EReal} (h : IsFinite a) : IsFinite (Moe.silu a) := by
  obtain ⟨r, rfl⟩ := h
  refine ⟨r * (1 * (1 / (1 + Real.exp (-r)))), ?_⟩
  unfold Moe.silu
  rw [← EReal.coe_neg, Ideal.exp_coe, ← EReal.coe_one, ← EReal.coe_add, Ideal.div_coe (by positivity), ← EReal.coe_mul, ← EReal.coe_mul]

/-- A product as the kernel makes it: each factor in parts, a part and what it leaves over. -/
def parts (s w : Fin 1024 → EReal) : EReal :=
  (∑ x, s x * w x) + ((∑ x, s x * (w x - w x)) + ∑ x, (s x - s x) * w x)
    + ((∑ x, (s x - s x) * (w x - w x)) + ∑ x, (s x - s x - (s x - s x)) * w x)

/-- Nothing is left over of finite factors. -/
theorem parts_eq {s w : Fin 1024 → EReal} (hs : ∀ x, IsFinite (s x)) (hw : ∀ x, IsFinite (w x)) : parts s w = ∑ x, s x * w x := by
  unfold parts
  simp only [(hs _).rest, (hw _).rest, sub_zero, mul_zero, zero_mul, Finset.sum_const_zero, add_zero]

end Modulation

/-! ## The kernel -/

namespace Cert.ModulationIdeal.Modulation

open Cert.ModulationIdeal Cert.ModulationIdeal.Gen Idealize.ShloMosaic Idealize.ShloMosaic.TcCoe Idealize.SL.Sem
open _root_.Modulation

theorem out_eq (x0 : Vec Ideal S24x1024 .f32) (x1 : Vec Ideal S1x1024x1536 .f32) (x2 : Vec Ideal S1x1x1536 .f32) :
    out0_3 x0 x1 x2 = k0_pay1 (View.ld x0 r0_0) (View.ld x1 r0_1) (View.ld x2 r0_2) :=
  View.canon_unit_zero (by funext k; fin_cases k <;> rfl) _ _

/-- What the body leaves in its block. -/
theorem out_at (x0 : Vec Ideal S24x1024 .f32) (x1 : Vec Ideal S1x1024x1536 .f32) (x2 : Vec Ideal S1x1x1536 .f32) (r : Fin 24) (j : Fin 1536) :
    out0_3 x0 x1 x2 (ix3 (0 : Fin 1) r j)
      = parts (fun x => Moe.silu (x0 (ix2 r x))) (fun x => x1 (ix3 (0 : Fin 1) x j)) + x2 (ix3 (0 : Fin 1) (0 : Fin 1) j) := by
  rw [out_eq]
  pointwise [k0_pay1]
  simp only [zero_sub]
  rfl

/-- The conditioning vectors, a row each. -/
def vectors (x0 : FVec Ideal S16x1024 .f32) (x1 : FVec Ideal S1024 .f32) : FVec Ideal S24x1024 .f32 :=
  Host.scatter scatter_S24x1024_S1_S1024_0_0_0_0 (fun _ b => b)
    (Host.scatter scatter_S24x1024_S1_S16x1024_01_n_0_0 (fun _ b => b) (broadcastInDim S24x1024 ![] bcast_S_S24x1024 (constant (F := Ideal) S_ .f32 0x00000000#32))
      (broadcastInDim S1 ![] bcast_S_S1 (constantI S_ 32 0#32)) x0)
    (broadcastInDim S1 ![] bcast_S_S1 (constantI S_ 32 16#32)) x1

theorem vectors_finite {x0 : FVec Ideal S16x1024 .f32} {x1 : FVec Ideal S1024 .f32} (h0 : ∀ i, IsFinite (x0 i)) (h1 : ∀ i, IsFinite (x1 i)) (i : S24x1024.Idx) :
    IsFinite (vectors x0 x1 i) := by
  refine Routing.scatter_forall _ _ IsFinite (fun _ _ _ h => h) _ _ _ (fun i => ?_) h1 i
  refine Routing.scatter_forall _ _ IsFinite (fun _ _ _ h => h) _ _ _ (fun i => ⟨0, ?_⟩) h0 i
  show Ideal.ofBits .f32 0x00000000#32 = ((0 : ℝ) : EReal)
  simp [Ideal.ofBits, Ideal.ieee]

variable (m : (ℓ : Loc nD τ sig) → Buf (Elt Ideal) ℓ) (c : Dev nD)

/-- A point's windows. -/
theorem idx (t : Fin cfg0.N) : win0_0.index t = ![0, 0] ∧ win0_1.index t = ![t.val / 4, 0, t.val % 4] ∧ win0_2.index t = ![t.val / 4, 0, t.val % 4]
    ∧ win0_3.index t = ![t.val / 4, 0, t.val % 4] := by
  revert t; decide +kernel

theorem bound (t : Fin cfg0.N) : t.val < 16 := t.isLt

/-- A point's layer, and its lanes. -/
abbrev layer (t : Fin cfg0.N) : Fin 4 := ⟨t.val / 4, by have := bound t; omega⟩
abbrev lane (t : Fin cfg0.N) (j : Fin 1536) : Fin 6144 := ⟨t.val % 4 * 1536 + j.val, by omega⟩

theorem blk0 (t : Fin cfg0.N) (r : Fin 24) (x : Fin 1024) : iblk m c 0 t (ix2 r x) = V m c main_v4 (ix2 r x) := by
  have h := idx t
  blk_ext [iblk, h]

theorem blk1 (t : Fin cfg0.N) (x : Fin 1024) (j : Fin 1536) : iblk m c 1 t (ix3 (0 : Fin 1) x j) = V m c main_arg2 (ix3 (layer t) x (lane t j)) := by
  have h := idx t
  blk_ext [iblk, h]

theorem blk2 (t : Fin cfg0.N) (j : Fin 1536) : iblk m c 2 t (ix3 (0 : Fin 1) (0 : Fin 1) j) = V m c main_v5 (ix3 (layer t) (0 : Fin 1) (lane t j)) := by
  have h := idx t
  blk_ext [iblk, h]

theorem V_v4 : V m c main_v4 = vectors (m ((c : Thread nD τ).loc main_arg0)) (m ((c : Thread nD τ).loc main_arg1)) := by
  simp only [V, List.flatten_cons, List.flatten_nil, List.append_nil]
  after_results_simp
  rfl

theorem V_v5 : V m c main_v5 = shapeCast S4x1x6144 (m ((c : Thread nD τ).loc main_arg3)) shapeCasts_S4x6144_S4x1x6144 := by
  simp only [V, List.flatten_cons, List.flatten_nil, List.append_nil]
  after_results_simp; rfl

theorem flat (x : Vec Ideal S4x6144 .f32) (l : Fin 4) (n : Fin 6144) :
    shapeCast S4x1x6144 x shapeCasts_S4x6144_S4x1x6144 (ix3 l (0 : Fin 1) n) = x (ix2 l n) := by pointwise

/-- The result as an array. -/
def answer : FVec Ideal S4x24x6144 .f32 := fun y =>
  (∑ x : Fin 1024, Moe.silu (vectors (m ((c : Thread nD τ).loc main_arg0)) (m ((c : Thread nD τ).loc main_arg1)) (ix2 (y 1) x))
      * m ((c : Thread nD τ).loc main_arg2) (ix3 (y 0) x (y 2)))
    + m ((c : Thread nD τ).loc main_arg3) (ix2 (y 0) (y 2))

/-- The result's array after the launch. -/
theorem final (h0 : ∀ i, IsFinite (m ((c : Thread nD τ).loc main_arg0) i)) (h1 : ∀ i, IsFinite (m ((c : Thread nD τ).loc main_arg1) i))
    (h2 : ∀ i, IsFinite (m ((c : Thread nD τ).loc main_arg2) i)) : (dats m 0 c).arrAt 3 cfg0.N = answer m c := by
  refine (dats m 0 c).arrAt_eq_of_covers 3 _ (by decide +kernel) fun t hf y => ?_
  refine (congrFun (Value.flushed3 m c t) y).trans ?_
  obtain ⟨r, j, rfl⟩ : ∃ (r : Fin 24) (j : Fin 1536), y = ix3 (0 : Fin 1) r j :=
    ⟨y 1, y 2, (ix3_eta (n0 := 1) (n1 := 24) (n2 := 1536) y).symm.trans (congrArg (fun z : Fin 1 => ix3 z (y 1) (y 2)) (Subsingleton.elim _ _))⟩
  refine (out_at _ _ _ r j).trans ?_
  have h := idx t
  have e : ((cfg0.win 3).blk t).view.emb (ix3 (0 : Fin 1) r j) = ix3 (layer t) r (lane t j) := by blk_ext [h]
  refine Eq.trans ?_ (congrArg (answer m c) e).symm
  have e0 : (fun x => Moe.silu (iblk m c 0 t (ix2 r x)))
      = fun x => Moe.silu (vectors (m ((c : Thread nD τ).loc main_arg0)) (m ((c : Thread nD τ).loc main_arg1)) (ix2 r x)) :=
    funext fun x => congrArg Moe.silu ((blk0 m c t r x).trans (congrFun (V_v4 m c) _))
  have e1 : (fun x => iblk m c 1 t (ix3 (0 : Fin 1) x j)) = fun x => m ((c : Thread nD τ).loc main_arg2) (ix3 (layer t) x (lane t j)) :=
    funext fun x => (blk1 m c t x j).trans (congrFun (V_main_arg2 m c) _)
  refine congrArg₂ (· + ·) ?_ ((blk2 m c t j).trans ((congrFun (V_v5 m c) _).trans (flat _ _ _)))
  refine (congrArg₂ parts e0 e1).trans ?_
  exact parts_eq (fun x => (vectors_finite h0 h1 _).silu) fun x => h2 _

end Cert.ModulationIdeal.Modulation

/-! ## The reference -/

namespace Cert.ModulationReferenceIdeal.Modulation

open Cert.ModulationReferenceIdeal Cert.ModulationReferenceIdeal.Gen Cert.ModulationReferenceIdeal.Read Idealize.ShloMosaic Idealize.SL.Sem

variable (x0 : (⟨S16x1024, .f32⟩ : BufTy).Contents (Elt Ideal)) (x1 : (⟨S1024, .f32⟩ : BufTy).Contents (Elt Ideal))
  (x2 : (⟨S4x1024x6144, .f32⟩ : BufTy).Contents (Elt Ideal)) (x3 : (⟨S4x6144, .f32⟩ : BufTy).Contents (Elt Ideal))

attribute [local irreducible] Host.scatter in
theorem vectors_eq : val_main_v4 (F := Ideal) x0 x1 = Cert.ModulationIdeal.Modulation.vectors x0 x1 := rfl

theorem result (l : Fin 4) (r : Fin 24) (n : Fin 6144) : val_main_v10 (F := Ideal) x0 x1 x2 x3 (ix3 l r n)
    = (∑ x : Fin 1024, x2 (ix3 l x n) * Moe.silu (val_main_v4 (F := Ideal) x0 x1 (ix2 r x))) + x3 (ix2 l n) := by
  pointwise [val_main_call0_v0, val_main_call0_v1, val_main_call0_cst, val_main_call0_v2, val_main_call0_v3, val_main_call0_cst_0, val_main_call0_v4,
    val_main_call0_v5, val_main_v5, val_main_v6, val_main_v7, val_main_v8, val_main_v9, val_main_v10]
  rfl

end Cert.ModulationReferenceIdeal.Modulation

/-! ## The claims -/

namespace Cert.ModulationIdeal.Modulation

open Cert.ModulationIdeal Idealize.ShloMosaic Idealize.ShloMosaic.TcCoe Idealize.SL.Sem
open _root_.Modulation

/-- The reference leaves its arguments and its counters as it found them. -/
theorem frame_reference : Cert.quiescent_ModulationReferenceIdeal (hModulationReferenceIdeal := Cert.ModulationReferenceIdeal.Gen.facts) := by
  intro m g _
  exact (θ_run Cert.ModulationReferenceIdeal.defs _ _).mono
    (fun r h => ⟨fun c => (h c).2, sem_eq_zero_of_no_sems (by decide) r.2⟩)
    (Cert.ModulationReferenceIdeal.Value.run (F := Ideal) m g)

theorem reference_answer (m : (ℓ : Loc nD τ sig) → Buf (Elt Ideal) ℓ) (c : Dev nD) :
    Cert.ModulationReferenceIdeal.Read.val_main_v10 (F := Ideal) (m ((c : Thread nD τ).loc main_arg0)) (m ((c : Thread nD τ).loc main_arg1))
      (m ((c : Thread nD τ).loc main_arg2)) (m ((c : Thread nD τ).loc main_arg3)) = answer m c := by
  funext y
  obtain ⟨l, r, n, rfl⟩ : ∃ (l : Fin 4) (r : Fin 24) (n : Fin 6144), y = ix3 l r n := ⟨y 0, y 1, y 2, (ix3_eta (n0 := 4) (n1 := 24) (n2 := 6144) y).symm⟩
  refine (Cert.ModulationReferenceIdeal.Modulation.result _ _ _ _ l r n).trans ?_
  rw [Cert.ModulationReferenceIdeal.Modulation.vectors_eq]
  exact congrArg (· + _) (Finset.sum_congr rfl fun x _ => mul_comm _ _)

theorem finite_of_real {S : Shape} {x : FVec Ideal S .f32} (h : _root_.Gla.IsReal x) (i : S.Idx) : IsFinite (x i) := ⟨_, h i⟩

/-- The kernel and the reference leave the same array. -/
theorem algebraic : Cert.algebraic_ModulationIdeal_ModulationReferenceIdeal_pre_conditioning_finite (hModulationIdeal := Cert.ModulationIdeal.Gen.facts)
    (hModulationReferenceIdeal := Cert.ModulationReferenceIdeal.Gen.facts) (hPre_conditioning_finite := Cert.Pre_conditioning_finite.Gen.facts) := by
  intro m g m' g' hpre hagree
  refine ⟨fun c => answer m c, ?_, ?_⟩
  · refine (θ_run Cert.ModulationIdeal.defs _ _).mono (fun r h c => ?_) (Cert.ModulationIdeal.Value.run_blocks (F := Ideal) m g)
    obtain ⟨p0, p1, p2⟩ := hpre c
    exact ⟨(h c).1.trans (final m c (finite_of_real (Cert.Pre_all_finite.Gla.real_of_abs_lt _ _ p0)) (finite_of_real (Cert.Pre_all_finite.Gla.real_of_abs_lt _ _ p1))
      (finite_of_real (Cert.Pre_all_finite.Gla.real_of_abs_lt _ _ p2))), (h c).2⟩
  · refine (θ_run Cert.ModulationReferenceIdeal.defs _ _).mono (fun r h c => ?_) (Cert.ModulationReferenceIdeal.Value.run (F := Ideal) m' g')
    obtain ⟨a0, a1, a2, a3⟩ := hagree c
    refine ⟨((h c).1.trans (Cert.ModulationReferenceIdeal.Read.val_main_v10_eq _ _ _ _)).trans (Eq.trans ?_ (reference_answer m c)), (h c).2⟩
    simp only [a0, a1, a2, a3]

end Cert.ModulationIdeal.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Pre_all_finite
public import proofs.«01_k».proof.Proof.Gen.Pre_conditioning_finite
public import proofs.«01_k».proof.Proof.Gen.FfnIdeal.Value
public import proofs.«01_k».proof.Proof.Gen.MergeIdeal.Value
public import proofs.«01_k».proof.Proof.Gen.ExpertsReferenceIdeal.Run
public import proofs.«01_k».proof.Proof.Gen.ExpertsReferenceIdeal.Read
public import proofs.«01_k».proof.Proof.Gen.FfnReferenceIdeal.Run
public import proofs.«01_k».proof.Proof.Gen.FfnReferenceIdeal.Read
public import proofs.«01_k».proof.Proof.Gen.MergeReferenceIdeal.Run
public import proofs.«01_k».proof.Proof.Gen.MergeReferenceIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationReferenceIdeal
public import proofs.«01_k».proof.Proof.Gen.ModulationIdeal.Value
public import proofs.«01_k».proof.Proof.Gen.ModulationReferenceIdeal.Run
public import proofs.«01_k».proof.Proof.Gen.ModulationReferenceIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gla.Launch
public import proofs.«01_k».proof.Proof.Gla.RefOut
public import proofs.«01_k».proof.Proof.Gla.Finite
public import proofs.«01_k».proof.Proof.Moe.Claims
public import proofs.«01_k».proof.Proof.Ffn.Claims
public import proofs.«01_k».proof.Proof.Merge.Claims
public import proofs.«01_k».proof.Proof.Modulation
public import Idealize.ShloMosaic.Adequacy
public import Idealize.ShloMosaic.Init

@[expose] public section

noncomputable section

namespace Cert.Proof

open Idealize.ShloMosaic Idealize.SL.Sem

/-- The reference leaves its arguments and its counters as it found them. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩)
    (Cert.ReferenceIdeal.Value.run (F := Ideal) m g)

/-- Every lane is a head's lane. -/
theorem lane_eq (w : Fin 256) : w = Gla.vl ⟨w.val / 64, by omega⟩ ⟨w.val % 64, by omega⟩ := by
  apply Fin.ext; show w.val = w.val / 64 * 64 + w.val % 64; omega

/-- The reference's first result is the latent tokens' attention. -/
theorem reference_lat {A : Gla.Args} (hA : A.AllReal) :
    Cert.ReferenceIdeal.Read.val_main_v160 (F := Ideal) A.q A.k A.v A.r A.f A.b A.ck A.cv A.cf A.cb A.g
      = Cert.KernelIdeal.Gla.latentArray A := by
  funext y
  have hy : y = ix3 (y 0) (y 1) (Gla.vl ⟨(y 2).val / 64, by have := (y 2).isLt; simp at this; omega⟩ ⟨(y 2).val % 64, by omega⟩) := by
    rw [← lane_eq (y 2)]; exact (ix3_eta y).symm
  rw [hy]; exact Cert.ReferenceIdeal.Gla.lat_out hA _ _ _ _

/-- The reference's second result is the context's attention. -/
theorem reference_ctx {A : Gla.Args} (hA : A.AllReal) :
    Cert.ReferenceIdeal.Read.val_main_v161 (F := Ideal) A.cq A.ck A.cv A.cr A.cf A.cb A.g
      = Cert.KernelIdeal.Gla.contextArray A := by
  funext y
  have hy : y = ix3 (y 0) (y 1) (Gla.vl ⟨(y 2).val / 64, by have := (y 2).isLt; simp at this; omega⟩ ⟨(y 2).val % 64, by omega⟩) := by
    rw [← lane_eq (y 2)]; exact (ix3_eta y).symm
  rw [hy]; exact Cert.ReferenceIdeal.Gla.ctx_out hA _ _ _ _

/-- The kernel and the reference leave the same two arrays. -/
theorem algebraic : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m g m' g' hpre hagree
  have hA := Cert.Pre_all_finite.Gla.args_real hpre
  refine ⟨fun c => Cert.KernelIdeal.Gla.latentArray (Cert.KernelIdeal.Gla.args m c),
    fun c => Cert.KernelIdeal.Gla.contextArray (Cert.KernelIdeal.Gla.args m c), ?_, ?_⟩
  · exact (θ_run Cert.KernelIdeal.defs _ _).mono
      (fun r h c => ⟨(h c).1.trans (Cert.KernelIdeal.Gla.final_lat (hA c)), (h c).2.1.trans (Cert.KernelIdeal.Gla.final_ctx (hA c)), (h c).2.2⟩)
      (Cert.KernelIdeal.Value.run_blocks (F := Ideal) m g)
  · refine (θ_run Cert.ReferenceIdeal.defs _ _).mono (fun r h c => ?_) (Cert.ReferenceIdeal.Value.run (F := Ideal) m' g')
    obtain ⟨a0, a1, a2, a3, a4, a5, a6, a7, a8, a9, a10, a11, a12⟩ := hagree c
    refine ⟨((h c).1.trans (Cert.ReferenceIdeal.Read.val_main_v160_eq _)).trans (Eq.trans ?_ (reference_lat (hA c))),
      ((h c).2.1.trans (Cert.ReferenceIdeal.Read.val_main_v161_eq _)).trans (Eq.trans ?_ (reference_ctx (hA c))), (h c).2.2⟩
    · simp only [StableHlo.launchContents_devRef, a0, a1, a2, a3, a4, a5, a7, a8, a10, a11, a12]; rfl
    · simp only [StableHlo.launchContents_devRef, a6, a7, a8, a9, a10, a11, a12]; rfl

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Modulation.Gen.facts, Cert.ModulationIdeal.Gen.facts, Cert.ModulationReferenceIdeal.Gen.facts,
    Cert.Pre_all_finite.Gen.facts, Cert.Pre_conditioning_finite.Gen.facts,
    fun m g _ => Cert.Kernel.Gen.frame m g, fun m g _ => Cert.KernelIdeal.Gen.frame m g, fun m g _ => Cert.KernelIdeal.Gen.frame m g,
    frame_reference, fun m g _ => frame_reference m g trivial,
    Cert.ExpertsIdeal.Routed.frame_kernel_bits, Cert.ExpertsIdeal.Routed.frame_kernel,
    Cert.ExpertsIdeal.Routed.frame_reference,
    fun m g _ => Cert.Ffn.Gen.frame m g, fun m g _ => Cert.FfnIdeal.Gen.frame m g, Cert.FfnIdeal.Ffn.frame_reference,
    fun m g _ => Cert.Merge.Gen.frame m g, fun m g _ => Cert.MergeIdeal.Gen.frame m g, Cert.MergeIdeal.Merge.frame_reference,
    fun m g _ => Cert.Modulation.Gen.frame m g, fun m g _ => Cert.ModulationIdeal.Gen.frame m g, fun m g _ => Cert.ModulationIdeal.Gen.frame m g,
    Cert.ModulationIdeal.Modulation.frame_reference, fun m g _ => Cert.ModulationIdeal.Modulation.frame_reference m g trivial,
    trivial, algebraic, trivial, Cert.ExpertsIdeal.Routed.algebraic, trivial, Cert.FfnIdeal.Ffn.algebraic, trivial,
    Cert.MergeIdeal.Merge.algebraic, trivial, Cert.ModulationIdeal.Modulation.algebraic⟩

end Cert.Proof

end
